-- ==== Defs.lean ====
def Pre_Kernel (m : (ℓ : Loc Cert.Kernel.nD Cert.Kernel.τ Cert.Kernel.sig) → Buf (Elt Bits) ℓ) : Prop :=
  True

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_none (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v68)) (v1 : (c : Dev Cert.KernelIdeal.nD) → Buf (Elt Ideal) ((c.tc : Thread Cert.KernelIdeal.nD Cert.KernelIdeal.τ).loc Cert.KernelIdeal.main_v73)) (v2 : (c : Dev Cert.KernelIdeal.nD) → Buf (Elt Ideal) ((c.tc : Thread Cert.KernelIdeal.nD Cert.KernelIdeal.τ).loc Cert.KernelIdeal.main_v59_1)) (v3 : (c : Dev Cert.KernelIdeal.nD) → Buf (Elt Ideal) ((c.tc : Thread Cert.KernelIdeal.nD Cert.KernelIdeal.τ).loc Cert.KernelIdeal.main_v59_1)) (v4 : (c : Dev Cert.KernelIdeal.nD) → Buf (Elt Ideal) ((c.tc : Thread Cert.KernelIdeal.nD Cert.KernelIdeal.τ).loc Cert.KernelIdeal.main_v75)) (v5 : (c : Dev Cert.KernelIdeal.nD) → Buf (Elt Ideal) ((c.tc : Thread Cert.KernelIdeal.nD Cert.KernelIdeal.τ).loc Cert.KernelIdeal.main_v74)) (v6 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_v73) = v1 c
          ∧ r.2.mem ((c.tc : Thread Cert.KernelIdeal.nD Cert.KernelIdeal.τ).loc Cert.KernelIdeal.main_v59_1) = v2 c
          ∧ r.2.mem ((c.tc : Thread Cert.KernelIdeal.nD Cert.KernelIdeal.τ).loc Cert.KernelIdeal.main_v59_1) = v3 c
          ∧ r.2.mem ((c.tc : Thread Cert.KernelIdeal.nD Cert.KernelIdeal.τ).loc Cert.KernelIdeal.main_v75) = v4 c
          ∧ r.2.mem ((c.tc : Thread Cert.KernelIdeal.nD Cert.KernelIdeal.τ).loc Cert.KernelIdeal.main_v74) = v5 c
          ∧ r.2.mem ((c.tc : Thread Cert.KernelIdeal.nD Cert.KernelIdeal.τ).loc Cert.KernelIdeal.main_v63) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v237) = v0 c
          ∧ r.2.mem ((c.tc : Thread Cert.ReferenceIdeal.nD Cert.ReferenceIdeal.τ).loc Cert.ReferenceIdeal.main_v235) = v1 c
          ∧ r.2.mem ((c.tc : Thread Cert.ReferenceIdeal.nD Cert.ReferenceIdeal.τ).loc Cert.ReferenceIdeal.main_v238) = v2 c
          ∧ r.2.mem ((c.tc : Thread Cert.ReferenceIdeal.nD Cert.ReferenceIdeal.τ).loc Cert.ReferenceIdeal.main_v238) = v3 c
          ∧ r.2.mem ((c.tc : Thread Cert.ReferenceIdeal.nD Cert.ReferenceIdeal.τ).loc Cert.ReferenceIdeal.main_v232) = v4 c
          ∧ r.2.mem ((c.tc : Thread Cert.ReferenceIdeal.nD Cert.ReferenceIdeal.τ).loc Cert.ReferenceIdeal.main_v233) = v5 c
          ∧ r.2.mem ((c.tc : Thread Cert.ReferenceIdeal.nD Cert.ReferenceIdeal.τ).loc Cert.ReferenceIdeal.main_v269) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal) (hPre_finite := hPre_finite)
    ∧ quiescent_KernelIdeal_pre_none (hKernelIdeal := hKernelIdeal)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal (hKernelIdeal := hKernelIdeal) (hReferenceIdeal := hReferenceIdeal) (hPre_finite := hPre_finite)
-- ==== Pre_finite.lean ====
abbrev S8192x64 : Shape := ⟨2, ![8192, 64]⟩
abbrev S4x1024x64 : Shape := ⟨3, ![4, 1024, 64]⟩
abbrev S1x4 : Shape := ⟨2, ![1, 4]⟩
abbrev S4096x64 : Shape := ⟨2, ![4096, 64]⟩
abbrev S12288x64 : Shape := ⟨2, ![12288, 64]⟩
abbrev S_ : Shape := ⟨0, ![]⟩

class Facts : Prop where
  shapeCasts_S4x1024x64_S4096x64 : S4x1024x64.ShapeCasts S4096x64
  concatenates_S8192x64_S4096x64_S12288x64_d0 : Shape.Concatenates [S8192x64, S4096x64] S12288x64 0
  bcast_S_S12288x64 : S_.BroadcastsInDim S12288x64 (![] : Fin 0 → Fin S12288x64.rank)

variable [Facts]

def fn {F : FTy → Type} [FloatOps F] (main_arg0 : FVec F S8192x64 .f32) (main_arg1 : FVec F S4x1024x64 .f32) (main_arg2 : FVec F S1x4 .f32) : IVec S12288x64 1 :=
  let main_v0 : FVec F S4096x64 .f32 := shapeCast S4096x64 main_arg1 shapeCasts_S4x1024x64_S4096x64
  let main_v1 : FVec F S12288x64 .f32 := (fun a b => concatenate S12288x64 0 [⟨S8192x64, a⟩, ⟨S4096x64, b⟩] concatenates_S8192x64_S4096x64_S12288x64_d0) main_arg0 main_v0
  let main_v2 : FVec F S12288x64 .f32 := Host.absf main_v1
  let main_cst : FVec F S_ .f32 := constant S_ .f32 0x7F800000#32
  let main_v3 : FVec F S12288x64 .f32 := broadcastInDim S12288x64 ![] bcast_S_S12288x64 main_cst
  let main_v4 : IVec S12288x64 1 := cmpf .olt main_v2 main_v3
  main_v4
-- ==== Kernel.lean ====
abbrev S8192x64 : Shape := ⟨2, ![8192, 64]⟩
abbrev S4x1024x64 : Shape := ⟨3, ![4, 1024, 64]⟩
abbrev S1x4 : Shape := ⟨2, ![1, 4]⟩
abbrev S8192x1x64 : Shape := ⟨3, ![8192, 1, 64]⟩
abbrev S1x1024x64 : Shape := ⟨3, ![1, 1024, 64]⟩
abbrev S1024x64 : Shape := ⟨2, ![1024, 64]⟩
abbrev S8192x1024x64 : Shape := ⟨3, ![8192, 1024, 64]⟩
abbrev S_ : Shape := ⟨0, ![]⟩
abbrev S8192x1024 : Shape := ⟨2, ![8192, 1024]⟩
abbrev S64x1024 : Shape := ⟨2, ![64, 1024]⟩
abbrev S8192x1 : Shape := ⟨2, ![8192, 1]⟩
abbrev S1x1 : Shape := ⟨2, ![1, 1]⟩
abbrev S1024x1024 : Shape := ⟨2, ![1024, 1024]⟩
abbrev S1024x1 : Shape := ⟨2, ![1024, 1]⟩
abbrev S1024 : Shape := ⟨1, ![1024]⟩
abbrev S1x1024 : Shape := ⟨2, ![1, 1024]⟩
abbrev S1 : Shape := ⟨1, ![1]⟩
abbrev S1x1x1 : Shape := ⟨3, ![1, 1, 1]⟩
abbrev S4 : Shape := ⟨1, ![4]⟩
abbrev S8192x4x64 : Shape := ⟨3, ![8192, 4, 64]⟩
abbrev S8192x4 : Shape := ⟨2, ![8192, 4]⟩
abbrev S4096x64 : Shape := ⟨2, ![4096, 64]⟩

abbrev nBuf : Space → Nat
  | .hbm => 107
  | .vmem => 77
  | .smem => 0
  | _ => 0

abbrev bufTy : (tb : Table) → Fin (tcTables nBuf tb) → BufTy
  | .hbm, ⟨0, _⟩ => ⟨S8192x64, .f32⟩
  | .hbm, ⟨1, _⟩ => ⟨S4x1024x64, .f32⟩
  | .hbm, ⟨2, _⟩ => ⟨S1x4, .f32⟩
  | .hbm, ⟨3, _⟩ => ⟨S8192x1x64, .f32⟩
  | .hbm, ⟨4, _⟩ => ⟨S1x1024x64, .f32⟩
  | .hbm, ⟨5, _⟩ => ⟨S1024x64, .f32⟩
  | .hbm, ⟨6, _⟩ => ⟨S1x1024x64, .f32⟩
  | .hbm, ⟨7, _⟩ => ⟨S8192x1024x64, .f32⟩
  | .hbm, ⟨8, _⟩ => ⟨S8192x1024x64, .f32⟩
  | .hbm, ⟨9, _⟩ => ⟨S8192x1024x64, .f32⟩
  | .hbm, ⟨10, _⟩ => ⟨S8192x1024x64, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S1x1024x64, .f32⟩
  | .hbm, ⟨16, _⟩ => ⟨S1024x64, .f32⟩
  | .hbm, ⟨17, _⟩ => ⟨S64x1024, .f32⟩
  | .hbm, ⟨18, _⟩ => ⟨S8192x1, .i32⟩
  | .hbm, ⟨19, _⟩ => ⟨S8192x64, .f32⟩
  | .hbm, ⟨20, _⟩ => ⟨S8192x64, .f32⟩
  | .hbm, ⟨21, _⟩ => ⟨S8192x64, .f32⟩
  | .hbm, ⟨22, _⟩ => ⟨S1x1, .f32⟩
  | .hbm, ⟨23, _⟩ => ⟨S1x1, .f32⟩
  | .hbm, ⟨24, _⟩ => ⟨S1x1, .f32⟩
  | .hbm, ⟨25, _⟩ => ⟨S8192x1x64, .f32⟩
  | .hbm, ⟨26, _⟩ => ⟨S1x1024x64, .f32⟩
  | .hbm, ⟨27, _⟩ => ⟨S1024x64, .f32⟩
  | .hbm, ⟨28, _⟩ => ⟨S1x1024x64, .f32⟩
  | .hbm, ⟨29, _⟩ => ⟨S8192x1024x64, .f32⟩
  | .hbm, ⟨30, _⟩ => ⟨S8192x1024x64, .f32⟩
  | .hbm, ⟨31, _⟩ => ⟨S8192x1024x64, .f32⟩
  | .hbm, ⟨32, _⟩ => ⟨S8192x1024x64, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S1x1024x64, .f32⟩
  | .hbm, ⟨38, _⟩ => ⟨S1024x64, .f32⟩
  | .hbm, ⟨39, _⟩ => ⟨S64x1024, .f32⟩
  | .hbm, ⟨40, _⟩ => ⟨S8192x1, .i32⟩
  | .hbm, ⟨41, _⟩ => ⟨S8192x64, .f32⟩
  | .hbm, ⟨42, _⟩ => ⟨S8192x64, .f32⟩
  | .hbm, ⟨43, _⟩ => ⟨S8192x64, .f32⟩
  | .hbm, ⟨44, _⟩ => ⟨S1x1, .f32⟩
  | .hbm, ⟨45, _⟩ => ⟨S1x1, .f32⟩
  | .hbm, ⟨46, _⟩ => ⟨S1x1, .f32⟩
  | .hbm, ⟨47, _⟩ => ⟨S8192x1x64, .f32⟩
  | .hbm, ⟨48, _⟩ => ⟨S1x1024x64, .f32⟩
  | .hbm, ⟨49, _⟩ => ⟨S1024x64, .f32⟩
  | .hbm, ⟨50, _⟩ => ⟨S1x1024x64, .f32⟩
  | .hbm, ⟨51, _⟩ => ⟨S8192x1024x64, .f32⟩
  | .hbm, ⟨52, _⟩ => ⟨S8192x1024x64, .f32⟩
  | .hbm, ⟨53, _⟩ => ⟨S8192x1024x64, .f32⟩
  | .hbm, ⟨54, _⟩ => ⟨S8192x1024x64, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S1x1024x64, .f32⟩
  | .hbm, ⟨60, _⟩ => ⟨S1024x64, .f32⟩
  | .hbm, ⟨61, _⟩ => ⟨S64x1024, .f32⟩
  | .hbm, ⟨62, _⟩ => ⟨S8192x1, .i32⟩
  | .hbm, ⟨63, _⟩ => ⟨S8192x64, .f32⟩
  | .hbm, ⟨64, _⟩ => ⟨S8192x64, .f32⟩
  | .hbm, ⟨65, _⟩ => ⟨S8192x64, .f32⟩
  | .hbm, ⟨66, _⟩ => ⟨S1x1, .f32⟩
  | .hbm, ⟨67, _⟩ => ⟨S1x1, .f32⟩
  | .hbm, ⟨68, _⟩ => ⟨S1x1, .f32⟩
  | .hbm, ⟨69, _⟩ => ⟨S8192x1x64, .f32⟩
  | .hbm, ⟨70, _⟩ => ⟨S1x1024x64, .f32⟩
  | .hbm, ⟨71, _⟩ => ⟨S1024x64, .f32⟩
  | .hbm, ⟨72, _⟩ => ⟨S1x1024x64, .f32⟩
  | .hbm, ⟨73, _⟩ => ⟨S8192x1024x64, .f32⟩
  | .hbm, ⟨74, _⟩ => ⟨S8192x1024x64, .f32⟩
  | .hbm, ⟨75, _⟩ => ⟨S8192x1024x64, .f32⟩
  | .hbm, ⟨76, _⟩ => ⟨S8192x1024x64, .f32⟩
  | .hbm, ⟨77, _⟩ => ⟨S_, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S1x1024x64, .f32⟩
  | .hbm, ⟨82, _⟩ => ⟨S1024x64, .f32⟩
  | .hbm, ⟨83, _⟩ => ⟨S64x1024, .f32⟩
  | .hbm, ⟨84, _⟩ => ⟨S8192x1, .i32⟩
  | .hbm, ⟨85, _⟩ => ⟨S8192x64, .f32⟩
  | .hbm, ⟨86, _⟩ => ⟨S8192x64, .f32⟩
  | .hbm, ⟨87, _⟩ => ⟨S8192x64, .f32⟩
  | .hbm, ⟨88, _⟩ => ⟨S1x1, .f32⟩
  | .hbm, ⟨89, _⟩ => ⟨S1x1, .f32⟩
  | .hbm, ⟨90, _⟩ => ⟨S1x1, .f32⟩
  | .hbm, ⟨91, _⟩ => ⟨S1x4, .f32⟩
  | .hbm, ⟨92, _⟩ => ⟨S1x4, .f32⟩
  | .hbm, ⟨93, _⟩ => ⟨S1x4, .f32⟩
  | .hbm, ⟨94, _⟩ => ⟨S1x1, .f32⟩
  | .hbm, ⟨95, _⟩ => ⟨S8192x1x64, .f32⟩
  | .hbm, ⟨96, _⟩ => ⟨S8192x1x64, .f32⟩
  | .hbm, ⟨97, _⟩ => ⟨S8192x1x64, .f32⟩
  | .hbm, ⟨98, _⟩ => ⟨S8192x1x64, .f32⟩
  | .hbm, ⟨99, _⟩ => ⟨S8192x4x64, .f32⟩
  | .hbm, ⟨100, _⟩ => ⟨S8192x1x64, .f32⟩
  | .hbm, ⟨101, _⟩ => ⟨S8192x1x64, .f32⟩
  | .hbm, ⟨102, _⟩ => ⟨S8192x1x64, .f32⟩
  | .hbm, ⟨103, _⟩ => ⟨S8192x1x64, .f32⟩
  | .hbm, ⟨104, _⟩ => ⟨S8192x4x64, .f32⟩
  | .hbm, ⟨105, _⟩ => ⟨S8192x4, .i32⟩
  | .hbm, ⟨106, _⟩ => ⟨S4096x64, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x1024, .f32⟩
  | .local _ .vmem, ⟨5, _⟩ => ⟨S1024x1024, .f32⟩
  | .local _ .vmem, ⟨6, _⟩ => ⟨S64x1024, .f32⟩
  | .local _ .vmem, ⟨7, _⟩ => ⟨S1024x1, .i32⟩
  | .local _ .vmem, ⟨8, _⟩ => ⟨S1024x1, .i32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | .local _ .vmem, ⟨15, _⟩ => ⟨S1x1, .f32⟩
  | .local _ .vmem, ⟨16, _⟩ => ⟨S1x1, .f32⟩
  | .local _ .vmem, ⟨17, _⟩ => ⟨S1x1, .f32⟩
  | .local _ .vmem, ⟨18, _⟩ => ⟨S1024x64, .f32⟩
  | .local _ .vmem, ⟨19, _⟩ => ⟨S1024x64, .f32⟩
  | .local _ .vmem, ⟨20, _⟩ => ⟨S1024x64, .f32⟩
  | .local _ .vmem, ⟨21, _⟩ => ⟨S1024x64, .f32⟩
  | .local _ .vmem, ⟨22, _⟩ => ⟨S1024x1024, .f32⟩
  | .local _ .vmem, ⟨23, _⟩ => ⟨S1024x1024, .f32⟩
  | .local _ .vmem, ⟨24, _⟩ => ⟨S64x1024, .f32⟩
  | .local _ .vmem, ⟨25, _⟩ => ⟨S1024x1, .i32⟩
  | .local _ .vmem, ⟨26, _⟩ => ⟨S1024x1, .i32⟩
  | .local _ .vmem, ⟨27, _⟩ => ⟨S1024x64, .f32⟩
  | .local _ .vmem, ⟨28, _⟩ => ⟨S1024x64, .f32⟩
  | .local _ .vmem, ⟨29, _⟩ => ⟨S1024x64, .f32⟩
  | .local _ .vmem, ⟨30, _⟩ => ⟨S1024x64, .f32⟩
  | .local _ .vmem, ⟨31, _⟩ => ⟨S1024x64, .f32⟩
  | .local _ .vmem, ⟨32, _⟩ => ⟨S1024x64, .f32⟩
  | .local _ .vmem, ⟨33, _⟩ => ⟨S1x1, .f32⟩
  | .local _ .vmem, ⟨34, _⟩ => ⟨S1x1, .f32⟩
  | .local _ .vmem, ⟨35, _⟩ => ⟨S1x1, .f32⟩
  | .local _ .vmem, ⟨36, _⟩ => ⟨S1024x64, .f32⟩
  | .local _ .vmem, ⟨37, _⟩ => ⟨S1024x64, .f32⟩
  | .local _ .vmem, ⟨38, _⟩ => ⟨S1024x64, .f32⟩
  | .local _ .vmem, ⟨39, _⟩ => ⟨S1024x64, .f32⟩
  | .local _ .vmem, ⟨40, _⟩ => ⟨S1024x1024, .f32⟩
  | .local _ .vmem, ⟨41, _⟩ => ⟨S1024x1024, .f32⟩
  | .local _ .vmem, ⟨42, _⟩ => ⟨S64x1024, .f32⟩
  | .local _ .vmem, ⟨43, _⟩ => ⟨S1024x1, .i32⟩
  | .local _ .vmem, ⟨44, _⟩ => ⟨S1024x1, .i32⟩
  | .local _ .vmem, ⟨45, _⟩ => ⟨S1024x64, .f32⟩
  | .local _ .vmem, ⟨46, _⟩ => ⟨S1024x64, .f32⟩
  | .local _ .vmem, ⟨47, _⟩ => ⟨S1024x64, .f32⟩
  | .local _ .vmem, ⟨48, _⟩ => ⟨S1024x64, .f32⟩
  | .local _ .vmem, ⟨49, _⟩ => ⟨S1024x64, .f32⟩
  | .local _ .vmem, ⟨50, _⟩ => ⟨S1024x64, .f32⟩
  | .local _ .vmem, ⟨51, _⟩ => ⟨S1x1, .f32⟩
  | .local _ .vmem, ⟨52, _⟩ => ⟨S1x1, .f32⟩
  | .local _ .vmem, ⟨53, _⟩ => ⟨S1x1, .f32⟩
  | .local _ .vmem, ⟨54, _⟩ => ⟨S1024x64, .f32⟩
  | .local _ .vmem, ⟨55, _⟩ => ⟨S1024x64, .f32⟩
  | .local _ .vmem, ⟨56, _⟩ => ⟨S1024x64, .f32⟩
  | .local _ .vmem, ⟨57, _⟩ => ⟨S1024x64, .f32⟩
  | .local _ .vmem, ⟨58, _⟩ => ⟨S1024x1024, .f32⟩
  | .local _ .vmem, ⟨59, _⟩ => ⟨S1024x1024, .f32⟩
  | .local _ .vmem, ⟨60, _⟩ => ⟨S64x1024, .f32⟩
  | .local _ .vmem, ⟨61, _⟩ => ⟨S1024x1, .i32⟩
  | .local _ .vmem, ⟨62, _⟩ => ⟨S1024x1, .i32⟩
  | .local _ .vmem, ⟨63, _⟩ => ⟨S1024x64, .f32⟩
  | .local _ .vmem, ⟨64, _⟩ => ⟨S1024x64, .f32⟩
  | .local _ .vmem, ⟨65, _⟩ => ⟨S1024x64, .f32⟩
  | .local _ .vmem, ⟨66, _⟩ => ⟨S1024x64, .f32⟩
  | .local _ .vmem, ⟨67, _⟩ => ⟨S1024x64, .f32⟩
  | .local _ .vmem, ⟨68, _⟩ => ⟨S1024x64, .f32⟩
  | .local _ .vmem, ⟨69, _⟩ => ⟨S1x1, .f32⟩
  | .local _ .vmem, ⟨70, _⟩ => ⟨S1x1, .f32⟩
  | .local _ .vmem, ⟨71, _⟩ => ⟨S1x1, .f32⟩
  | .local _ .vmem, ⟨72, _⟩ => ⟨S1x4, .f32⟩
  | .local _ .vmem, ⟨73, _⟩ => ⟨S1x4, .f32⟩
  | .local _ .vmem, ⟨74, _⟩ => ⟨S1x4, .f32⟩
  | .local _ .vmem, ⟨75, _⟩ => ⟨S1x4, .f32⟩
  | .local _ .vmem, ⟨76, _⟩ => ⟨S1x1, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14_0 : Ref sig .tc := ⟨.hbm, 18, rfl⟩
abbrev main_v14_1 : Ref sig .tc := ⟨.hbm, 19, rfl⟩
abbrev main_v14_2 : Ref sig .tc := ⟨.hbm, 20, rfl⟩
abbrev main_v14_3 : Ref sig .tc := ⟨.hbm, 21, rfl⟩
abbrev main_v14_4 : Ref sig .tc := ⟨.hbm, 22, rfl⟩
abbrev main_v14_5 : Ref sig .tc := ⟨.hbm, 23, rfl⟩
abbrev main_v14_6 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29_0 : Ref sig .tc := ⟨.hbm, 40, rfl⟩
abbrev main_v29_1 : Ref sig .tc := ⟨.hbm, 41, rfl⟩
abbrev main_v29_2 : Ref sig .tc := ⟨.hbm, 42, rfl⟩
abbrev main_v29_3 : Ref sig .tc := ⟨.hbm, 43, rfl⟩
abbrev main_v29_4 : Ref sig .tc := ⟨.hbm, 44, rfl⟩
abbrev main_v29_5 : Ref sig .tc := ⟨.hbm, 45, rfl⟩
abbrev main_v29_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_1 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44_0 : Ref sig .tc := ⟨.hbm, 62, rfl⟩
abbrev main_v44_1 : Ref sig .tc := ⟨.hbm, 63, rfl⟩
abbrev main_v44_2 : Ref sig .tc := ⟨.hbm, 64, rfl⟩
abbrev main_v44_3 : Ref sig .tc := ⟨.hbm, 65, rfl⟩
abbrev main_v44_4 : Ref sig .tc := ⟨.hbm, 66, rfl⟩
abbrev main_v44_5 : Ref sig .tc := ⟨.hbm, 67, rfl⟩
abbrev main_v44_6 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_2 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59_0 : Ref sig .tc := ⟨.hbm, 84, rfl⟩
abbrev main_v59_1 : Ref sig .tc := ⟨.hbm, 85, rfl⟩
abbrev main_v59_2 : Ref sig .tc := ⟨.hbm, 86, rfl⟩
abbrev main_v59_3 : Ref sig .tc := ⟨.hbm, 87, rfl⟩
abbrev main_v59_4 : Ref sig .tc := ⟨.hbm, 88, rfl⟩
abbrev main_v59_5 : Ref sig .tc := ⟨.hbm, 89, rfl⟩
abbrev main_v59_6 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg9_0 : Ref sig .tc := ⟨.vmem, 34, rfl⟩
abbrev cc1_stg10_0 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg4_0 : Ref sig .tc := ⟨.vmem, 43, rfl⟩
abbrev cc2_stg4_1 : Ref sig .tc := ⟨.vmem, 44, rfl⟩
abbrev cc2_stg5_0 : Ref sig .tc := ⟨.vmem, 45, rfl⟩
abbrev cc2_stg5_1 : Ref sig .tc := ⟨.vmem, 46, rfl⟩
abbrev cc2_stg6_0 : Ref sig .tc := ⟨.vmem, 47, rfl⟩
abbrev cc2_stg6_1 : Ref sig .tc := ⟨.vmem, 48, rfl⟩
abbrev cc2_stg7_0 : Ref sig .tc := ⟨.vmem, 49, rfl⟩
abbrev cc2_stg7_1 : Ref sig .tc := ⟨.vmem, 50, rfl⟩
abbrev cc2_stg8_0 : Ref sig .tc := ⟨.vmem, 51, rfl⟩
abbrev cc2_stg9_0 : Ref sig .tc := ⟨.vmem, 52, rfl⟩
abbrev cc2_stg10_0 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc3_stg3_0 : Ref sig .tc := ⟨.vmem, 60, rfl⟩
abbrev cc3_stg4_0 : Ref sig .tc := ⟨.vmem, 61, rfl⟩
abbrev cc3_stg4_1 : Ref sig .tc := ⟨.vmem, 62, rfl⟩
abbrev cc3_stg5_0 : Ref sig .tc := ⟨.vmem, 63, rfl⟩
abbrev cc3_stg5_1 : Ref sig .tc := ⟨.vmem, 64, rfl⟩
abbrev cc3_stg6_0 : Ref sig .tc := ⟨.vmem, 65, rfl⟩
abbrev cc3_stg6_1 : Ref sig .tc := ⟨.vmem, 66, rfl⟩
abbrev cc3_stg7_0 : Ref sig .tc := ⟨.vmem, 67, rfl⟩
abbrev cc3_stg7_1 : Ref sig .tc := ⟨.vmem, 68, rfl⟩
abbrev cc3_stg8_0 : Ref sig .tc := ⟨.vmem, 69, rfl⟩
abbrev cc3_stg9_0 : Ref sig .tc := ⟨.vmem, 70, rfl⟩
abbrev cc3_stg10_0 : Ref sig .tc := ⟨.vmem, 71, rfl⟩
abbrev cc4_stg0_0 : Ref sig .tc := ⟨.vmem, 72, rfl⟩
abbrev cc4_stg1_0 : Ref sig .tc := ⟨.vmem, 73, rfl⟩
abbrev cc4_stg2_0 : Ref sig .tc := ⟨.vmem, 74, rfl⟩
abbrev cc4_stg3_0 : Ref sig .tc := ⟨.vmem, 75, rfl⟩
abbrev cc4_stg4_0 : Ref sig .tc := ⟨.vmem, 76, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem4_0 : DmaSem sig := 25
abbrev cc1_sem4_1 : DmaSem sig := 26
abbrev cc1_sem5_0 : DmaSem sig := 27
abbrev cc1_sem5_1 : DmaSem sig := 28
abbrev cc1_sem6_0 : DmaSem sig := 29
abbrev cc1_sem6_1 : DmaSem sig := 30
abbrev cc1_sem7_0 : DmaSem sig := 31
abbrev cc1_sem7_1 : DmaSem sig := 32
abbrev cc1_sem8_0 : DmaSem sig := 33
abbrev cc1_sem9_0 : DmaSem sig := 34
abbrev cc1_sem10_0 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem2_1 : DmaSem sig := 41
abbrev cc2_sem3_0 : DmaSem sig := 42
abbrev cc2_sem4_0 : DmaSem sig := 43
abbrev cc2_sem4_1 : DmaSem sig := 44
abbrev cc2_sem5_0 : DmaSem sig := 45
abbrev cc2_sem5_1 : DmaSem sig := 46
abbrev cc2_sem6_0 : DmaSem sig := 47
abbrev cc2_sem6_1 : DmaSem sig := 48
abbrev cc2_sem7_0 : DmaSem sig := 49
abbrev cc2_sem7_1 : DmaSem sig := 50
abbrev cc2_sem8_0 : DmaSem sig := 51
abbrev cc2_sem9_0 : DmaSem sig := 52
abbrev cc2_sem10_0 : DmaSem sig := 53
abbrev cc3_sem0_0 : DmaSem sig := 54
abbrev cc3_sem0_1 : DmaSem sig := 55
abbrev cc3_sem1_0 : DmaSem sig := 56
abbrev cc3_sem1_1 : DmaSem sig := 57
abbrev cc3_sem2_0 : DmaSem sig := 58
abbrev cc3_sem2_1 : DmaSem sig := 59
abbrev cc3_sem3_0 : DmaSem sig := 60
abbrev cc3_sem4_0 : DmaSem sig := 61
abbrev cc3_sem4_1 : DmaSem sig := 62
abbrev cc3_sem5_0 : DmaSem sig := 63
abbrev cc3_sem5_1 : DmaSem sig := 64
abbrev cc3_sem6_0 : DmaSem sig := 65
abbrev cc3_sem6_1 : DmaSem sig := 66
abbrev cc3_sem7_0 : DmaSem sig := 67
abbrev cc3_sem7_1 : DmaSem sig := 68
abbrev cc3_sem8_0 : DmaSem sig := 69
abbrev cc3_sem9_0 : DmaSem sig := 70
abbrev cc3_sem10_0 : DmaSem sig := 71
abbrev cc4_sem0_0 : DmaSem sig := 72
abbrev cc4_sem1_0 : DmaSem sig := 73
abbrev cc4_sem2_0 : DmaSem sig := 74
abbrev cc4_sem3_0 : DmaSem sig := 75
abbrev cc4_sem4_0 : DmaSem sig := 76

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v69 : BitVec 1 := Scalar.cmpi .eq arg0 c0_i32
  let v70 : BitVec 32 := Scalar.extui v69
  let c0_i32_25 : BitVec 32 := 0#32
  let v71 : BitVec 1 := Scalar.cmpi .ne v70 c0_i32_25
  v71

def k0_cond2 (i : grid0.Coords) : BitVec 1 :=
  let arg0 : BitVec 32 := BitVec.ofNat 32 (i 0).val
  let c0_i32_26 : BitVec 32 := 0#32
  let v72 : BitVec 1 := Scalar.cmpi .ne arg0 c0_i32_26
  let v73 : BitVec 32 := Scalar.extui v72
  let c0_i32_27 : BitVec 32 := 0#32
  let v74 : BitVec 1 := Scalar.cmpi .ne v73 c0_i32_27
  v74

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![8], ![false]⟩

def k1_cond1 (i : grid1.Coords) : BitVec 1 :=
  let arg0 : BitVec 32 := BitVec.ofNat 32 (i 0).val
  let c0_i32 : BitVec 32 := 0#32
  let v73 : BitVec 1 := Scalar.cmpi .eq arg0 c0_i32
  let v74 : BitVec 32 := Scalar.extui v73
  let c0_i32_27 : BitVec 32 := 0#32
  let v75 : BitVec 1 := Scalar.cmpi .ne v74 c0_i32_27
  v75

def k1_cond2 (i : grid1.Coords) : BitVec 1 :=
  let arg0 : BitVec 32 := BitVec.ofNat 32 (i 0).val
  let c0_i32_28 : BitVec 32 := 0#32
  let v76 : BitVec 1 := Scalar.cmpi .ne arg0 c0_i32_28
  let v77 : BitVec 32 := Scalar.extui v76
  let c0_i32_29 : BitVec 32 := 0#32
  let v78 : BitVec 1 := Scalar.cmpi .ne v77 c0_i32_29
  v78

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1024x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1024x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev grid2 : Pipeline.Grid := ⟨1, ![8], ![false]⟩

def k2_cond1 (i : grid2.Coords) : BitVec 1 :=
  let arg0 : BitVec 32 := BitVec.ofNat 32 (i 0).val
  let c0_i32 : BitVec 32 := 0#32
  let v73 : BitVec 1 := Scalar.cmpi .eq arg0 c0_i32
  let v74 : BitVec 32 := Scalar.extui v73
  let c0_i32_27 : BitVec 32 := 0#32
  let v75 : BitVec 1 := Scalar.cmpi .ne v74 c0_i32_27
  v75

def k2_cond2 (i : grid2.Coords) : BitVec 1 :=
  let arg0 : BitVec 32 := BitVec.ofNat 32 (i 0).val
  let c0_i32_28 : BitVec 32 := 0#32
  let v76 : BitVec 1 := Scalar.cmpi .ne arg0 c0_i32_28
  let v77 : BitVec 32 := Scalar.extui v76
  let c0_i32_29 : BitVec 32 := 0#32
  let v78 : BitVec 1 := Scalar.cmpi .ne v77 c0_i32_29
  v78

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1024x1 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1024x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1024x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1024x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev grid3 : Pipeline.Grid := ⟨1, ![8], ![false]⟩

def k3_cond1 (i : grid3.Coords) : BitVec 1 :=
  let arg0 : BitVec 32 := BitVec.ofNat 32 (i 0).val
  let c0_i32 : BitVec 32 := 0#32
  let v73 : BitVec 1 := Scalar.cmpi .eq arg0 c0_i32
  let v74 : BitVec 32 := Scalar.extui v73
  let c0_i32_27 : BitVec 32 := 0#32
  let v75 : BitVec 1 := Scalar.cmpi .ne v74 c0_i32_27
  v75

def k3_cond2 (i : grid3.Coords) : BitVec 1 :=
  let arg0 : BitVec 32 := BitVec.ofNat 32 (i 0).val
  let c0_i32_28 : BitVec 32 := 0#32
  let v76 : BitVec 1 := Scalar.cmpi .ne arg0 c0_i32_28
  let v77 : BitVec 32 := Scalar.extui v76
  let c0_i32_29 : BitVec 32 := 0#32
  let v78 : BitVec 1 := Scalar.cmpi .ne v77 c0_i32_29
  v78

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1024x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1024x1 .i32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1024x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1024x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1024x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S1x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x1 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev grid4 : Pipeline.Grid := .none

abbrev stage4_0 : Fin 1 → Memref sig .tc .vmem S1x4 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S1x4 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S1x4 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S1x4 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
-- ==== ReferenceIdeal.lean ====
abbrev S8192x64 : Shape := ⟨2, ![8192, 64]⟩
abbrev S4x1024x64 : Shape := ⟨3, ![4, 1024, 64]⟩
abbrev S1x4 : Shape := ⟨2, ![1, 4]⟩
abbrev S8192x1x64 : Shape := ⟨3, ![8192, 1, 64]⟩
abbrev S1x1024x64 : Shape := ⟨3, ![1, 1024, 64]⟩
abbrev S1024x64 : Shape := ⟨2, ![1024, 64]⟩
abbrev S8192x1024x64 : Shape := ⟨3, ![8192, 1024, 64]⟩
abbrev S_ : Shape := ⟨0, ![]⟩
abbrev S8192x1024 : Shape := ⟨2, ![8192, 1024]⟩
abbrev S8192 : Shape := ⟨1, ![8192]⟩
abbrev S8192x1 : Shape := ⟨2, ![8192, 1]⟩
abbrev S1x1024 : Shape := ⟨2, ![1, 1024]⟩
abbrev S1x1 : Shape := ⟨2, ![1, 1]⟩
abbrev S2048x64 : Shape := ⟨2, ![2048, 64]⟩
abbrev S8192x2 : Shape := ⟨2, ![8192, 2]⟩
abbrev S8192x2x64 : Shape := ⟨3, ![8192, 2, 64]⟩
abbrev S2x1 : Shape := ⟨2, ![2, 1]⟩
abbrev S3072x64 : Shape := ⟨2, ![3072, 64]⟩
abbrev S8192x3 : Shape := ⟨2, ![8192, 3]⟩
abbrev S8192x3x64 : Shape := ⟨3, ![8192, 3, 64]⟩
abbrev S3x1 : Shape := ⟨2, ![3, 1]⟩
abbrev S4096x64 : Shape := ⟨2, ![4096, 64]⟩
abbrev S8192x4 : Shape := ⟨2, ![8192, 4]⟩
abbrev S8192x4x64 : Shape := ⟨3, ![8192, 4, 64]⟩
abbrev S4x1 : Shape := ⟨2, ![4, 1]⟩

abbrev nBuf : Space → Nat
  | .hbm => 358
  | .vmem => 0
  | .smem => 0
  | _ => 0

abbrev hbmTy0_0 (i : Nat) : BufTy := match i % 128 with
  | 0 => ⟨S8192x64, .f32⟩
  | 1 => ⟨S4x1024x64, .f32⟩
  | 2 => ⟨S1x4, .f32⟩
  | 3 => ⟨S8192x1x64, .f32⟩
  | 4 => ⟨S1x1024x64, .f32⟩
  | 5 => ⟨S1024x64, .f32⟩
  | 6 => ⟨S1x1024x64, .f32⟩
  | 7 => ⟨S8192x1024x64, .f32⟩
  | 8 => ⟨S8192x1024x64, .f32⟩
  | 9 => ⟨S8192x1024x64, .f32⟩
  | 10 => ⟨S8192x1024x64, .f32⟩
  | 11 => ⟨S_, .f32⟩
  | 12 => ⟨S8192x1024, .f32⟩
  | 13 => ⟨S8192x1024, .f32⟩
  | 14 => ⟨S8192x1024, .f32⟩
  | 15 => ⟨S_, .f32⟩
  | 16 => ⟨S8192x1024, .f32⟩
  | 17 => ⟨S8192x1024, .f32⟩
  | 18 => ⟨S_, .f32⟩
  | 19 => ⟨S8192x1024, .f32⟩
  | 20 => ⟨S8192x1024, .f32⟩
  | 21 => ⟨S_, .f32⟩
  | 22 => ⟨S8192, .f32⟩
  | 23 => ⟨S_, .f32⟩
  | 24 => ⟨S8192, .f32⟩
  | 25 => ⟨S8192, .f32⟩
  | 26 => ⟨S8192x1, .f32⟩
  | 27 => ⟨S8192x1024, .f32⟩
  | 28 => ⟨S8192x1024, .f32⟩
  | 29 => ⟨S8192x1024, .f32⟩
  | 30 => ⟨S_, .f32⟩
  | 31 => ⟨S8192, .f32⟩
  | 32 => ⟨S8192x1, .f32⟩
  | 33 => ⟨S8192x1024, .f32⟩
  | 34 => ⟨S8192x1024, .f32⟩
  | 35 => ⟨S8192x1024, .i32⟩
  | 36 => ⟨S_, .f32⟩
  | 37 => ⟨S_, .i32⟩
  | 38 => ⟨S8192, .f32⟩
  | 39 => ⟨S8192, .i32⟩
  | 40 => ⟨S8192x1, .i32⟩
  | 41 => ⟨S1x1024, .i32⟩
  | 42 => ⟨S8192x1024, .i32⟩
  | 43 => ⟨S8192x1024, .i32⟩
  | 44 => ⟨S8192x1024, .i1⟩
  | 45 => ⟨S8192x1024, .f32⟩
  | 46 => ⟨S8192x1024, .f32⟩
  | 47 => ⟨S8192x1024, .f32⟩
  | 48 => ⟨S8192x1, .i32⟩
  | 49 => ⟨S1x1024x64, .f32⟩
  | 50 => ⟨S1024x64, .f32⟩
  | 51 => ⟨S1x1024x64, .f32⟩
  | 52 => ⟨S1024x64, .f32⟩
  | 53 => ⟨S8192x64, .f32⟩
  | 54 => ⟨S1x1024x64, .f32⟩
  | 55 => ⟨S1024x64, .f32⟩
  | 56 => ⟨S8192x64, .f32⟩
  | 57 => ⟨S8192x64, .f32⟩
  | 58 => ⟨S8192x64, .f32⟩
  | 59 => ⟨S_, .f32⟩
  | 60 => ⟨S_, .f32⟩
  | 61 => ⟨S_, .f32⟩
  | 62 => ⟨S_, .f32⟩
  | 63 => ⟨S1x1, .f32⟩
  | 64 => ⟨S1x1024x64, .f32⟩
  | 65 => ⟨S1024x64, .f32⟩
  | 66 => ⟨S8192x64, .f32⟩
  | 67 => ⟨S8192x64, .f32⟩
  | 68 => ⟨S8192x64, .f32⟩
  | 69 => ⟨S_, .f32⟩
  | 70 => ⟨S_, .f32⟩
  | 71 => ⟨S_, .f32⟩
  | 72 => ⟨S_, .f32⟩
  | 73 => ⟨S1x1, .f32⟩
  | 74 => ⟨S8192x1024, .f32⟩
  | 75 => ⟨S8192x1024, .f32⟩
  | 76 => ⟨S_, .f32⟩
  | 77 => ⟨S_, .f32⟩
  | 78 => ⟨S_, .f32⟩
  | 79 => ⟨S_, .f32⟩
  | 80 => ⟨S1x1, .f32⟩
  | 81 => ⟨S8192x1x64, .f32⟩
  | 82 => ⟨S8192x1x64, .f32⟩
  | 83 => ⟨S8192x64, .f32⟩
  | 84 => ⟨S8192x1x64, .f32⟩
  | 85 => ⟨S1x1024x64, .f32⟩
  | 86 => ⟨S1024x64, .f32⟩
  | 87 => ⟨S1x1024x64, .f32⟩
  | 88 => ⟨S8192x1024x64, .f32⟩
  | 89 => ⟨S8192x1024x64, .f32⟩
  | 90 => ⟨S8192x1024x64, .f32⟩
  | 91 => ⟨S8192x1024x64, .f32⟩
  | 92 => ⟨S_, .f32⟩
  | 93 => ⟨S8192x1024, .f32⟩
  | 94 => ⟨S8192x1024, .f32⟩
  | 95 => ⟨S8192x1024, .f32⟩
  | 96 => ⟨S_, .f32⟩
  | 97 => ⟨S8192x1024, .f32⟩
  | 98 => ⟨S8192x1024, .f32⟩
  | 99 => ⟨S_, .f32⟩
  | 100 => ⟨S8192x1024, .f32⟩
  | 101 => ⟨S8192x1024, .f32⟩
  | 102 => ⟨S_, .f32⟩
  | 103 => ⟨S8192, .f32⟩
  | 104 => ⟨S_, .f32⟩
  | 105 => ⟨S8192, .f32⟩
  | 106 => ⟨S8192, .f32⟩
  | 107 => ⟨S8192x1, .f32⟩
  | 108 => ⟨S8192x1024, .f32⟩
  | 109 => ⟨S8192x1024, .f32⟩
  | 110 => ⟨S8192x1024, .f32⟩
  | 111 => ⟨S_, .f32⟩
  | 112 => ⟨S8192, .f32⟩
  | 113 => ⟨S8192x1, .f32⟩
  | 114 => ⟨S8192x1024, .f32⟩
  | 115 => ⟨S8192x1024, .f32⟩
  | 116 => ⟨S8192x1024, .i32⟩
  | 117 => ⟨S_, .f32⟩
  | 118 => ⟨S_, .i32⟩
  | 119 => ⟨S8192, .f32⟩
  | 120 => ⟨S8192, .i32⟩
  | 121 => ⟨S8192x1, .i32⟩
  | 122 => ⟨S1x1024, .i32⟩
  | 123 => ⟨S8192x1024, .i32⟩
  | 124 => ⟨S8192x1024, .i32⟩
  | 125 => ⟨S8192x1024, .i1⟩
  | 126 => ⟨S8192x1024, .f32⟩
  | 127 => ⟨S8192x1024, .f32⟩
  | _ => ⟨S8192x64, .f32⟩

abbrev hbmTy0_1 (i : Nat) : BufTy := match i % 128 with
  | 0 => ⟨S8192x1024, .f32⟩
  | 1 => ⟨S8192x1, .i32⟩
  | 2 => ⟨S1x1024x64, .f32⟩
  | 3 => ⟨S1024x64, .f32⟩
  | 4 => ⟨S8192x64, .f32⟩
  | 5 => ⟨S1x1024x64, .f32⟩
  | 6 => ⟨S1024x64, .f32⟩
  | 7 => ⟨S2048x64, .f32⟩
  | 8 => ⟨S8192x2, .i32⟩
  | 9 => ⟨S8192x1x64, .f32⟩
  | 10 => ⟨S8192x2x64, .f32⟩
  | 11 => ⟨S8192x1x64, .f32⟩
  | 12 => ⟨S8192x2x64, .f32⟩
  | 13 => ⟨S8192x64, .f32⟩
  | 14 => ⟨S1x1024x64, .f32⟩
  | 15 => ⟨S1024x64, .f32⟩
  | 16 => ⟨S8192x64, .f32⟩
  | 17 => ⟨S8192x64, .f32⟩
  | 18 => ⟨S8192x64, .f32⟩
  | 19 => ⟨S_, .f32⟩
  | 20 => ⟨S_, .f32⟩
  | 21 => ⟨S_, .f32⟩
  | 22 => ⟨S_, .f32⟩
  | 23 => ⟨S1x1, .f32⟩
  | 24 => ⟨S2x1, .f32⟩
  | 25 => ⟨S1x1024x64, .f32⟩
  | 26 => ⟨S1024x64, .f32⟩
  | 27 => ⟨S8192x64, .f32⟩
  | 28 => ⟨S8192x64, .f32⟩
  | 29 => ⟨S8192x64, .f32⟩
  | 30 => ⟨S_, .f32⟩
  | 31 => ⟨S_, .f32⟩
  | 32 => ⟨S_, .f32⟩
  | 33 => ⟨S_, .f32⟩
  | 34 => ⟨S1x1, .f32⟩
  | 35 => ⟨S2x1, .f32⟩
  | 36 => ⟨S8192x1024, .f32⟩
  | 37 => ⟨S8192x1024, .f32⟩
  | 38 => ⟨S_, .f32⟩
  | 39 => ⟨S_, .f32⟩
  | 40 => ⟨S_, .f32⟩
  | 41 => ⟨S_, .f32⟩
  | 42 => ⟨S1x1, .f32⟩
  | 43 => ⟨S2x1, .f32⟩
  | 44 => ⟨S8192x64, .f32⟩
  | 45 => ⟨S8192x1x64, .f32⟩
  | 46 => ⟨S1x1024x64, .f32⟩
  | 47 => ⟨S1024x64, .f32⟩
  | 48 => ⟨S1x1024x64, .f32⟩
  | 49 => ⟨S8192x1024x64, .f32⟩
  | 50 => ⟨S8192x1024x64, .f32⟩
  | 51 => ⟨S8192x1024x64, .f32⟩
  | 52 => ⟨S8192x1024x64, .f32⟩
  | 53 => ⟨S_, .f32⟩
  | 54 => ⟨S8192x1024, .f32⟩
  | 55 => ⟨S8192x1024, .f32⟩
  | 56 => ⟨S8192x1024, .f32⟩
  | 57 => ⟨S_, .f32⟩
  | 58 => ⟨S8192x1024, .f32⟩
  | 59 => ⟨S8192x1024, .f32⟩
  | 60 => ⟨S_, .f32⟩
  | 61 => ⟨S8192x1024, .f32⟩
  | 62 => ⟨S8192x1024, .f32⟩
  | 63 => ⟨S_, .f32⟩
  | 64 => ⟨S8192, .f32⟩
  | 65 => ⟨S_, .f32⟩
  | 66 => ⟨S8192, .f32⟩
  | 67 => ⟨S8192, .f32⟩
  | 68 => ⟨S8192x1, .f32⟩
  | 69 => ⟨S8192x1024, .f32⟩
  | 70 => ⟨S8192x1024, .f32⟩
  | 71 => ⟨S8192x1024, .f32⟩
  | 72 => ⟨S_, .f32⟩
  | 73 => ⟨S8192, .f32⟩
  | 74 => ⟨S8192x1, .f32⟩
  | 75 => ⟨S8192x1024, .f32⟩
  | 76 => ⟨S8192x1024, .f32⟩
  | 77 => ⟨S8192x1024, .i32⟩
  | 78 => ⟨S_, .f32⟩
  | 79 => ⟨S_, .i32⟩
  | 80 => ⟨S8192, .f32⟩
  | 81 => ⟨S8192, .i32⟩
  | 82 => ⟨S8192x1, .i32⟩
  | 83 => ⟨S1x1024, .i32⟩
  | 84 => ⟨S8192x1024, .i32⟩
  | 85 => ⟨S8192x1024, .i32⟩
  | 86 => ⟨S8192x1024, .i1⟩
  | 87 => ⟨S8192x1024, .f32⟩
  | 88 => ⟨S8192x1024, .f32⟩
  | 89 => ⟨S8192x1024, .f32⟩
  | 90 => ⟨S8192x1, .i32⟩
  | 91 => ⟨S1x1024x64, .f32⟩
  | 92 => ⟨S1024x64, .f32⟩
  | 93 => ⟨S8192x64, .f32⟩
  | 94 => ⟨S1x1024x64, .f32⟩
  | 95 => ⟨S1024x64, .f32⟩
  | 96 => ⟨S3072x64, .f32⟩
  | 97 => ⟨S8192x3, .i32⟩
  | 98 => ⟨S8192x1x64, .f32⟩
  | 99 => ⟨S8192x3x64, .f32⟩
  | 100 => ⟨S8192x1x64, .f32⟩
  | 101 => ⟨S8192x3x64, .f32⟩
  | 102 => ⟨S8192x64, .f32⟩
  | 103 => ⟨S1x1024x64, .f32⟩
  | 104 => ⟨S1024x64, .f32⟩
  | 105 => ⟨S8192x64, .f32⟩
  | 106 => ⟨S8192x64, .f32⟩
  | 107 => ⟨S8192x64, .f32⟩
  | 108 => ⟨S_, .f32⟩
  | 109 => ⟨S_, .f32⟩
  | 110 => ⟨S_, .f32⟩
  | 111 => ⟨S_, .f32⟩
  | 112 => ⟨S1x1, .f32⟩
  | 113 => ⟨S3x1, .f32⟩
  | 114 => ⟨S1x1024x64, .f32⟩
  | 115 => ⟨S1024x64, .f32⟩
  | 116 => ⟨S8192x64, .f32⟩
  | 117 => ⟨S8192x64, .f32⟩
  | 118 => ⟨S8192x64, .f32⟩
  | 119 => ⟨S_, .f32⟩
  | 120 => ⟨S_, .f32⟩
  | 121 => ⟨S_, .f32⟩
  | 122 => ⟨S_, .f32⟩
  | 123 => ⟨S1x1, .f32⟩
  | 124 => ⟨S3x1, .f32⟩
  | 125 => ⟨S8192x1024, .f32⟩
  | 126 => ⟨S8192x1024, .f32⟩
  | 127 => ⟨S_, .f32⟩
  | _ => ⟨S8192x64, .f32⟩

abbrev hbmTy0_2 (i : Nat) : BufTy := match i % 128 with
  | 0 => ⟨S_, .f32⟩
  | 1 => ⟨S_, .f32⟩
  | 2 => ⟨S_, .f32⟩
  | 3 => ⟨S1x1, .f32⟩
  | 4 => ⟨S3x1, .f32⟩
  | 5 => ⟨S8192x64, .f32⟩
  | 6 => ⟨S8192x1x64, .f32⟩
  | 7 => ⟨S1x1024x64, .f32⟩
  | 8 => ⟨S1024x64, .f32⟩
  | 9 => ⟨S1x1024x64, .f32⟩
  | 10 => ⟨S8192x1024x64, .f32⟩
  | 11 => ⟨S8192x1024x64, .f32⟩
  | 12 => ⟨S8192x1024x64, .f32⟩
  | 13 => ⟨S8192x1024x64, .f32⟩
  | 14 => ⟨S_, .f32⟩
  | 15 => ⟨S8192x1024, .f32⟩
  | 16 => ⟨S8192x1024, .f32⟩
  | 17 => ⟨S8192x1024, .f32⟩
  | 18 => ⟨S_, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S_, .f32⟩
  | 25 => ⟨S8192, .f32⟩
  | 26 => ⟨S_, .f32⟩
  | 27 => ⟨S8192, .f32⟩
  | 28 => ⟨S8192, .f32⟩
  | 29 => ⟨S8192x1, .f32⟩
  | 30 => ⟨S8192x1024, .f32⟩
  | 31 => ⟨S8192x1024, .f32⟩
  | 32 => ⟨S8192x1024, .f32⟩
  | 33 => ⟨S_, .f32⟩
  | 34 => ⟨S8192, .f32⟩
  | 35 => ⟨S8192x1, .f32⟩
  | 36 => ⟨S8192x1024, .f32⟩
  | 37 => ⟨S8192x1024, .f32⟩
  | 38 => ⟨S8192x1024, .i32⟩
  | 39 => ⟨S_, .f32⟩
  | 40 => ⟨S_, .i32⟩
  | 41 => ⟨S8192, .f32⟩
  | 42 => ⟨S8192, .i32⟩
  | 43 => ⟨S8192x1, .i32⟩
  | 44 => ⟨S1x1024, .i32⟩
  | 45 => ⟨S8192x1024, .i32⟩
  | 46 => ⟨S8192x1024, .i32⟩
  | 47 => ⟨S8192x1024, .i1⟩
  | 48 => ⟨S8192x1024, .f32⟩
  | 49 => ⟨S8192x1024, .f32⟩
  | 50 => ⟨S8192x1024, .f32⟩
  | 51 => ⟨S8192x1, .i32⟩
  | 52 => ⟨S1x1024x64, .f32⟩
  | 53 => ⟨S1024x64, .f32⟩
  | 54 => ⟨S8192x64, .f32⟩
  | 55 => ⟨S1x1024x64, .f32⟩
  | 56 => ⟨S1024x64, .f32⟩
  | 57 => ⟨S4096x64, .f32⟩
  | 58 => ⟨S8192x4, .i32⟩
  | 59 => ⟨S8192x1x64, .f32⟩
  | 60 => ⟨S8192x4x64, .f32⟩
  | 61 => ⟨S8192x1x64, .f32⟩
  | 62 => ⟨S8192x4x64, .f32⟩
  | 63 => ⟨S8192x64, .f32⟩
  | 64 => ⟨S1x1024x64, .f32⟩
  | 65 => ⟨S1024x64, .f32⟩
  | 66 => ⟨S8192x64, .f32⟩
  | 67 => ⟨S8192x64, .f32⟩
  | 68 => ⟨S8192x64, .f32⟩
  | 69 => ⟨S_, .f32⟩
  | 70 => ⟨S_, .f32⟩
  | 71 => ⟨S_, .f32⟩
  | 72 => ⟨S_, .f32⟩
  | 73 => ⟨S1x1, .f32⟩
  | 74 => ⟨S4x1, .f32⟩
  | 75 => ⟨S1x1024x64, .f32⟩
  | 76 => ⟨S1024x64, .f32⟩
  | 77 => ⟨S8192x64, .f32⟩
  | 78 => ⟨S8192x64, .f32⟩
  | 79 => ⟨S8192x64, .f32⟩
  | 80 => ⟨S_, .f32⟩
  | 81 => ⟨S_, .f32⟩
  | 82 => ⟨S_, .f32⟩
  | 83 => ⟨S_, .f32⟩
  | 84 => ⟨S1x1, .f32⟩
  | 85 => ⟨S4x1, .f32⟩
  | 86 => ⟨S8192x1024, .f32⟩
  | 87 => ⟨S8192x1024, .f32⟩
  | 88 => ⟨S_, .f32⟩
  | 89 => ⟨S_, .f32⟩
  | 90 => ⟨S_, .f32⟩
  | 91 => ⟨S_, .f32⟩
  | 92 => ⟨S1x1, .f32⟩
  | 93 => ⟨S4x1, .f32⟩
  | 94 => ⟨S1x1, .f32⟩
  | 95 => ⟨S1x1, .f32⟩
  | 96 => ⟨S1x1, .f32⟩
  | 97 => ⟨S_, .f32⟩
  | 98 => ⟨S1x1, .f32⟩
  | 99 => ⟨S1x1, .f32⟩
  | 100 => ⟨S1x1, .f32⟩
  | 101 => ⟨S1x1, .f32⟩
  | _ => ⟨S8192x64, .f32⟩

abbrev hbmTy (i : Nat) : BufTy := match i / 128 with
  | 0 => hbmTy0_0 i
  | 1 => hbmTy0_1 i
  | 2 => hbmTy0_2 i
  | _ => ⟨S8192x64, .f32⟩

abbrev bufTy : (tb : Table) → Fin (tcTables nBuf tb) → BufTy
  | .hbm, ⟨i, _⟩ => hbmTy i
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_v0 : Ref sig .tc := ⟨.hbm, 35, rfl⟩
abbrev main_call0_cst : Ref sig .tc := ⟨.hbm, 36, rfl⟩
abbrev main_call0_c : Ref sig .tc := ⟨.hbm, 37, rfl⟩
abbrev main_call0_v1_0 : Ref sig .tc := ⟨.hbm, 38, rfl⟩
abbrev main_v26 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_11 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_12 : Ref sig .tc := ⟨.hbm, 96, rfl⟩
abbrev main_v71 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_16 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call2_v0 : Ref sig .tc := ⟨.hbm, 116, rfl⟩
abbrev main_call2_cst : Ref sig .tc := ⟨.hbm, 117, rfl⟩
abbrev main_call2_c : Ref sig .tc := ⟨.hbm, 118, rfl⟩
abbrev main_call2_v1_0 : Ref sig .tc := ⟨.hbm, 119, rfl⟩
abbrev main_v86 : Ref sig .tc := ⟨.hbm, 120, rfl⟩
abbrev main_call3_v0 : Ref sig .tc := ⟨.hbm, 121, rfl⟩
abbrev main_call3_v1 : Ref sig .tc := ⟨.hbm, 122, rfl⟩
abbrev main_call3_v2 : Ref sig .tc := ⟨.hbm, 123, rfl⟩
abbrev main_call3_v3 : Ref sig .tc := ⟨.hbm, 124, rfl⟩
abbrev main_call3_v4 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_17 : Ref sig .tc := ⟨.hbm, 147, rfl⟩
abbrev main_v108 : Ref sig .tc := ⟨.hbm, 148, rfl⟩
abbrev main_cst_18 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_19 : Ref sig .tc := ⟨.hbm, 158, rfl⟩
abbrev main_v117 : Ref sig .tc := ⟨.hbm, 159, rfl⟩
abbrev main_cst_20 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_cst_21 : Ref sig .tc := ⟨.hbm, 166, rfl⟩
abbrev main_v123 : Ref sig .tc := ⟨.hbm, 167, rfl⟩
abbrev main_cst_22 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_cst_23 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_cst_24 : Ref sig .tc := ⟨.hbm, 185, rfl⟩
abbrev main_v139 : Ref sig .tc := ⟨.hbm, 186, rfl⟩
abbrev main_v140 : Ref sig .tc := ⟨.hbm, 187, rfl⟩
abbrev main_cst_25 : Ref sig .tc := ⟨.hbm, 188, rfl⟩
abbrev main_v141 : Ref sig .tc := ⟨.hbm, 189, rfl⟩
abbrev main_v142 : Ref sig .tc := ⟨.hbm, 190, rfl⟩
abbrev main_cst_26 : Ref sig .tc := ⟨.hbm, 191, rfl⟩
abbrev main_v143 : Ref sig .tc := ⟨.hbm, 192, rfl⟩
abbrev main_cst_27 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_cst_28 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_call4_v0 : Ref sig .tc := ⟨.hbm, 205, rfl⟩
abbrev main_call4_cst : Ref sig .tc := ⟨.hbm, 206, rfl⟩
abbrev main_call4_c : Ref sig .tc := ⟨.hbm, 207, rfl⟩
abbrev main_call4_v1_0 : Ref sig .tc := ⟨.hbm, 208, rfl⟩
abbrev main_v154 : Ref sig .tc := ⟨.hbm, 209, rfl⟩
abbrev main_call5_v0 : Ref sig .tc := ⟨.hbm, 210, rfl⟩
abbrev main_call5_v1 : Ref sig .tc := ⟨.hbm, 211, rfl⟩
abbrev main_call5_v2 : Ref sig .tc := ⟨.hbm, 212, rfl⟩
abbrev main_call5_v3 : Ref sig .tc := ⟨.hbm, 213, rfl⟩
abbrev main_call5_v4 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_cst_29 : Ref sig .tc := ⟨.hbm, 236, rfl⟩
abbrev main_v176 : Ref sig .tc := ⟨.hbm, 237, rfl⟩
abbrev main_cst_30 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_cst_31 : Ref sig .tc := ⟨.hbm, 247, rfl⟩
abbrev main_v185 : Ref sig .tc := ⟨.hbm, 248, rfl⟩
abbrev main_cst_32 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_cst_33 : Ref sig .tc := ⟨.hbm, 255, rfl⟩
abbrev main_v191 : Ref sig .tc := ⟨.hbm, 256, rfl⟩
abbrev main_cst_34 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_cst_35 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_cst_36 : Ref sig .tc := ⟨.hbm, 274, rfl⟩
abbrev main_v207 : Ref sig .tc := ⟨.hbm, 275, rfl⟩
abbrev main_v208 : Ref sig .tc := ⟨.hbm, 276, rfl⟩
abbrev main_cst_37 : Ref sig .tc := ⟨.hbm, 277, rfl⟩
abbrev main_v209 : Ref sig .tc := ⟨.hbm, 278, rfl⟩
abbrev main_v210 : Ref sig .tc := ⟨.hbm, 279, rfl⟩
abbrev main_cst_38 : Ref sig .tc := ⟨.hbm, 280, rfl⟩
abbrev main_v211 : Ref sig .tc := ⟨.hbm, 281, rfl⟩
abbrev main_cst_39 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_cst_40 : Ref sig .tc := ⟨.hbm, 289, rfl⟩
abbrev main_v218 : Ref sig .tc := ⟨.hbm, 290, rfl⟩
abbrev main_v219 : Ref sig .tc := ⟨.hbm, 291, rfl⟩
abbrev main_v220 : Ref sig .tc := ⟨.hbm, 292, rfl⟩
abbrev main_v221 : Ref sig .tc := ⟨.hbm, 293, rfl⟩
abbrev main_call6_v0 : Ref sig .tc := ⟨.hbm, 294, rfl⟩
abbrev main_call6_cst : Ref sig .tc := ⟨.hbm, 295, rfl⟩
abbrev main_call6_c : Ref sig .tc := ⟨.hbm, 296, rfl⟩
abbrev main_call6_v1_0 : Ref sig .tc := ⟨.hbm, 297, rfl⟩
abbrev main_v222 : Ref sig .tc := ⟨.hbm, 298, rfl⟩
abbrev main_call7_v0 : Ref sig .tc := ⟨.hbm, 299, rfl⟩
abbrev main_call7_v1 : Ref sig .tc := ⟨.hbm, 300, rfl⟩
abbrev main_call7_v2 : Ref sig .tc := ⟨.hbm, 301, rfl⟩
abbrev main_call7_v3 : Ref sig .tc := ⟨.hbm, 302, rfl⟩
abbrev main_call7_v4 : Ref sig .tc := ⟨.hbm, 303, rfl⟩
abbrev main_v223 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩
abbrev main_v230 : Ref sig .tc := ⟨.hbm, 311, rfl⟩
abbrev main_v231 : Ref sig .tc := ⟨.hbm, 312, rfl⟩
abbrev main_v232 : Ref sig .tc := ⟨.hbm, 313, rfl⟩
abbrev main_v233 : Ref sig .tc := ⟨.hbm, 314, rfl⟩
abbrev main_v234 : Ref sig .tc := ⟨.hbm, 315, rfl⟩
abbrev main_v235 : Ref sig .tc := ⟨.hbm, 316, rfl⟩
abbrev main_v236 : Ref sig .tc := ⟨.hbm, 317, rfl⟩
abbrev main_v237 : Ref sig .tc := ⟨.hbm, 318, rfl⟩
abbrev main_v238 : Ref sig .tc := ⟨.hbm, 319, rfl⟩
abbrev main_v239 : Ref sig .tc := ⟨.hbm, 320, rfl⟩
abbrev main_v240 : Ref sig .tc := ⟨.hbm, 321, rfl⟩
abbrev main_v241 : Ref sig .tc := ⟨.hbm, 322, rfl⟩
abbrev main_v242 : Ref sig .tc := ⟨.hbm, 323, rfl⟩
abbrev main_v243 : Ref sig .tc := ⟨.hbm, 324, rfl⟩
abbrev main_cst_41 : Ref sig .tc := ⟨.hbm, 325, rfl⟩
abbrev main_v244 : Ref sig .tc := ⟨.hbm, 326, rfl⟩
abbrev main_cst_42 : Ref sig .tc := ⟨.hbm, 327, rfl⟩
abbrev main_v245 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_v251 : Ref sig .tc := ⟨.hbm, 334, rfl⟩
abbrev main_v252 : Ref sig .tc := ⟨.hbm, 335, rfl⟩
abbrev main_cst_43 : Ref sig .tc := ⟨.hbm, 336, rfl⟩
abbrev main_v253 : Ref sig .tc := ⟨.hbm, 337, rfl⟩
abbrev main_cst_44 : Ref sig .tc := ⟨.hbm, 338, rfl⟩
abbrev main_v254 : Ref sig .tc := ⟨.hbm, 339, rfl⟩
abbrev main_v255 : Ref sig .tc := ⟨.hbm, 340, rfl⟩
abbrev main_v256 : Ref sig .tc := ⟨.hbm, 341, rfl⟩
abbrev main_v257 : Ref sig .tc := ⟨.hbm, 342, rfl⟩
abbrev main_v258 : Ref sig .tc := ⟨.hbm, 343, rfl⟩
abbrev main_cst_45 : Ref sig .tc := ⟨.hbm, 344, rfl⟩
abbrev main_v259 : Ref sig .tc := ⟨.hbm, 345, rfl⟩
abbrev main_cst_46 : Ref sig .tc := ⟨.hbm, 346, rfl⟩
abbrev main_v260 : Ref sig .tc := ⟨.hbm, 347, rfl⟩
abbrev main_v261 : Ref sig .tc := ⟨.hbm, 348, rfl⟩
abbrev main_v262 : Ref sig .tc := ⟨.hbm, 349, rfl⟩
abbrev main_v263 : Ref sig .tc := ⟨.hbm, 350, rfl⟩
abbrev main_v264 : Ref sig .tc := ⟨.hbm, 351, rfl⟩
abbrev main_v265 : Ref sig .tc := ⟨.hbm, 352, rfl⟩
abbrev main_cst_47 : Ref sig .tc := ⟨.hbm, 353, rfl⟩
abbrev main_v266 : Ref sig .tc := ⟨.hbm, 354, rfl⟩
abbrev main_v267 : Ref sig .tc := ⟨.hbm, 355, rfl⟩
abbrev main_v268 : Ref sig .tc := ⟨.hbm, 356, rfl⟩
abbrev main_v269 : Ref sig .tc := ⟨.hbm, 357, rfl⟩

abbrev nD : Nat := 1
abbrev τ : Topo := Topo.v7x

variable {F : FTy → Type} [FloatOps F]
-- ==== Proof.Kern.Stage.lean ====
/- What one grid point of a stage call computes from the blocks it is handed, named, and the meaning of
   "this body computes these functions": the shape in which both stage bodies are proved and used. -/
module

public import proofs.«01_k».proof.Proof.Gen.KernelIdeal.Points
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.Value
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp
public import Idealize.ShloMosaic.Lib.WholeRead

@[expose] public section

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

/-- The four blocks a stage body reads at a grid point: rows of `x`, rows of the running
    reconstruction, rows of the scores, and the transposed codebook. -/
structure Blocks (F : FTy → Type) where
  x : Vec F S1024x64 .f32
  p : Vec F S1024x64 .f32
  att : Vec F S1024x1024 .f32
  ct : Vec F S64x1024 .f32

/-- What a stage body leaves in its seven outputs: four blocks of rows, and three running sums, each started from the
    first point's blocks and then continued from a point's blocks and the sum so far. -/
structure StageFns (F : FTy → Type) where
  idx : Blocks F → Vec F S1024x1 .i32
  xpm : Blocks F → Vec F S1024x64 .f32
  xr : Blocks F → Vec F S1024x64 .f32
  res : Blocks F → Vec F S1024x64 .f32
  oStart : Blocks F → Vec F S1x1 .f32
  sStart : Blocks F → Vec F S1x1 .f32
  mStart : Blocks F → Vec F S1x1 .f32
  oNext : Blocks F → Vec F S1x1 .f32 → Vec F S1x1 .f32
  sNext : Blocks F → Vec F S1x1 .f32 → Vec F S1x1 .f32
  mNext : Blocks F → Vec F S1x1 .f32 → Vec F S1x1 .f32

/-- A running sum after a point: started where `first` holds, continued elsewhere. -/
def step {F : FTy → Type} (start : Blocks F → Vec F S1x1 .f32) (next : Blocks F → Vec F S1x1 .f32 → Vec F S1x1 .f32)
    (first : Prop) [Decidable first] (b : Blocks F) (a : Vec F S1x1 .f32) : Vec F S1x1 .f32 :=
  if first then start b else next b a

variable {F : FTy → Type} [FloatOps F]

local notation "𝕄" => MT nD τ sig Unit (Elt F) ℕ (UR sig nD τ) ℕ

/-- The type of a stage body: a grid point and eleven whole staging buffers. -/
abbrev StageBody (F : FTy → Type) := (i : grid1.Coords) →
  (a1 : Memref sig .tc .vmem S1024x64 .f32) → a1.IsWhole → (a2 : Memref sig .tc .vmem S1024x64 .f32) → a2.IsWhole →
  (a3 : Memref sig .tc .vmem S1024x1024 .f32) → a3.IsWhole → (a4 : Memref sig .tc .vmem S64x1024 .f32) → a4.IsWhole →
  (a5 : Memref sig .tc .vmem S1024x1 .i32) → a5.IsWhole → (a6 : Memref sig .tc .vmem S1024x64 .f32) → a6.IsWhole →
  (a7 : Memref sig .tc .vmem S1024x64 .f32) → a7.IsWhole → (a8 : Memref sig .tc .vmem S1024x64 .f32) → a8.IsWhole →
  (a9 : Memref sig .tc .vmem S1x1 .f32) → a9.IsWhole → (a10 : Memref sig .tc .vmem S1x1 .f32) → a10.IsWhole →
  (a11 : Memref sig .tc .vmem S1x1 .f32) → a11.IsWhole → Prog (TpuEff nD τ sig (Elt F) Λ₀ .tc) PUnit

/-- The body `body` computes the functions `fn`: from the four input blocks and any contents of the outputs it runs to
    the inputs unchanged and the outputs holding what `fn` says. -/
def Computes (body : StageBody F) (fn : StageFns F) : Prop :=
  ∀ (c : Dev nD) (i : grid1.Coords) (a1 : Memref sig .tc .vmem S1024x64 .f32) (h1 : a1.IsWhole)
    (a2 : Memref sig .tc .vmem S1024x64 .f32) (h2 : a2.IsWhole) (a3 : Memref sig .tc .vmem S1024x1024 .f32) (h3 : a3.IsWhole)
    (a4 : Memref sig .tc .vmem S64x1024 .f32) (h4 : a4.IsWhole) (a5 : Memref sig .tc .vmem S1024x1 .i32) (h5 : a5.IsWhole)
    (a6 : Memref sig .tc .vmem S1024x64 .f32) (h6 : a6.IsWhole) (a7 : Memref sig .tc .vmem S1024x64 .f32) (h7 : a7.IsWhole)
    (a8 : Memref sig .tc .vmem S1024x64 .f32) (h8 : a8.IsWhole) (a9 : Memref sig .tc .vmem S1x1 .f32) (h9 : a9.IsWhole)
    (a10 : Memref sig .tc .vmem S1x1 .f32) (h10 : a10.IsWhole) (a11 : Memref sig .tc .vmem S1x1 .f32) (h11 : a11.IsWhole)
    (b : Blocks F) (o s w : Vec F S1x1 .f32) (E : Set ℕ) (K : PUnit → sProp 𝕄),
    iprop(owns (c : Thread nD τ) a1 fullShare b.x ∗ owns (c : Thread nD τ) a2 fullShare b.p
        ∗ owns (c : Thread nD τ) a3 fullShare b.att ∗ owns (c : Thread nD τ) a4 fullShare b.ct
        ∗ (∃ d, owns (c : Thread nD τ) a5 fullShare d) ∗ (∃ d, owns (c : Thread nD τ) a6 fullShare d)
        ∗ (∃ d, owns (c : Thread nD τ) a7 fullShare d) ∗ (∃ d, owns (c : Thread nD τ) a8 fullShare d)
        ∗ owns (c : Thread nD τ) a9 fullShare o ∗ owns (c : Thread nD τ) a10 fullShare s
        ∗ owns (c : Thread nD τ) a11 fullShare w
        ∗ (iprop(owns (c : Thread nD τ) a1 fullShare b.x ∗ owns (c : Thread nD τ) a2 fullShare b.p
            ∗ owns (c : Thread nD τ) a3 fullShare b.att ∗ owns (c : Thread nD τ) a4 fullShare b.ct
            ∗ owns (c : Thread nD τ) a5 fullShare (fn.idx b) ∗ owns (c : Thread nD τ) a6 fullShare (fn.xpm b)
            ∗ owns (c : Thread nD τ) a7 fullShare (fn.xr b) ∗ owns (c : Thread nD τ) a8 fullShare (fn.res b)
            ∗ owns (c : Thread nD τ) a9 fullShare (step fn.oStart fn.oNext ((i 0).val = 0) b o)
            ∗ owns (c : Thread nD τ) a10 fullShare (step fn.sStart fn.sNext ((i 0).val = 0) b s)
            ∗ owns (c : Thread nD τ) a11 fullShare (step fn.mStart fn.mNext ((i 0).val = 0) b w)) -∗ K ⟨⟩))
      ⊢ wp frame (wpE (defs₀ (F := F)) Variants.none c none) E
          (body i a1 h1 a2 h2 a3 h3 a4 h4 a5 h5 a6 h6 a7 h7 a8 h8 a9 h9 a10 h10 a11 h11) K

/-- One store through the whole rectangle leaves its payload in the buffer. -/
theorem read_whole_store {sp : Space} {S : Shape} {e : EltTy} (v : View sig .tc sp S e) (f : v.ty.Contents (Elt F))
    {off : Fin S.rank → Nat} (h : off = fun _ => 0) (inb : ∀ a, off a + S.size a ≤ S.size a) (u : S.Idx → Elt F e) :
    v.read (Elt F) (v.writes (Elt F) f [(⟨Rect.unit off S.size inb, u⟩ : View.Piece (Elt F) S e)]) = u :=
  (View.read_writes_eq_canon v f _ fun y => ⟨_, List.mem_singleton_self _, View.mem_set_unit_zero h inb y⟩).trans
    (View.canon_unit_zero h inb u)

/-- A load through the whole rectangle of a whole buffer reads its contents. -/
theorem load_whole {sp : Space} {S : Shape} {e : EltTy} {m : Memref sig .tc sp S e} (hm : m.IsWhole)
    {off : Fin S.rank → Nat} (h : off = fun _ => 0) (inb : ∀ a, off a + S.size a ≤ S.size a) (u : S.Idx → Elt F e) :
    View.readAt (Elt F) m.view (Rect.unit off S.size inb).toLoadRect (hm.unread u) = u := by
  funext x
  rw [hm.readAt_unread]
  exact congrFun (View.ld_unit_zero h inb u) x

/-- The zero offsets of a two-axis rectangle. -/
theorem zero2 : (![0, 0] : Fin 2 → Nat) = fun _ => 0 := by
  funext a; fin_cases a <;> rfl

/-- What a later stage's body computes. -/
def laterFns : StageFns F where
  idx b := k1_pay5 b.att
  xpm b := k1_pay13 (k1_pay1 b.p) (k1_pay8 b.ct b.att)
  xr b := k1_pay8 b.ct b.att
  res b := k1_pay14 (k1_pay1 b.p) (k1_pay8 b.ct b.att) b.x
  oStart b := k1_pay15 (k1_pay2 b.p b.x) (k1_pay8 b.ct b.att)
  sStart b := k1_pay16 (k1_pay2 b.p b.x) (k1_pay6 b.ct) (k1_pay9 b.att) (constant S1024x64 .f32 0x00000000#32)
  mStart b := k1_pay17 (k1_pay3 b.att) (k1_pay4 b.att) (k1_pay7 b.att)
  oNext b o := k1_pay18 (k1_pay2 b.p b.x) (k1_pay8 b.ct b.att) o
  sNext b s := k1_pay19 (k1_pay2 b.p b.x) (k1_pay6 b.ct) (k1_pay9 b.att) (constant S1024x64 .f32 0x00000000#32) s
  mNext b w := k1_pay20 (k1_pay3 b.att) (k1_pay4 b.att) (k1_pay7 b.att) w

/-- What the first stage's body computes. -/
def firstFns : StageFns F where
  idx b := k0_pay13 b.att
  xpm b := k0_pay16 b.ct b.att
  xr b := k0_pay16 b.ct b.att
  res b := k0_pay4 (k0_pay16 b.ct b.att) b.x
  oStart b := k0_pay5 b.x (k0_pay16 b.ct b.att)
  sStart b := k0_pay6 b.x (k0_pay17 b.ct b.att)
  mStart b := k0_pay7 (k0_pay18 b.att) (k0_pay19 b.att) (k0_pay20 b.att)
  oNext b o := k0_pay8 b.x (k0_pay16 b.ct b.att) o
  sNext b s := k0_pay9 b.x (k0_pay17 b.ct b.att) s
  mNext b w := k0_pay10 (k0_pay18 b.att) (k0_pay19 b.att) (k0_pay20 b.att) w

/-- The later stages' conditions are "first point" and its negation; likewise the first stage's. -/
theorem k1_first (i : grid1.Coords) : k1_cond1 i = 1#1 ↔ (i 0).val = 0 := by
  have h : (i 0).val < 8 := (i 0).isLt
  simp only [k1_cond1]; word_cmp
theorem k1_rest (i : grid1.Coords) : k1_cond2 i = 1#1 ↔ ¬ (i 0).val = 0 := by
  have h : (i 0).val < 8 := (i 0).isLt
  simp only [k1_cond2]; word_cmp
theorem k0_first (i : grid0.Coords) : k0_cond1 i = 1#1 ↔ (i 0).val = 0 := k1_first i
theorem k0_rest (i : grid0.Coords) : k0_cond2 i = 1#1 ↔ ¬ (i 0).val = 0 := k1_rest i

end Cert.KernelIdeal

end
-- ==== Proof.Kern.Region.lean ====
/- Tools every pallas_call of the program is run with: an input block is what its array holds there, an output that is
   written back only at the end keeps its contents from point to point, and a stage body that computes given functions
   meets its obligation. -/
module

public import proofs.«01_k».proof.Proof.Kern.Stage

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal.Gen

variable {F : FTy → Type} [FloatOps F]

local notation "𝕄" => MT nD τ sig Unit (Elt F) ℕ (UR sig nD τ) ℕ

/-- The contents of every array as a region is entered. -/
abbrev Entry (F : FTy → Type) [FloatOps F] := (c : Dev nD) → (b : Ref sig .tc) → Buf (Elt F) ((c : Thread nD τ).loc b)

/-- Window `w`'s block at point `t`, read off its array as the region finds it. -/
def blockAt (cfg : Cfg sig Λ₀) (V : Entry F) (c : Dev nD) (w : Fin cfg.W) (t : Fin cfg.N) :
    ((cfg.win w).xblock (cfg.grid.coords t)).Idx → Elt F (cfg.win w).elt :=
  ((cfg.win w).blk t).view.read (Elt F) (V c (arrRef cfg.spec w))

section Dats

variable {cfg : Cfg sig Λ₀} {c : Dev nD} (dat : Dat τ (Elt F) Unit ℕ (UR sig nD τ) ℕ cfg c)

/-- An input that the body leaves in place holds its block (`X`) at every point. -/
theorem before_input {V : Entry F} (w : Fin cfg.W) (hin : (cfg.win w).isOut = false) (hlive : ∀ i, cfg.idle w i = false)
    (hclip : ∀ t t' : Fin cfg.N, (cfg.win w).index t = (cfg.win w).index t' →
      (cfg.win w).clip (cfg.grid.coords t) = (cfg.win w).clip (cfg.grid.coords t'))
    (hA : dat.A w = V c (arrRef cfg.spec w)) {X : Fin cfg.N → (cfg.win w).block.Idx → Elt F (cfg.win w).elt}
    (hX : ∀ t d, (cfg.win w).fill (cfg.grid.coords t) d (blockAt cfg V c w t) = X t) (hafter : ∀ t, dat.after w t = X t)
    (t : Fin cfg.N) (d) : dat.before w t d = X t := by
  have hb : ∀ t, dat.blockOf w t = blockAt cfg V c w t := fun t => by unfold Dat.blockOf blockAt; rw [hA]
  refine (dat.before_in_eq_fetched w hin hlive hclip (fun t => ?_) t d).trans ?_
  · rw [hafter, ← hX t (X t), Window.cut_fill, hb]
  · unfold Dat.fetched; rw [hb]; exact hX t d

/-- An output written back at the last point only keeps what the point before left. -/
theorem before_sum (w : Fin cfg.W) (hout : (cfg.win w).isOut = true)
    (hclip : ∀ (i : cfg.grid.Coords) a, (cfg.win w).clip i a = none) (hlive : ∀ t, cfg.idle w (cfg.grid.coords t) = false)
    (hflush : ∀ t, (cfg.win w).flush t = true → t.val + 1 = cfg.N) (t : Fin cfg.N) (ht : t.val ≠ 0) (d) :
    dat.before w t d = dat.after w ⟨t.val - 1, by omega⟩ := by
  rw [dat.before_out_traj w hout hclip (fun t _ hi => absurd hi (by rw [hlive]; exact Bool.false_ne_true)) t.val t rfl d, if_neg]
  obtain ⟨n, hn⟩ := Nat.exists_eq_succ_of_ne_zero ht
  have hlt := t.isLt
  rw [hn, cfg.fresh_succ w n (by omega), hlive, Bool.false_and, Bool.or_false]
  intro h
  have := hflush _ h
  simp only at this
  omega

end Dats

/-- A running sum after point `n`, from the blocks of the points up to it. -/
def sumAt (start : Blocks F → Vec F S1x1 .f32) (next : Blocks F → Vec F S1x1 .f32 → Vec F S1x1 .f32) {N : ℕ}
    (b : Fin N → Blocks F) : (n : ℕ) → n < N → Vec F S1x1 .f32
  | 0, h => start (b ⟨0, h⟩)
  | n + 1, h => next (b ⟨n + 1, h⟩) (sumAt start next b n (by omega))

/-- At each point the body's step leads from the sum of the point before to the sum of the point. -/
theorem step_sumAt (start : Blocks F → Vec F S1x1 .f32) (next : Blocks F → Vec F S1x1 .f32 → Vec F S1x1 .f32) {N : ℕ}
    (b : Fin N → Blocks F) (t : Fin N) (first : Prop) [Decidable first] (hf : first ↔ t.val = 0) (a : Vec F S1x1 .f32)
    (ha : ∀ h : t.val ≠ 0, a = sumAt start next b (t.val - 1) (by omega)) :
    step start next first (b t) a = sumAt start next b t.val t.isLt := by
  obtain ⟨n, hn⟩ := t
  cases n with
  | zero => rw [step, if_pos (hf.mpr rfl)]; rfl
  | succ n =>
    rw [step, if_neg (fun h => Nat.succ_ne_zero n (hf.mp h)), ha (Nat.succ_ne_zero n)]
    rfl

/-- A body that computes `fn`, run where the input buffers hold a point's blocks, leaves the outputs as `fn` says; what
    rides along (`R₁`, `R₂`) is untouched. -/
theorem Computes.sound {body : StageBody F} {fn : StageFns F} (H : Computes body fn) (c : Dev nD) (i : grid1.Coords)
    (a1 : Memref sig .tc .vmem S1024x64 .f32) (h1 : a1.IsWhole)
    (a2 : Memref sig .tc .vmem S1024x64 .f32) (h2 : a2.IsWhole) (a3 : Memref sig .tc .vmem S1024x1024 .f32) (h3 : a3.IsWhole)
    (a4 : Memref sig .tc .vmem S64x1024 .f32) (h4 : a4.IsWhole) (a5 : Memref sig .tc .vmem S1024x1 .i32) (h5 : a5.IsWhole)
    (a6 : Memref sig .tc .vmem S1024x64 .f32) (h6 : a6.IsWhole) (a7 : Memref sig .tc .vmem S1024x64 .f32) (h7 : a7.IsWhole)
    (a8 : Memref sig .tc .vmem S1024x64 .f32) (h8 : a8.IsWhole) (a9 : Memref sig .tc .vmem S1x1 .f32) (h9 : a9.IsWhole)
    (a10 : Memref sig .tc .vmem S1x1 .f32) (h10 : a10.IsWhole) (a11 : Memref sig .tc .vmem S1x1 .f32) (h11 : a11.IsWhole)
    (b : Blocks F) (o s w : Vec F S1x1 .f32) {D1 D2 D3 D4 D5 D6 D7 D8 D9 D10 D11 : Type}
    {B1 : D1 → Vec F S1024x64 .f32} (e1 : ∀ d, B1 d = b.x) {B2 : D2 → Vec F S1024x64 .f32} (e2 : ∀ d, B2 d = b.p)
    {B3 : D3 → Vec F S1024x1024 .f32} (e3 : ∀ d, B3 d = b.att) {B4 : D4 → Vec F S64x1024 .f32} (e4 : ∀ d, B4 d = b.ct)
    {B5 : D5 → Vec F S1024x1 .i32} {B6 : D6 → Vec F S1024x64 .f32} {B7 : D7 → Vec F S1024x64 .f32}
    {B8 : D8 → Vec F S1024x64 .f32} {B9 : D9 → Vec F S1x1 .f32} (e9 : ∀ d, step fn.oStart fn.oNext ((i 0).val = 0) b (B9 d) = o)
    {B10 : D10 → Vec F S1x1 .f32} (e10 : ∀ d, step fn.sStart fn.sNext ((i 0).val = 0) b (B10 d) = s)
    {B11 : D11 → Vec F S1x1 .f32} (e11 : ∀ d, step fn.mStart fn.mNext ((i 0).val = 0) b (B11 d) = w) (R₁ R₂ : sProp 𝕄) :
    iprop(R₁ ∗ R₂ ∗ (∃ d, owns (c : Thread nD τ) a1 fullShare (B1 d)) ∗ (∃ d, owns (c : Thread nD τ) a2 fullShare (B2 d))
        ∗ (∃ d, owns (c : Thread nD τ) a3 fullShare (B3 d)) ∗ (∃ d, owns (c : Thread nD τ) a4 fullShare (B4 d))
        ∗ (∃ d, owns (c : Thread nD τ) a5 fullShare (B5 d)) ∗ (∃ d, owns (c : Thread nD τ) a6 fullShare (B6 d))
        ∗ (∃ d, owns (c : Thread nD τ) a7 fullShare (B7 d)) ∗ (∃ d, owns (c : Thread nD τ) a8 fullShare (B8 d))
        ∗ (∃ d, owns (c : Thread nD τ) a9 fullShare (B9 d)) ∗ (∃ d, owns (c : Thread nD τ) a10 fullShare (B10 d))
        ∗ (∃ d, owns (c : Thread nD τ) a11 fullShare (B11 d)))
      ⊢ wp frame (wpE (defs₀ (F := F)) Variants.none c none) Set.univ
          (body i a1 h1 a2 h2 a3 h3 a4 h4 a5 h5 a6 h6 a7 h7 a8 h8 a9 h9 a10 h10 a11 h11)
          (fun _ => iprop(R₁ ∗ R₂ ∗ owns (c : Thread nD τ) a1 fullShare b.x ∗ owns (c : Thread nD τ) a2 fullShare b.p
            ∗ owns (c : Thread nD τ) a3 fullShare b.att ∗ owns (c : Thread nD τ) a4 fullShare b.ct
            ∗ owns (c : Thread nD τ) a5 fullShare (fn.idx b) ∗ owns (c : Thread nD τ) a6 fullShare (fn.xpm b)
            ∗ owns (c : Thread nD τ) a7 fullShare (fn.xr b) ∗ owns (c : Thread nD τ) a8 fullShare (fn.res b)
            ∗ owns (c : Thread nD τ) a9 fullShare o ∗ owns (c : Thread nD τ) a10 fullShare s
            ∗ owns (c : Thread nD τ) a11 fullShare w)) := by
  simp only [e1, e2, e3, e4]
  iintro ⟨HR1, HR2, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (H c i a1 h1 a2 h2 a3 h3 a4 h4 a5 h5 a6 h6 a7 h7 a8 h8 a9 h9 a10 h10 a11 h11 b (B9 d9) (B10 d10) (B11 d11) Set.univ _)
  rw [e9, e10, e11]
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexact H9
  isplitl [H10]; · iexact H10
  isplitl [H11]; · iexact H11
  iintro H
  isplitl [HR1]; · iexact HR1
  isplitl [HR2]; · iexact HR2
  iexact H

end Cert.KernelIdeal

end
-- ==== Proof.Kern.Call.lean ====
/- The buffers as a pallas_call leaves them, and a pallas_call as a segment of the whole program: entered from all
   buffers at some contents, left at those contents with the call's outputs replaced. Stated once for all five. -/
module

public import proofs.«01_k».proof.Proof.Kern.Region
public import Idealize.ShloMosaic.Lib.Pipeline.RegionArrays

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal.Gen

variable {F : FTy → Type} [FloatOps F]

local notation "𝕄" => MT nD τ sig Unit (Elt F) ℕ (UR sig nD τ) ℕ

/-- A valuation of the buffers, read at the program's own references. -/
abbrev entry (W : Dev nD → Valuation τ sig (Elt F)) : Entry F := fun c b => W c (Proc.devRef .tc b)

section Leave

variable {cfg : Cfg sig Λ₀} {c : Dev nD} (dat : Dat τ (Elt F) Unit ℕ (UR sig nD τ) ℕ cfg c) (W : Valuation τ sig (Elt F))

/-- The buffers after a call: its arrays as the pipeline leaves them, every other as entered. -/
def leave : Valuation τ sig (Elt F) := withArrays cfg.spec c W fun w => dat.arrAt w cfg.N

/-- At an array of the call. -/
theorem leave_arr (hsh : SharedIn cfg.spec) (hA : ∀ w, dat.A w = W (Proc.devRef .tc (arrRef cfg.spec w))) (w : Fin cfg.W) :
    leave dat W (Proc.devRef .tc (arrRef cfg.spec w)) = dat.arrAt w cfg.N :=
  dat.withArrays_arrAt hsh W hA w

/-- At a reference that is no array of the call. -/
theorem leave_of_ne (b : Ref sig .tc) (hb : ∀ w, arrRef cfg.spec w ≠ b) :
    leave dat W (Proc.devRef .tc b) = W (Proc.devRef .tc b) :=
  withArrays_of_ne cfg.spec c W _ b hb

/-- A reference that is no output of the call keeps its contents. -/
theorem leave_of (hsh : SharedIn cfg.spec) (hA : ∀ w, dat.A w = W (Proc.devRef .tc (arrRef cfg.spec w))) (r : Ref sig .tc)
    (h : ∀ w : Fin cfg.W, arrRef cfg.spec w = r → (cfg.win w).isOut = false) :
    leave dat W (Proc.devRef .tc r) = W (Proc.devRef .tc r) := by
  by_cases hw : ∃ w : Fin cfg.W, arrRef cfg.spec w = r
  · obtain ⟨w, rfl⟩ := hw
    exact (leave_arr dat W hsh hA w).trans ((dat.arrAt_in w (h w rfl) _).trans (hA w))
  · exact leave_of_ne dat W r fun w e => hw ⟨w, e⟩

end Leave

/-- No pipeline prefetches a table. -/
abbrev noTables : (p : Fin 5) → (pcfgs (F := F) p).Adm := fun p => (cfgs p).toPCfg_adm
/-- Proof data for every pipeline. -/
abbrev Dats (F : FTy → Type) [FloatOps F] :=
  (p : Fin 5) → (c : Dev nD) → Dat τ (Elt F) Unit ℕ (UR sig nD τ) ℕ (pin (pcfgs (F := F)) noTables p) c
/-- Nothing is owed between cores. -/
abbrev noLevels : GSem nD τ sig → Finset Unit := fun _ => ∅
abbrev level0 : GSem nD τ sig → Unit → ℕ := fun _ _ => 0
/-- What rides beside the buffers: the generator register at some state, and nothing owed. -/
abbrev Beside (c : Dev nD) : sProp 𝕄 := iprop((∃ r, prngReg c r) ∗ ∃ W, owes (c : Thread nD τ) (0 : CellTallies nD τ sig Unit) W)

set_option backward.isDefEq.respectTransparency.types false in
/-- A pallas_call as a segment, entered with every unscoped buffer at `W` and left with them at `W'`. -/
def callSeg (D : Dats F) (p : Fin 5) (kit : LaunchFacts₀ (nD := nD) (τ := τ) cfgs p)
    (hbody : ∀ c, BodyObligation (D p c) (defs₀ (F := F)) Variants.none () Set.univ)
    (howed : ∀ c t, (D p c).owed t = 0) (hΦ : ∀ c t, (D p c).Φ t = ΦA (pin (pcfgs (F := F)) noTables p).spec c)
    (hq : ∀ c w, (D p c).q w = shareOf (pin (pcfgs (F := F)) noTables p).spec w)
    (hrec : ∀ c t, (D p c).recorded t = Set.univ)
    (hpre : (pcfgs (F := F) p).pre.K = 0)
    (W W' : Dev nD → Valuation τ sig (Elt F))
    (hA : ∀ c w, (D p c).A w = entry W c (arrRef (pin (pcfgs (F := F)) noTables p).spec w))
    (hF : ∀ c w, (D p c).arrAt w (pin (pcfgs (F := F)) noTables p).N = entry W' c (arrRef (pin (pcfgs (F := F)) noTables p).spec w))
    (hrest : ∀ c b, b ∉ Finset.univ.image (arrRef (pin (pcfgs (F := F)) noTables p).spec) → entry W' c b = entry W c b) :
    RegionSeg (pcfgs (F := F)) noTables D () defs₀ Variants.none noLevels level0 p where
  win := kit.win
  block_pos := kit.block_pos
  stage_whole := kit.stage_whole
  K := PEmpty
  osem k := k.elim
  ho := OwnSemFacts.none _
  hbody c := (hbody c).loose
  hwaits := hwaits_of_owed_zero _ _ _ _ noLevels level0 p howed
  pre c := iprop(StableHlo.held (c : Thread nD τ) (ucRefs τ sig) (W c) ∗ Beside c)
  post c := iprop(StableHlo.held (c : Thread nD τ) (ucRefs τ sig) (W' c) ∗ Beside c)
  X c := iprop(∃ r, prngReg c r)
  Y c := iprop(∃ r, prngReg c r)
  Z c := unscopedRest (Ix := Unit) (Name := ℕ) (U := UR sig nD τ) (Lvl := ℕ) (pin (pcfgs (F := F)) noTables p).spec c (entry W c)
  hentry c := by
    rw [ownSems0_none]
    have hsplit := arrays_of_unscopedBufs_shared (p := p) (pcfgs (F := F)) noTables D kit.win kit.sharedIn kit.arr_whole c
      (fun w _ => hq c w) (entry W c) (hA c)
    rw [unscopedBufs_held] at hsplit
    iintro ⟨⟨Hub, Hp, HO⟩, -, -⟩
    ihave H := hsplit $$ Hub
    icases H with ⟨Ha, Hrest⟩
    imodintro
    isplitl [Ha]; · iexact Ha
    isplitr
    · rw [prefHeld_of_none _ hpre]; iempintro
    isplitl [HO]
    · unfold Dat.owesAt owesWithin
      rw [howed]
      icases HO with ⟨%O, HO⟩; iexists O; isplitr
      · ipureintro; exact fun _ _ => Or.inl (by rw [hrec]; trivial)
      iexact HO
    isplitl [Hp]; · iexact Hp
    iexact Hrest
  hin c := by
    rw [hΦ]; unfold ΦA
    iintro ⟨Hp, -, Hr⟩
    isplitl [Hr]; · iexact Hr
    iexact Hp
  hout c := by
    rw [ownSems0_none, hΦ]; unfold ΦA
    iintro ⟨Hr, Hp⟩
    isplitl [Hp]; · iexact Hp
    isplitr; · iempintro
    iexact Hr
  hexit c := by
    have hjoin := unscopedBufs_of_arrays_shared (p := p) (pcfgs (F := F)) noTables (Ix := Unit) (Name := ℕ) (U := UR sig nD τ) (Lvl := ℕ)
      kit.win kit.sharedIn kit.arr_whole c D (fun w _ => hq c w)
      (entry W c) (entry W' c) ((D p c).arrAt · (pin (pcfgs (F := F)) noTables p).N) (hF c) (hrest c)
    rw [unscopedBufs_held] at hjoin
    iintro ⟨Ha, HO, HY, Hrest⟩
    imodintro
    isplitl [Ha Hrest]
    · iapply hjoin; isplitl [Ha] <;> iassumption
    isplitl [HY]; · iexact HY
    unfold Dat.owesAt owesWithin
    rw [howed]
    icases HO with ⟨%O, -, HO⟩; iexists O; iexact HO

end Cert.KernelIdeal

end
-- ==== Proof.Kern.BodyFirst.lean ====
/- The first stage's body computes `firstFns`. -/
module

public import proofs.«01_k».proof.Proof.Kern.Stage

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

set_option maxHeartbeats 2000000 in
/-- Run at any point on any whole buffers, the first stage's body leaves what `firstFns` says. -/
theorem first_computes : Computes (F := F) cc0__stage_body firstFns := by
  intro c i a1 h1 a2 h2 a3 h3 a4 h4 a5 h5 a6 h6 a7 h7 a8 h8 a9 h9 a10 h10 a11 h11 b o s w E K
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%f8, %hf8, H8⟩, ⟨%f9, %hf9, H9⟩, ⟨%f10, %hf10, H10⟩, Hk⟩
  obtain rfl := h1.eq_unread hf0; obtain rfl := h2.eq_unread hf1; obtain rfl := h3.eq_unread hf2
  obtain rfl := h4.eq_unread hf3; obtain rfl := h9.eq_unread hf8; obtain rfl := h10.eq_unread hf9
  obtain rfl := h11.eq_unread hf10
  have e1 := load_whole (F := F) h1 zero2 inb_S1024x64_S1024x64_0_0 b.x
  have e2 := load_whole (F := F) h2 zero2 inb_S1024x64_S1024x64_0_0 b.p
  have e3 := load_whole (F := F) h3 zero2 inb_S1024x1024_S1024x1024_0_0 b.att
  have e9 := load_whole (F := F) h9 zero2 inb_S1x1_S1x1_0_0 o
  have e10 := load_whole (F := F) h10 zero2 inb_S1x1_S1x1_0_0 s
  have e11 := load_whole (F := F) h11 zero2 inb_S1x1_S1x1_0_0 w
  have e4 := load_whole (F := F) h4 zero2 inb_S64x1024_S64x1024_0_0 b.ct
  simp only [cc0__stage_body_eq_skeleton]; unfold cc0__stage_body_skel
  simp only [k0_part1_eq_skeleton]
  by_cases hi : (i 0).val = 0
  · have hc0 := (k0_first i).2 hi
    have hc1 : ¬ k0_cond2 i = 1#1 := fun h => (k0_rest i).1 h hi
    sl_exec (disch := first | sl_exact hc0 | sl_exact hc1)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; rotate_left; iexact H4
      ipureintro; refine (read_whole_store _ _ zero2 _ _).trans ?_; dsimp only [firstFns]
    isplitl [H5]
    · iexists _; isplitr; rotate_left; iexact H5
      ipureintro; refine (read_whole_store _ _ zero2 _ _).trans ?_; rfl
    isplitl [H6]
    · iexists _; isplitr; rotate_left; iexact H6
      ipureintro; refine (read_whole_store _ _ zero2 _ _).trans ?_; rfl
    isplitl [H7]
    · iexists _; isplitr; rotate_left; iexact H7
      ipureintro; refine (read_whole_store _ _ zero2 _ _).trans ?_; rfl
    isplitl [H8]
    · iexists _; isplitr; rotate_left; iexact H8
      ipureintro; refine (read_whole_store _ _ zero2 _ _).trans (Eq.trans ?_ (if_pos hi).symm); rfl
    isplitl [H9]
    · iexists _; isplitr; rotate_left; iexact H9
      ipureintro; refine (read_whole_store _ _ zero2 _ _).trans (Eq.trans ?_ (if_pos hi).symm); rfl
    iexists _; isplitr; rotate_left; iexact H10
    ipureintro; refine (read_whole_store _ _ zero2 _ _).trans (Eq.trans ?_ (if_pos hi).symm); rfl
  · have hc0 : ¬ k0_cond1 i = 1#1 := fun h => hi ((k0_first i).1 h)
    have hc1 := (k0_rest i).2 hi
    sl_exec (disch := first | sl_exact hc0 | sl_exact hc1)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; rotate_left; iexact H4
      ipureintro; refine (read_whole_store _ _ zero2 _ _).trans ?_; dsimp only [firstFns]
    isplitl [H5]
    · iexists _; isplitr; rotate_left; iexact H5
      ipureintro; refine (read_whole_store _ _ zero2 _ _).trans ?_; rfl
    isplitl [H6]
    · iexists _; isplitr; rotate_left; iexact H6
      ipureintro; refine (read_whole_store _ _ zero2 _ _).trans ?_; rfl
    isplitl [H7]
    · iexists _; isplitr; rotate_left; iexact H7
      ipureintro; refine (read_whole_store _ _ zero2 _ _).trans ?_; rfl
    isplitl [H8]
    · iexists _; isplitr; rotate_left; iexact H8
      ipureintro; refine (read_whole_store _ _ zero2 _ _).trans (Eq.trans ?_ (if_neg hi).symm); rfl
    isplitl [H9]
    · iexists _; isplitr; rotate_left; iexact H9
      ipureintro; refine (read_whole_store _ _ zero2 _ _).trans (Eq.trans ?_ (if_neg hi).symm); rfl
    iexists _; isplitr; rotate_left; iexact H10
    ipureintro; refine (read_whole_store _ _ zero2 _ _).trans (Eq.trans ?_ (if_neg hi).symm); rfl

end Cert.KernelIdeal

end
-- ==== Proof.Kern.Stage0.lean ====
/- The first stage's pallas_call: what its buffers hold point by point, and that its body keeps to it. -/
module

public import proofs.«01_k».proof.Proof.Kern.Region
public import proofs.«01_k».proof.Proof.Kern.BodyFirst

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal.Gen

variable {F : FTy → Type} [FloatOps F]

local notation "𝕄" => MT nD τ sig Unit (Elt F) ℕ (UR sig nD τ) ℕ

/-- The blocks point `t` is handed. -/
def blocks0 (V : Entry F) (c : Dev nD) (t : Fin cfg0.N) : Blocks F :=
  ⟨blockAt cfg0 V c 0 t, blockAt cfg0 V c 1 t, blockAt cfg0 V c 2 t, blockAt cfg0 V c 3 t⟩

/-- Every array as entered; after a point, its blocks in the inputs, their functions in the outputs. -/
def dat0 (V : Entry F) (c : Dev nD) : Dat τ (Elt F) Unit ℕ (UR sig nD τ) ℕ cfg0 c where
  A w := V c (arrRef spec0 w)
  after w t := match w with
    | ⟨0, _⟩ => (blocks0 V c t).x
    | ⟨1, _⟩ => (blocks0 V c t).p
    | ⟨2, _⟩ => (blocks0 V c t).att
    | ⟨3, _⟩ => (blocks0 V c t).ct
    | ⟨4, _⟩ => firstFns.idx (blocks0 V c t)
    | ⟨5, _⟩ => firstFns.xpm (blocks0 V c t)
    | ⟨6, _⟩ => firstFns.xr (blocks0 V c t)
    | ⟨7, _⟩ => firstFns.res (blocks0 V c t)
    | ⟨8, _⟩ => sumAt firstFns.oStart firstFns.oNext (blocks0 V c) t.val t.isLt
    | ⟨9, _⟩ => sumAt firstFns.sStart firstFns.sNext (blocks0 V c) t.val t.isLt
    | ⟨10, _⟩ => sumAt firstFns.mStart firstFns.mNext (blocks0 V c) t.val t.isLt
  Φ _ := ΦA spec0 c
  q w := shareOf spec0 w
  owed _ := 0

/-- What each buffer holds after point `t`. -/
theorem after0_0 (V : Entry F) (c : Dev nD) (t : Fin cfg0.N) : (dat0 V c).after 0 t = (blocks0 V c t).x := by dsimp only [dat0]
theorem after0_1 (V : Entry F) (c : Dev nD) (t : Fin cfg0.N) : (dat0 V c).after 1 t = (blocks0 V c t).p := by dsimp only [dat0]
theorem after0_2 (V : Entry F) (c : Dev nD) (t : Fin cfg0.N) : (dat0 V c).after 2 t = (blocks0 V c t).att := by dsimp only [dat0]
theorem after0_3 (V : Entry F) (c : Dev nD) (t : Fin cfg0.N) : (dat0 V c).after 3 t = (blocks0 V c t).ct := by dsimp only [dat0]
theorem after0_4 (V : Entry F) (c : Dev nD) (t : Fin cfg0.N) : (dat0 V c).after 4 t = firstFns.idx (blocks0 V c t) := by dsimp only [dat0]
theorem after0_5 (V : Entry F) (c : Dev nD) (t : Fin cfg0.N) : (dat0 V c).after 5 t = firstFns.xpm (blocks0 V c t) := by dsimp only [dat0]
theorem after0_6 (V : Entry F) (c : Dev nD) (t : Fin cfg0.N) : (dat0 V c).after 6 t = firstFns.xr (blocks0 V c t) := by dsimp only [dat0]
theorem after0_7 (V : Entry F) (c : Dev nD) (t : Fin cfg0.N) : (dat0 V c).after 7 t = firstFns.res (blocks0 V c t) := by dsimp only [dat0]
theorem after0_8 (V : Entry F) (c : Dev nD) (t : Fin cfg0.N) : (dat0 V c).after 8 t = sumAt firstFns.oStart firstFns.oNext (blocks0 V c) t.val t.isLt := by dsimp only [dat0]
theorem after0_9 (V : Entry F) (c : Dev nD) (t : Fin cfg0.N) : (dat0 V c).after 9 t = sumAt firstFns.sStart firstFns.sNext (blocks0 V c) t.val t.isLt := by dsimp only [dat0]
theorem after0_10 (V : Entry F) (c : Dev nD) (t : Fin cfg0.N) : (dat0 V c).after 10 t = sumAt firstFns.mStart firstFns.mNext (blocks0 V c) t.val t.isLt := by dsimp only [dat0]

/-- No window is skipped at any point. -/
theorem live0 : ∀ (w : Fin cfg0.W) (t : Fin cfg0.N), cfg0.idle w (cfg0.grid.coords t) = false := by decide +kernel

/-- A point's coordinate is its number. -/
theorem first0 (t : Fin cfg0.N) : (grid0.coords t 0).val = 0 ↔ t.val = 0 := by
  have h : t.val < 8 := lt_of_lt_of_eq t.isLt N_0
  rw [show (grid0.coords t 0).val = t.val / 1 % 8 from Grid.coords_val t 0 (by decide) rfl]; omega

/-- A point that writes a running sum back is the last. -/
theorem last0 (t : Fin cfg0.N) (h : t.val % 8 = 7) : t.val + 1 = cfg0.N := by
  have h' : t.val < 8 := lt_of_lt_of_eq t.isLt N_0
  have hN : cfg0.N = 8 := N_0
  omega

set_option maxHeartbeats 1000000 in
/-- The body meets its obligation at every point. -/
theorem obligation0 (V : Entry F) (c : Dev nD) :
    BodyObligation (dat0 (F := F) V c) (defs₀ (F := F)) Variants.none () Set.univ := fun t => by
  have hrow : defs₀ (F := F) .tc cfg0.body (cfg0.bodyArgs t (cfg0.slots t)) = bodyAt0 t := by
    unfold defs₀; rw [Defs.onTc_tc]
  rw [bigSep_W0, bigSep_W0, hrow]
  have key := Computes.sound first_computes c (grid0.coords t) _ (hstage0_0 ((cfg0.slots t 0).cast nbuf0_0)) _ (hstage0_1 ((cfg0.slots t 1).cast nbuf0_1))
    _ (hstage0_2 ((cfg0.slots t 2).cast nbuf0_2)) _ (hstage0_3 ((cfg0.slots t 3).cast nbuf0_3)) _ (hstage0_4 ((cfg0.slots t 4).cast nbuf0_4))
    _ (hstage0_5 ((cfg0.slots t 5).cast nbuf0_5)) _ (hstage0_6 ((cfg0.slots t 6).cast nbuf0_6)) _ (hstage0_7 ((cfg0.slots t 7).cast nbuf0_7))
    _ (hstage0_8 ((cfg0.slots t 8).cast nbuf0_8)) _ (hstage0_9 ((cfg0.slots t 9).cast nbuf0_9)) _ (hstage0_10 ((cfg0.slots t 10).cast nbuf0_10))
    (blocks0 V c t) _ _ _
    (before_input (V := V) (dat0 V c) 0 rfl (fun _ => rfl) (fun _ _ _ => rfl) rfl (X := fun t => (blocks0 V c t).x) (fun _ _ => rfl) (fun _ => rfl) t)
    (before_input (V := V) (dat0 V c) 1 rfl (fun _ => rfl) (fun _ _ _ => rfl) rfl (X := fun t => (blocks0 V c t).p) (fun _ _ => rfl) (fun _ => rfl) t)
    (before_input (V := V) (dat0 V c) 2 rfl (fun _ => rfl) (fun _ _ _ => rfl) rfl (X := fun t => (blocks0 V c t).att) (fun _ _ => rfl) (fun _ => rfl) t)
    (before_input (V := V) (dat0 V c) 3 rfl (fun _ => rfl) (fun _ _ _ => rfl) rfl (X := fun t => (blocks0 V c t).ct) (fun _ _ => rfl) (fun _ => rfl) t)
    (B5 := (dat0 V c).before 4 t) (B6 := (dat0 V c).before 5 t) (B7 := (dat0 V c).before 6 t) (B8 := (dat0 V c).before 7 t)
    (fun d => step_sumAt _ _ (blocks0 V c) t _ (first0 t) ((dat0 V c).before 8 t d) fun ht =>
      before_sum (dat0 V c) 8 rfl (fun _ _ => rfl) (live0 8) (fun t h => last0 t ((flush0_8 t).mp h)) t ht d)
    (fun d => step_sumAt _ _ (blocks0 V c) t _ (first0 t) ((dat0 V c).before 9 t d) fun ht =>
      before_sum (dat0 V c) 9 rfl (fun _ _ => rfl) (live0 9) (fun t h => last0 t ((flush0_9 t).mp h)) t ht d)
    (fun d => step_sumAt _ _ (blocks0 V c) t _ (first0 t) ((dat0 V c).before 10 t d) fun ht =>
      before_sum (dat0 V c) 10 rfl (fun _ _ => rfl) (live0 10) (fun t h => last0 t ((flush0_10 t).mp h)) t ht d)
    ((dat0 V c).Φ t.castSucc) ((dat0 V c).owesAt () t.castSucc)
  have l8 : idle0 8 (grid0.coords t) = false := live0 8 t
  have l9 : idle0 9 (grid0.coords t) = false := live0 9 t
  have l10 : idle0 10 (grid0.coords t) = false := live0 10 t
  simp only [l8, l9, l10]
  rw [after0_0, after0_1, after0_2, after0_3, after0_4, after0_5, after0_6, after0_7, after0_8, after0_9, after0_10]
  exact triple_restated key rfl .rfl fun _ => .rfl

end Cert.KernelIdeal

end
-- ==== Proof.Kern.BodyLater.lean ====
/- The later stages' body computes `laterFns`. -/
module

public import proofs.«01_k».proof.Proof.Kern.Stage

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

set_option maxHeartbeats 2000000 in
/-- Run at any point on any whole buffers, a later stage's body leaves what `laterFns` says. -/
theorem later_computes : Computes (F := F) cc1__stage_body laterFns := by
  intro c i a1 h1 a2 h2 a3 h3 a4 h4 a5 h5 a6 h6 a7 h7 a8 h8 a9 h9 a10 h10 a11 h11 b o s w E K
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%f8, %hf8, H8⟩, ⟨%f9, %hf9, H9⟩, ⟨%f10, %hf10, H10⟩, Hk⟩
  obtain rfl := h1.eq_unread hf0; obtain rfl := h2.eq_unread hf1; obtain rfl := h3.eq_unread hf2
  obtain rfl := h4.eq_unread hf3; obtain rfl := h9.eq_unread hf8; obtain rfl := h10.eq_unread hf9
  obtain rfl := h11.eq_unread hf10
  have e1 := load_whole (F := F) h1 zero2 inb_S1024x64_S1024x64_0_0 b.x
  have e2 := load_whole (F := F) h2 zero2 inb_S1024x64_S1024x64_0_0 b.p
  have e3 := load_whole (F := F) h3 zero2 inb_S1024x1024_S1024x1024_0_0 b.att
  have e9 := load_whole (F := F) h9 zero2 inb_S1x1_S1x1_0_0 o
  have e10 := load_whole (F := F) h10 zero2 inb_S1x1_S1x1_0_0 s
  have e11 := load_whole (F := F) h11 zero2 inb_S1x1_S1x1_0_0 w
  have e4 := load_whole (F := F) h4 zero2 inb_S64x1024_S64x1024_0_0 b.ct
  simp only [cc1__stage_body_eq_skeleton]; unfold cc1__stage_body_skel
  simp only [k1_part1_eq_skeleton, k1_part2_eq_skeleton]
  by_cases hi : (i 0).val = 0
  · have hc0 := (k1_first i).2 hi
    have hc1 : ¬ k1_cond2 i = 1#1 := fun h => (k1_rest i).1 h hi
    sl_exec (disch := first | sl_exact hc0 | sl_exact hc1)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; rotate_left; iexact H4
      ipureintro; refine (read_whole_store _ _ zero2 _ _).trans ?_; dsimp only [laterFns]
    isplitl [H5]
    · iexists _; isplitr; rotate_left; iexact H5
      ipureintro; refine (read_whole_store _ _ zero2 _ _).trans ?_; rfl
    isplitl [H6]
    · iexists _; isplitr; rotate_left; iexact H6
      ipureintro; refine (read_whole_store _ _ zero2 _ _).trans ?_; rfl
    isplitl [H7]
    · iexists _; isplitr; rotate_left; iexact H7
      ipureintro; refine (read_whole_store _ _ zero2 _ _).trans ?_; rfl
    isplitl [H8]
    · iexists _; isplitr; rotate_left; iexact H8
      ipureintro; refine (read_whole_store _ _ zero2 _ _).trans (Eq.trans ?_ (if_pos hi).symm); rfl
    isplitl [H9]
    · iexists _; isplitr; rotate_left; iexact H9
      ipureintro; refine (read_whole_store _ _ zero2 _ _).trans (Eq.trans ?_ (if_pos hi).symm); rfl
    iexists _; isplitr; rotate_left; iexact H10
    ipureintro; refine (read_whole_store _ _ zero2 _ _).trans (Eq.trans ?_ (if_pos hi).symm); rfl
  · have hc0 : ¬ k1_cond1 i = 1#1 := fun h => hi ((k1_first i).1 h)
    have hc1 := (k1_rest i).2 hi
    sl_exec (disch := first | sl_exact hc0 | sl_exact hc1)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; rotate_left; iexact H4
      ipureintro; refine (read_whole_store _ _ zero2 _ _).trans ?_; dsimp only [laterFns]
    isplitl [H5]
    · iexists _; isplitr; rotate_left; iexact H5
      ipureintro; refine (read_whole_store _ _ zero2 _ _).trans ?_; rfl
    isplitl [H6]
    · iexists _; isplitr; rotate_left; iexact H6
      ipureintro; refine (read_whole_store _ _ zero2 _ _).trans ?_; rfl
    isplitl [H7]
    · iexists _; isplitr; rotate_left; iexact H7
      ipureintro; refine (read_whole_store _ _ zero2 _ _).trans ?_; rfl
    isplitl [H8]
    · iexists _; isplitr; rotate_left; iexact H8
      ipureintro; refine (read_whole_store _ _ zero2 _ _).trans (Eq.trans ?_ (if_neg hi).symm); rfl
    isplitl [H9]
    · iexists _; isplitr; rotate_left; iexact H9
      ipureintro; refine (read_whole_store _ _ zero2 _ _).trans (Eq.trans ?_ (if_neg hi).symm); rfl
    iexists _; isplitr; rotate_left; iexact H10
    ipureintro; refine (read_whole_store _ _ zero2 _ _).trans (Eq.trans ?_ (if_neg hi).symm); rfl

end Cert.KernelIdeal

end
-- ==== Proof.Kern.Stage1.lean ====
/- The second stage's pallas_call: what its buffers hold point by point, and that its body keeps to it. -/
module

public import proofs.«01_k».proof.Proof.Kern.Region
public import proofs.«01_k».proof.Proof.Kern.BodyLater

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal.Gen

variable {F : FTy → Type} [FloatOps F]

local notation "𝕄" => MT nD τ sig Unit (Elt F) ℕ (UR sig nD τ) ℕ

/-- The blocks point `t` is handed. -/
def blocks1 (V : Entry F) (c : Dev nD) (t : Fin cfg1.N) : Blocks F :=
  ⟨blockAt cfg1 V c 0 t, blockAt cfg1 V c 1 t, blockAt cfg1 V c 2 t, blockAt cfg1 V c 3 t⟩

/-- Every array as entered; after a point, its blocks in the inputs, their functions in the outputs. -/
def dat1 (V : Entry F) (c : Dev nD) : Dat τ (Elt F) Unit ℕ (UR sig nD τ) ℕ cfg1 c where
  A w := V c (arrRef spec1 w)
  after w t := match w with
    | ⟨0, _⟩ => (blocks1 V c t).x
    | ⟨1, _⟩ => (blocks1 V c t).p
    | ⟨2, _⟩ => (blocks1 V c t).att
    | ⟨3, _⟩ => (blocks1 V c t).ct
    | ⟨4, _⟩ => laterFns.idx (blocks1 V c t)
    | ⟨5, _⟩ => laterFns.xpm (blocks1 V c t)
    | ⟨6, _⟩ => laterFns.xr (blocks1 V c t)
    | ⟨7, _⟩ => laterFns.res (blocks1 V c t)
    | ⟨8, _⟩ => sumAt laterFns.oStart laterFns.oNext (blocks1 V c) t.val t.isLt
    | ⟨9, _⟩ => sumAt laterFns.sStart laterFns.sNext (blocks1 V c) t.val t.isLt
    | ⟨10, _⟩ => sumAt laterFns.mStart laterFns.mNext (blocks1 V c) t.val t.isLt
  Φ _ := ΦA spec1 c
  q w := shareOf spec1 w
  owed _ := 0

/-- What each buffer holds after point `t`. -/
theorem after1_0 (V : Entry F) (c : Dev nD) (t : Fin cfg1.N) : (dat1 V c).after 0 t = (blocks1 V c t).x := by dsimp only [dat1]
theorem after1_1 (V : Entry F) (c : Dev nD) (t : Fin cfg1.N) : (dat1 V c).after 1 t = (blocks1 V c t).p := by dsimp only [dat1]
theorem after1_2 (V : Entry F) (c : Dev nD) (t : Fin cfg1.N) : (dat1 V c).after 2 t = (blocks1 V c t).att := by dsimp only [dat1]
theorem after1_3 (V : Entry F) (c : Dev nD) (t : Fin cfg1.N) : (dat1 V c).after 3 t = (blocks1 V c t).ct := by dsimp only [dat1]
theorem after1_4 (V : Entry F) (c : Dev nD) (t : Fin cfg1.N) : (dat1 V c).after 4 t = laterFns.idx (blocks1 V c t) := by dsimp only [dat1]
theorem after1_5 (V : Entry F) (c : Dev nD) (t : Fin cfg1.N) : (dat1 V c).after 5 t = laterFns.xpm (blocks1 V c t) := by dsimp only [dat1]
theorem after1_6 (V : Entry F) (c : Dev nD) (t : Fin cfg1.N) : (dat1 V c).after 6 t = laterFns.xr (blocks1 V c t) := by dsimp only [dat1]
theorem after1_7 (V : Entry F) (c : Dev nD) (t : Fin cfg1.N) : (dat1 V c).after 7 t = laterFns.res (blocks1 V c t) := by dsimp only [dat1]
theorem after1_8 (V : Entry F) (c : Dev nD) (t : Fin cfg1.N) : (dat1 V c).after 8 t = sumAt laterFns.oStart laterFns.oNext (blocks1 V c) t.val t.isLt := by dsimp only [dat1]
theorem after1_9 (V : Entry F) (c : Dev nD) (t : Fin cfg1.N) : (dat1 V c).after 9 t = sumAt laterFns.sStart laterFns.sNext (blocks1 V c) t.val t.isLt := by dsimp only [dat1]
theorem after1_10 (V : Entry F) (c : Dev nD) (t : Fin cfg1.N) : (dat1 V c).after 10 t = sumAt laterFns.mStart laterFns.mNext (blocks1 V c) t.val t.isLt := by dsimp only [dat1]

/-- No window is skipped at any point. -/
theorem live1 : ∀ (w : Fin cfg1.W) (t : Fin cfg1.N), cfg1.idle w (cfg1.grid.coords t) = false := by decide +kernel

/-- A point's coordinate is its number. -/
theorem first1 (t : Fin cfg1.N) : (grid1.coords t 0).val = 0 ↔ t.val = 0 := by
  have h : t.val < 8 := lt_of_lt_of_eq t.isLt N_1
  rw [show (grid1.coords t 0).val = t.val / 1 % 8 from Grid.coords_val t 0 (by decide) rfl]; omega

/-- A point that writes a running sum back is the last. -/
theorem last1 (t : Fin cfg1.N) (h : t.val % 8 = 7) : t.val + 1 = cfg1.N := by
  have h' : t.val < 8 := lt_of_lt_of_eq t.isLt N_1
  have hN : cfg1.N = 8 := N_1
  omega

set_option maxHeartbeats 1000000 in
/-- The body meets its obligation at every point. -/
theorem obligation1 (V : Entry F) (c : Dev nD) :
    BodyObligation (dat1 (F := F) V c) (defs₀ (F := F)) Variants.none () Set.univ := fun t => by
  have hrow : defs₀ (F := F) .tc cfg1.body (cfg1.bodyArgs t (cfg1.slots t)) = bodyAt1 t := by
    unfold defs₀; rw [Defs.onTc_tc]
  rw [bigSep_W1, bigSep_W1, hrow]
  have key := Computes.sound later_computes c (grid1.coords t) _ (hstage1_0 ((cfg1.slots t 0).cast nbuf1_0)) _ (hstage1_1 ((cfg1.slots t 1).cast nbuf1_1))
    _ (hstage1_2 ((cfg1.slots t 2).cast nbuf1_2)) _ (hstage1_3 ((cfg1.slots t 3).cast nbuf1_3)) _ (hstage1_4 ((cfg1.slots t 4).cast nbuf1_4))
    _ (hstage1_5 ((cfg1.slots t 5).cast nbuf1_5)) _ (hstage1_6 ((cfg1.slots t 6).cast nbuf1_6)) _ (hstage1_7 ((cfg1.slots t 7).cast nbuf1_7))
    _ (hstage1_8 ((cfg1.slots t 8).cast nbuf1_8)) _ (hstage1_9 ((cfg1.slots t 9).cast nbuf1_9)) _ (hstage1_10 ((cfg1.slots t 10).cast nbuf1_10))
    (blocks1 V c t) _ _ _
    (before_input (V := V) (dat1 V c) 0 rfl (fun _ => rfl) (fun _ _ _ => rfl) rfl (X := fun t => (blocks1 V c t).x) (fun _ _ => rfl) (fun _ => rfl) t)
    (before_input (V := V) (dat1 V c) 1 rfl (fun _ => rfl) (fun _ _ _ => rfl) rfl (X := fun t => (blocks1 V c t).p) (fun _ _ => rfl) (fun _ => rfl) t)
    (before_input (V := V) (dat1 V c) 2 rfl (fun _ => rfl) (fun _ _ _ => rfl) rfl (X := fun t => (blocks1 V c t).att) (fun _ _ => rfl) (fun _ => rfl) t)
    (before_input (V := V) (dat1 V c) 3 rfl (fun _ => rfl) (fun _ _ _ => rfl) rfl (X := fun t => (blocks1 V c t).ct) (fun _ _ => rfl) (fun _ => rfl) t)
    (B5 := (dat1 V c).before 4 t) (B6 := (dat1 V c).before 5 t) (B7 := (dat1 V c).before 6 t) (B8 := (dat1 V c).before 7 t)
    (fun d => step_sumAt _ _ (blocks1 V c) t _ (first1 t) ((dat1 V c).before 8 t d) fun ht =>
      before_sum (dat1 V c) 8 rfl (fun _ _ => rfl) (live1 8) (fun t h => last1 t ((flush1_8 t).mp h)) t ht d)
    (fun d => step_sumAt _ _ (blocks1 V c) t _ (first1 t) ((dat1 V c).before 9 t d) fun ht =>
      before_sum (dat1 V c) 9 rfl (fun _ _ => rfl) (live1 9) (fun t h => last1 t ((flush1_9 t).mp h)) t ht d)
    (fun d => step_sumAt _ _ (blocks1 V c) t _ (first1 t) ((dat1 V c).before 10 t d) fun ht =>
      before_sum (dat1 V c) 10 rfl (fun _ _ => rfl) (live1 10) (fun t h => last1 t ((flush1_10 t).mp h)) t ht d)
    ((dat1 V c).Φ t.castSucc) ((dat1 V c).owesAt () t.castSucc)
  have l8 : idle1 8 (grid1.coords t) = false := live1 8 t
  have l9 : idle1 9 (grid1.coords t) = false := live1 9 t
  have l10 : idle1 10 (grid1.coords t) = false := live1 10 t
  simp only [l8, l9, l10]
  rw [after1_0, after1_1, after1_2, after1_3, after1_4, after1_5, after1_6, after1_7, after1_8, after1_9, after1_10]
  exact triple_restated key rfl .rfl fun _ => .rfl

end Cert.KernelIdeal

end
-- ==== Proof.Kern.Stage2.lean ====
/- The third stage's pallas_call: what its buffers hold point by point, and that its body keeps to it. -/
module

public import proofs.«01_k».proof.Proof.Kern.Region
public import proofs.«01_k».proof.Proof.Kern.BodyLater

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal.Gen

variable {F : FTy → Type} [FloatOps F]

local notation "𝕄" => MT nD τ sig Unit (Elt F) ℕ (UR sig nD τ) ℕ

set_option maxRecDepth 65536 in
/-- This stage's body is the second stage's. -/
theorem later_computes2 : Computes (F := F) cc2__stage_body laterFns := by
  rw [show cc2__stage_body (F := F) = cc1__stage_body from rfl]; exact later_computes

/-- The blocks point `t` is handed. -/
def blocks2 (V : Entry F) (c : Dev nD) (t : Fin cfg2.N) : Blocks F :=
  ⟨blockAt cfg2 V c 0 t, blockAt cfg2 V c 1 t, blockAt cfg2 V c 2 t, blockAt cfg2 V c 3 t⟩

/-- Every array as entered; after a point, its blocks in the inputs, their functions in the outputs. -/
def dat2 (V : Entry F) (c : Dev nD) : Dat τ (Elt F) Unit ℕ (UR sig nD τ) ℕ cfg2 c where
  A w := V c (arrRef spec2 w)
  after w t := match w with
    | ⟨0, _⟩ => (blocks2 V c t).x
    | ⟨1, _⟩ => (blocks2 V c t).p
    | ⟨2, _⟩ => (blocks2 V c t).att
    | ⟨3, _⟩ => (blocks2 V c t).ct
    | ⟨4, _⟩ => laterFns.idx (blocks2 V c t)
    | ⟨5, _⟩ => laterFns.xpm (blocks2 V c t)
    | ⟨6, _⟩ => laterFns.xr (blocks2 V c t)
    | ⟨7, _⟩ => laterFns.res (blocks2 V c t)
    | ⟨8, _⟩ => sumAt laterFns.oStart laterFns.oNext (blocks2 V c) t.val t.isLt
    | ⟨9, _⟩ => sumAt laterFns.sStart laterFns.sNext (blocks2 V c) t.val t.isLt
    | ⟨10, _⟩ => sumAt laterFns.mStart laterFns.mNext (blocks2 V c) t.val t.isLt
  Φ _ := ΦA spec2 c
  q w := shareOf spec2 w
  owed _ := 0

/-- What each buffer holds after point `t`. -/
theorem after2_0 (V : Entry F) (c : Dev nD) (t : Fin cfg2.N) : (dat2 V c).after 0 t = (blocks2 V c t).x := by dsimp only [dat2]
theorem after2_1 (V : Entry F) (c : Dev nD) (t : Fin cfg2.N) : (dat2 V c).after 1 t = (blocks2 V c t).p := by dsimp only [dat2]
theorem after2_2 (V : Entry F) (c : Dev nD) (t : Fin cfg2.N) : (dat2 V c).after 2 t = (blocks2 V c t).att := by dsimp only [dat2]
theorem after2_3 (V : Entry F) (c : Dev nD) (t : Fin cfg2.N) : (dat2 V c).after 3 t = (blocks2 V c t).ct := by dsimp only [dat2]
theorem after2_4 (V : Entry F) (c : Dev nD) (t : Fin cfg2.N) : (dat2 V c).after 4 t = laterFns.idx (blocks2 V c t) := by dsimp only [dat2]
theorem after2_5 (V : Entry F) (c : Dev nD) (t : Fin cfg2.N) : (dat2 V c).after 5 t = laterFns.xpm (blocks2 V c t) := by dsimp only [dat2]
theorem after2_6 (V : Entry F) (c : Dev nD) (t : Fin cfg2.N) : (dat2 V c).after 6 t = laterFns.xr (blocks2 V c t) := by dsimp only [dat2]
theorem after2_7 (V : Entry F) (c : Dev nD) (t : Fin cfg2.N) : (dat2 V c).after 7 t = laterFns.res (blocks2 V c t) := by dsimp only [dat2]
theorem after2_8 (V : Entry F) (c : Dev nD) (t : Fin cfg2.N) : (dat2 V c).after 8 t = sumAt laterFns.oStart laterFns.oNext (blocks2 V c) t.val t.isLt := by dsimp only [dat2]
theorem after2_9 (V : Entry F) (c : Dev nD) (t : Fin cfg2.N) : (dat2 V c).after 9 t = sumAt laterFns.sStart laterFns.sNext (blocks2 V c) t.val t.isLt := by dsimp only [dat2]
theorem after2_10 (V : Entry F) (c : Dev nD) (t : Fin cfg2.N) : (dat2 V c).after 10 t = sumAt laterFns.mStart laterFns.mNext (blocks2 V c) t.val t.isLt := by dsimp only [dat2]

/-- No window is skipped at any point. -/
theorem live2 : ∀ (w : Fin cfg2.W) (t : Fin cfg2.N), cfg2.idle w (cfg2.grid.coords t) = false := by decide +kernel

/-- A point's coordinate is its number. -/
theorem first2 (t : Fin cfg2.N) : (grid2.coords t 0).val = 0 ↔ t.val = 0 := by
  have h : t.val < 8 := lt_of_lt_of_eq t.isLt N_2
  rw [show (grid2.coords t 0).val = t.val / 1 % 8 from Grid.coords_val t 0 (by decide) rfl]; omega

/-- A point that writes a running sum back is the last. -/
theorem last2 (t : Fin cfg2.N) (h : t.val % 8 = 7) : t.val + 1 = cfg2.N := by
  have h' : t.val < 8 := lt_of_lt_of_eq t.isLt N_2
  have hN : cfg2.N = 8 := N_2
  omega

set_option maxHeartbeats 1000000 in
/-- The body meets its obligation at every point. -/
theorem obligation2 (V : Entry F) (c : Dev nD) :
    BodyObligation (dat2 (F := F) V c) (defs₀ (F := F)) Variants.none () Set.univ := fun t => by
  have hrow : defs₀ (F := F) .tc cfg2.body (cfg2.bodyArgs t (cfg2.slots t)) = bodyAt2 t := by
    unfold defs₀; rw [Defs.onTc_tc]
  rw [bigSep_W2, bigSep_W2, hrow]
  have key := Computes.sound later_computes2 c (grid2.coords t) _ (hstage2_0 ((cfg2.slots t 0).cast nbuf2_0)) _ (hstage2_1 ((cfg2.slots t 1).cast nbuf2_1))
    _ (hstage2_2 ((cfg2.slots t 2).cast nbuf2_2)) _ (hstage2_3 ((cfg2.slots t 3).cast nbuf2_3)) _ (hstage2_4 ((cfg2.slots t 4).cast nbuf2_4))
    _ (hstage2_5 ((cfg2.slots t 5).cast nbuf2_5)) _ (hstage2_6 ((cfg2.slots t 6).cast nbuf2_6)) _ (hstage2_7 ((cfg2.slots t 7).cast nbuf2_7))
    _ (hstage2_8 ((cfg2.slots t 8).cast nbuf2_8)) _ (hstage2_9 ((cfg2.slots t 9).cast nbuf2_9)) _ (hstage2_10 ((cfg2.slots t 10).cast nbuf2_10))
    (blocks2 V c t) _ _ _
    (before_input (V := V) (dat2 V c) 0 rfl (fun _ => rfl) (fun _ _ _ => rfl) rfl (X := fun t => (blocks2 V c t).x) (fun _ _ => rfl) (fun _ => rfl) t)
    (before_input (V := V) (dat2 V c) 1 rfl (fun _ => rfl) (fun _ _ _ => rfl) rfl (X := fun t => (blocks2 V c t).p) (fun _ _ => rfl) (fun _ => rfl) t)
    (before_input (V := V) (dat2 V c) 2 rfl (fun _ => rfl) (fun _ _ _ => rfl) rfl (X := fun t => (blocks2 V c t).att) (fun _ _ => rfl) (fun _ => rfl) t)
    (before_input (V := V) (dat2 V c) 3 rfl (fun _ => rfl) (fun _ _ _ => rfl) rfl (X := fun t => (blocks2 V c t).ct) (fun _ _ => rfl) (fun _ => rfl) t)
    (B5 := (dat2 V c).before 4 t) (B6 := (dat2 V c).before 5 t) (B7 := (dat2 V c).before 6 t) (B8 := (dat2 V c).before 7 t)
    (fun d => step_sumAt _ _ (blocks2 V c) t _ (first2 t) ((dat2 V c).before 8 t d) fun ht =>
      before_sum (dat2 V c) 8 rfl (fun _ _ => rfl) (live2 8) (fun t h => last2 t ((flush2_8 t).mp h)) t ht d)
    (fun d => step_sumAt _ _ (blocks2 V c) t _ (first2 t) ((dat2 V c).before 9 t d) fun ht =>
      before_sum (dat2 V c) 9 rfl (fun _ _ => rfl) (live2 9) (fun t h => last2 t ((flush2_9 t).mp h)) t ht d)
    (fun d => step_sumAt _ _ (blocks2 V c) t _ (first2 t) ((dat2 V c).before 10 t d) fun ht =>
      before_sum (dat2 V c) 10 rfl (fun _ _ => rfl) (live2 10) (fun t h => last2 t ((flush2_10 t).mp h)) t ht d)
    ((dat2 V c).Φ t.castSucc) ((dat2 V c).owesAt () t.castSucc)
  have l8 : idle2 8 (grid2.coords t) = false := live2 8 t
  have l9 : idle2 9 (grid2.coords t) = false := live2 9 t
  have l10 : idle2 10 (grid2.coords t) = false := live2 10 t
  simp only [l8, l9, l10]
  rw [after2_0, after2_1, after2_2, after2_3, after2_4, after2_5, after2_6, after2_7, after2_8, after2_9, after2_10]
  exact triple_restated key rfl .rfl fun _ => .rfl

end Cert.KernelIdeal

end
-- ==== Proof.Kern.Stage3.lean ====
/- The fourth stage's pallas_call: what its buffers hold point by point, and that its body keeps to it. -/
module

public import proofs.«01_k».proof.Proof.Kern.Region
public import proofs.«01_k».proof.Proof.Kern.BodyLater

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal.Gen

variable {F : FTy → Type} [FloatOps F]

local notation "𝕄" => MT nD τ sig Unit (Elt F) ℕ (UR sig nD τ) ℕ

set_option maxRecDepth 65536 in
/-- This stage's body is the second stage's. -/
theorem later_computes3 : Computes (F := F) cc3__stage_body laterFns := by
  rw [show cc3__stage_body (F := F) = cc1__stage_body from rfl]; exact later_computes

/-- The blocks point `t` is handed. -/
def blocks3 (V : Entry F) (c : Dev nD) (t : Fin cfg3.N) : Blocks F :=
  ⟨blockAt cfg3 V c 0 t, blockAt cfg3 V c 1 t, blockAt cfg3 V c 2 t, blockAt cfg3 V c 3 t⟩

/-- Every array as entered; after a point, its blocks in the inputs, their functions in the outputs. -/
def dat3 (V : Entry F) (c : Dev nD) : Dat τ (Elt F) Unit ℕ (UR sig nD τ) ℕ cfg3 c where
  A w := V c (arrRef spec3 w)
  after w t := match w with
    | ⟨0, _⟩ => (blocks3 V c t).x
    | ⟨1, _⟩ => (blocks3 V c t).p
    | ⟨2, _⟩ => (blocks3 V c t).att
    | ⟨3, _⟩ => (blocks3 V c t).ct
    | ⟨4, _⟩ => laterFns.idx (blocks3 V c t)
    | ⟨5, _⟩ => laterFns.xpm (blocks3 V c t)
    | ⟨6, _⟩ => laterFns.xr (blocks3 V c t)
    | ⟨7, _⟩ => laterFns.res (blocks3 V c t)
    | ⟨8, _⟩ => sumAt laterFns.oStart laterFns.oNext (blocks3 V c) t.val t.isLt
    | ⟨9, _⟩ => sumAt laterFns.sStart laterFns.sNext (blocks3 V c) t.val t.isLt
    | ⟨10, _⟩ => sumAt laterFns.mStart laterFns.mNext (blocks3 V c) t.val t.isLt
  Φ _ := ΦA spec3 c
  q w := shareOf spec3 w
  owed _ := 0

/-- What each buffer holds after point `t`. -/
theorem after3_0 (V : Entry F) (c : Dev nD) (t : Fin cfg3.N) : (dat3 V c).after 0 t = (blocks3 V c t).x := by dsimp only [dat3]
theorem after3_1 (V : Entry F) (c : Dev nD) (t : Fin cfg3.N) : (dat3 V c).after 1 t = (blocks3 V c t).p := by dsimp only [dat3]
theorem after3_2 (V : Entry F) (c : Dev nD) (t : Fin cfg3.N) : (dat3 V c).after 2 t = (blocks3 V c t).att := by dsimp only [dat3]
theorem after3_3 (V : Entry F) (c : Dev nD) (t : Fin cfg3.N) : (dat3 V c).after 3 t = (blocks3 V c t).ct := by dsimp only [dat3]
theorem after3_4 (V : Entry F) (c : Dev nD) (t : Fin cfg3.N) : (dat3 V c).after 4 t = laterFns.idx (blocks3 V c t) := by dsimp only [dat3]
theorem after3_5 (V : Entry F) (c : Dev nD) (t : Fin cfg3.N) : (dat3 V c).after 5 t = laterFns.xpm (blocks3 V c t) := by dsimp only [dat3]
theorem after3_6 (V : Entry F) (c : Dev nD) (t : Fin cfg3.N) : (dat3 V c).after 6 t = laterFns.xr (blocks3 V c t) := by dsimp only [dat3]
theorem after3_7 (V : Entry F) (c : Dev nD) (t : Fin cfg3.N) : (dat3 V c).after 7 t = laterFns.res (blocks3 V c t) := by dsimp only [dat3]
theorem after3_8 (V : Entry F) (c : Dev nD) (t : Fin cfg3.N) : (dat3 V c).after 8 t = sumAt laterFns.oStart laterFns.oNext (blocks3 V c) t.val t.isLt := by dsimp only [dat3]
theorem after3_9 (V : Entry F) (c : Dev nD) (t : Fin cfg3.N) : (dat3 V c).after 9 t = sumAt laterFns.sStart laterFns.sNext (blocks3 V c) t.val t.isLt := by dsimp only [dat3]
theorem after3_10 (V : Entry F) (c : Dev nD) (t : Fin cfg3.N) : (dat3 V c).after 10 t = sumAt laterFns.mStart laterFns.mNext (blocks3 V c) t.val t.isLt := by dsimp only [dat3]

/-- No window is skipped at any point. -/
theorem live3 : ∀ (w : Fin cfg3.W) (t : Fin cfg3.N), cfg3.idle w (cfg3.grid.coords t) = false := by decide +kernel

/-- A point's coordinate is its number. -/
theorem first3 (t : Fin cfg3.N) : (grid3.coords t 0).val = 0 ↔ t.val = 0 := by
  have h : t.val < 8 := lt_of_lt_of_eq t.isLt N_3
  rw [show (grid3.coords t 0).val = t.val / 1 % 8 from Grid.coords_val t 0 (by decide) rfl]; omega

/-- A point that writes a running sum back is the last. -/
theorem last3 (t : Fin cfg3.N) (h : t.val % 8 = 7) : t.val + 1 = cfg3.N := by
  have h' : t.val < 8 := lt_of_lt_of_eq t.isLt N_3
  have hN : cfg3.N = 8 := N_3
  omega

set_option maxHeartbeats 1000000 in
/-- The body meets its obligation at every point. -/
theorem obligation3 (V : Entry F) (c : Dev nD) :
    BodyObligation (dat3 (F := F) V c) (defs₀ (F := F)) Variants.none () Set.univ := fun t => by
  have hrow : defs₀ (F := F) .tc cfg3.body (cfg3.bodyArgs t (cfg3.slots t)) = bodyAt3 t := by
    unfold defs₀; rw [Defs.onTc_tc]
  rw [bigSep_W3, bigSep_W3, hrow]
  have key := Computes.sound later_computes3 c (grid3.coords t) _ (hstage3_0 ((cfg3.slots t 0).cast nbuf3_0)) _ (hstage3_1 ((cfg3.slots t 1).cast nbuf3_1))
    _ (hstage3_2 ((cfg3.slots t 2).cast nbuf3_2)) _ (hstage3_3 ((cfg3.slots t 3).cast nbuf3_3)) _ (hstage3_4 ((cfg3.slots t 4).cast nbuf3_4))
    _ (hstage3_5 ((cfg3.slots t 5).cast nbuf3_5)) _ (hstage3_6 ((cfg3.slots t 6).cast nbuf3_6)) _ (hstage3_7 ((cfg3.slots t 7).cast nbuf3_7))
    _ (hstage3_8 ((cfg3.slots t 8).cast nbuf3_8)) _ (hstage3_9 ((cfg3.slots t 9).cast nbuf3_9)) _ (hstage3_10 ((cfg3.slots t 10).cast nbuf3_10))
    (blocks3 V c t) _ _ _
    (before_input (V := V) (dat3 V c) 0 rfl (fun _ => rfl) (fun _ _ _ => rfl) rfl (X := fun t => (blocks3 V c t).x) (fun _ _ => rfl) (fun _ => rfl) t)
    (before_input (V := V) (dat3 V c) 1 rfl (fun _ => rfl) (fun _ _ _ => rfl) rfl (X := fun t => (blocks3 V c t).p) (fun _ _ => rfl) (fun _ => rfl) t)
    (before_input (V := V) (dat3 V c) 2 rfl (fun _ => rfl) (fun _ _ _ => rfl) rfl (X := fun t => (blocks3 V c t).att) (fun _ _ => rfl) (fun _ => rfl) t)
    (before_input (V := V) (dat3 V c) 3 rfl (fun _ => rfl) (fun _ _ _ => rfl) rfl (X := fun t => (blocks3 V c t).ct) (fun _ _ => rfl) (fun _ => rfl) t)
    (B5 := (dat3 V c).before 4 t) (B6 := (dat3 V c).before 5 t) (B7 := (dat3 V c).before 6 t) (B8 := (dat3 V c).before 7 t)
    (fun d => step_sumAt _ _ (blocks3 V c) t _ (first3 t) ((dat3 V c).before 8 t d) fun ht =>
      before_sum (dat3 V c) 8 rfl (fun _ _ => rfl) (live3 8) (fun t h => last3 t ((flush3_8 t).mp h)) t ht d)
    (fun d => step_sumAt _ _ (blocks3 V c) t _ (first3 t) ((dat3 V c).before 9 t d) fun ht =>
      before_sum (dat3 V c) 9 rfl (fun _ _ => rfl) (live3 9) (fun t h => last3 t ((flush3_9 t).mp h)) t ht d)
    (fun d => step_sumAt _ _ (blocks3 V c) t _ (first3 t) ((dat3 V c).before 10 t d) fun ht =>
      before_sum (dat3 V c) 10 rfl (fun _ _ => rfl) (live3 10) (fun t h => last3 t ((flush3_10 t).mp h)) t ht d)
    ((dat3 V c).Φ t.castSucc) ((dat3 V c).owesAt () t.castSucc)
  have l8 : idle3 8 (grid3.coords t) = false := live3 8 t
  have l9 : idle3 9 (grid3.coords t) = false := live3 9 t
  have l10 : idle3 10 (grid3.coords t) = false := live3 10 t
  simp only [l8, l9, l10]
  rw [after3_0, after3_1, after3_2, after3_3, after3_4, after3_5, after3_6, after3_7, after3_8, after3_9, after3_10]
  exact triple_restated key rfl .rfl fun _ => .rfl

end Cert.KernelIdeal

end
-- ==== Proof.Kern.Combine.lean ====
/- The last pallas_call, which combines the twelve sums into one number: its body, and what its buffers hold. -/
module

public import proofs.«01_k».proof.Proof.Kern.Region

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal.Gen

variable {F : FTy → Type} [FloatOps F]

local notation "𝕄" => MT nD τ sig Unit (Elt F) ℕ (UR sig nD τ) ℕ

/-- From the three rows of sums and the weights the body runs to its output holding `k4_pay1` of them. -/
theorem combine_computes (c : Dev nD) (a1 : Memref sig .tc .vmem S1x4 .f32) (h1 : a1.IsWhole)
    (a2 : Memref sig .tc .vmem S1x4 .f32) (h2 : a2.IsWhole) (a3 : Memref sig .tc .vmem S1x4 .f32) (h3 : a3.IsWhole)
    (a4 : Memref sig .tc .vmem S1x4 .f32) (h4 : a4.IsWhole) (a5 : Memref sig .tc .vmem S1x1 .f32) (h5 : a5.IsWhole)
    (o s w q : Vec F S1x4 .f32) (K : PUnit → sProp 𝕄) :
    iprop(owns (c : Thread nD τ) a1 fullShare o ∗ owns (c : Thread nD τ) a2 fullShare s ∗ owns (c : Thread nD τ) a3 fullShare w
        ∗ owns (c : Thread nD τ) a4 fullShare q ∗ (∃ d, owns (c : Thread nD τ) a5 fullShare d)
        ∗ (iprop(owns (c : Thread nD τ) a1 fullShare o ∗ owns (c : Thread nD τ) a2 fullShare s ∗ owns (c : Thread nD τ) a3 fullShare w
            ∗ owns (c : Thread nD τ) a4 fullShare q ∗ owns (c : Thread nD τ) a5 fullShare (k4_pay1 q o s w)) -∗ K ⟨⟩))
      ⊢ wp frame (wpE (defs₀ (F := F)) Variants.none c none) Set.univ (cc4__combine_body a1 h1 a2 h2 a3 h3 a4 h4 a5 h5) K := by
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := h1.eq_unread hf0; obtain rfl := h2.eq_unread hf1; obtain rfl := h3.eq_unread hf2
  obtain rfl := h4.eq_unread hf3
  have e1 := load_whole (F := F) h1 zero2 inb_S1x4_S1x4_0_0 o
  have e2 := load_whole (F := F) h2 zero2 inb_S1x4_S1x4_0_0 s
  have e3 := load_whole (F := F) h3 zero2 inb_S1x4_S1x4_0_0 w
  have e4 := load_whole (F := F) h4 zero2 inb_S1x4_S1x4_0_0 q
  simp only [cc4__combine_body_eq_skeleton]; unfold cc4__combine_body_skel
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr; rotate_left; iexact H4
  ipureintro; refine (read_whole_store _ _ zero2 _ _).trans ?_; rfl

/-- Every array as entered; after the one point the inputs as they were and the output the combination. -/
def dat4 (V : Entry F) (c : Dev nD) : Dat τ (Elt F) Unit ℕ (UR sig nD τ) ℕ cfg4 c where
  A w := V c (arrRef spec4 w)
  after w t := match w with
    | ⟨0, _⟩ => blockAt cfg4 V c 0 t
    | ⟨1, _⟩ => blockAt cfg4 V c 1 t
    | ⟨2, _⟩ => blockAt cfg4 V c 2 t
    | ⟨3, _⟩ => blockAt cfg4 V c 3 t
    | ⟨4, _⟩ => k4_pay1 (blockAt cfg4 V c 3 t) (blockAt cfg4 V c 0 t) (blockAt cfg4 V c 1 t) (blockAt cfg4 V c 2 t)
  Φ _ := ΦA spec4 c
  q w := shareOf spec4 w
  owed _ := 0

/-- What each buffer holds after the point. -/
theorem after4_0 (V : Entry F) (c : Dev nD) (t : Fin cfg4.N) : (dat4 V c).after 0 t = blockAt cfg4 V c 0 t := by dsimp only [dat4]
theorem after4_1 (V : Entry F) (c : Dev nD) (t : Fin cfg4.N) : (dat4 V c).after 1 t = blockAt cfg4 V c 1 t := by dsimp only [dat4]
theorem after4_2 (V : Entry F) (c : Dev nD) (t : Fin cfg4.N) : (dat4 V c).after 2 t = blockAt cfg4 V c 2 t := by dsimp only [dat4]
theorem after4_3 (V : Entry F) (c : Dev nD) (t : Fin cfg4.N) : (dat4 V c).after 3 t = blockAt cfg4 V c 3 t := by dsimp only [dat4]
theorem after4_4 (V : Entry F) (c : Dev nD) (t : Fin cfg4.N) : (dat4 V c).after 4 t
    = k4_pay1 (blockAt cfg4 V c 3 t) (blockAt cfg4 V c 0 t) (blockAt cfg4 V c 1 t) (blockAt cfg4 V c 2 t) := by dsimp only [dat4]

/-- The body meets its obligation. -/
theorem obligation4 (V : Entry F) (c : Dev nD) :
    BodyObligation (dat4 (F := F) V c) (defs₀ (F := F)) Variants.none () Set.univ := fun t => by
  have hrow : defs₀ (F := F) .tc cfg4.body (cfg4.bodyArgs t (cfg4.slots t)) = bodyAt4 t := by
    unfold defs₀; rw [Defs.onTc_tc]
  have b0 := before_input (V := V) (dat4 V c) 0 rfl (fun _ => rfl) (fun _ _ _ => rfl) rfl (X := fun t => blockAt cfg4 V c 0 t) (fun _ _ => rfl) (fun _ => rfl) t
  have b1 := before_input (V := V) (dat4 V c) 1 rfl (fun _ => rfl) (fun _ _ _ => rfl) rfl (X := fun t => blockAt cfg4 V c 1 t) (fun _ _ => rfl) (fun _ => rfl) t
  have b2 := before_input (V := V) (dat4 V c) 2 rfl (fun _ => rfl) (fun _ _ _ => rfl) rfl (X := fun t => blockAt cfg4 V c 2 t) (fun _ _ => rfl) (fun _ => rfl) t
  have b3 := before_input (V := V) (dat4 V c) 3 rfl (fun _ => rfl) (fun _ _ _ => rfl) rfl (X := fun t => blockAt cfg4 V c 3 t) (fun _ _ => rfl) (fun _ => rfl) t
  rw [bigSep_W4, bigSep_W4, hrow]
  have key : iprop((dat4 V c).Φ t.castSucc ∗ (dat4 V c).owesAt () t.castSucc
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d))
      ∗ (∃ d, owns (c : Thread nD τ) (st4_3 t) fullShare ((dat4 V c).before 3 t d))
      ∗ (∃ d, owns (c : Thread nD τ) (st4_4 t) fullShare ((dat4 V c).before 4 t d)))
      ⊢ wp frame (wpE (defs₀ (F := F)) Variants.none c none) Set.univ (bodyAt4 t) (fun _ => iprop((dat4 V c).Φ t.castSucc ∗ (dat4 V c).owesAt () t.castSucc
      ∗ owns (c : Thread nD τ) (st4_0 t) fullShare (blockAt cfg4 V c 0 t) ∗ owns (c : Thread nD τ) (st4_1 t) fullShare (blockAt cfg4 V c 1 t)
      ∗ owns (c : Thread nD τ) (st4_2 t) fullShare (blockAt cfg4 V c 2 t) ∗ owns (c : Thread nD τ) (st4_3 t) fullShare (blockAt cfg4 V c 3 t)
      ∗ owns (c : Thread nD τ) (st4_4 t) fullShare
        (k4_pay1 (blockAt cfg4 V c 3 t) (blockAt cfg4 V c 0 t) (blockAt cfg4 V c 1 t) (blockAt cfg4 V c 2 t)))) := by
    simp only [b0, b1, b2, b3]
    iintro ⟨HΦ, Ho, ⟨%d0, H0⟩, ⟨%d1, H1⟩, ⟨%d2, H2⟩, ⟨%d3, H3⟩, H4⟩
    iapply (combine_computes c _ _ _ _ _ _ _ _ _ _ (blockAt cfg4 V c 0 t) (blockAt cfg4 V c 1 t) (blockAt cfg4 V c 2 t) (blockAt cfg4 V c 3 t) _)
    isplitl [H0]; · iexact H0
    isplitl [H1]; · iexact H1
    isplitl [H2]; · iexact H2
    isplitl [H3]; · iexact H3
    isplitl [H4]; · icases H4 with ⟨%d, H4⟩; iexists _; iexact H4
    iintro H
    isplitl [HΦ]; · iexact HΦ
    isplitl [Ho]; · iexact Ho
    iexact H
  rw [after4_0, after4_1, after4_2, after4_3, after4_4]
  exact triple_restated key rfl .rfl fun _ => .rfl

end Cert.KernelIdeal

end
-- ==== Proof.Kern.Run.lean ====
/- The run of the whole kernel: its buffers after each stretch of host operations and each pallas_call, and that every
   execution ends with the buffers so. -/
module

public import proofs.«01_k».proof.Proof.Kern.Call
public import proofs.«01_k».proof.Proof.Kern.Stage0
public import proofs.«01_k».proof.Proof.Kern.Stage1
public import proofs.«01_k».proof.Proof.Kern.Stage2
public import proofs.«01_k».proof.Proof.Kern.Stage3
public import proofs.«01_k».proof.Proof.Kern.Combine

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal.Gen

variable {F : FTy → Type} [FloatOps F]

local notation "𝕄" => MT nD τ sig Unit (Elt F) ℕ (UR sig nD τ) ℕ

variable (m : (ℓ : Loc nD τ sig) → Buf (Elt F) ℓ)

/-- At launch. -/
abbrev W0 (c : Dev nD) : Valuation τ sig (Elt F) := fun b => m (c, b)
/-- Before and after the first stage's call. -/
def W1 (c : Dev nD) : Valuation τ sig (Elt F) := StableHlo.after hostOps0 (W0 m c)
def W2 (c : Dev nD) : Valuation τ sig (Elt F) := leave (dat0 (entry (W1 m)) c) (W1 m c)
/-- Before and after the second stage's call. -/
def W3 (c : Dev nD) : Valuation τ sig (Elt F) := StableHlo.after hostOps1 (W2 m c)
def W4 (c : Dev nD) : Valuation τ sig (Elt F) := leave (dat1 (entry (W3 m)) c) (W3 m c)
/-- Before and after the third stage's call. -/
def W5 (c : Dev nD) : Valuation τ sig (Elt F) := StableHlo.after hostOps2 (W4 m c)
def W6 (c : Dev nD) : Valuation τ sig (Elt F) := leave (dat2 (entry (W5 m)) c) (W5 m c)
/-- Before and after the fourth stage's call. -/
def W7 (c : Dev nD) : Valuation τ sig (Elt F) := StableHlo.after hostOps3 (W6 m c)
def W8 (c : Dev nD) : Valuation τ sig (Elt F) := leave (dat3 (entry (W7 m)) c) (W7 m c)
/-- Before and after the combining call. -/
def W9 (c : Dev nD) : Valuation τ sig (Elt F) := StableHlo.after hostOps4 (W8 m c)
def W10 (c : Dev nD) : Valuation τ sig (Elt F) := leave (dat4 (entry (W9 m)) c) (W9 m c)
/-- At the end. -/
def W11 (c : Dev nD) : Valuation τ sig (Elt F) := StableHlo.after hostOps5 (W10 m c)

/-- Every pipeline's proof data, from the contents its call is entered with. -/
def dats : Dats F
  | ⟨0, _⟩ => fun c => dat0 (entry (W1 m)) c
  | ⟨1, _⟩ => fun c => dat1 (entry (W3 m)) c
  | ⟨2, _⟩ => fun c => dat2 (entry (W5 m)) c
  | ⟨3, _⟩ => fun c => dat3 (entry (W7 m)) c
  | ⟨4, _⟩ => fun c => dat4 (entry (W9 m)) c

/-- A stretch of host operations as a segment. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ Variants.none noLevels level0 :=
  HostSeg.ofOps _ _ _ _ _ (ucRefs τ sig) ops
    (fun op h => sub_ucRefs op ((List.forall_iff_forall_mem.mp hsub) op h))
    (fun op h => (List.forall_iff_forall_mem.mp hfresh) op h) W Beside

/-- What a call's exit valuation is at the references it leaves alone. -/
theorem leave_rest {cfg : Cfg sig Λ₀} {c : Dev nD} (dat : Dat τ (Elt F) Unit ℕ (UR sig nD τ) ℕ cfg c) (W : Valuation τ sig (Elt F)) :
    ∀ b, b ∉ Finset.univ.image (arrRef cfg.spec) → leave dat W (Proc.devRef .tc b) = W (Proc.devRef .tc b) :=
  fun b hb => leave_of_ne dat W b fun w e => hb (Finset.mem_image.mpr ⟨w, Finset.mem_univ _, e⟩)

/-- The five calls as segments. -/
def call0 : RegionSeg (pcfgs (F := F)) noTables (dats m) () defs₀ Variants.none noLevels level0 0 :=
  callSeg (dats m) 0 launch₀0 (fun c => obligation0 (entry (W1 m)) c) (fun _ _ => rfl) (fun _ _ => rfl) (fun _ _ => rfl) (fun _ _ => rfl) rfl
    (W1 m) (W2 m) (fun _ _ => rfl) (fun c w => (leave_arr (dat0 (entry (W1 m)) c) (W1 m c) launch₀0.sharedIn (fun _ => rfl) w).symm)
    (fun c => leave_rest (dat0 (entry (W1 m)) c) (W1 m c))
def call1 : RegionSeg (pcfgs (F := F)) noTables (dats m) () defs₀ Variants.none noLevels level0 1 :=
  callSeg (dats m) 1 launch1.to₀ (fun c => obligation1 (entry (W3 m)) c) (fun _ _ => rfl) (fun _ _ => rfl) (fun _ _ => rfl) (fun _ _ => rfl) rfl
    (W3 m) (W4 m) (fun _ _ => rfl) (fun c w => (leave_arr (dat1 (entry (W3 m)) c) (W3 m c) launch1.to₀.sharedIn (fun _ => rfl) w).symm)
    (fun c => leave_rest (dat1 (entry (W3 m)) c) (W3 m c))
def call2 : RegionSeg (pcfgs (F := F)) noTables (dats m) () defs₀ Variants.none noLevels level0 2 :=
  callSeg (dats m) 2 launch2.to₀ (fun c => obligation2 (entry (W5 m)) c) (fun _ _ => rfl) (fun _ _ => rfl) (fun _ _ => rfl) (fun _ _ => rfl) rfl
    (W5 m) (W6 m) (fun _ _ => rfl) (fun c w => (leave_arr (dat2 (entry (W5 m)) c) (W5 m c) launch2.to₀.sharedIn (fun _ => rfl) w).symm)
    (fun c => leave_rest (dat2 (entry (W5 m)) c) (W5 m c))
def call3 : RegionSeg (pcfgs (F := F)) noTables (dats m) () defs₀ Variants.none noLevels level0 3 :=
  callSeg (dats m) 3 launch3.to₀ (fun c => obligation3 (entry (W7 m)) c) (fun _ _ => rfl) (fun _ _ => rfl) (fun _ _ => rfl) (fun _ _ => rfl) rfl
    (W7 m) (W8 m) (fun _ _ => rfl) (fun c w => (leave_arr (dat3 (entry (W7 m)) c) (W7 m c) launch3.to₀.sharedIn (fun _ => rfl) w).symm)
    (fun c => leave_rest (dat3 (entry (W7 m)) c) (W7 m c))
def call4 : RegionSeg (pcfgs (F := F)) noTables (dats m) () defs₀ Variants.none noLevels level0 4 :=
  callSeg (dats m) 4 launch4.to₀ (fun c => obligation4 (entry (W9 m)) c) (fun _ _ => rfl) (fun _ _ => rfl) (fun _ _ => rfl) (fun _ _ => rfl) rfl
    (W9 m) (W10 m) (fun _ _ => rfl) (fun c w => (leave_arr (dat4 (entry (W9 m)) c) (W9 m c) launch4.to₀.sharedIn (fun _ => rfl) w).symm)
    (fun c => leave_rest (dat4 (entry (W9 m)) c) (W9 m c))

/-- The program's eleven segments in order. -/
abbrev segs : List (Seg (pcfgs (F := F)) noTables (dats m) () defs₀ Variants.none noLevels level0) :=
  [ .host (hostSeg hostOps0 hostOps0_sub hostOps0_fresh (W0 m)), .region (call0 m),
    .host (hostSeg hostOps1 hostOps1_sub hostOps1_fresh (W2 m)), .region (call1 m),
    .host (hostSeg hostOps2 hostOps2_sub hostOps2_fresh (W4 m)), .region (call2 m),
    .host (hostSeg hostOps3 hostOps3_sub hostOps3_fresh (W6 m)), .region (call3 m),
    .host (hostSeg hostOps4 hostOps4_sub hostOps4_fresh (W8 m)), .region (call4 m),
    .host (hostSeg hostOps5 hostOps5_sub hostOps5_fresh (W10 m)) ]

/-- The program is the run of its segments. -/
theorem main_segs (c : Dev nD) : main (F := F) c = Seg.run (segs m) := (main_chain c).trans (by chain_rfl)

/-- Every semaphore is scoped. -/
theorem all_scoped : ∀ sm : SemLoc sig, sm.isScoped .tc = true := by decide

/-- An unscoped reference is among those followed through the program. -/
theorem mem_followed (b : Ref sig .tc) (h : ¬ (Proc.devRef .tc b : DevRef τ sig).isScoped) : Proc.devRef .tc b ∈ ucRefs τ sig :=
  Finset.mem_filter.mpr ⟨StableHlo.devRef_mem_tcRefs b, h⟩

set_option backward.isDefEq.respectTransparency.types false in
/-- Every execution ends, without fault, with every unscoped buffer at `W11` and every semaphore at zero. -/
theorem run (ρ : Dev nD → PrngReg) : θ_run defs (onTc (τ := τ) (main (F := F))) ⟨m, fun _ => 0, ρ⟩ (fun r =>
      (∀ c : Dev nD, ∀ b ∈ ucRefs τ sig, r.2.mem (c, b) = W11 m c b) ∧ r.2.sem = fun _ => 0) :=
  θ_run_regions_kit_sems (pcfgs (F := F)) noTables (dats m) () cellOf_inj emb₁ defs₀ Variants.none noLevels level0 m ρ main (segs m)
    (fun c Q => by rw [main_segs m c])
    (by simp only [segs, Seg.pipes_host, Seg.pipes_region, Seg.pipes_nil]; decide)
    (O₀ := 0) (hL := fun _ _ => rfl) (G := fun _ => iprop(emp))
    (u₀ := initOf (cells cfgs cellOf_inj) (launchToks cfgs cellOf_inj))
    (hu₀ := by
      iintro Hu; imodintro
      isplitl [Hu]
      · iapply (show (ownU (initOf (cells cfgs cellOf_inj) (launchToks cfgs cellOf_inj)) : sProp 𝕄)
            ⊢ BI.own (emb₁ (initOf (cells cfgs cellOf_inj) (launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (W0 m c) ∗ Beside c))
    (Tₙ := fun c => iprop(StableHlo.held (c : Thread nD τ) (ucRefs τ sig) (W11 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (ucRefs τ sig) (W11 m c) ∗ Beside c) ⊢ _
        iintro ⟨H, Hp, HO⟩
        isplitl [H Hp]
        · isplitl [H]; · iexact H
          iexact Hp
        iexact HO⟩)
    (hinit := by
      refine initEach noLevels level0 fun c => ?_
      rw [show unscopedBufs c (fun b => m ((c : Thread nD τ).loc b)) = StableHlo.held (c : Thread nD τ) (ucRefs τ sig) (W0 m c)
        from unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ ucRefs τ sig, s.mem (((c : Thread nD τ)).1, b) = W11 m c b)
    (hfin := fun c s' => by
      iintro ⟨⟨Hh, -⟩, HSI⟩
      unfold StableHlo.held
      imodintro
      iapply (pointsTo_read_all (ucRefs τ sig) (fun b => (((c : Thread nD τ)).1, b)) (W11 m c) s')
      isplitl [Hh] <;> iassumption)
    (hQ := fun s h hz => ⟨h, funext fun g => hz g (.inr (all_scoped g.2))⟩)

end Cert.KernelIdeal

end
-- ==== Proof.Kern.Frame.lean ====
/- The kernel's arguments are unchanged at the end. -/
module

public import proofs.«01_k».proof.Proof.Kern.Run

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal.Gen

variable {F : FTy → Type} [FloatOps F]
variable (m : (ℓ : Loc nD τ sig) → Buf (Elt F) ℓ)

/-- A reference that no stretch of host operations writes and that is no output of a call ends as launched. -/
theorem W11_of (c : Dev nD) (r : Ref sig .tc)
    (h : r ∉ hostOps0_W ∧ r ∉ hostOps1_W ∧ r ∉ hostOps2_W ∧ r ∉ hostOps3_W ∧ r ∉ hostOps4_W ∧ r ∉ hostOps5_W)
    (h0 : ∀ w : Fin cfg0.W, arrRef spec0 w = r → (cfg0.win w).isOut = false)
    (h1 : ∀ w : Fin cfg1.W, arrRef spec1 w = r → (cfg1.win w).isOut = false)
    (h2 : ∀ w : Fin cfg2.W, arrRef spec2 w = r → (cfg2.win w).isOut = false)
    (h3 : ∀ w : Fin cfg3.W, arrRef spec3 w = r → (cfg3.win w).isOut = false)
    (h4 : ∀ w : Fin cfg4.W, arrRef spec4 w = r → (cfg4.win w).isOut = false) :
    W11 m c (Proc.devRef .tc r) = m ((c : Thread nD τ).loc r) := by
  obtain ⟨g0, g1, g2, g3, g4, g5⟩ := h
  refine (StableHlo.after_of_writes_sub hostOps5 _ hostOps5_writes g5).trans ?_
  refine (leave_of _ _ launch4.to₀.sharedIn (fun _ => rfl) r h4).trans ?_
  refine (StableHlo.after_of_writes_sub hostOps4 _ hostOps4_writes g4).trans ?_
  refine (leave_of _ _ launch3.to₀.sharedIn (fun _ => rfl) r h3).trans ?_
  refine (StableHlo.after_of_writes_sub hostOps3 _ hostOps3_writes g3).trans ?_
  refine (leave_of _ _ launch2.to₀.sharedIn (fun _ => rfl) r h2).trans ?_
  refine (StableHlo.after_of_writes_sub hostOps2 _ hostOps2_writes g2).trans ?_
  refine (leave_of _ _ launch1.to₀.sharedIn (fun _ => rfl) r h1).trans ?_
  refine (StableHlo.after_of_writes_sub hostOps1 _ hostOps1_writes g1).trans ?_
  refine (leave_of _ _ launch₀0.sharedIn (fun _ => rfl) r h0).trans ?_
  exact StableHlo.after_of_writes_sub hostOps0 _ hostOps0_writes g0

/-- The three arguments end as launched. -/
theorem W11_arg0 (c : Dev nD) : W11 m c (Proc.devRef .tc main_arg0) = m ((c : Thread nD τ).loc main_arg0) :=
  W11_of m c main_arg0 (by decide +kernel) (by decide +kernel) (by decide +kernel) (by decide +kernel) (by decide +kernel) (by decide +kernel)
theorem W11_arg1 (c : Dev nD) : W11 m c (Proc.devRef .tc main_arg1) = m ((c : Thread nD τ).loc main_arg1) :=
  W11_of m c main_arg1 (by decide +kernel) (by decide +kernel) (by decide +kernel) (by decide +kernel) (by decide +kernel) (by decide +kernel)
theorem W11_arg2 (c : Dev nD) : W11 m c (Proc.devRef .tc main_arg2) = m ((c : Thread nD τ).loc main_arg2) :=
  W11_of m c main_arg2 (by decide +kernel) (by decide +kernel) (by decide +kernel) (by decide +kernel) (by decide +kernel) (by decide +kernel)

/-- Every execution ends with the arguments as launched and every semaphore at zero. -/
def Frame (m : (ℓ : Loc nD τ sig) → Buf (Elt F) ℓ) (g : Dev nD → PrngReg) : Prop :=
  θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame (g : Dev nD → PrngReg) : Frame m g :=
  (θ_run defs _ _).mono (fun _ h => ⟨fun c =>
    ⟨(h.1 c _ (mem_followed main_arg0 (by decide))).trans (W11_arg0 m c),
     (h.1 c _ (mem_followed main_arg1 (by decide))).trans (W11_arg1 m c),
     (h.1 c _ (mem_followed main_arg2 (by decide))).trans (W11_arg2 m c)⟩, h.2⟩) (run m g)

end Cert.KernelIdeal

end
-- ==== Proof.Kern.Bits.lean ====
/- The frame of the kernel as printed, at the word instance: its text is the idealized program's, so the two runs are
   one and the idealized program's frame, proved of any reading of the floats, is the kernel's. -/
module

public import proofs.«01_k».proof.Defs
public import proofs.«01_k».proof.Proof.Gen.Kernel
public import proofs.«01_k».proof.Proof.Kern.Frame

@[expose] public section

set_option maxRecDepth 16384

noncomputable section

namespace Cert.Proof

open Idealize.ShloMosaic Idealize.ShloMosaic.Pipeline Idealize.SL.Sem

/-- The kernel's frame. -/
def FrameK : Prop :=
  ∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

/-- The idealized program's, read at words. -/
def FrameKI : Prop :=
  ∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

theorem same : FrameK = FrameKI := by chain_rfl

/-- The kernel as printed: every execution ends, the arguments as launched, every semaphore at zero. -/
theorem frameK : FrameK := same ▸ fun m g => Cert.KernelIdeal.frame m g

end Cert.Proof

end
-- ==== Proof.Ref.Run.lean ====
/- The reference's run: its @main as a list of host operations, cut by stage — A the distances, B the softmax, C the
   hard choice, D the outputs and errors of the stage, E the weighted loss — and the run of the list. -/
module

public import proofs.«01_k».proof.Proof.Gen.ReferenceIdeal
public import Idealize.ShloMosaic.Lib.StableHlo.Run

@[expose] public section

set_option maxRecDepth 16384

noncomputable section

namespace Cert.ReferenceIdeal

open Idealize.ShloMosaic Idealize.SL.Sem
open Facts₀ Facts
open Cert.ReferenceIdeal.Gen (facts₀ facts)

variable {F : FTy → Type} [FloatOps F]

/-- 18 operations of @main, in order. -/
abbrev opsA0 : List (HloOp τ sig (Elt F)) :=
  [ StableHlo.unary main_arg0 main_v0 (broadcastInDim S8192x1x64 ![0, 2] bcast_S8192x64_S8192x1x64_0_2 : (⟨S8192x64, .f32⟩ : BufTy).Contents (Elt F) → (⟨S8192x1x64, .f32⟩ : BufTy).Contents (Elt F)),
    StableHlo.unary main_arg1 main_v1 ((extractStridedSlice S1x1024x64 ![0, 0, 0] · slices_S4x1024x64_S1x1024x64_0_0_0) : (⟨S4x1024x64, .f32⟩ : BufTy).Contents (Elt F) → (⟨S1x1024x64, .f32⟩ : BufTy).Contents (Elt F)),
    StableHlo.reshape main_v1 main_v2 (rfl : (.f32 : EltTy) = .f32) shapeCasts_S1x1024x64_S1024x64,
    StableHlo.unary main_v2 main_v3 (broadcastInDim S1x1024x64 ![1, 2] bcast_S1024x64_S1x1024x64_1_2 : (⟨S1024x64, .f32⟩ : BufTy).Contents (Elt F) → (⟨S1x1024x64, .f32⟩ : BufTy).Contents (Elt F)),
    StableHlo.unary main_v0 main_v4 (broadcastInDim S8192x1024x64 ![0, 1, 2] bcast_S8192x1x64_S8192x1024x64_0_1_2 : (⟨S8192x1x64, .f32⟩ : BufTy).Contents (Elt F) → (⟨S8192x1024x64, .f32⟩ : BufTy).Contents (Elt F)),
    StableHlo.unary main_v3 main_v5 (broadcastInDim S8192x1024x64 ![0, 1, 2] bcast_S1x1024x64_S8192x1024x64_0_1_2 : (⟨S1x1024x64, .f32⟩ : BufTy).Contents (Elt F) → (⟨S8192x1024x64, .f32⟩ : BufTy).Contents (Elt F)),
    StableHlo.binary main_v4 main_v5 main_v6 (subf : (⟨S8192x1024x64, .f32⟩ : BufTy).Contents (Elt F) → (⟨S8192x1024x64, .f32⟩ : BufTy).Contents (Elt F) → (⟨S8192x1024x64, .f32⟩ : BufTy).Contents (Elt F)),
    StableHlo.binary main_v6 main_v6 main_v7 (mulf : (⟨S8192x1024x64, .f32⟩ : BufTy).Contents (Elt F) → (⟨S8192x1024x64, .f32⟩ : BufTy).Contents (Elt F) → (⟨S8192x1024x64, .f32⟩ : BufTy).Contents (Elt F)),
    StableHlo.nullary main_cst (constant S_ .f32 0x00000000#32),
    StableHlo.binary main_v7 main_cst main_v8 ((fun x v => Host.reduceAdd x v reducesTo_S8192x1024x64_S8192x1024_d2 h_S_) : (⟨S8192x1024x64, .f32⟩ : BufTy).Contents (Elt F) → (⟨S_, .f32⟩ : BufTy).Contents (Elt F) → (⟨S8192x1024, .f32⟩ : BufTy).Contents (Elt F)),
    StableHlo.unary main_v8 main_v9 (Host.sqrt : (⟨S8192x1024, .f32⟩ : BufTy).Contents (Elt F) → (⟨S8192x1024, .f32⟩ : BufTy).Contents (Elt F)),
    StableHlo.unary main_v9 main_v10 (Host.negf : (⟨S8192x1024, .f32⟩ : BufTy).Contents (Elt F) → (⟨S8192x1024, .f32⟩ : BufTy).Contents (Elt F)),
    StableHlo.nullary main_cst_0 (constant S_ .f32 0x3F800000#32),
    StableHlo.unary main_cst_0 main_v11 (broadcastInDim S8192x1024 ![] bcast_S_S8192x1024 : (⟨S_, .f32⟩ : BufTy).Contents (Elt F) → (⟨S8192x1024, .f32⟩ : BufTy).Contents (Elt F)),
    StableHlo.binary main_v10 main_v11 main_v12 (Host.divf : (⟨S8192x1024, .f32⟩ : BufTy).Contents (Elt F) → (⟨S8192x1024, .f32⟩ : BufTy).Contents (Elt F) → (⟨S8192x1024, .f32⟩ : BufTy).Contents (Elt F)),
    StableHlo.nullary main_cst_1 (constant S_ .f32 0x3F800000#32),
    StableHlo.unary main_cst_1 main_v13 (broadcastInDim S8192x1024 ![] bcast_S_S8192x1024 : (⟨S_, .f32⟩ : BufTy).Contents (Elt F) → (⟨S8192x1024, .f32⟩ : BufTy).Contents (Elt F)),
    StableHlo.binary main_v12 main_v13 main_v14 (Host.divf : (⟨S8192x1024, .f32⟩ : BufTy).Contents (Elt F) → (⟨S8192x1024, .f32⟩ : BufTy).Contents (Elt F) → (⟨S8192x1024, .f32⟩ : BufTy).Contents (Elt F)) ]
theorem opsA0_sub : (opsA0 : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩
/-- The reference each of them writes, in order. -/
abbrev opsA0_W : List (Ref sig .tc) := [main_v0, main_v1, main_v2, main_v3, main_v4, main_v5, main_v6, main_v7, main_cst, main_v8, main_v9, main_v10, main_cst_0, main_v11, main_v12, main_cst_1, main_v13, main_v14]
theorem opsA0_writes : (opsA0 : List (HloOp τ sig (Elt F))).Forall fun op => op.writes ⊆ (opsA0_W.map (Proc.devRef (τ := τ) .tc)).toFinset :=
  StableHlo.forall_writes_sub_of_map rfl
theorem opsA0_fresh : (opsA0 : List (HloOp τ sig (Elt F))).Forall fun op => op.fresh = ∅ :=
  StableHlo.forall_fresh_of_map rfl

/-- 14 operations of @main, in order. -/
abbrev opsB0 : List (HloOp τ sig (Elt F)) :=
  [ StableHlo.nullary main_cst_2 (constant S_ .f32 0xFF800000#32),
    StableHlo.binary main_v14 main_cst_2 main_v15 ((fun x v => Host.reduce FloatOps.maximumf x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    StableHlo.nullary main_cst_3 (constant S_ .f32 0xFF800000#32),
    StableHlo.unary main_cst_3 main_v16 (broadcastInDim S8192 ![] bcast_S_S8192 : (⟨S_, .f32⟩ : BufTy).Contents (Elt F) → (⟨S8192, .f32⟩ : BufTy).Contents (Elt F)),
    StableHlo.binary main_v16 main_v15 main_v17 (maximumf : (⟨S8192, .f32⟩ : BufTy).Contents (Elt F) → (⟨S8192, .f32⟩ : BufTy).Contents (Elt F) → (⟨S8192, .f32⟩ : BufTy).Contents (Elt F)),
    StableHlo.unary main_v17 main_v18 (broadcastInDim S8192x1 ![0] bcast_S8192_S8192x1_0 : (⟨S8192, .f32⟩ : BufTy).Contents (Elt F) → (⟨S8192x1, .f32⟩ : BufTy).Contents (Elt F)),
    StableHlo.unary main_v18 main_v19 (broadcastInDim S8192x1024 ![0, 1] bcast_S8192x1_S8192x1024_0_1 : (⟨S8192x1, .f32⟩ : BufTy).Contents (Elt F) → (⟨S8192x1024, .f32⟩ : BufTy).Contents (Elt F)),
    StableHlo.binary main_v14 main_v19 main_v20 (subf : (⟨S8192x1024, .f32⟩ : BufTy).Contents (Elt F) → (⟨S8192x1024, .f32⟩ : BufTy).Contents (Elt F) → (⟨S8192x1024, .f32⟩ : BufTy).Contents (Elt F)),
    StableHlo.unary main_v20 main_v21 (Host.exp : (⟨S8192x1024, .f32⟩ : BufTy).Contents (Elt F) → (⟨S8192x1024, .f32⟩ : BufTy).Contents (Elt F)),
    StableHlo.nullary main_cst_4 (constant S_ .f32 0x00000000#32),
    StableHlo.binary main_v21 main_cst_4 main_v22 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    StableHlo.unary main_v22 main_v23 (broadcastInDim S8192x1 ![0] bcast_S8192_S8192x1_0 : (⟨S8192, .f32⟩ : BufTy).Contents (Elt F) → (⟨S8192x1, .f32⟩ : BufTy).Contents (Elt F)),
    StableHlo.unary main_v23 main_v24 (broadcastInDim S8192x1024 ![0, 1] bcast_S8192x1_S8192x1024_0_1 : (⟨S8192x1, .f32⟩ : BufTy).Contents (Elt F) → (⟨S8192x1024, .f32⟩ : BufTy).Contents (Elt F)),
    StableHlo.binary main_v21 main_v24 main_v25 (Host.divf : (⟨S8192x1024, .f32⟩ : BufTy).Contents (Elt F) → (⟨S8192x1024, .f32⟩ : BufTy).Contents (Elt F) → (⟨S8192x1024, .f32⟩ : BufTy).Contents (Elt F)) ]
theorem opsB0_sub : (opsB0 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩
/-- The reference each of them writes, in order. -/
abbrev opsB0_W : List (Ref sig .tc) := [main_cst_2, main_v15, main_cst_3, main_v16, main_v17, main_v18, main_v19, main_v20, main_v21, main_cst_4, main_v22, main_v23, main_v24, main_v25]
theorem opsB0_writes : (opsB0 : List (HloOp τ sig (Elt F))).Forall fun op => op.writes ⊆ (opsB0_W.map (Proc.devRef (τ := τ) .tc)).toFinset :=
  StableHlo.forall_writes_sub_of_map rfl
theorem opsB0_fresh : (opsB0 : List (HloOp τ sig (Elt F))).Forall fun op => op.fresh = ∅ :=
  StableHlo.forall_fresh_of_map rfl

/-- 13 operations of @main, in order. -/
abbrev opsC0 : List (HloOp τ sig (Elt F)) :=
  [ StableHlo.nullary main_call0_v0 (iotaInDim S8192x1024 32 1),
    StableHlo.nullary main_call0_cst (constant S_ .f32 0xFF800000#32),
    StableHlo.nullary main_call0_c (constantI S_ 32 0#32),
    StableHlo.quaternary main_v25 main_call0_v0 main_call0_cst main_call0_c main_call0_v1_0 ((fun x y u v j => (Host.argReduce reducer_argmax_f32_i32 x y u v reducesTo_S8192x1024_S8192_d1 h_S_ j).1) : (⟨S8192x1024, .f32⟩ : BufTy).Contents (Elt F) → (⟨S8192x1024, .i32⟩ : BufTy).Contents (Elt F) → (⟨S_, .f32⟩ : BufTy).Contents (Elt F) → (⟨S_, .i32⟩ : BufTy).Contents (Elt F) → (⟨S8192, .f32⟩ : BufTy).Contents (Elt F)),
    StableHlo.quaternary main_v25 main_call0_v0 main_call0_cst main_call0_c main_v26 ((fun x y u v j => (Host.argReduce reducer_argmax_f32_i32 x y u v reducesTo_S8192x1024_S8192_d1 h_S_ j).2) : (⟨S8192x1024, .f32⟩ : BufTy).Contents (Elt F) → (⟨S8192x1024, .i32⟩ : BufTy).Contents (Elt F) → (⟨S_, .f32⟩ : BufTy).Contents (Elt F) → (⟨S_, .i32⟩ : BufTy).Contents (Elt F) → (⟨S8192, .i32⟩ : BufTy).Contents (Elt F)),
    StableHlo.unary main_v26 main_call1_v0 (broadcastInDim S8192x1 ![0] bcast_S8192_S8192x1_0 : (⟨S8192, .i32⟩ : BufTy).Contents (Elt F) → (⟨S8192x1, .i32⟩ : BufTy).Contents (Elt F)),
    StableHlo.nullary main_call1_v1 (iotaInDim S1x1024 32 1),
    StableHlo.unary main_call1_v0 main_call1_v2 (broadcastInDim S8192x1024 ![0, 1] bcast_S8192x1_S8192x1024_0_1 : (⟨S8192x1, .i32⟩ : BufTy).Contents (Elt F) → (⟨S8192x1024, .i32⟩ : BufTy).Contents (Elt F)),
    StableHlo.unary main_call1_v1 main_call1_v3 (broadcastInDim S8192x1024 ![0, 1] bcast_S1x1024_S8192x1024_0_1 : (⟨S1x1024, .i32⟩ : BufTy).Contents (Elt F) → (⟨S8192x1024, .i32⟩ : BufTy).Contents (Elt F)),
    StableHlo.binary main_call1_v2 main_call1_v3 main_call1_v4 (cmpi .eq : (⟨S8192x1024, .i32⟩ : BufTy).Contents (Elt F) → (⟨S8192x1024, .i32⟩ : BufTy).Contents (Elt F) → (⟨S8192x1024, .i1⟩ : BufTy).Contents (Elt F)),
    StableHlo.unary main_call1_v4 main_v27 (uitofp .f32 : (⟨S8192x1024, .i1⟩ : BufTy).Contents (Elt F) → (⟨S8192x1024, .f32⟩ : BufTy).Contents (Elt F)),
    StableHlo.binary main_v27 main_v25 main_v28 (subf : (⟨S8192x1024, .f32⟩ : BufTy).Contents (Elt F) → (⟨S8192x1024, .f32⟩ : BufTy).Contents (Elt F) → (⟨S8192x1024, .f32⟩ : BufTy).Contents (Elt F)),
    StableHlo.binary main_v28 main_v25 main_v29 (addf : (⟨S8192x1024, .f32⟩ : BufTy).Contents (Elt F) → (⟨S8192x1024, .f32⟩ : BufTy).Contents (Elt F) → (⟨S8192x1024, .f32⟩ : BufTy).Contents (Elt F)) ]
theorem opsC0_sub : (opsC0 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub .., StableHlo.unary_bufs_sub .., StableHlo.nullary_bufs_sub .., StableHlo.unary_bufs_sub .., StableHlo.unary_bufs_sub .., StableHlo.binary_bufs_sub .., StableHlo.unary_bufs_sub .., StableHlo.binary_bufs_sub .., StableHlo.binary_bufs_sub ..⟩
/-- The reference each of them writes, in order. -/
abbrev opsC0_W : List (Ref sig .tc) := [main_call0_v0, main_call0_cst, main_call0_c, main_call0_v1_0, main_v26, main_call1_v0, main_call1_v1, main_call1_v2, main_call1_v3, main_call1_v4, main_v27, main_v28, main_v29]
theorem opsC0_writes : (opsC0 : List (HloOp τ sig (Elt F))).Forall fun op => op.writes ⊆ (opsC0_W.map (Proc.devRef (τ := τ) .tc)).toFinset :=
  StableHlo.forall_writes_sub_of_map rfl
theorem opsC0_fresh : (opsC0 : List (HloOp τ sig (Elt F))).Forall fun op => op.fresh = ∅ :=
  StableHlo.forall_fresh_of_map rfl

/-- 24 operations of @main, in order. -/
abbrev opsD0_1 : List (HloOp τ sig (Elt F)) :=
  [ StableHlo.unary main_v26 main_v30 (broadcastInDim S8192x1 ![0] bcast_S8192_S8192x1_0 : (⟨S8192, .i32⟩ : BufTy).Contents (Elt F) → (⟨S8192x1, .i32⟩ : BufTy).Contents (Elt F)),
    StableHlo.unary main_arg1 main_v31 ((extractStridedSlice S1x1024x64 ![0, 0, 0] · slices_S4x1024x64_S1x1024x64_0_0_0) : (⟨S4x1024x64, .f32⟩ : BufTy).Contents (Elt F) → (⟨S1x1024x64, .f32⟩ : BufTy).Contents (Elt F)),
    StableHlo.reshape main_v31 main_v32 (rfl : (.f32 : EltTy) = .f32) shapeCasts_S1x1024x64_S1024x64,
    StableHlo.unary main_arg1 main_v33 ((extractStridedSlice S1x1024x64 ![0, 0, 0] · slices_S4x1024x64_S1x1024x64_0_0_0) : (⟨S4x1024x64, .f32⟩ : BufTy).Contents (Elt F) → (⟨S1x1024x64, .f32⟩ : BufTy).Contents (Elt F)),
    StableHlo.reshape main_v33 main_v34 (rfl : (.f32 : EltTy) = .f32) shapeCasts_S1x1024x64_S1024x64,
    StableHlo.binary main_v29 main_v34 main_v35 ((fun l r => Host.dotGeneral dot_S8192x1024_S1024x64_S8192x64_1_0_0_1_n_n none l r) : (⟨S8192x1024, .f32⟩ : BufTy).Contents (Elt F) → (⟨S1024x64, .f32⟩ : BufTy).Contents (Elt F) → (⟨S8192x64, .f32⟩ : BufTy).Contents (Elt F)),
    StableHlo.unary main_arg1 main_v36 ((extractStridedSlice S1x1024x64 ![0, 0, 0] · slices_S4x1024x64_S1x1024x64_0_0_0) : (⟨S4x1024x64, .f32⟩ : BufTy).Contents (Elt F) → (⟨S1x1024x64, .f32⟩ : BufTy).Contents (Elt F)),
    StableHlo.reshape main_v36 main_v37 (rfl : (.f32 : EltTy) = .f32) shapeCasts_S1x1024x64_S1024x64,
    StableHlo.binary main_v29 main_v37 main_v38 ((fun l r => Host.dotGeneral dot_S8192x1024_S1024x64_S8192x64_1_0_0_1_n_n none l r) : (⟨S8192x1024, .f32⟩ : BufTy).Contents (Elt F) → (⟨S1024x64, .f32⟩ : BufTy).Contents (Elt F) → (⟨S8192x64, .f32⟩ : BufTy).Contents (Elt F)),
    StableHlo.binary main_v38 main_arg0 main_v39 (subf : (⟨S8192x64, .f32⟩ : BufTy).Contents (Elt F) → (⟨S8192x64, .f32⟩ : BufTy).Contents (Elt F) → (⟨S8192x64, .f32⟩ : BufTy).Contents (Elt F)),
    StableHlo.binary main_v39 main_v39 main_v40 (mulf : (⟨S8192x64, .f32⟩ : BufTy).Contents (Elt F) → (⟨S8192x64, .f32⟩ : BufTy).Contents (Elt F) → (⟨S8192x64, .f32⟩ : BufTy).Contents (Elt F)),
    StableHlo.nullary main_cst_5 (constant S_ .f32 0x00000000#32),
    StableHlo.binary main_v40 main_cst_5 main_v41 ((fun x v => Host.reduceAdd x v reducesTo_S8192x64_S_d0_1 h_S_) : (⟨S8192x64, .f32⟩ : BufTy).Contents (Elt F) → (⟨S_, .f32⟩ : BufTy).Contents (Elt F) → (⟨S_, .f32⟩ : BufTy).Contents (Elt F)),
    StableHlo.nullary main_cst_6 (constant S_ .f32 0x49000000#32),
    StableHlo.binary main_v41 main_cst_6 main_v42 (Host.divf : (⟨S_, .f32⟩ : BufTy).Contents (Elt F) → (⟨S_, .f32⟩ : BufTy).Contents (Elt F) → (⟨S_, .f32⟩ : BufTy).Contents (Elt F)),
    StableHlo.reshape main_v42 main_v43 (rfl : (.f32 : EltTy) = .f32) shapeCasts_S_S1x1,
    StableHlo.unary main_arg1 main_v44 ((extractStridedSlice S1x1024x64 ![0, 0, 0] · slices_S4x1024x64_S1x1024x64_0_0_0) : (⟨S4x1024x64, .f32⟩ : BufTy).Contents (Elt F) → (⟨S1x1024x64, .f32⟩ : BufTy).Contents (Elt F)),
    StableHlo.reshape main_v44 main_v45 (rfl : (.f32 : EltTy) = .f32) shapeCasts_S1x1024x64_S1024x64,
    StableHlo.binary main_v25 main_v45 main_v46 ((fun l r => Host.dotGeneral dot_S8192x1024_S1024x64_S8192x64_1_0_0_1_n_n none l r) : (⟨S8192x1024, .f32⟩ : BufTy).Contents (Elt F) → (⟨S1024x64, .f32⟩ : BufTy).Contents (Elt F) → (⟨S8192x64, .f32⟩ : BufTy).Contents (Elt F)),
    StableHlo.binary main_v46 main_arg0 main_v47 (subf : (⟨S8192x64, .f32⟩ : BufTy).Contents (Elt F) → (⟨S8192x64, .f32⟩ : BufTy).Contents (Elt F) → (⟨S8192x64, .f32⟩ : BufTy).Contents (Elt F)),
    StableHlo.binary main_v47 main_v47 main_v48 (mulf : (⟨S8192x64, .f32⟩ : BufTy).Contents (Elt F) → (⟨S8192x64, .f32⟩ : BufTy).Contents (Elt F) → (⟨S8192x64, .f32⟩ : BufTy).Contents (Elt F)),
    StableHlo.nullary main_cst_7 (constant S_ .f32 0x00000000#32),
    StableHlo.binary main_v48 main_cst_7 main_v49 ((fun x v => Host.reduceAdd x v reducesTo_S8192x64_S_d0_1 h_S_) : (⟨S8192x64, .f32⟩ : BufTy).Contents (Elt F) → (⟨S_, .f32⟩ : BufTy).Contents (Elt F) → (⟨S_, .f32⟩ : BufTy).Contents (Elt F)),
    StableHlo.nullary main_cst_8 (constant S_ .f32 0x49000000#32) ]
theorem opsD0_1_sub : (opsD0_1 : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.binary_bufs_sub .., StableHlo.binary_bufs_sub .., StableHlo.binary_bufs_sub .., StableHlo.nullary_bufs_sub .., StableHlo.binary_bufs_sub .., StableHlo.nullary_bufs_sub .., StableHlo.binary_bufs_sub .., StableHlo.reshape_bufs_sub .., StableHlo.unary_bufs_sub .., StableHlo.reshape_bufs_sub .., StableHlo.binary_bufs_sub .., StableHlo.binary_bufs_sub .., StableHlo.binary_bufs_sub .., StableHlo.nullary_bufs_sub .., StableHlo.binary_bufs_sub .., StableHlo.nullary_bufs_sub ..⟩
/-- The reference each of them writes, in order. -/
abbrev opsD0_1_W : List (Ref sig .tc) := [main_v30, main_v31, main_v32, main_v33, main_v34, main_v35, main_v36, main_v37, main_v38, main_v39, main_v40, main_cst_5, main_v41, main_cst_6, main_v42, main_v43, main_v44, main_v45, main_v46, main_v47, main_v48, main_cst_7, main_v49, main_cst_8]
theorem opsD0_1_writes : (opsD0_1 : List (HloOp τ sig (Elt F))).Forall fun op => op.writes ⊆ (opsD0_1_W.map (Proc.devRef (τ := τ) .tc)).toFinset :=
  StableHlo.forall_writes_sub_of_map rfl
theorem opsD0_1_fresh : (opsD0_1 : List (HloOp τ sig (Elt F))).Forall fun op => op.fresh = ∅ :=
  StableHlo.forall_fresh_of_map rfl

/-- 11 operations of @main, in order. -/
abbrev opsD0_2 : List (HloOp τ sig (Elt F)) :=
  [ StableHlo.binary main_v49 main_cst_8 main_v50 (Host.divf : (⟨S_, .f32⟩ : BufTy).Contents (Elt F) → (⟨S_, .f32⟩ : BufTy).Contents (Elt F) → (⟨S_, .f32⟩ : BufTy).Contents (Elt F)),
    StableHlo.reshape main_v50 main_v51 (rfl : (.f32 : EltTy) = .f32) shapeCasts_S_S1x1,
    StableHlo.binary main_v29 main_v25 main_v52 (subf : (⟨S8192x1024, .f32⟩ : BufTy).Contents (Elt F) → (⟨S8192x1024, .f32⟩ : BufTy).Contents (Elt F) → (⟨S8192x1024, .f32⟩ : BufTy).Contents (Elt F)),
    StableHlo.binary main_v52 main_v52 main_v53 (mulf : (⟨S8192x1024, .f32⟩ : BufTy).Contents (Elt F) → (⟨S8192x1024, .f32⟩ : BufTy).Contents (Elt F) → (⟨S8192x1024, .f32⟩ : BufTy).Contents (Elt F)),
    StableHlo.nullary main_cst_9 (constant S_ .f32 0x00000000#32),
    StableHlo.binary main_v53 main_cst_9 main_v54 ((fun x v => Host.reduceAdd x v reducesTo_S8192x1024_S_d0_1 h_S_) : (⟨S8192x1024, .f32⟩ : BufTy).Contents (Elt F) → (⟨S_, .f32⟩ : BufTy).Contents (Elt F) → (⟨S_, .f32⟩ : BufTy).Contents (Elt F)),
    StableHlo.nullary main_cst_10 (constant S_ .f32 0x4B000000#32),
    StableHlo.binary main_v54 main_cst_10 main_v55 (Host.divf : (⟨S_, .f32⟩ : BufTy).Contents (Elt F) → (⟨S_, .f32⟩ : BufTy).Contents (Elt F) → (⟨S_, .f32⟩ : BufTy).Contents (Elt F)),
    StableHlo.reshape main_v55 main_v56 (rfl : (.f32 : EltTy) = .f32) shapeCasts_S_S1x1,
    StableHlo.unary main_arg0 main_v57 (broadcastInDim S8192x1x64 ![0, 2] bcast_S8192x64_S8192x1x64_0_2 : (⟨S8192x64, .f32⟩ : BufTy).Contents (Elt F) → (⟨S8192x1x64, .f32⟩ : BufTy).Contents (Elt F)),
    StableHlo.unary main_v35 main_v58 (broadcastInDim S8192x1x64 ![0, 2] bcast_S8192x64_S8192x1x64_0_2 : (⟨S8192x64, .f32⟩ : BufTy).Contents (Elt F) → (⟨S8192x1x64, .f32⟩ : BufTy).Contents (Elt F)) ]
theorem opsD0_2_sub : (opsD0_2 : List (HloOp τ sig (Elt F))).Forall fun op => op.bufs ⊆ StableHlo.tcRefs τ sig :=
  ⟨StableHlo.binary_bufs_sub .., StableHlo.reshape_bufs_sub .., StableHlo.binary_bufs_sub .., StableHlo.binary_bufs_sub .., StableHlo.nullary_bufs_sub .., StableHlo.binary_bufs_sub .., StableHlo.nullary_bufs_sub .., StableHlo.binary_bufs_sub .., StableHlo.reshape_bufs_sub .., StableHlo.unary_bufs_sub .., StableHlo.unary_bufs_sub ..⟩
/-- The reference each of them writes, in order. -/
abbrev opsD0_2_W : List (Ref sig .tc) := [main_v50, main_v51, main_v52, main_v53, main_cst_9, main_v54, main_cst_10, main_v55, main_v56, main_v57, main_v58]
theorem opsD0_2_writes : (opsD0_2 : List (HloOp τ sig (Elt F))).Forall fun op => op.writes ⊆ (opsD0_2_W.map (Proc.devRef (τ := τ) .tc)).toFinset :=
  StableHlo.forall_writes_sub_of_map rfl
theorem opsD0_2_fresh : (opsD0_2 : List (HloOp τ sig (Elt F))).Forall fun op => op.fresh = ∅ :=
  StableHlo.forall_fresh_of_map rfl

/-- 19 operations of @main, in order. -/
abbrev opsA1 : List (HloOp τ sig (Elt F)) :=
  [ StableHlo.binary main_arg0 main_v35 main_v59 (subf : (⟨S8192x64, .f32⟩ : BufTy).Contents (Elt F) → (⟨S8192x64, .f32⟩ : BufTy).Contents (Elt F) → (⟨S8192x64, .f32⟩ : BufTy).Contents (Elt F)),
    StableHlo.unary main_v59 main_v60 (broadcastInDim S8192x1x64 ![0, 2] bcast_S8192x64_S8192x1x64_0_2 : (⟨S8192x64, .f32⟩ : BufTy).Contents (Elt F) → (⟨S8192x1x64, .f32⟩ : BufTy).Contents (Elt F)),
    StableHlo.unary main_arg1 main_v61 ((extractStridedSlice S1x1024x64 ![1, 0, 0] · slices_S4x1024x64_S1x1024x64_1_0_0) : (⟨S4x1024x64, .f32⟩ : BufTy).Contents (Elt F) → (⟨S1x1024x64, .f32⟩ : BufTy).Contents (Elt F)),
    StableHlo.reshape main_v61 main_v62 (rfl : (.f32 : EltTy) = .f32) shapeCasts_S1x1024x64_S1024x64,
    StableHlo.unary main_v62 main_v63 (broadcastInDim S1x1024x64 ![1, 2] bcast_S1024x64_S1x1024x64_1_2 : (⟨S1024x64, .f32⟩ : BufTy).Contents (Elt F) → (⟨S1x1024x64, .f32⟩ : BufTy).Contents (Elt F)),
    StableHlo.unary main_v60 main_v64 (broadcastInDim S8192x1024x64 ![0, 1, 2] bcast_S8192x1x64_S8192x1024x64_0_1_2 : (⟨S8192x1x64, .f32⟩ : BufTy).Contents (Elt F) → (⟨S8192x1024x64, .f32⟩ : BufTy).Contents (Elt F)),
    StableHlo.unary main_v63 main_v65 (broadcastInDim S8192x1024x64 ![0, 1, 2] bcast_S1x1024x64_S8192x1024x64_0_1_2 : (⟨S1x1024x64, .f32⟩ : BufTy).Contents (Elt F) → (⟨S8192x1024x64, .f32⟩ : BufTy).Contents (Elt F)),
    StableHlo.binary main_v64 main_v65 main_v66 (subf : (⟨S8192x1024x64, .f32⟩ : BufTy).Contents (Elt F) → (⟨S8192x1024x64, .f32⟩ : BufTy).Contents (Elt F) → (⟨S8192x1024x64, .f32⟩ : BufTy).Contents (Elt F)),
    StableHlo.binary main_v66 main_v66 main_v67 (mulf : (⟨S8192x1024x64, .f32⟩ : BufTy).Contents (Elt F) → (⟨S8192x1024x64, .f32⟩ : BufTy).Contents (Elt F) → (⟨S8192x1024x64, .f32⟩ : BufTy).Contents (Elt F)),
    StableHlo.nullary main_cst_11 (constant S_ .f32 0x00000000#32),
    StableHlo.binary main_v67 main_cst_11 main_v68 ((fun x v => Host.reduceAdd x v reducesTo_S8192x1024x64_S8192x1024_d2 h_S_) : (⟨S8192x1024x64, .f32⟩ : BufTy).Contents (Elt F) → (⟨S_, .f32⟩ : BufTy).Contents (Elt F) → (⟨S8192x1024, .f32⟩ : BufTy).Contents (Elt F)),
    StableHlo.unary main_v68 main_v69 (Host.sqrt : (⟨S8192x1024, .f32⟩ : BufTy).Contents (Elt F) → (⟨S8192x1024, .f32⟩ : BufTy).Contents (Elt F)),
    StableHlo.unary main_v69 main_v70 (Host.negf : (⟨S8192x1024, .f32⟩ : BufTy).Contents (Elt F) → (⟨S8192x1024, .f32⟩ : BufTy).Contents (Elt F)),
    StableHlo.nullary main_cst_12 (constant S_ .f32 0x3F800000#32),
    StableHlo.unary main_cst_12 main_v71 (broadcastInDim S8192x1024 ![] bcast_S_S8192x1024 : (⟨S_, .f32⟩ : BufTy).Contents (Elt F) → (⟨S8192x1024, .f32⟩ : BufTy).Contents (Elt F)),
    StableHlo.binary main_v70 main_v71 main_v72 (Host.divf : (⟨S8192x1024, .f32⟩ : BufTy).Contents (Elt F) → (⟨S8192x1024, .f32⟩ : BufTy).Contents (Elt F) → (⟨S8192x1024, .f32⟩ : BufTy).Contents (Elt F)),
    StableHlo.nullary main_cst_13 (constant S_ .f32 0x3F800000#32),
    StableHlo.unary main_cst_13 main_v73 (broadcastInDim S8192x1024 ![] bcast_S_S8192x1024 : (⟨S_, .f32⟩ : BufTy).Contents (Elt F) → (⟨S8192x1024, .f32⟩ : BufTy).Contents (Elt F)),
    StableHlo.binary main_v72 main_v73 main_v74 (Host.divf : (⟨S8192x1024, .f32⟩ : BufTy).Contents (Elt F) → (⟨S8192x1024, .f32⟩ : BufTy).Contents (Elt F) → (⟨S8192x1024, .f32⟩ : BufTy).Contents (Elt F)) ]
theorem opsA1_sub : (opsA1 : List (HloOp τ sig (Elt F))).Forall fun op => op.bufs ⊆ StableHlo.tcRefs τ sig :=
  ⟨StableHlo.binary_bufs_sub .., StableHlo.unary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩
/-- The reference each of them writes, in order. -/
abbrev opsA1_W : List (Ref sig .tc) := [main_v59, main_v60, main_v61, main_v62, main_v63, main_v64, main_v65, main_v66, main_v67, main_cst_11, main_v68, main_v69, main_v70, main_cst_12, main_v71, main_v72, main_cst_13, main_v73, main_v74]
theorem opsA1_writes : (opsA1 : List (HloOp τ sig (Elt F))).Forall fun op => op.writes ⊆ (opsA1_W.map (Proc.devRef (τ := τ) .tc)).toFinset :=
  StableHlo.forall_writes_sub_of_map rfl
theorem opsA1_fresh : (opsA1 : List (HloOp τ sig (Elt F))).Forall fun op => op.fresh = ∅ :=
  StableHlo.forall_fresh_of_map rfl

/-- 14 operations of @main, in order. -/
abbrev opsB1 : List (HloOp τ sig (Elt F)) :=
  [ StableHlo.nullary main_cst_14 (constant S_ .f32 0xFF800000#32),
    StableHlo.binary main_v74 main_cst_14 main_v75 ((fun x v => Host.reduce FloatOps.maximumf x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    StableHlo.nullary main_cst_15 (constant S_ .f32 0xFF800000#32),
    StableHlo.unary main_cst_15 main_v76 (broadcastInDim S8192 ![] bcast_S_S8192 : (⟨S_, .f32⟩ : BufTy).Contents (Elt F) → (⟨S8192, .f32⟩ : BufTy).Contents (Elt F)),
    StableHlo.binary main_v76 main_v75 main_v77 (maximumf : (⟨S8192, .f32⟩ : BufTy).Contents (Elt F) → (⟨S8192, .f32⟩ : BufTy).Contents (Elt F) → (⟨S8192, .f32⟩ : BufTy).Contents (Elt F)),
    StableHlo.unary main_v77 main_v78 (broadcastInDim S8192x1 ![0] bcast_S8192_S8192x1_0 : (⟨S8192, .f32⟩ : BufTy).Contents (Elt F) → (⟨S8192x1, .f32⟩ : BufTy).Contents (Elt F)),
    StableHlo.unary main_v78 main_v79 (broadcastInDim S8192x1024 ![0, 1] bcast_S8192x1_S8192x1024_0_1 : (⟨S8192x1, .f32⟩ : BufTy).Contents (Elt F) → (⟨S8192x1024, .f32⟩ : BufTy).Contents (Elt F)),
    StableHlo.binary main_v74 main_v79 main_v80 (subf : (⟨S8192x1024, .f32⟩ : BufTy).Contents (Elt F) → (⟨S8192x1024, .f32⟩ : BufTy).Contents (Elt F) → (⟨S8192x1024, .f32⟩ : BufTy).Contents (Elt F)),
    StableHlo.unary main_v80 main_v81 (Host.exp : (⟨S8192x1024, .f32⟩ : BufTy).Contents (Elt F) → (⟨S8192x1024, .f32⟩ : BufTy).Contents (Elt F)),
    StableHlo.nullary main_cst_16 (constant S_ .f32 0x00000000#32),
    StableHlo.binary main_v81 main_cst_16 main_v82 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    StableHlo.unary main_v82 main_v83 (broadcastInDim S8192x1 ![0] bcast_S8192_S8192x1_0 : (⟨S8192, .f32⟩ : BufTy).Contents (Elt F) → (⟨S8192x1, .f32⟩ : BufTy).Contents (Elt F)),
    StableHlo.unary main_v83 main_v84 (broadcastInDim S8192x1024 ![0, 1] bcast_S8192x1_S8192x1024_0_1 : (⟨S8192x1, .f32⟩ : BufTy).Contents (Elt F) → (⟨S8192x1024, .f32⟩ : BufTy).Contents (Elt F)),
    StableHlo.binary main_v81 main_v84 main_v85 (Host.divf : (⟨S8192x1024, .f32⟩ : BufTy).Contents (Elt F) → (⟨S8192x1024, .f32⟩ : BufTy).Contents (Elt F) → (⟨S8192x1024, .f32⟩ : BufTy).Contents (Elt F)) ]
theorem opsB1_sub : (opsB1 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩
/-- The reference each of them writes, in order. -/
abbrev opsB1_W : List (Ref sig .tc) := [main_cst_14, main_v75, main_cst_15, main_v76, main_v77, main_v78, main_v79, main_v80, main_v81, main_cst_16, main_v82, main_v83, main_v84, main_v85]
theorem opsB1_writes : (opsB1 : List (HloOp τ sig (Elt F))).Forall fun op => op.writes ⊆ (opsB1_W.map (Proc.devRef (τ := τ) .tc)).toFinset :=
  StableHlo.forall_writes_sub_of_map rfl
theorem opsB1_fresh : (opsB1 : List (HloOp τ sig (Elt F))).Forall fun op => op.fresh = ∅ :=
  StableHlo.forall_fresh_of_map rfl

/-- 13 operations of @main, in order. -/
abbrev opsC1 : List (HloOp τ sig (Elt F)) :=
  [ StableHlo.nullary main_call2_v0 (iotaInDim S8192x1024 32 1),
    StableHlo.nullary main_call2_cst (constant S_ .f32 0xFF800000#32),
    StableHlo.nullary main_call2_c (constantI S_ 32 0#32),
    StableHlo.quaternary main_v85 main_call2_v0 main_call2_cst main_call2_c main_call2_v1_0 ((fun x y u v j => (Host.argReduce reducer_argmax_f32_i32 x y u v reducesTo_S8192x1024_S8192_d1 h_S_ j).1) : (⟨S8192x1024, .f32⟩ : BufTy).Contents (Elt F) → (⟨S8192x1024, .i32⟩ : BufTy).Contents (Elt F) → (⟨S_, .f32⟩ : BufTy).Contents (Elt F) → (⟨S_, .i32⟩ : BufTy).Contents (Elt F) → (⟨S8192, .f32⟩ : BufTy).Contents (Elt F)),
    StableHlo.quaternary main_v85 main_call2_v0 main_call2_cst main_call2_c main_v86 ((fun x y u v j => (Host.argReduce reducer_argmax_f32_i32 x y u v reducesTo_S8192x1024_S8192_d1 h_S_ j).2) : (⟨S8192x1024, .f32⟩ : BufTy).Contents (Elt F) → (⟨S8192x1024, .i32⟩ : BufTy).Contents (Elt F) → (⟨S_, .f32⟩ : BufTy).Contents (Elt F) → (⟨S_, .i32⟩ : BufTy).Contents (Elt F) → (⟨S8192, .i32⟩ : BufTy).Contents (Elt F)),
    StableHlo.unary main_v86 main_call3_v0 (broadcastInDim S8192x1 ![0] bcast_S8192_S8192x1_0 : (⟨S8192, .i32⟩ : BufTy).Contents (Elt F) → (⟨S8192x1, .i32⟩ : BufTy).Contents (Elt F)),
    StableHlo.nullary main_call3_v1 (iotaInDim S1x1024 32 1),
    StableHlo.unary main_call3_v0 main_call3_v2 (broadcastInDim S8192x1024 ![0, 1] bcast_S8192x1_S8192x1024_0_1 : (⟨S8192x1, .i32⟩ : BufTy).Contents (Elt F) → (⟨S8192x1024, .i32⟩ : BufTy).Contents (Elt F)),
    StableHlo.unary main_call3_v1 main_call3_v3 (broadcastInDim S8192x1024 ![0, 1] bcast_S1x1024_S8192x1024_0_1 : (⟨S1x1024, .i32⟩ : BufTy).Contents (Elt F) → (⟨S8192x1024, .i32⟩ : BufTy).Contents (Elt F)),
    StableHlo.binary main_call3_v2 main_call3_v3 main_call3_v4 (cmpi .eq : (⟨S8192x1024, .i32⟩ : BufTy).Contents (Elt F) → (⟨S8192x1024, .i32⟩ : BufTy).Contents (Elt F) → (⟨S8192x1024, .i1⟩ : BufTy).Contents (Elt F)),
    StableHlo.unary main_call3_v4 main_v87 (uitofp .f32 : (⟨S8192x1024, .i1⟩ : BufTy).Contents (Elt F) → (⟨S8192x1024, .f32⟩ : BufTy).Contents (Elt F)),
    StableHlo.binary main_v87 main_v85 main_v88 (subf : (⟨S8192x1024, .f32⟩ : BufTy).Contents (Elt F) → (⟨S8192x1024, .f32⟩ : BufTy).Contents (Elt F) → (⟨S8192x1024, .f32⟩ : BufTy).Contents (Elt F)),
    StableHlo.binary main_v88 main_v85 main_v89 (addf : (⟨S8192x1024, .f32⟩ : BufTy).Contents (Elt F) → (⟨S8192x1024, .f32⟩ : BufTy).Contents (Elt F) → (⟨S8192x1024, .f32⟩ : BufTy).Contents (Elt F)) ]
theorem opsC1_sub : (opsC1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub .., StableHlo.unary_bufs_sub .., StableHlo.nullary_bufs_sub .., StableHlo.unary_bufs_sub .., StableHlo.unary_bufs_sub .., StableHlo.binary_bufs_sub .., StableHlo.unary_bufs_sub .., StableHlo.binary_bufs_sub .., StableHlo.binary_bufs_sub ..⟩
/-- The reference each of them writes, in order. -/
abbrev opsC1_W : List (Ref sig .tc) := [main_call2_v0, main_call2_cst, main_call2_c, main_call2_v1_0, main_v86, main_call3_v0, main_call3_v1, main_call3_v2, main_call3_v3, main_call3_v4, main_v87, main_v88, main_v89]
theorem opsC1_writes : (opsC1 : List (HloOp τ sig (Elt F))).Forall fun op => op.writes ⊆ (opsC1_W.map (Proc.devRef (τ := τ) .tc)).toFinset :=
  StableHlo.forall_writes_sub_of_map rfl
theorem opsC1_fresh : (opsC1 : List (HloOp τ sig (Elt F))).Forall fun op => op.fresh = ∅ :=
  StableHlo.forall_fresh_of_map rfl

/-- 12 operations of @main, in order. -/
abbrev opsD1_1 : List (HloOp τ sig (Elt F)) :=
  [ StableHlo.unary main_v86 main_v90 (broadcastInDim S8192x1 ![0] bcast_S8192_S8192x1_0 : (⟨S8192, .i32⟩ : BufTy).Contents (Elt F) → (⟨S8192x1, .i32⟩ : BufTy).Contents (Elt F)),
    StableHlo.unary main_arg1 main_v91 ((extractStridedSlice S1x1024x64 ![1, 0, 0] · slices_S4x1024x64_S1x1024x64_1_0_0) : (⟨S4x1024x64, .f32⟩ : BufTy).Contents (Elt F) → (⟨S1x1024x64, .f32⟩ : BufTy).Contents (Elt F)),
    StableHlo.reshape main_v91 main_v92 (rfl : (.f32 : EltTy) = .f32) shapeCasts_S1x1024x64_S1024x64,
    StableHlo.binary main_v89 main_v92 main_v93 ((fun l r => Host.dotGeneral dot_S8192x1024_S1024x64_S8192x64_1_0_0_1_n_n none l r) : (⟨S8192x1024, .f32⟩ : BufTy).Contents (Elt F) → (⟨S1024x64, .f32⟩ : BufTy).Contents (Elt F) → (⟨S8192x64, .f32⟩ : BufTy).Contents (Elt F)),
    StableHlo.unary main_arg1 main_v94 ((extractStridedSlice S1x1024x64 ![1, 0, 0] · slices_S4x1024x64_S1x1024x64_1_0_0) : (⟨S4x1024x64, .f32⟩ : BufTy).Contents (Elt F) → (⟨S1x1024x64, .f32⟩ : BufTy).Contents (Elt F)),
    StableHlo.reshape main_v94 main_v95 (rfl : (.f32 : EltTy) = .f32) shapeCasts_S1x1024x64_S1024x64,
    StableHlo.binary main_v32 main_v95 main_v96 ((fun a b => concatenate S2048x64 0 [⟨S1024x64, a⟩, ⟨S1024x64, b⟩] concatenates_S1024x64_S1024x64_S2048x64_d0) : (⟨S1024x64, .f32⟩ : BufTy).Contents (Elt F) → (⟨S1024x64, .f32⟩ : BufTy).Contents (Elt F) → (⟨S2048x64, .f32⟩ : BufTy).Contents (Elt F)),
    StableHlo.binary main_v30 main_v90 main_v97 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.unary main_v59 main_v98 (broadcastInDim S8192x1x64 ![0, 2] bcast_S8192x64_S8192x1x64_0_2 : (⟨S8192x64, .f32⟩ : BufTy).Contents (Elt F) → (⟨S8192x1x64, .f32⟩ : BufTy).Contents (Elt F)),
    StableHlo.binary main_v57 main_v98 main_v99 ((fun a b => concatenate S8192x2x64 1 [⟨S8192x1x64, a⟩, ⟨S8192x1x64, b⟩] concatenates_S8192x1x64_S8192x1x64_S8192x2x64_d1) : (⟨S8192x1x64, .f32⟩ : BufTy).Contents (Elt F) → (⟨S8192x1x64, .f32⟩ : BufTy).Contents (Elt F) → (⟨S8192x2x64, .f32⟩ : BufTy).Contents (Elt F)),
    StableHlo.unary main_v93 main_v100 (broadcastInDim S8192x1x64 ![0, 2] bcast_S8192x64_S8192x1x64_0_2 : (⟨S8192x64, .f32⟩ : BufTy).Contents (Elt F) → (⟨S8192x1x64, .f32⟩ : BufTy).Contents (Elt F)),
    StableHlo.binary main_v58 main_v100 main_v101 ((fun a b => concatenate S8192x2x64 1 [⟨S8192x1x64, a⟩, ⟨S8192x1x64, b⟩] concatenates_S8192x1x64_S8192x1x64_S8192x2x64_d1) : (⟨S8192x1x64, .f32⟩ : BufTy).Contents (Elt F) → (⟨S8192x1x64, .f32⟩ : BufTy).Contents (Elt F) → (⟨S8192x2x64, .f32⟩ : BufTy).Contents (Elt F)) ]
theorem opsD1_1_sub : (opsD1_1 : List (HloOp τ sig (Elt F))).Forall fun op => op.bufs ⊆ StableHlo.tcRefs τ sig :=
  ⟨StableHlo.unary_bufs_sub .., StableHlo.unary_bufs_sub .., StableHlo.reshape_bufs_sub .., StableHlo.binary_bufs_sub .., StableHlo.unary_bufs_sub .., StableHlo.reshape_bufs_sub .., StableHlo.binary_bufs_sub .., StableHlo.binary_bufs_sub .., StableHlo.unary_bufs_sub .., StableHlo.binary_bufs_sub .., StableHlo.unary_bufs_sub .., StableHlo.binary_bufs_sub ..⟩
/-- The reference each of them writes, in order. -/
abbrev opsD1_1_W : List (Ref sig .tc) := [main_v90, main_v91, main_v92, main_v93, main_v94, main_v95, main_v96, main_v97, main_v98, main_v99, main_v100, main_v101]
theorem opsD1_1_writes : (opsD1_1 : List (HloOp τ sig (Elt F))).Forall fun op => op.writes ⊆ (opsD1_1_W.map (Proc.devRef (τ := τ) .tc)).toFinset :=
  StableHlo.forall_writes_sub_of_map rfl
theorem opsD1_1_fresh : (opsD1_1 : List (HloOp τ sig (Elt F))).Forall fun op => op.fresh = ∅ :=
  StableHlo.forall_fresh_of_map rfl

/-- 31 operations of @main, in order. -/
abbrev opsD1_2 : List (HloOp τ sig (Elt F)) :=
  [ StableHlo.binary main_v35 main_v93 main_v102 (addf : (⟨S8192x64, .f32⟩ : BufTy).Contents (Elt F) → (⟨S8192x64, .f32⟩ : BufTy).Contents (Elt F) → (⟨S8192x64, .f32⟩ : BufTy).Contents (Elt F)),
    StableHlo.unary main_arg1 main_v103 ((extractStridedSlice S1x1024x64 ![1, 0, 0] · slices_S4x1024x64_S1x1024x64_1_0_0) : (⟨S4x1024x64, .f32⟩ : BufTy).Contents (Elt F) → (⟨S1x1024x64, .f32⟩ : BufTy).Contents (Elt F)),
    StableHlo.reshape main_v103 main_v104 (rfl : (.f32 : EltTy) = .f32) shapeCasts_S1x1024x64_S1024x64,
    StableHlo.binary main_v89 main_v104 main_v105 ((fun l r => Host.dotGeneral dot_S8192x1024_S1024x64_S8192x64_1_0_0_1_n_n none l r) : (⟨S8192x1024, .f32⟩ : BufTy).Contents (Elt F) → (⟨S1024x64, .f32⟩ : BufTy).Contents (Elt F) → (⟨S8192x64, .f32⟩ : BufTy).Contents (Elt F)),
    StableHlo.binary main_v105 main_v59 main_v106 (subf : (⟨S8192x64, .f32⟩ : BufTy).Contents (Elt F) → (⟨S8192x64, .f32⟩ : BufTy).Contents (Elt F) → (⟨S8192x64, .f32⟩ : BufTy).Contents (Elt F)),
    StableHlo.binary main_v106 main_v106 main_v107 (mulf : (⟨S8192x64, .f32⟩ : BufTy).Contents (Elt F) → (⟨S8192x64, .f32⟩ : BufTy).Contents (Elt F) → (⟨S8192x64, .f32⟩ : BufTy).Contents (Elt F)),
    StableHlo.nullary main_cst_17 (constant S_ .f32 0x00000000#32),
    StableHlo.binary main_v107 main_cst_17 main_v108 ((fun x v => Host.reduceAdd x v reducesTo_S8192x64_S_d0_1 h_S_) : (⟨S8192x64, .f32⟩ : BufTy).Contents (Elt F) → (⟨S_, .f32⟩ : BufTy).Contents (Elt F) → (⟨S_, .f32⟩ : BufTy).Contents (Elt F)),
    StableHlo.nullary main_cst_18 (constant S_ .f32 0x49000000#32),
    StableHlo.binary main_v108 main_cst_18 main_v109 (Host.divf : (⟨S_, .f32⟩ : BufTy).Contents (Elt F) → (⟨S_, .f32⟩ : BufTy).Contents (Elt F) → (⟨S_, .f32⟩ : BufTy).Contents (Elt F)),
    StableHlo.reshape main_v109 main_v110 (rfl : (.f32 : EltTy) = .f32) shapeCasts_S_S1x1,
    StableHlo.binary main_v43 main_v110 main_v111 ((fun a b => concatenate S2x1 0 [⟨S1x1, a⟩, ⟨S1x1, b⟩] concatenates_S1x1_S1x1_S2x1_d0) : (⟨S1x1, .f32⟩ : BufTy).Contents (Elt F) → (⟨S1x1, .f32⟩ : BufTy).Contents (Elt F) → (⟨S2x1, .f32⟩ : BufTy).Contents (Elt F)),
    StableHlo.unary main_arg1 main_v112 ((extractStridedSlice S1x1024x64 ![1, 0, 0] · slices_S4x1024x64_S1x1024x64_1_0_0) : (⟨S4x1024x64, .f32⟩ : BufTy).Contents (Elt F) → (⟨S1x1024x64, .f32⟩ : BufTy).Contents (Elt F)),
    StableHlo.reshape main_v112 main_v113 (rfl : (.f32 : EltTy) = .f32) shapeCasts_S1x1024x64_S1024x64,
    StableHlo.binary main_v85 main_v113 main_v114 ((fun l r => Host.dotGeneral dot_S8192x1024_S1024x64_S8192x64_1_0_0_1_n_n none l r) : (⟨S8192x1024, .f32⟩ : BufTy).Contents (Elt F) → (⟨S1024x64, .f32⟩ : BufTy).Contents (Elt F) → (⟨S8192x64, .f32⟩ : BufTy).Contents (Elt F)),
    StableHlo.binary main_v114 main_v59 main_v115 (subf : (⟨S8192x64, .f32⟩ : BufTy).Contents (Elt F) → (⟨S8192x64, .f32⟩ : BufTy).Contents (Elt F) → (⟨S8192x64, .f32⟩ : BufTy).Contents (Elt F)),
    StableHlo.binary main_v115 main_v115 main_v116 (mulf : (⟨S8192x64, .f32⟩ : BufTy).Contents (Elt F) → (⟨S8192x64, .f32⟩ : BufTy).Contents (Elt F) → (⟨S8192x64, .f32⟩ : BufTy).Contents (Elt F)),
    StableHlo.nullary main_cst_19 (constant S_ .f32 0x00000000#32),
    StableHlo.binary main_v116 main_cst_19 main_v117 ((fun x v => Host.reduceAdd x v reducesTo_S8192x64_S_d0_1 h_S_) : (⟨S8192x64, .f32⟩ : BufTy).Contents (Elt F) → (⟨S_, .f32⟩ : BufTy).Contents (Elt F) → (⟨S_, .f32⟩ : BufTy).Contents (Elt F)),
    StableHlo.nullary main_cst_20 (constant S_ .f32 0x49000000#32),
    StableHlo.binary main_v117 main_cst_20 main_v118 (Host.divf : (⟨S_, .f32⟩ : BufTy).Contents (Elt F) → (⟨S_, .f32⟩ : BufTy).Contents (Elt F) → (⟨S_, .f32⟩ : BufTy).Contents (Elt F)),
    StableHlo.reshape main_v118 main_v119 (rfl : (.f32 : EltTy) = .f32) shapeCasts_S_S1x1,
    StableHlo.binary main_v51 main_v119 main_v120 ((fun a b => concatenate S2x1 0 [⟨S1x1, a⟩, ⟨S1x1, b⟩] concatenates_S1x1_S1x1_S2x1_d0) : (⟨S1x1, .f32⟩ : BufTy).Contents (Elt F) → (⟨S1x1, .f32⟩ : BufTy).Contents (Elt F) → (⟨S2x1, .f32⟩ : BufTy).Contents (Elt F)),
    StableHlo.binary main_v89 main_v85 main_v121 (subf : (⟨S8192x1024, .f32⟩ : BufTy).Contents (Elt F) → (⟨S8192x1024, .f32⟩ : BufTy).Contents (Elt F) → (⟨S8192x1024, .f32⟩ : BufTy).Contents (Elt F)),
    StableHlo.binary main_v121 main_v121 main_v122 (mulf : (⟨S8192x1024, .f32⟩ : BufTy).Contents (Elt F) → (⟨S8192x1024, .f32⟩ : BufTy).Contents (Elt F) → (⟨S8192x1024, .f32⟩ : BufTy).Contents (Elt F)),
    StableHlo.nullary main_cst_21 (constant S_ .f32 0x00000000#32),
    StableHlo.binary main_v122 main_cst_21 main_v123 ((fun x v => Host.reduceAdd x v reducesTo_S8192x1024_S_d0_1 h_S_) : (⟨S8192x1024, .f32⟩ : BufTy).Contents (Elt F) → (⟨S_, .f32⟩ : BufTy).Contents (Elt F) → (⟨S_, .f32⟩ : BufTy).Contents (Elt F)),
    StableHlo.nullary main_cst_22 (constant S_ .f32 0x4B000000#32),
    StableHlo.binary main_v123 main_cst_22 main_v124 (Host.divf : (⟨S_, .f32⟩ : BufTy).Contents (Elt F) → (⟨S_, .f32⟩ : BufTy).Contents (Elt F) → (⟨S_, .f32⟩ : BufTy).Contents (Elt F)),
    StableHlo.reshape main_v124 main_v125 (rfl : (.f32 : EltTy) = .f32) shapeCasts_S_S1x1,
    StableHlo.binary main_v56 main_v125 main_v126 ((fun a b => concatenate S2x1 0 [⟨S1x1, a⟩, ⟨S1x1, b⟩] concatenates_S1x1_S1x1_S2x1_d0) : (⟨S1x1, .f32⟩ : BufTy).Contents (Elt F) → (⟨S1x1, .f32⟩ : BufTy).Contents (Elt F) → (⟨S2x1, .f32⟩ : BufTy).Contents (Elt F)) ]
theorem opsD1_2_sub : (opsD1_2 : List (HloOp τ sig (Elt F))).Forall fun op => op.bufs ⊆ StableHlo.tcRefs τ sig :=
  ⟨StableHlo.binary_bufs_sub .., StableHlo.unary_bufs_sub .., StableHlo.reshape_bufs_sub .., StableHlo.binary_bufs_sub .., StableHlo.binary_bufs_sub .., StableHlo.binary_bufs_sub .., StableHlo.nullary_bufs_sub .., StableHlo.binary_bufs_sub .., StableHlo.nullary_bufs_sub .., StableHlo.binary_bufs_sub .., StableHlo.reshape_bufs_sub .., StableHlo.binary_bufs_sub .., StableHlo.unary_bufs_sub .., StableHlo.reshape_bufs_sub .., StableHlo.binary_bufs_sub .., StableHlo.binary_bufs_sub .., StableHlo.binary_bufs_sub .., StableHlo.nullary_bufs_sub .., StableHlo.binary_bufs_sub .., StableHlo.nullary_bufs_sub .., StableHlo.binary_bufs_sub .., StableHlo.reshape_bufs_sub .., StableHlo.binary_bufs_sub .., StableHlo.binary_bufs_sub .., StableHlo.binary_bufs_sub .., StableHlo.nullary_bufs_sub .., StableHlo.binary_bufs_sub .., StableHlo.nullary_bufs_sub .., StableHlo.binary_bufs_sub .., StableHlo.reshape_bufs_sub .., StableHlo.binary_bufs_sub ..⟩
/-- The reference each of them writes, in order. -/
abbrev opsD1_2_W : List (Ref sig .tc) := [main_v102, main_v103, main_v104, main_v105, main_v106, main_v107, main_cst_17, main_v108, main_cst_18, main_v109, main_v110, main_v111, main_v112, main_v113, main_v114, main_v115, main_v116, main_cst_19, main_v117, main_cst_20, main_v118, main_v119, main_v120, main_v121, main_v122, main_cst_21, main_v123, main_cst_22, main_v124, main_v125, main_v126]
theorem opsD1_2_writes : (opsD1_2 : List (HloOp τ sig (Elt F))).Forall fun op => op.writes ⊆ (opsD1_2_W.map (Proc.devRef (τ := τ) .tc)).toFinset :=
  StableHlo.forall_writes_sub_of_map rfl
theorem opsD1_2_fresh : (opsD1_2 : List (HloOp τ sig (Elt F))).Forall fun op => op.fresh = ∅ :=
  StableHlo.forall_fresh_of_map rfl

/-- 19 operations of @main, in order. -/
abbrev opsA2 : List (HloOp τ sig (Elt F)) :=
  [ StableHlo.binary main_arg0 main_v102 main_v127 (subf : (⟨S8192x64, .f32⟩ : BufTy).Contents (Elt F) → (⟨S8192x64, .f32⟩ : BufTy).Contents (Elt F) → (⟨S8192x64, .f32⟩ : BufTy).Contents (Elt F)),
    StableHlo.unary main_v127 main_v128 (broadcastInDim S8192x1x64 ![0, 2] bcast_S8192x64_S8192x1x64_0_2 : (⟨S8192x64, .f32⟩ : BufTy).Contents (Elt F) → (⟨S8192x1x64, .f32⟩ : BufTy).Contents (Elt F)),
    StableHlo.unary main_arg1 main_v129 ((extractStridedSlice S1x1024x64 ![2, 0, 0] · slices_S4x1024x64_S1x1024x64_2_0_0) : (⟨S4x1024x64, .f32⟩ : BufTy).Contents (Elt F) → (⟨S1x1024x64, .f32⟩ : BufTy).Contents (Elt F)),
    StableHlo.reshape main_v129 main_v130 (rfl : (.f32 : EltTy) = .f32) shapeCasts_S1x1024x64_S1024x64,
    StableHlo.unary main_v130 main_v131 (broadcastInDim S1x1024x64 ![1, 2] bcast_S1024x64_S1x1024x64_1_2 : (⟨S1024x64, .f32⟩ : BufTy).Contents (Elt F) → (⟨S1x1024x64, .f32⟩ : BufTy).Contents (Elt F)),
    StableHlo.unary main_v128 main_v132 (broadcastInDim S8192x1024x64 ![0, 1, 2] bcast_S8192x1x64_S8192x1024x64_0_1_2 : (⟨S8192x1x64, .f32⟩ : BufTy).Contents (Elt F) → (⟨S8192x1024x64, .f32⟩ : BufTy).Contents (Elt F)),
    StableHlo.unary main_v131 main_v133 (broadcastInDim S8192x1024x64 ![0, 1, 2] bcast_S1x1024x64_S8192x1024x64_0_1_2 : (⟨S1x1024x64, .f32⟩ : BufTy).Contents (Elt F) → (⟨S8192x1024x64, .f32⟩ : BufTy).Contents (Elt F)),
    StableHlo.binary main_v132 main_v133 main_v134 (subf : (⟨S8192x1024x64, .f32⟩ : BufTy).Contents (Elt F) → (⟨S8192x1024x64, .f32⟩ : BufTy).Contents (Elt F) → (⟨S8192x1024x64, .f32⟩ : BufTy).Contents (Elt F)),
    StableHlo.binary main_v134 main_v134 main_v135 (mulf : (⟨S8192x1024x64, .f32⟩ : BufTy).Contents (Elt F) → (⟨S8192x1024x64, .f32⟩ : BufTy).Contents (Elt F) → (⟨S8192x1024x64, .f32⟩ : BufTy).Contents (Elt F)),
    StableHlo.nullary main_cst_23 (constant S_ .f32 0x00000000#32),
    StableHlo.binary main_v135 main_cst_23 main_v136 ((fun x v => Host.reduceAdd x v reducesTo_S8192x1024x64_S8192x1024_d2 h_S_) : (⟨S8192x1024x64, .f32⟩ : BufTy).Contents (Elt F) → (⟨S_, .f32⟩ : BufTy).Contents (Elt F) → (⟨S8192x1024, .f32⟩ : BufTy).Contents (Elt F)),
    StableHlo.unary main_v136 main_v137 (Host.sqrt : (⟨S8192x1024, .f32⟩ : BufTy).Contents (Elt F) → (⟨S8192x1024, .f32⟩ : BufTy).Contents (Elt F)),
    StableHlo.unary main_v137 main_v138 (Host.negf : (⟨S8192x1024, .f32⟩ : BufTy).Contents (Elt F) → (⟨S8192x1024, .f32⟩ : BufTy).Contents (Elt F)),
    StableHlo.nullary main_cst_24 (constant S_ .f32 0x3F800000#32),
    StableHlo.unary main_cst_24 main_v139 (broadcastInDim S8192x1024 ![] bcast_S_S8192x1024 : (⟨S_, .f32⟩ : BufTy).Contents (Elt F) → (⟨S8192x1024, .f32⟩ : BufTy).Contents (Elt F)),
    StableHlo.binary main_v138 main_v139 main_v140 (Host.divf : (⟨S8192x1024, .f32⟩ : BufTy).Contents (Elt F) → (⟨S8192x1024, .f32⟩ : BufTy).Contents (Elt F) → (⟨S8192x1024, .f32⟩ : BufTy).Contents (Elt F)),
    StableHlo.nullary main_cst_25 (constant S_ .f32 0x3F800000#32),
    StableHlo.unary main_cst_25 main_v141 (broadcastInDim S8192x1024 ![] bcast_S_S8192x1024 : (⟨S_, .f32⟩ : BufTy).Contents (Elt F) → (⟨S8192x1024, .f32⟩ : BufTy).Contents (Elt F)),
    StableHlo.binary main_v140 main_v141 main_v142 (Host.divf : (⟨S8192x1024, .f32⟩ : BufTy).Contents (Elt F) → (⟨S8192x1024, .f32⟩ : BufTy).Contents (Elt F) → (⟨S8192x1024, .f32⟩ : BufTy).Contents (Elt F)) ]
theorem opsA2_sub : (opsA2 : List (HloOp τ sig (Elt F))).Forall fun op => op.bufs ⊆ StableHlo.tcRefs τ sig :=
  ⟨StableHlo.binary_bufs_sub .., StableHlo.unary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩
/-- The reference each of them writes, in order. -/
abbrev opsA2_W : List (Ref sig .tc) := [main_v127, main_v128, main_v129, main_v130, main_v131, main_v132, main_v133, main_v134, main_v135, main_cst_23, main_v136, main_v137, main_v138, main_cst_24, main_v139, main_v140, main_cst_25, main_v141, main_v142]
theorem opsA2_writes : (opsA2 : List (HloOp τ sig (Elt F))).Forall fun op => op.writes ⊆ (opsA2_W.map (Proc.devRef (τ := τ) .tc)).toFinset :=
  StableHlo.forall_writes_sub_of_map rfl
theorem opsA2_fresh : (opsA2 : List (HloOp τ sig (Elt F))).Forall fun op => op.fresh = ∅ :=
  StableHlo.forall_fresh_of_map rfl

/-- 10 operations of @main, in order. -/
abbrev opsB2_1 : List (HloOp τ sig (Elt F)) :=
  [ StableHlo.nullary main_cst_26 (constant S_ .f32 0xFF800000#32),
    StableHlo.binary main_v142 main_cst_26 main_v143 ((fun x v => Host.reduce FloatOps.maximumf x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    StableHlo.nullary main_cst_27 (constant S_ .f32 0xFF800000#32),
    StableHlo.unary main_cst_27 main_v144 (broadcastInDim S8192 ![] bcast_S_S8192 : (⟨S_, .f32⟩ : BufTy).Contents (Elt F) → (⟨S8192, .f32⟩ : BufTy).Contents (Elt F)),
    StableHlo.binary main_v144 main_v143 main_v145 (maximumf : (⟨S8192, .f32⟩ : BufTy).Contents (Elt F) → (⟨S8192, .f32⟩ : BufTy).Contents (Elt F) → (⟨S8192, .f32⟩ : BufTy).Contents (Elt F)),
    StableHlo.unary main_v145 main_v146 (broadcastInDim S8192x1 ![0] bcast_S8192_S8192x1_0 : (⟨S8192, .f32⟩ : BufTy).Contents (Elt F) → (⟨S8192x1, .f32⟩ : BufTy).Contents (Elt F)),
    StableHlo.unary main_v146 main_v147 (broadcastInDim S8192x1024 ![0, 1] bcast_S8192x1_S8192x1024_0_1 : (⟨S8192x1, .f32⟩ : BufTy).Contents (Elt F) → (⟨S8192x1024, .f32⟩ : BufTy).Contents (Elt F)),
    StableHlo.binary main_v142 main_v147 main_v148 (subf : (⟨S8192x1024, .f32⟩ : BufTy).Contents (Elt F) → (⟨S8192x1024, .f32⟩ : BufTy).Contents (Elt F) → (⟨S8192x1024, .f32⟩ : BufTy).Contents (Elt F)),
    StableHlo.unary main_v148 main_v149 (Host.exp : (⟨S8192x1024, .f32⟩ : BufTy).Contents (Elt F) → (⟨S8192x1024, .f32⟩ : BufTy).Contents (Elt F)),
    StableHlo.nullary main_cst_28 (constant S_ .f32 0x00000000#32) ]
theorem opsB2_1_sub : (opsB2_1 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub ..⟩
/-- The reference each of them writes, in order. -/
abbrev opsB2_1_W : List (Ref sig .tc) := [main_cst_26, main_v143, main_cst_27, main_v144, main_v145, main_v146, main_v147, main_v148, main_v149, main_cst_28]
theorem opsB2_1_writes : (opsB2_1 : List (HloOp τ sig (Elt F))).Forall fun op => op.writes ⊆ (opsB2_1_W.map (Proc.devRef (τ := τ) .tc)).toFinset :=
  StableHlo.forall_writes_sub_of_map rfl
theorem opsB2_1_fresh : (opsB2_1 : List (HloOp τ sig (Elt F))).Forall fun op => op.fresh = ∅ :=
  StableHlo.forall_fresh_of_map rfl

/-- 4 operations of @main, in order. -/
abbrev opsB2_2 : List (HloOp τ sig (Elt F)) :=
  [ StableHlo.binary main_v149 main_cst_28 main_v150 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    StableHlo.unary main_v150 main_v151 (broadcastInDim S8192x1 ![0] bcast_S8192_S8192x1_0 : (⟨S8192, .f32⟩ : BufTy).Contents (Elt F) → (⟨S8192x1, .f32⟩ : BufTy).Contents (Elt F)),
    StableHlo.unary main_v151 main_v152 (broadcastInDim S8192x1024 ![0, 1] bcast_S8192x1_S8192x1024_0_1 : (⟨S8192x1, .f32⟩ : BufTy).Contents (Elt F) → (⟨S8192x1024, .f32⟩ : BufTy).Contents (Elt F)),
    StableHlo.binary main_v149 main_v152 main_v153 (Host.divf : (⟨S8192x1024, .f32⟩ : BufTy).Contents (Elt F) → (⟨S8192x1024, .f32⟩ : BufTy).Contents (Elt F) → (⟨S8192x1024, .f32⟩ : BufTy).Contents (Elt F)) ]
theorem opsB2_2_sub : (opsB2_2 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
/-- The reference each of them writes, in order. -/
abbrev opsB2_2_W : List (Ref sig .tc) := [main_v150, main_v151, main_v152, main_v153]
theorem opsB2_2_writes : (opsB2_2 : List (HloOp τ sig (Elt F))).Forall fun op => op.writes ⊆ (opsB2_2_W.map (Proc.devRef (τ := τ) .tc)).toFinset :=
  StableHlo.forall_writes_sub_of_map rfl
theorem opsB2_2_fresh : (opsB2_2 : List (HloOp τ sig (Elt F))).Forall fun op => op.fresh = ∅ :=
  StableHlo.forall_fresh_of_map rfl

/-- 13 operations of @main, in order. -/
abbrev opsC2 : List (HloOp τ sig (Elt F)) :=
  [ StableHlo.nullary main_call4_v0 (iotaInDim S8192x1024 32 1),
    StableHlo.nullary main_call4_cst (constant S_ .f32 0xFF800000#32),
    StableHlo.nullary main_call4_c (constantI S_ 32 0#32),
    StableHlo.quaternary main_v153 main_call4_v0 main_call4_cst main_call4_c main_call4_v1_0 ((fun x y u v j => (Host.argReduce reducer_argmax_f32_i32 x y u v reducesTo_S8192x1024_S8192_d1 h_S_ j).1) : (⟨S8192x1024, .f32⟩ : BufTy).Contents (Elt F) → (⟨S8192x1024, .i32⟩ : BufTy).Contents (Elt F) → (⟨S_, .f32⟩ : BufTy).Contents (Elt F) → (⟨S_, .i32⟩ : BufTy).Contents (Elt F) → (⟨S8192, .f32⟩ : BufTy).Contents (Elt F)),
    StableHlo.quaternary main_v153 main_call4_v0 main_call4_cst main_call4_c main_v154 ((fun x y u v j => (Host.argReduce reducer_argmax_f32_i32 x y u v reducesTo_S8192x1024_S8192_d1 h_S_ j).2) : (⟨S8192x1024, .f32⟩ : BufTy).Contents (Elt F) → (⟨S8192x1024, .i32⟩ : BufTy).Contents (Elt F) → (⟨S_, .f32⟩ : BufTy).Contents (Elt F) → (⟨S_, .i32⟩ : BufTy).Contents (Elt F) → (⟨S8192, .i32⟩ : BufTy).Contents (Elt F)),
    StableHlo.unary main_v154 main_call5_v0 (broadcastInDim S8192x1 ![0] bcast_S8192_S8192x1_0 : (⟨S8192, .i32⟩ : BufTy).Contents (Elt F) → (⟨S8192x1, .i32⟩ : BufTy).Contents (Elt F)),
    StableHlo.nullary main_call5_v1 (iotaInDim S1x1024 32 1),
    StableHlo.unary main_call5_v0 main_call5_v2 (broadcastInDim S8192x1024 ![0, 1] bcast_S8192x1_S8192x1024_0_1 : (⟨S8192x1, .i32⟩ : BufTy).Contents (Elt F) → (⟨S8192x1024, .i32⟩ : BufTy).Contents (Elt F)),
    StableHlo.unary main_call5_v1 main_call5_v3 (broadcastInDim S8192x1024 ![0, 1] bcast_S1x1024_S8192x1024_0_1 : (⟨S1x1024, .i32⟩ : BufTy).Contents (Elt F) → (⟨S8192x1024, .i32⟩ : BufTy).Contents (Elt F)),
    StableHlo.binary main_call5_v2 main_call5_v3 main_call5_v4 (cmpi .eq : (⟨S8192x1024, .i32⟩ : BufTy).Contents (Elt F) → (⟨S8192x1024, .i32⟩ : BufTy).Contents (Elt F) → (⟨S8192x1024, .i1⟩ : BufTy).Contents (Elt F)),
    StableHlo.unary main_call5_v4 main_v155 (uitofp .f32 : (⟨S8192x1024, .i1⟩ : BufTy).Contents (Elt F) → (⟨S8192x1024, .f32⟩ : BufTy).Contents (Elt F)),
    StableHlo.binary main_v155 main_v153 main_v156 (subf : (⟨S8192x1024, .f32⟩ : BufTy).Contents (Elt F) → (⟨S8192x1024, .f32⟩ : BufTy).Contents (Elt F) → (⟨S8192x1024, .f32⟩ : BufTy).Contents (Elt F)),
    StableHlo.binary main_v156 main_v153 main_v157 (addf : (⟨S8192x1024, .f32⟩ : BufTy).Contents (Elt F) → (⟨S8192x1024, .f32⟩ : BufTy).Contents (Elt F) → (⟨S8192x1024, .f32⟩ : BufTy).Contents (Elt F)) ]
theorem opsC2_sub : (opsC2 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub .., StableHlo.unary_bufs_sub .., StableHlo.nullary_bufs_sub .., StableHlo.unary_bufs_sub .., StableHlo.unary_bufs_sub .., StableHlo.binary_bufs_sub .., StableHlo.unary_bufs_sub .., StableHlo.binary_bufs_sub .., StableHlo.binary_bufs_sub ..⟩
/-- The reference each of them writes, in order. -/
abbrev opsC2_W : List (Ref sig .tc) := [main_call4_v0, main_call4_cst, main_call4_c, main_call4_v1_0, main_v154, main_call5_v0, main_call5_v1, main_call5_v2, main_call5_v3, main_call5_v4, main_v155, main_v156, main_v157]
theorem opsC2_writes : (opsC2 : List (HloOp τ sig (Elt F))).Forall fun op => op.writes ⊆ (opsC2_W.map (Proc.devRef (τ := τ) .tc)).toFinset :=
  StableHlo.forall_writes_sub_of_map rfl
theorem opsC2_fresh : (opsC2 : List (HloOp τ sig (Elt F))).Forall fun op => op.fresh = ∅ :=
  StableHlo.forall_fresh_of_map rfl

/-- 43 operations of @main, in order. -/
abbrev opsD2 : List (HloOp τ sig (Elt F)) :=
  [ StableHlo.unary main_v154 main_v158 (broadcastInDim S8192x1 ![0] bcast_S8192_S8192x1_0 : (⟨S8192, .i32⟩ : BufTy).Contents (Elt F) → (⟨S8192x1, .i32⟩ : BufTy).Contents (Elt F)),
    StableHlo.unary main_arg1 main_v159 ((extractStridedSlice S1x1024x64 ![2, 0, 0] · slices_S4x1024x64_S1x1024x64_2_0_0) : (⟨S4x1024x64, .f32⟩ : BufTy).Contents (Elt F) → (⟨S1x1024x64, .f32⟩ : BufTy).Contents (Elt F)),
    StableHlo.reshape main_v159 main_v160 (rfl : (.f32 : EltTy) = .f32) shapeCasts_S1x1024x64_S1024x64,
    StableHlo.binary main_v157 main_v160 main_v161 ((fun l r => Host.dotGeneral dot_S8192x1024_S1024x64_S8192x64_1_0_0_1_n_n none l r) : (⟨S8192x1024, .f32⟩ : BufTy).Contents (Elt F) → (⟨S1024x64, .f32⟩ : BufTy).Contents (Elt F) → (⟨S8192x64, .f32⟩ : BufTy).Contents (Elt F)),
    StableHlo.unary main_arg1 main_v162 ((extractStridedSlice S1x1024x64 ![2, 0, 0] · slices_S4x1024x64_S1x1024x64_2_0_0) : (⟨S4x1024x64, .f32⟩ : BufTy).Contents (Elt F) → (⟨S1x1024x64, .f32⟩ : BufTy).Contents (Elt F)),
    StableHlo.reshape main_v162 main_v163 (rfl : (.f32 : EltTy) = .f32) shapeCasts_S1x1024x64_S1024x64,
    StableHlo.binary main_v96 main_v163 main_v164 ((fun a b => concatenate S3072x64 0 [⟨S2048x64, a⟩, ⟨S1024x64, b⟩] concatenates_S2048x64_S1024x64_S3072x64_d0) : (⟨S2048x64, .f32⟩ : BufTy).Contents (Elt F) → (⟨S1024x64, .f32⟩ : BufTy).Contents (Elt F) → (⟨S3072x64, .f32⟩ : BufTy).Contents (Elt F)),
    StableHlo.binary main_v97 main_v158 main_v165 ((fun a b => concatenate S8192x3 1 [⟨S8192x2, a⟩, ⟨S8192x1, b⟩] concatenates_S8192x2_S8192x1_S8192x3_d1) : (⟨S8192x2, .i32⟩ : BufTy).Contents (Elt F) → (⟨S8192x1, .i32⟩ : BufTy).Contents (Elt F) → (⟨S8192x3, .i32⟩ : BufTy).Contents (Elt F)),
    StableHlo.unary main_v127 main_v166 (broadcastInDim S8192x1x64 ![0, 2] bcast_S8192x64_S8192x1x64_0_2 : (⟨S8192x64, .f32⟩ : BufTy).Contents (Elt F) → (⟨S8192x1x64, .f32⟩ : BufTy).Contents (Elt F)),
    StableHlo.binary main_v99 main_v166 main_v167 ((fun a b => concatenate S8192x3x64 1 [⟨S8192x2x64, a⟩, ⟨S8192x1x64, b⟩] concatenates_S8192x2x64_S8192x1x64_S8192x3x64_d1) : (⟨S8192x2x64, .f32⟩ : BufTy).Contents (Elt F) → (⟨S8192x1x64, .f32⟩ : BufTy).Contents (Elt F) → (⟨S8192x3x64, .f32⟩ : BufTy).Contents (Elt F)),
    StableHlo.unary main_v161 main_v168 (broadcastInDim S8192x1x64 ![0, 2] bcast_S8192x64_S8192x1x64_0_2 : (⟨S8192x64, .f32⟩ : BufTy).Contents (Elt F) → (⟨S8192x1x64, .f32⟩ : BufTy).Contents (Elt F)),
    StableHlo.binary main_v101 main_v168 main_v169 ((fun a b => concatenate S8192x3x64 1 [⟨S8192x2x64, a⟩, ⟨S8192x1x64, b⟩] concatenates_S8192x2x64_S8192x1x64_S8192x3x64_d1) : (⟨S8192x2x64, .f32⟩ : BufTy).Contents (Elt F) → (⟨S8192x1x64, .f32⟩ : BufTy).Contents (Elt F) → (⟨S8192x3x64, .f32⟩ : BufTy).Contents (Elt F)),
    StableHlo.binary main_v102 main_v161 main_v170 (addf : (⟨S8192x64, .f32⟩ : BufTy).Contents (Elt F) → (⟨S8192x64, .f32⟩ : BufTy).Contents (Elt F) → (⟨S8192x64, .f32⟩ : BufTy).Contents (Elt F)),
    StableHlo.unary main_arg1 main_v171 ((extractStridedSlice S1x1024x64 ![2, 0, 0] · slices_S4x1024x64_S1x1024x64_2_0_0) : (⟨S4x1024x64, .f32⟩ : BufTy).Contents (Elt F) → (⟨S1x1024x64, .f32⟩ : BufTy).Contents (Elt F)),
    StableHlo.reshape main_v171 main_v172 (rfl : (.f32 : EltTy) = .f32) shapeCasts_S1x1024x64_S1024x64,
    StableHlo.binary main_v157 main_v172 main_v173 ((fun l r => Host.dotGeneral dot_S8192x1024_S1024x64_S8192x64_1_0_0_1_n_n none l r) : (⟨S8192x1024, .f32⟩ : BufTy).Contents (Elt F) → (⟨S1024x64, .f32⟩ : BufTy).Contents (Elt F) → (⟨S8192x64, .f32⟩ : BufTy).Contents (Elt F)),
    StableHlo.binary main_v173 main_v127 main_v174 (subf : (⟨S8192x64, .f32⟩ : BufTy).Contents (Elt F) → (⟨S8192x64, .f32⟩ : BufTy).Contents (Elt F) → (⟨S8192x64, .f32⟩ : BufTy).Contents (Elt F)),
    StableHlo.binary main_v174 main_v174 main_v175 (mulf : (⟨S8192x64, .f32⟩ : BufTy).Contents (Elt F) → (⟨S8192x64, .f32⟩ : BufTy).Contents (Elt F) → (⟨S8192x64, .f32⟩ : BufTy).Contents (Elt F)),
    StableHlo.nullary main_cst_29 (constant S_ .f32 0x00000000#32),
    StableHlo.binary main_v175 main_cst_29 main_v176 ((fun x v => Host.reduceAdd x v reducesTo_S8192x64_S_d0_1 h_S_) : (⟨S8192x64, .f32⟩ : BufTy).Contents (Elt F) → (⟨S_, .f32⟩ : BufTy).Contents (Elt F) → (⟨S_, .f32⟩ : BufTy).Contents (Elt F)),
    StableHlo.nullary main_cst_30 (constant S_ .f32 0x49000000#32),
    StableHlo.binary main_v176 main_cst_30 main_v177 (Host.divf : (⟨S_, .f32⟩ : BufTy).Contents (Elt F) → (⟨S_, .f32⟩ : BufTy).Contents (Elt F) → (⟨S_, .f32⟩ : BufTy).Contents (Elt F)),
    StableHlo.reshape main_v177 main_v178 (rfl : (.f32 : EltTy) = .f32) shapeCasts_S_S1x1,
    StableHlo.binary main_v111 main_v178 main_v179 ((fun a b => concatenate S3x1 0 [⟨S2x1, a⟩, ⟨S1x1, b⟩] concatenates_S2x1_S1x1_S3x1_d0) : (⟨S2x1, .f32⟩ : BufTy).Contents (Elt F) → (⟨S1x1, .f32⟩ : BufTy).Contents (Elt F) → (⟨S3x1, .f32⟩ : BufTy).Contents (Elt F)),
    StableHlo.unary main_arg1 main_v180 ((extractStridedSlice S1x1024x64 ![2, 0, 0] · slices_S4x1024x64_S1x1024x64_2_0_0) : (⟨S4x1024x64, .f32⟩ : BufTy).Contents (Elt F) → (⟨S1x1024x64, .f32⟩ : BufTy).Contents (Elt F)),
    StableHlo.reshape main_v180 main_v181 (rfl : (.f32 : EltTy) = .f32) shapeCasts_S1x1024x64_S1024x64,
    StableHlo.binary main_v153 main_v181 main_v182 ((fun l r => Host.dotGeneral dot_S8192x1024_S1024x64_S8192x64_1_0_0_1_n_n none l r) : (⟨S8192x1024, .f32⟩ : BufTy).Contents (Elt F) → (⟨S1024x64, .f32⟩ : BufTy).Contents (Elt F) → (⟨S8192x64, .f32⟩ : BufTy).Contents (Elt F)),
    StableHlo.binary main_v182 main_v127 main_v183 (subf : (⟨S8192x64, .f32⟩ : BufTy).Contents (Elt F) → (⟨S8192x64, .f32⟩ : BufTy).Contents (Elt F) → (⟨S8192x64, .f32⟩ : BufTy).Contents (Elt F)),
    StableHlo.binary main_v183 main_v183 main_v184 (mulf : (⟨S8192x64, .f32⟩ : BufTy).Contents (Elt F) → (⟨S8192x64, .f32⟩ : BufTy).Contents (Elt F) → (⟨S8192x64, .f32⟩ : BufTy).Contents (Elt F)),
    StableHlo.nullary main_cst_31 (constant S_ .f32 0x00000000#32),
    StableHlo.binary main_v184 main_cst_31 main_v185 ((fun x v => Host.reduceAdd x v reducesTo_S8192x64_S_d0_1 h_S_) : (⟨S8192x64, .f32⟩ : BufTy).Contents (Elt F) → (⟨S_, .f32⟩ : BufTy).Contents (Elt F) → (⟨S_, .f32⟩ : BufTy).Contents (Elt F)),
    StableHlo.nullary main_cst_32 (constant S_ .f32 0x49000000#32),
    StableHlo.binary main_v185 main_cst_32 main_v186 (Host.divf : (⟨S_, .f32⟩ : BufTy).Contents (Elt F) → (⟨S_, .f32⟩ : BufTy).Contents (Elt F) → (⟨S_, .f32⟩ : BufTy).Contents (Elt F)),
    StableHlo.reshape main_v186 main_v187 (rfl : (.f32 : EltTy) = .f32) shapeCasts_S_S1x1,
    StableHlo.binary main_v120 main_v187 main_v188 ((fun a b => concatenate S3x1 0 [⟨S2x1, a⟩, ⟨S1x1, b⟩] concatenates_S2x1_S1x1_S3x1_d0) : (⟨S2x1, .f32⟩ : BufTy).Contents (Elt F) → (⟨S1x1, .f32⟩ : BufTy).Contents (Elt F) → (⟨S3x1, .f32⟩ : BufTy).Contents (Elt F)),
    StableHlo.binary main_v157 main_v153 main_v189 (subf : (⟨S8192x1024, .f32⟩ : BufTy).Contents (Elt F) → (⟨S8192x1024, .f32⟩ : BufTy).Contents (Elt F) → (⟨S8192x1024, .f32⟩ : BufTy).Contents (Elt F)),
    StableHlo.binary main_v189 main_v189 main_v190 (mulf : (⟨S8192x1024, .f32⟩ : BufTy).Contents (Elt F) → (⟨S8192x1024, .f32⟩ : BufTy).Contents (Elt F) → (⟨S8192x1024, .f32⟩ : BufTy).Contents (Elt F)),
    StableHlo.nullary main_cst_33 (constant S_ .f32 0x00000000#32),
    StableHlo.binary main_v190 main_cst_33 main_v191 ((fun x v => Host.reduceAdd x v reducesTo_S8192x1024_S_d0_1 h_S_) : (⟨S8192x1024, .f32⟩ : BufTy).Contents (Elt F) → (⟨S_, .f32⟩ : BufTy).Contents (Elt F) → (⟨S_, .f32⟩ : BufTy).Contents (Elt F)),
    StableHlo.nullary main_cst_34 (constant S_ .f32 0x4B000000#32),
    StableHlo.binary main_v191 main_cst_34 main_v192 (Host.divf : (⟨S_, .f32⟩ : BufTy).Contents (Elt F) → (⟨S_, .f32⟩ : BufTy).Contents (Elt F) → (⟨S_, .f32⟩ : BufTy).Contents (Elt F)),
    StableHlo.reshape main_v192 main_v193 (rfl : (.f32 : EltTy) = .f32) shapeCasts_S_S1x1,
    StableHlo.binary main_v126 main_v193 main_v194 ((fun a b => concatenate S3x1 0 [⟨S2x1, a⟩, ⟨S1x1, b⟩] concatenates_S2x1_S1x1_S3x1_d0) : (⟨S2x1, .f32⟩ : BufTy).Contents (Elt F) → (⟨S1x1, .f32⟩ : BufTy).Contents (Elt F) → (⟨S3x1, .f32⟩ : BufTy).Contents (Elt F)) ]
theorem opsD2_sub : (opsD2 : List (HloOp τ sig (Elt F))).Forall fun op => op.bufs ⊆ StableHlo.tcRefs τ sig :=
  ⟨StableHlo.unary_bufs_sub .., StableHlo.unary_bufs_sub .., StableHlo.reshape_bufs_sub .., StableHlo.binary_bufs_sub .., StableHlo.unary_bufs_sub .., StableHlo.reshape_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.reshape_bufs_sub .., StableHlo.binary_bufs_sub .., StableHlo.binary_bufs_sub .., StableHlo.binary_bufs_sub .., StableHlo.nullary_bufs_sub .., StableHlo.binary_bufs_sub .., StableHlo.nullary_bufs_sub .., StableHlo.binary_bufs_sub .., StableHlo.reshape_bufs_sub .., StableHlo.binary_bufs_sub .., StableHlo.unary_bufs_sub .., StableHlo.reshape_bufs_sub .., StableHlo.binary_bufs_sub .., StableHlo.binary_bufs_sub .., StableHlo.binary_bufs_sub .., StableHlo.nullary_bufs_sub .., StableHlo.binary_bufs_sub .., StableHlo.nullary_bufs_sub .., StableHlo.binary_bufs_sub .., StableHlo.reshape_bufs_sub .., StableHlo.binary_bufs_sub .., StableHlo.binary_bufs_sub .., StableHlo.binary_bufs_sub .., StableHlo.nullary_bufs_sub .., StableHlo.binary_bufs_sub .., StableHlo.nullary_bufs_sub .., StableHlo.binary_bufs_sub .., StableHlo.reshape_bufs_sub .., StableHlo.binary_bufs_sub ..⟩
/-- The reference each of them writes, in order. -/
abbrev opsD2_W : List (Ref sig .tc) := [main_v158, main_v159, main_v160, main_v161, main_v162, main_v163, main_v164, main_v165, main_v166, main_v167, main_v168, main_v169, main_v170, main_v171, main_v172, main_v173, main_v174, main_v175, main_cst_29, main_v176, main_cst_30, main_v177, main_v178, main_v179, main_v180, main_v181, main_v182, main_v183, main_v184, main_cst_31, main_v185, main_cst_32, main_v186, main_v187, main_v188, main_v189, main_v190, main_cst_33, main_v191, main_cst_34, main_v192, main_v193, main_v194]
theorem opsD2_writes : (opsD2 : List (HloOp τ sig (Elt F))).Forall fun op => op.writes ⊆ (opsD2_W.map (Proc.devRef (τ := τ) .tc)).toFinset :=
  StableHlo.forall_writes_sub_of_map rfl
theorem opsD2_fresh : (opsD2 : List (HloOp τ sig (Elt F))).Forall fun op => op.fresh = ∅ :=
  StableHlo.forall_fresh_of_map rfl

/-- 9 operations of @main, in order. -/
abbrev opsA3_1 : List (HloOp τ sig (Elt F)) :=
  [ StableHlo.binary main_arg0 main_v170 main_v195 (subf : (⟨S8192x64, .f32⟩ : BufTy).Contents (Elt F) → (⟨S8192x64, .f32⟩ : BufTy).Contents (Elt F) → (⟨S8192x64, .f32⟩ : BufTy).Contents (Elt F)),
    StableHlo.unary main_v195 main_v196 (broadcastInDim S8192x1x64 ![0, 2] bcast_S8192x64_S8192x1x64_0_2 : (⟨S8192x64, .f32⟩ : BufTy).Contents (Elt F) → (⟨S8192x1x64, .f32⟩ : BufTy).Contents (Elt F)),
    StableHlo.unary main_arg1 main_v197 ((extractStridedSlice S1x1024x64 ![3, 0, 0] · slices_S4x1024x64_S1x1024x64_3_0_0) : (⟨S4x1024x64, .f32⟩ : BufTy).Contents (Elt F) → (⟨S1x1024x64, .f32⟩ : BufTy).Contents (Elt F)),
    StableHlo.reshape main_v197 main_v198 (rfl : (.f32 : EltTy) = .f32) shapeCasts_S1x1024x64_S1024x64,
    StableHlo.unary main_v198 main_v199 (broadcastInDim S1x1024x64 ![1, 2] bcast_S1024x64_S1x1024x64_1_2 : (⟨S1024x64, .f32⟩ : BufTy).Contents (Elt F) → (⟨S1x1024x64, .f32⟩ : BufTy).Contents (Elt F)),
    StableHlo.unary main_v196 main_v200 (broadcastInDim S8192x1024x64 ![0, 1, 2] bcast_S8192x1x64_S8192x1024x64_0_1_2 : (⟨S8192x1x64, .f32⟩ : BufTy).Contents (Elt F) → (⟨S8192x1024x64, .f32⟩ : BufTy).Contents (Elt F)),
    StableHlo.unary main_v199 main_v201 (broadcastInDim S8192x1024x64 ![0, 1, 2] bcast_S1x1024x64_S8192x1024x64_0_1_2 : (⟨S1x1024x64, .f32⟩ : BufTy).Contents (Elt F) → (⟨S8192x1024x64, .f32⟩ : BufTy).Contents (Elt F)),
    StableHlo.binary main_v200 main_v201 main_v202 (subf : (⟨S8192x1024x64, .f32⟩ : BufTy).Contents (Elt F) → (⟨S8192x1024x64, .f32⟩ : BufTy).Contents (Elt F) → (⟨S8192x1024x64, .f32⟩ : BufTy).Contents (Elt F)),
    StableHlo.binary main_v202 main_v202 main_v203 (mulf : (⟨S8192x1024x64, .f32⟩ : BufTy).Contents (Elt F) → (⟨S8192x1024x64, .f32⟩ : BufTy).Contents (Elt F) → (⟨S8192x1024x64, .f32⟩ : BufTy).Contents (Elt F)) ]
theorem opsA3_1_sub : (opsA3_1 : List (HloOp τ sig (Elt F))).Forall fun op => op.bufs ⊆ StableHlo.tcRefs τ sig :=
  ⟨StableHlo.binary_bufs_sub .., StableHlo.unary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub ..⟩
/-- The reference each of them writes, in order. -/
abbrev opsA3_1_W : List (Ref sig .tc) := [main_v195, main_v196, main_v197, main_v198, main_v199, main_v200, main_v201, main_v202, main_v203]
theorem opsA3_1_writes : (opsA3_1 : List (HloOp τ sig (Elt F))).Forall fun op => op.writes ⊆ (opsA3_1_W.map (Proc.devRef (τ := τ) .tc)).toFinset :=
  StableHlo.forall_writes_sub_of_map rfl
theorem opsA3_1_fresh : (opsA3_1 : List (HloOp τ sig (Elt F))).Forall fun op => op.fresh = ∅ :=
  StableHlo.forall_fresh_of_map rfl

/-- 10 operations of @main, in order. -/
abbrev opsA3_2 : List (HloOp τ sig (Elt F)) :=
  [ StableHlo.nullary main_cst_35 (constant S_ .f32 0x00000000#32),
    StableHlo.binary main_v203 main_cst_35 main_v204 ((fun x v => Host.reduceAdd x v reducesTo_S8192x1024x64_S8192x1024_d2 h_S_) : (⟨S8192x1024x64, .f32⟩ : BufTy).Contents (Elt F) → (⟨S_, .f32⟩ : BufTy).Contents (Elt F) → (⟨S8192x1024, .f32⟩ : BufTy).Contents (Elt F)),
    StableHlo.unary main_v204 main_v205 (Host.sqrt : (⟨S8192x1024, .f32⟩ : BufTy).Contents (Elt F) → (⟨S8192x1024, .f32⟩ : BufTy).Contents (Elt F)),
    StableHlo.unary main_v205 main_v206 (Host.negf : (⟨S8192x1024, .f32⟩ : BufTy).Contents (Elt F) → (⟨S8192x1024, .f32⟩ : BufTy).Contents (Elt F)),
    StableHlo.nullary main_cst_36 (constant S_ .f32 0x3F800000#32),
    StableHlo.unary main_cst_36 main_v207 (broadcastInDim S8192x1024 ![] bcast_S_S8192x1024 : (⟨S_, .f32⟩ : BufTy).Contents (Elt F) → (⟨S8192x1024, .f32⟩ : BufTy).Contents (Elt F)),
    StableHlo.binary main_v206 main_v207 main_v208 (Host.divf : (⟨S8192x1024, .f32⟩ : BufTy).Contents (Elt F) → (⟨S8192x1024, .f32⟩ : BufTy).Contents (Elt F) → (⟨S8192x1024, .f32⟩ : BufTy).Contents (Elt F)),
    StableHlo.nullary main_cst_37 (constant S_ .f32 0x3F800000#32),
    StableHlo.unary main_cst_37 main_v209 (broadcastInDim S8192x1024 ![] bcast_S_S8192x1024 : (⟨S_, .f32⟩ : BufTy).Contents (Elt F) → (⟨S8192x1024, .f32⟩ : BufTy).Contents (Elt F)),
    StableHlo.binary main_v208 main_v209 main_v210 (Host.divf : (⟨S8192x1024, .f32⟩ : BufTy).Contents (Elt F) → (⟨S8192x1024, .f32⟩ : BufTy).Contents (Elt F) → (⟨S8192x1024, .f32⟩ : BufTy).Contents (Elt F)) ]
theorem opsA3_2_sub : (opsA3_2 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩
/-- The reference each of them writes, in order. -/
abbrev opsA3_2_W : List (Ref sig .tc) := [main_cst_35, main_v204, main_v205, main_v206, main_cst_36, main_v207, main_v208, main_cst_37, main_v209, main_v210]
theorem opsA3_2_writes : (opsA3_2 : List (HloOp τ sig (Elt F))).Forall fun op => op.writes ⊆ (opsA3_2_W.map (Proc.devRef (τ := τ) .tc)).toFinset :=
  StableHlo.forall_writes_sub_of_map rfl
theorem opsA3_2_fresh : (opsA3_2 : List (HloOp τ sig (Elt F))).Forall fun op => op.fresh = ∅ :=
  StableHlo.forall_fresh_of_map rfl

/-- 14 operations of @main, in order. -/
abbrev opsB3 : List (HloOp τ sig (Elt F)) :=
  [ StableHlo.nullary main_cst_38 (constant S_ .f32 0xFF800000#32),
    StableHlo.binary main_v210 main_cst_38 main_v211 ((fun x v => Host.reduce FloatOps.maximumf x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    StableHlo.nullary main_cst_39 (constant S_ .f32 0xFF800000#32),
    StableHlo.unary main_cst_39 main_v212 (broadcastInDim S8192 ![] bcast_S_S8192 : (⟨S_, .f32⟩ : BufTy).Contents (Elt F) → (⟨S8192, .f32⟩ : BufTy).Contents (Elt F)),
    StableHlo.binary main_v212 main_v211 main_v213 (maximumf : (⟨S8192, .f32⟩ : BufTy).Contents (Elt F) → (⟨S8192, .f32⟩ : BufTy).Contents (Elt F) → (⟨S8192, .f32⟩ : BufTy).Contents (Elt F)),
    StableHlo.unary main_v213 main_v214 (broadcastInDim S8192x1 ![0] bcast_S8192_S8192x1_0 : (⟨S8192, .f32⟩ : BufTy).Contents (Elt F) → (⟨S8192x1, .f32⟩ : BufTy).Contents (Elt F)),
    StableHlo.unary main_v214 main_v215 (broadcastInDim S8192x1024 ![0, 1] bcast_S8192x1_S8192x1024_0_1 : (⟨S8192x1, .f32⟩ : BufTy).Contents (Elt F) → (⟨S8192x1024, .f32⟩ : BufTy).Contents (Elt F)),
    StableHlo.binary main_v210 main_v215 main_v216 (subf : (⟨S8192x1024, .f32⟩ : BufTy).Contents (Elt F) → (⟨S8192x1024, .f32⟩ : BufTy).Contents (Elt F) → (⟨S8192x1024, .f32⟩ : BufTy).Contents (Elt F)),
    StableHlo.unary main_v216 main_v217 (Host.exp : (⟨S8192x1024, .f32⟩ : BufTy).Contents (Elt F) → (⟨S8192x1024, .f32⟩ : BufTy).Contents (Elt F)),
    StableHlo.nullary main_cst_40 (constant S_ .f32 0x00000000#32),
    StableHlo.binary main_v217 main_cst_40 main_v218 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    StableHlo.unary main_v218 main_v219 (broadcastInDim S8192x1 ![0] bcast_S8192_S8192x1_0 : (⟨S8192, .f32⟩ : BufTy).Contents (Elt F) → (⟨S8192x1, .f32⟩ : BufTy).Contents (Elt F)),
    StableHlo.unary main_v219 main_v220 (broadcastInDim S8192x1024 ![0, 1] bcast_S8192x1_S8192x1024_0_1 : (⟨S8192x1, .f32⟩ : BufTy).Contents (Elt F) → (⟨S8192x1024, .f32⟩ : BufTy).Contents (Elt F)),
    StableHlo.binary main_v217 main_v220 main_v221 (Host.divf : (⟨S8192x1024, .f32⟩ : BufTy).Contents (Elt F) → (⟨S8192x1024, .f32⟩ : BufTy).Contents (Elt F) → (⟨S8192x1024, .f32⟩ : BufTy).Contents (Elt F)) ]
theorem opsB3_sub : (opsB3 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩
/-- The reference each of them writes, in order. -/
abbrev opsB3_W : List (Ref sig .tc) := [main_cst_38, main_v211, main_cst_39, main_v212, main_v213, main_v214, main_v215, main_v216, main_v217, main_cst_40, main_v218, main_v219, main_v220, main_v221]
theorem opsB3_writes : (opsB3 : List (HloOp τ sig (Elt F))).Forall fun op => op.writes ⊆ (opsB3_W.map (Proc.devRef (τ := τ) .tc)).toFinset :=
  StableHlo.forall_writes_sub_of_map rfl
theorem opsB3_fresh : (opsB3 : List (HloOp τ sig (Elt F))).Forall fun op => op.fresh = ∅ :=
  StableHlo.forall_fresh_of_map rfl

/-- 13 operations of @main, in order. -/
abbrev opsC3 : List (HloOp τ sig (Elt F)) :=
  [ StableHlo.nullary main_call6_v0 (iotaInDim S8192x1024 32 1),
    StableHlo.nullary main_call6_cst (constant S_ .f32 0xFF800000#32),
    StableHlo.nullary main_call6_c (constantI S_ 32 0#32),
    StableHlo.quaternary main_v221 main_call6_v0 main_call6_cst main_call6_c main_call6_v1_0 ((fun x y u v j => (Host.argReduce reducer_argmax_f32_i32 x y u v reducesTo_S8192x1024_S8192_d1 h_S_ j).1) : (⟨S8192x1024, .f32⟩ : BufTy).Contents (Elt F) → (⟨S8192x1024, .i32⟩ : BufTy).Contents (Elt F) → (⟨S_, .f32⟩ : BufTy).Contents (Elt F) → (⟨S_, .i32⟩ : BufTy).Contents (Elt F) → (⟨S8192, .f32⟩ : BufTy).Contents (Elt F)),
    StableHlo.quaternary main_v221 main_call6_v0 main_call6_cst main_call6_c main_v222 ((fun x y u v j => (Host.argReduce reducer_argmax_f32_i32 x y u v reducesTo_S8192x1024_S8192_d1 h_S_ j).2) : (⟨S8192x1024, .f32⟩ : BufTy).Contents (Elt F) → (⟨S8192x1024, .i32⟩ : BufTy).Contents (Elt F) → (⟨S_, .f32⟩ : BufTy).Contents (Elt F) → (⟨S_, .i32⟩ : BufTy).Contents (Elt F) → (⟨S8192, .i32⟩ : BufTy).Contents (Elt F)),
    StableHlo.unary main_v222 main_call7_v0 (broadcastInDim S8192x1 ![0] bcast_S8192_S8192x1_0 : (⟨S8192, .i32⟩ : BufTy).Contents (Elt F) → (⟨S8192x1, .i32⟩ : BufTy).Contents (Elt F)),
    StableHlo.nullary main_call7_v1 (iotaInDim S1x1024 32 1),
    StableHlo.unary main_call7_v0 main_call7_v2 (broadcastInDim S8192x1024 ![0, 1] bcast_S8192x1_S8192x1024_0_1 : (⟨S8192x1, .i32⟩ : BufTy).Contents (Elt F) → (⟨S8192x1024, .i32⟩ : BufTy).Contents (Elt F)),
    StableHlo.unary main_call7_v1 main_call7_v3 (broadcastInDim S8192x1024 ![0, 1] bcast_S1x1024_S8192x1024_0_1 : (⟨S1x1024, .i32⟩ : BufTy).Contents (Elt F) → (⟨S8192x1024, .i32⟩ : BufTy).Contents (Elt F)),
    StableHlo.binary main_call7_v2 main_call7_v3 main_call7_v4 (cmpi .eq : (⟨S8192x1024, .i32⟩ : BufTy).Contents (Elt F) → (⟨S8192x1024, .i32⟩ : BufTy).Contents (Elt F) → (⟨S8192x1024, .i1⟩ : BufTy).Contents (Elt F)),
    StableHlo.unary main_call7_v4 main_v223 (uitofp .f32 : (⟨S8192x1024, .i1⟩ : BufTy).Contents (Elt F) → (⟨S8192x1024, .f32⟩ : BufTy).Contents (Elt F)),
    StableHlo.binary main_v223 main_v221 main_v224 (subf : (⟨S8192x1024, .f32⟩ : BufTy).Contents (Elt F) → (⟨S8192x1024, .f32⟩ : BufTy).Contents (Elt F) → (⟨S8192x1024, .f32⟩ : BufTy).Contents (Elt F)),
    StableHlo.binary main_v224 main_v221 main_v225 (addf : (⟨S8192x1024, .f32⟩ : BufTy).Contents (Elt F) → (⟨S8192x1024, .f32⟩ : BufTy).Contents (Elt F) → (⟨S8192x1024, .f32⟩ : BufTy).Contents (Elt F)) ]
theorem opsC3_sub : (opsC3 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub .., StableHlo.unary_bufs_sub .., StableHlo.nullary_bufs_sub .., StableHlo.unary_bufs_sub .., StableHlo.unary_bufs_sub .., StableHlo.binary_bufs_sub .., StableHlo.unary_bufs_sub .., StableHlo.binary_bufs_sub .., StableHlo.binary_bufs_sub ..⟩
/-- The reference each of them writes, in order. -/
abbrev opsC3_W : List (Ref sig .tc) := [main_call6_v0, main_call6_cst, main_call6_c, main_call6_v1_0, main_v222, main_call7_v0, main_call7_v1, main_call7_v2, main_call7_v3, main_call7_v4, main_v223, main_v224, main_v225]
theorem opsC3_writes : (opsC3 : List (HloOp τ sig (Elt F))).Forall fun op => op.writes ⊆ (opsC3_W.map (Proc.devRef (τ := τ) .tc)).toFinset :=
  StableHlo.forall_writes_sub_of_map rfl
theorem opsC3_fresh : (opsC3 : List (HloOp τ sig (Elt F))).Forall fun op => op.fresh = ∅ :=
  StableHlo.forall_fresh_of_map rfl

/-- 32 operations of @main, in order. -/
abbrev opsD3_1 : List (HloOp τ sig (Elt F)) :=
  [ StableHlo.unary main_v222 main_v226 (broadcastInDim S8192x1 ![0] bcast_S8192_S8192x1_0 : (⟨S8192, .i32⟩ : BufTy).Contents (Elt F) → (⟨S8192x1, .i32⟩ : BufTy).Contents (Elt F)),
    StableHlo.unary main_arg1 main_v227 ((extractStridedSlice S1x1024x64 ![3, 0, 0] · slices_S4x1024x64_S1x1024x64_3_0_0) : (⟨S4x1024x64, .f32⟩ : BufTy).Contents (Elt F) → (⟨S1x1024x64, .f32⟩ : BufTy).Contents (Elt F)),
    StableHlo.reshape main_v227 main_v228 (rfl : (.f32 : EltTy) = .f32) shapeCasts_S1x1024x64_S1024x64,
    StableHlo.binary main_v225 main_v228 main_v229 ((fun l r => Host.dotGeneral dot_S8192x1024_S1024x64_S8192x64_1_0_0_1_n_n none l r) : (⟨S8192x1024, .f32⟩ : BufTy).Contents (Elt F) → (⟨S1024x64, .f32⟩ : BufTy).Contents (Elt F) → (⟨S8192x64, .f32⟩ : BufTy).Contents (Elt F)),
    StableHlo.unary main_arg1 main_v230 ((extractStridedSlice S1x1024x64 ![3, 0, 0] · slices_S4x1024x64_S1x1024x64_3_0_0) : (⟨S4x1024x64, .f32⟩ : BufTy).Contents (Elt F) → (⟨S1x1024x64, .f32⟩ : BufTy).Contents (Elt F)),
    StableHlo.reshape main_v230 main_v231 (rfl : (.f32 : EltTy) = .f32) shapeCasts_S1x1024x64_S1024x64,
    StableHlo.binary main_v164 main_v231 main_v232 ((fun a b => concatenate S4096x64 0 [⟨S3072x64, a⟩, ⟨S1024x64, b⟩] concatenates_S3072x64_S1024x64_S4096x64_d0) : (⟨S3072x64, .f32⟩ : BufTy).Contents (Elt F) → (⟨S1024x64, .f32⟩ : BufTy).Contents (Elt F) → (⟨S4096x64, .f32⟩ : BufTy).Contents (Elt F)),
    StableHlo.binary main_v165 main_v226 main_v233 ((fun a b => concatenate S8192x4 1 [⟨S8192x3, a⟩, ⟨S8192x1, b⟩] concatenates_S8192x3_S8192x1_S8192x4_d1) : (⟨S8192x3, .i32⟩ : BufTy).Contents (Elt F) → (⟨S8192x1, .i32⟩ : BufTy).Contents (Elt F) → (⟨S8192x4, .i32⟩ : BufTy).Contents (Elt F)),
    StableHlo.unary main_v195 main_v234 (broadcastInDim S8192x1x64 ![0, 2] bcast_S8192x64_S8192x1x64_0_2 : (⟨S8192x64, .f32⟩ : BufTy).Contents (Elt F) → (⟨S8192x1x64, .f32⟩ : BufTy).Contents (Elt F)),
    StableHlo.binary main_v167 main_v234 main_v235 ((fun a b => concatenate S8192x4x64 1 [⟨S8192x3x64, a⟩, ⟨S8192x1x64, b⟩] concatenates_S8192x3x64_S8192x1x64_S8192x4x64_d1) : (⟨S8192x3x64, .f32⟩ : BufTy).Contents (Elt F) → (⟨S8192x1x64, .f32⟩ : BufTy).Contents (Elt F) → (⟨S8192x4x64, .f32⟩ : BufTy).Contents (Elt F)),
    StableHlo.unary main_v229 main_v236 (broadcastInDim S8192x1x64 ![0, 2] bcast_S8192x64_S8192x1x64_0_2 : (⟨S8192x64, .f32⟩ : BufTy).Contents (Elt F) → (⟨S8192x1x64, .f32⟩ : BufTy).Contents (Elt F)),
    StableHlo.binary main_v169 main_v236 main_v237 ((fun a b => concatenate S8192x4x64 1 [⟨S8192x3x64, a⟩, ⟨S8192x1x64, b⟩] concatenates_S8192x3x64_S8192x1x64_S8192x4x64_d1) : (⟨S8192x3x64, .f32⟩ : BufTy).Contents (Elt F) → (⟨S8192x1x64, .f32⟩ : BufTy).Contents (Elt F) → (⟨S8192x4x64, .f32⟩ : BufTy).Contents (Elt F)),
    StableHlo.binary main_v170 main_v229 main_v238 (addf : (⟨S8192x64, .f32⟩ : BufTy).Contents (Elt F) → (⟨S8192x64, .f32⟩ : BufTy).Contents (Elt F) → (⟨S8192x64, .f32⟩ : BufTy).Contents (Elt F)),
    StableHlo.unary main_arg1 main_v239 ((extractStridedSlice S1x1024x64 ![3, 0, 0] · slices_S4x1024x64_S1x1024x64_3_0_0) : (⟨S4x1024x64, .f32⟩ : BufTy).Contents (Elt F) → (⟨S1x1024x64, .f32⟩ : BufTy).Contents (Elt F)),
    StableHlo.reshape main_v239 main_v240 (rfl : (.f32 : EltTy) = .f32) shapeCasts_S1x1024x64_S1024x64,
    StableHlo.binary main_v225 main_v240 main_v241 ((fun l r => Host.dotGeneral dot_S8192x1024_S1024x64_S8192x64_1_0_0_1_n_n none l r) : (⟨S8192x1024, .f32⟩ : BufTy).Contents (Elt F) → (⟨S1024x64, .f32⟩ : BufTy).Contents (Elt F) → (⟨S8192x64, .f32⟩ : BufTy).Contents (Elt F)),
    StableHlo.binary main_v241 main_v195 main_v242 (subf : (⟨S8192x64, .f32⟩ : BufTy).Contents (Elt F) → (⟨S8192x64, .f32⟩ : BufTy).Contents (Elt F) → (⟨S8192x64, .f32⟩ : BufTy).Contents (Elt F)),
    StableHlo.binary main_v242 main_v242 main_v243 (mulf : (⟨S8192x64, .f32⟩ : BufTy).Contents (Elt F) → (⟨S8192x64, .f32⟩ : BufTy).Contents (Elt F) → (⟨S8192x64, .f32⟩ : BufTy).Contents (Elt F)),
    StableHlo.nullary main_cst_41 (constant S_ .f32 0x00000000#32),
    StableHlo.binary main_v243 main_cst_41 main_v244 ((fun x v => Host.reduceAdd x v reducesTo_S8192x64_S_d0_1 h_S_) : (⟨S8192x64, .f32⟩ : BufTy).Contents (Elt F) → (⟨S_, .f32⟩ : BufTy).Contents (Elt F) → (⟨S_, .f32⟩ : BufTy).Contents (Elt F)),
    StableHlo.nullary main_cst_42 (constant S_ .f32 0x49000000#32),
    StableHlo.binary main_v244 main_cst_42 main_v245 (Host.divf : (⟨S_, .f32⟩ : BufTy).Contents (Elt F) → (⟨S_, .f32⟩ : BufTy).Contents (Elt F) → (⟨S_, .f32⟩ : BufTy).Contents (Elt F)),
    StableHlo.reshape main_v245 main_v246 (rfl : (.f32 : EltTy) = .f32) shapeCasts_S_S1x1,
    StableHlo.binary main_v179 main_v246 main_v247 ((fun a b => concatenate S4x1 0 [⟨S3x1, a⟩, ⟨S1x1, b⟩] concatenates_S3x1_S1x1_S4x1_d0) : (⟨S3x1, .f32⟩ : BufTy).Contents (Elt F) → (⟨S1x1, .f32⟩ : BufTy).Contents (Elt F) → (⟨S4x1, .f32⟩ : BufTy).Contents (Elt F)),
    StableHlo.unary main_arg1 main_v248 ((extractStridedSlice S1x1024x64 ![3, 0, 0] · slices_S4x1024x64_S1x1024x64_3_0_0) : (⟨S4x1024x64, .f32⟩ : BufTy).Contents (Elt F) → (⟨S1x1024x64, .f32⟩ : BufTy).Contents (Elt F)),
    StableHlo.reshape main_v248 main_v249 (rfl : (.f32 : EltTy) = .f32) shapeCasts_S1x1024x64_S1024x64,
    StableHlo.binary main_v221 main_v249 main_v250 ((fun l r => Host.dotGeneral dot_S8192x1024_S1024x64_S8192x64_1_0_0_1_n_n none l r) : (⟨S8192x1024, .f32⟩ : BufTy).Contents (Elt F) → (⟨S1024x64, .f32⟩ : BufTy).Contents (Elt F) → (⟨S8192x64, .f32⟩ : BufTy).Contents (Elt F)),
    StableHlo.binary main_v250 main_v195 main_v251 (subf : (⟨S8192x64, .f32⟩ : BufTy).Contents (Elt F) → (⟨S8192x64, .f32⟩ : BufTy).Contents (Elt F) → (⟨S8192x64, .f32⟩ : BufTy).Contents (Elt F)),
    StableHlo.binary main_v251 main_v251 main_v252 (mulf : (⟨S8192x64, .f32⟩ : BufTy).Contents (Elt F) → (⟨S8192x64, .f32⟩ : BufTy).Contents (Elt F) → (⟨S8192x64, .f32⟩ : BufTy).Contents (Elt F)),
    StableHlo.nullary main_cst_43 (constant S_ .f32 0x00000000#32),
    StableHlo.binary main_v252 main_cst_43 main_v253 ((fun x v => Host.reduceAdd x v reducesTo_S8192x64_S_d0_1 h_S_) : (⟨S8192x64, .f32⟩ : BufTy).Contents (Elt F) → (⟨S_, .f32⟩ : BufTy).Contents (Elt F) → (⟨S_, .f32⟩ : BufTy).Contents (Elt F)),
    StableHlo.nullary main_cst_44 (constant S_ .f32 0x49000000#32) ]
theorem opsD3_1_sub : (opsD3_1 : List (HloOp τ sig (Elt F))).Forall fun op => op.bufs ⊆ StableHlo.tcRefs τ sig :=
  ⟨StableHlo.unary_bufs_sub .., StableHlo.unary_bufs_sub .., StableHlo.reshape_bufs_sub .., StableHlo.binary_bufs_sub .., StableHlo.unary_bufs_sub .., StableHlo.reshape_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.reshape_bufs_sub .., StableHlo.binary_bufs_sub .., StableHlo.binary_bufs_sub .., StableHlo.binary_bufs_sub .., StableHlo.nullary_bufs_sub .., StableHlo.binary_bufs_sub .., StableHlo.nullary_bufs_sub .., StableHlo.binary_bufs_sub .., StableHlo.reshape_bufs_sub .., StableHlo.binary_bufs_sub .., StableHlo.unary_bufs_sub .., StableHlo.reshape_bufs_sub .., StableHlo.binary_bufs_sub .., StableHlo.binary_bufs_sub .., StableHlo.binary_bufs_sub .., StableHlo.nullary_bufs_sub .., StableHlo.binary_bufs_sub .., StableHlo.nullary_bufs_sub ..⟩
/-- The reference each of them writes, in order. -/
abbrev opsD3_1_W : List (Ref sig .tc) := [main_v226, main_v227, main_v228, main_v229, main_v230, main_v231, main_v232, main_v233, main_v234, main_v235, main_v236, main_v237, main_v238, main_v239, main_v240, main_v241, main_v242, main_v243, main_cst_41, main_v244, main_cst_42, main_v245, main_v246, main_v247, main_v248, main_v249, main_v250, main_v251, main_v252, main_cst_43, main_v253, main_cst_44]
theorem opsD3_1_writes : (opsD3_1 : List (HloOp τ sig (Elt F))).Forall fun op => op.writes ⊆ (opsD3_1_W.map (Proc.devRef (τ := τ) .tc)).toFinset :=
  StableHlo.forall_writes_sub_of_map rfl
theorem opsD3_1_fresh : (opsD3_1 : List (HloOp τ sig (Elt F))).Forall fun op => op.fresh = ∅ :=
  StableHlo.forall_fresh_of_map rfl

/-- 11 operations of @main, in order. -/
abbrev opsD3_2 : List (HloOp τ sig (Elt F)) :=
  [ StableHlo.binary main_v253 main_cst_44 main_v254 (Host.divf : (⟨S_, .f32⟩ : BufTy).Contents (Elt F) → (⟨S_, .f32⟩ : BufTy).Contents (Elt F) → (⟨S_, .f32⟩ : BufTy).Contents (Elt F)),
    StableHlo.reshape main_v254 main_v255 (rfl : (.f32 : EltTy) = .f32) shapeCasts_S_S1x1,
    StableHlo.binary main_v188 main_v255 main_v256 ((fun a b => concatenate S4x1 0 [⟨S3x1, a⟩, ⟨S1x1, b⟩] concatenates_S3x1_S1x1_S4x1_d0) : (⟨S3x1, .f32⟩ : BufTy).Contents (Elt F) → (⟨S1x1, .f32⟩ : BufTy).Contents (Elt F) → (⟨S4x1, .f32⟩ : BufTy).Contents (Elt F)),
    StableHlo.binary main_v225 main_v221 main_v257 (subf : (⟨S8192x1024, .f32⟩ : BufTy).Contents (Elt F) → (⟨S8192x1024, .f32⟩ : BufTy).Contents (Elt F) → (⟨S8192x1024, .f32⟩ : BufTy).Contents (Elt F)),
    StableHlo.binary main_v257 main_v257 main_v258 (mulf : (⟨S8192x1024, .f32⟩ : BufTy).Contents (Elt F) → (⟨S8192x1024, .f32⟩ : BufTy).Contents (Elt F) → (⟨S8192x1024, .f32⟩ : BufTy).Contents (Elt F)),
    StableHlo.nullary main_cst_45 (constant S_ .f32 0x00000000#32),
    StableHlo.binary main_v258 main_cst_45 main_v259 ((fun x v => Host.reduceAdd x v reducesTo_S8192x1024_S_d0_1 h_S_) : (⟨S8192x1024, .f32⟩ : BufTy).Contents (Elt F) → (⟨S_, .f32⟩ : BufTy).Contents (Elt F) → (⟨S_, .f32⟩ : BufTy).Contents (Elt F)),
    StableHlo.nullary main_cst_46 (constant S_ .f32 0x4B000000#32),
    StableHlo.binary main_v259 main_cst_46 main_v260 (Host.divf : (⟨S_, .f32⟩ : BufTy).Contents (Elt F) → (⟨S_, .f32⟩ : BufTy).Contents (Elt F) → (⟨S_, .f32⟩ : BufTy).Contents (Elt F)),
    StableHlo.reshape main_v260 main_v261 (rfl : (.f32 : EltTy) = .f32) shapeCasts_S_S1x1,
    StableHlo.binary main_v194 main_v261 main_v262 ((fun a b => concatenate S4x1 0 [⟨S3x1, a⟩, ⟨S1x1, b⟩] concatenates_S3x1_S1x1_S4x1_d0) : (⟨S3x1, .f32⟩ : BufTy).Contents (Elt F) → (⟨S1x1, .f32⟩ : BufTy).Contents (Elt F) → (⟨S4x1, .f32⟩ : BufTy).Contents (Elt F)) ]
theorem opsD3_2_sub : (opsD3_2 : List (HloOp τ sig (Elt F))).Forall fun op => op.bufs ⊆ StableHlo.tcRefs τ sig :=
  ⟨StableHlo.binary_bufs_sub .., StableHlo.reshape_bufs_sub .., StableHlo.binary_bufs_sub .., StableHlo.binary_bufs_sub .., StableHlo.binary_bufs_sub .., StableHlo.nullary_bufs_sub .., StableHlo.binary_bufs_sub .., StableHlo.nullary_bufs_sub .., StableHlo.binary_bufs_sub .., StableHlo.reshape_bufs_sub .., StableHlo.binary_bufs_sub ..⟩
/-- The reference each of them writes, in order. -/
abbrev opsD3_2_W : List (Ref sig .tc) := [main_v254, main_v255, main_v256, main_v257, main_v258, main_cst_45, main_v259, main_cst_46, main_v260, main_v261, main_v262]
theorem opsD3_2_writes : (opsD3_2 : List (HloOp τ sig (Elt F))).Forall fun op => op.writes ⊆ (opsD3_2_W.map (Proc.devRef (τ := τ) .tc)).toFinset :=
  StableHlo.forall_writes_sub_of_map rfl
theorem opsD3_2_fresh : (opsD3_2 : List (HloOp τ sig (Elt F))).Forall fun op => op.fresh = ∅ :=
  StableHlo.forall_fresh_of_map rfl

/-- 8 operations of @main, in order. -/
abbrev opsE : List (HloOp τ sig (Elt F)) :=
  [ StableHlo.binary main_arg2 main_v247 main_v263 ((fun l r => Host.dotGeneral dot_S1x4_S4x1_S1x1_1_0_0_1_n_n none l r) : (⟨S1x4, .f32⟩ : BufTy).Contents (Elt F) → (⟨S4x1, .f32⟩ : BufTy).Contents (Elt F) → (⟨S1x1, .f32⟩ : BufTy).Contents (Elt F)),
    StableHlo.binary main_arg2 main_v256 main_v264 ((fun l r => Host.dotGeneral dot_S1x4_S4x1_S1x1_1_0_0_1_n_n none l r) : (⟨S1x4, .f32⟩ : BufTy).Contents (Elt F) → (⟨S4x1, .f32⟩ : BufTy).Contents (Elt F) → (⟨S1x1, .f32⟩ : BufTy).Contents (Elt F)),
    StableHlo.binary main_arg2 main_v262 main_v265 ((fun l r => Host.dotGeneral dot_S1x4_S4x1_S1x1_1_0_0_1_n_n none l r) : (⟨S1x4, .f32⟩ : BufTy).Contents (Elt F) → (⟨S4x1, .f32⟩ : BufTy).Contents (Elt F) → (⟨S1x1, .f32⟩ : BufTy).Contents (Elt F)),
    StableHlo.nullary main_cst_47 (constant S_ .f32 0x3DCCCCCD#32),
    StableHlo.unary main_cst_47 main_v266 (broadcastInDim S1x1 ![] bcast_S_S1x1 : (⟨S_, .f32⟩ : BufTy).Contents (Elt F) → (⟨S1x1, .f32⟩ : BufTy).Contents (Elt F)),
    StableHlo.binary main_v266 main_v265 main_v267 (mulf : (⟨S1x1, .f32⟩ : BufTy).Contents (Elt F) → (⟨S1x1, .f32⟩ : BufTy).Contents (Elt F) → (⟨S1x1, .f32⟩ : BufTy).Contents (Elt F)),
    StableHlo.binary main_v263 main_v267 main_v268 (addf : (⟨S1x1, .f32⟩ : BufTy).Contents (Elt F) → (⟨S1x1, .f32⟩ : BufTy).Contents (Elt F) → (⟨S1x1, .f32⟩ : BufTy).Contents (Elt F)),
    StableHlo.binary main_v268 main_v264 main_v269 (addf : (⟨S1x1, .f32⟩ : BufTy).Contents (Elt F) → (⟨S1x1, .f32⟩ : BufTy).Contents (Elt F) → (⟨S1x1, .f32⟩ : BufTy).Contents (Elt F)) ]
theorem opsE_sub : (opsE : List (HloOp τ sig (Elt F))).Forall fun op => op.bufs ⊆ StableHlo.tcRefs τ sig :=
  ⟨StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub ..⟩
/-- The reference each of them writes, in order. -/
abbrev opsE_W : List (Ref sig .tc) := [main_v263, main_v264, main_v265, main_cst_47, main_v266, main_v267, main_v268, main_v269]
theorem opsE_writes : (opsE : List (HloOp τ sig (Elt F))).Forall fun op => op.writes ⊆ (opsE_W.map (Proc.devRef (τ := τ) .tc)).toFinset :=
  StableHlo.forall_writes_sub_of_map rfl
theorem opsE_fresh : (opsE : List (HloOp τ sig (Elt F))).Forall fun op => op.fresh = ∅ :=
  StableHlo.forall_fresh_of_map rfl

abbrev opsD0 : List (HloOp τ sig (Elt F)) := opsD0_1 ++ opsD0_2
abbrev opsD1 : List (HloOp τ sig (Elt F)) := opsD1_1 ++ opsD1_2
abbrev opsB2 : List (HloOp τ sig (Elt F)) := opsB2_1 ++ opsB2_2
abbrev opsA3 : List (HloOp τ sig (Elt F)) := opsA3_1 ++ opsA3_2
abbrev opsD3 : List (HloOp τ sig (Elt F)) := opsD3_1 ++ opsD3_2

/-- The operations of @main's part 0. -/
def part0 : List (HloOp τ sig (Elt F)) := opsA0 ++ opsB0 ++ opsC0 ++ opsD0_1
theorem part0_eq (c : Dev nD) : main_part0 (F := F) c = StableHlo.seq part0 := rfl
/-- The operations of @main's part 1. -/
def part1 : List (HloOp τ sig (Elt F)) := opsD0_2 ++ opsA1 ++ opsB1 ++ opsC1 ++ opsD1_1
theorem part1_eq (c : Dev nD) : main_part1 (F := F) c = StableHlo.seq part1 := rfl
/-- The operations of @main's part 2. -/
def part2 : List (HloOp τ sig (Elt F)) := opsD1_2 ++ opsA2 ++ opsB2_1
theorem part2_eq (c : Dev nD) : main_part2 (F := F) c = StableHlo.seq part2 := rfl
/-- The operations of @main's part 3. -/
def part3 : List (HloOp τ sig (Elt F)) := opsB2_2 ++ opsC2 ++ opsD2 ++ opsA3_1
theorem part3_eq (c : Dev nD) : main_part3 (F := F) c = StableHlo.seq part3 := rfl
/-- The operations of @main's part 4. -/
def part4 : List (HloOp τ sig (Elt F)) := opsA3_2 ++ opsB3 ++ opsC3 ++ opsD3_1
theorem part4_eq (c : Dev nD) : main_part4 (F := F) c = StableHlo.seq part4 := rfl
/-- The operations of @main's part 5. -/
def part5 : List (HloOp τ sig (Elt F)) := opsD3_2 ++ opsE
theorem part5_eq (c : Dev nD) : main_part5 (F := F) c = StableHlo.seq part5 := rfl

/-- @main's operations, in order. -/
def ops : List (HloOp τ sig (Elt F)) :=
  part0 ++ (part1 ++ (part2 ++ (part3 ++ (part4 ++ (part5)))))

theorem main_eq (c : Dev nD) : main (F := F) c = StableHlo.seq ops := by
  unfold ops
  rw [StableHlo.seq_append, StableHlo.seq_append, StableHlo.seq_append, StableHlo.seq_append, StableHlo.seq_append, ← part0_eq c, ← part1_eq c, ← part2_eq c, ← part3_eq c, ← part4_eq c, ← part5_eq c]
  rfl

theorem ops_sub : (ops : List (HloOp τ sig (Elt F))).Forall fun op => op.bufs ⊆ StableHlo.tcRefs τ sig := by
  simp only [ops, part0, part1, part2, part3, part4, part5, List.forall_append, opsA0_sub, opsB0_sub, opsC0_sub, opsD0_1_sub, opsD0_2_sub, opsA1_sub, opsB1_sub, opsC1_sub, opsD1_1_sub, opsD1_2_sub, opsA2_sub, opsB2_1_sub, opsB2_2_sub, opsC2_sub, opsD2_sub, opsA3_1_sub, opsA3_2_sub, opsB3_sub, opsC3_sub, opsD3_1_sub, opsD3_2_sub, opsE_sub, and_self]

theorem ops_fresh : (ops : List (HloOp τ sig (Elt F))).Forall fun op => op.fresh = ∅ := by
  simp only [ops, part0, part1, part2, part3, part4, part5, List.forall_append, opsA0_fresh, opsB0_fresh, opsC0_fresh, opsD0_1_fresh, opsD0_2_fresh, opsA1_fresh, opsB1_fresh, opsC1_fresh, opsD1_1_fresh, opsD1_2_fresh, opsA2_fresh, opsB2_1_fresh, opsB2_2_fresh, opsC2_fresh, opsD2_fresh, opsA3_1_fresh, opsA3_2_fresh, opsB3_fresh, opsC3_fresh, opsD3_1_fresh, opsD3_2_fresh, opsE_fresh, and_self]

theorem scopedRefs_eq : (Finset.univ.filter fun b : Ref sig .tc => b.isScoped) = ∅ := by decide
theorem scopedSems_eq : (Finset.univ.filter fun sm : SemLoc sig => sm.isScoped .tc) = ∅ := by decide

/-- Every execution of the reference ends, with each buffer at its contents after the operations. -/
theorem run (m : (ℓ : Loc nD τ sig) → Buf (Elt F) ℓ) (ρ : Dev nD → PrngReg) :
    θ_run (defs (F := F)) (onTc (τ := τ) main) ⟨m, fun _ => 0, ρ⟩ fun r =>
      ∀ (d : Dev nD) (b : Ref sig .tc), r.2.mem ((d.tc : Thread nD τ).loc b)
        = StableHlo.after ops (StableHlo.launchContents m d) (Proc.devRef .tc b) :=
  StableHlo.run_seq scopedRefs_eq scopedSems_eq _ _ _ main_eq (fun _ => ops_sub) m ρ
    (fun _ => List.forall_iff_forall_mem.mp ops_fresh)

end Cert.ReferenceIdeal

end
-- ==== Proof.Ref.States.lean ====
/- The reference's buffers after each stretch of its operations, and its frame. -/
module

public import proofs.«01_k».proof.Proof.Ref.Run
public import Idealize.ShloMosaic.Lib.StableHlo.Run
public import Idealize.ShloMosaic.Lib.Quiescent

@[expose] public section

set_option maxRecDepth 16384

noncomputable section

namespace Cert.ReferenceIdeal

open Idealize.ShloMosaic Idealize.SL.Sem
open Facts₀ Facts
open Cert.ReferenceIdeal.Gen (facts₀ facts)

variable {F : FTy → Type} [FloatOps F]

/-- Two stretches, one after the other. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

variable (V : Valuation τ sig (Elt F))

/-- The buffers after stretch A0. -/
def RA0 : Valuation τ sig (Elt F) := StableHlo.after opsA0 V
theorem RA0_of (r : Ref sig .tc) (h0 : r ∉ opsA0_W) : RA0 V (Proc.devRef .tc r) = V (Proc.devRef .tc r) :=
  (StableHlo.after_of_writes_sub opsA0 _ opsA0_writes h0)
/-- The buffers after stretch B0. -/
def RB0 : Valuation τ sig (Elt F) := StableHlo.after opsB0 (RA0 V)
theorem RB0_of (r : Ref sig .tc) (h0 : r ∉ opsB0_W) : RB0 V (Proc.devRef .tc r) = (RA0 V) (Proc.devRef .tc r) :=
  (StableHlo.after_of_writes_sub opsB0 _ opsB0_writes h0)
/-- The buffers after stretch C0. -/
def RC0 : Valuation τ sig (Elt F) := StableHlo.after opsC0 (RB0 V)
theorem RC0_of (r : Ref sig .tc) (h0 : r ∉ opsC0_W) : RC0 V (Proc.devRef .tc r) = (RB0 V) (Proc.devRef .tc r) :=
  (StableHlo.after_of_writes_sub opsC0 _ opsC0_writes h0)
/-- The buffers after stretch D0. -/
def RD0 : Valuation τ sig (Elt F) := StableHlo.after opsD0_2 (StableHlo.after opsD0_1 (RC0 V))
theorem RD0_of (r : Ref sig .tc) (h0 : r ∉ opsD0_1_W) (h1 : r ∉ opsD0_2_W) : RD0 V (Proc.devRef .tc r) = (RC0 V) (Proc.devRef .tc r) :=
  (StableHlo.after_of_writes_sub opsD0_2 _ opsD0_2_writes h1).trans ((StableHlo.after_of_writes_sub opsD0_1 _ opsD0_1_writes h0))
/-- The buffers after stretch A1. -/
def RA1 : Valuation τ sig (Elt F) := StableHlo.after opsA1 (RD0 V)
theorem RA1_of (r : Ref sig .tc) (h0 : r ∉ opsA1_W) : RA1 V (Proc.devRef .tc r) = (RD0 V) (Proc.devRef .tc r) :=
  (StableHlo.after_of_writes_sub opsA1 _ opsA1_writes h0)
/-- The buffers after stretch B1. -/
def RB1 : Valuation τ sig (Elt F) := StableHlo.after opsB1 (RA1 V)
theorem RB1_of (r : Ref sig .tc) (h0 : r ∉ opsB1_W) : RB1 V (Proc.devRef .tc r) = (RA1 V) (Proc.devRef .tc r) :=
  (StableHlo.after_of_writes_sub opsB1 _ opsB1_writes h0)
/-- The buffers after stretch C1. -/
def RC1 : Valuation τ sig (Elt F) := StableHlo.after opsC1 (RB1 V)
theorem RC1_of (r : Ref sig .tc) (h0 : r ∉ opsC1_W) : RC1 V (Proc.devRef .tc r) = (RB1 V) (Proc.devRef .tc r) :=
  (StableHlo.after_of_writes_sub opsC1 _ opsC1_writes h0)
/-- The buffers after stretch D1. -/
def RD1 : Valuation τ sig (Elt F) := StableHlo.after opsD1_2 (StableHlo.after opsD1_1 (RC1 V))
theorem RD1_of (r : Ref sig .tc) (h0 : r ∉ opsD1_1_W) (h1 : r ∉ opsD1_2_W) : RD1 V (Proc.devRef .tc r) = (RC1 V) (Proc.devRef .tc r) :=
  (StableHlo.after_of_writes_sub opsD1_2 _ opsD1_2_writes h1).trans ((StableHlo.after_of_writes_sub opsD1_1 _ opsD1_1_writes h0))
/-- The buffers after stretch A2. -/
def RA2 : Valuation τ sig (Elt F) := StableHlo.after opsA2 (RD1 V)
theorem RA2_of (r : Ref sig .tc) (h0 : r ∉ opsA2_W) : RA2 V (Proc.devRef .tc r) = (RD1 V) (Proc.devRef .tc r) :=
  (StableHlo.after_of_writes_sub opsA2 _ opsA2_writes h0)
/-- The buffers after stretch B2. -/
def RB2 : Valuation τ sig (Elt F) := StableHlo.after opsB2_2 (StableHlo.after opsB2_1 (RA2 V))
theorem RB2_of (r : Ref sig .tc) (h0 : r ∉ opsB2_1_W) (h1 : r ∉ opsB2_2_W) : RB2 V (Proc.devRef .tc r) = (RA2 V) (Proc.devRef .tc r) :=
  (StableHlo.after_of_writes_sub opsB2_2 _ opsB2_2_writes h1).trans ((StableHlo.after_of_writes_sub opsB2_1 _ opsB2_1_writes h0))
/-- The buffers after stretch C2. -/
def RC2 : Valuation τ sig (Elt F) := StableHlo.after opsC2 (RB2 V)
theorem RC2_of (r : Ref sig .tc) (h0 : r ∉ opsC2_W) : RC2 V (Proc.devRef .tc r) = (RB2 V) (Proc.devRef .tc r) :=
  (StableHlo.after_of_writes_sub opsC2 _ opsC2_writes h0)
/-- The buffers after stretch D2. -/
def RD2 : Valuation τ sig (Elt F) := StableHlo.after opsD2 (RC2 V)
theorem RD2_of (r : Ref sig .tc) (h0 : r ∉ opsD2_W) : RD2 V (Proc.devRef .tc r) = (RC2 V) (Proc.devRef .tc r) :=
  (StableHlo.after_of_writes_sub opsD2 _ opsD2_writes h0)
/-- The buffers after stretch A3. -/
def RA3 : Valuation τ sig (Elt F) := StableHlo.after opsA3_2 (StableHlo.after opsA3_1 (RD2 V))
theorem RA3_of (r : Ref sig .tc) (h0 : r ∉ opsA3_1_W) (h1 : r ∉ opsA3_2_W) : RA3 V (Proc.devRef .tc r) = (RD2 V) (Proc.devRef .tc r) :=
  (StableHlo.after_of_writes_sub opsA3_2 _ opsA3_2_writes h1).trans ((StableHlo.after_of_writes_sub opsA3_1 _ opsA3_1_writes h0))
/-- The buffers after stretch B3. -/
def RB3 : Valuation τ sig (Elt F) := StableHlo.after opsB3 (RA3 V)
theorem RB3_of (r : Ref sig .tc) (h0 : r ∉ opsB3_W) : RB3 V (Proc.devRef .tc r) = (RA3 V) (Proc.devRef .tc r) :=
  (StableHlo.after_of_writes_sub opsB3 _ opsB3_writes h0)
/-- The buffers after stretch C3. -/
def RC3 : Valuation τ sig (Elt F) := StableHlo.after opsC3 (RB3 V)
theorem RC3_of (r : Ref sig .tc) (h0 : r ∉ opsC3_W) : RC3 V (Proc.devRef .tc r) = (RB3 V) (Proc.devRef .tc r) :=
  (StableHlo.after_of_writes_sub opsC3 _ opsC3_writes h0)
/-- The buffers after stretch D3. -/
def RD3 : Valuation τ sig (Elt F) := StableHlo.after opsD3_2 (StableHlo.after opsD3_1 (RC3 V))
theorem RD3_of (r : Ref sig .tc) (h0 : r ∉ opsD3_1_W) (h1 : r ∉ opsD3_2_W) : RD3 V (Proc.devRef .tc r) = (RC3 V) (Proc.devRef .tc r) :=
  (StableHlo.after_of_writes_sub opsD3_2 _ opsD3_2_writes h1).trans ((StableHlo.after_of_writes_sub opsD3_1 _ opsD3_1_writes h0))
/-- The buffers after stretch E. -/
def RE : Valuation τ sig (Elt F) := StableHlo.after opsE (RD3 V)
theorem RE_of (r : Ref sig .tc) (h0 : r ∉ opsE_W) : RE V (Proc.devRef .tc r) = (RD3 V) (Proc.devRef .tc r) :=
  (StableHlo.after_of_writes_sub opsE _ opsE_writes h0)

theorem after_ops : StableHlo.after ops V = RE V := by
  simp only [ops, part0, part1, part2, part3, part4, part5, after_append]
  rfl

/-- A buffer no stretch writes is as launched. -/
theorem unwritten (r : Ref sig .tc) (h : r ∉ opsA0_W ∧ r ∉ opsB0_W ∧ r ∉ opsC0_W ∧ r ∉ opsD0_1_W ∧ r ∉ opsD0_2_W ∧ r ∉ opsA1_W ∧ r ∉ opsB1_W ∧ r ∉ opsC1_W ∧ r ∉ opsD1_1_W ∧ r ∉ opsD1_2_W ∧ r ∉ opsA2_W ∧ r ∉ opsB2_1_W ∧ r ∉ opsB2_2_W ∧ r ∉ opsC2_W ∧ r ∉ opsD2_W ∧ r ∉ opsA3_1_W ∧ r ∉ opsA3_2_W ∧ r ∉ opsB3_W ∧ r ∉ opsC3_W ∧ r ∉ opsD3_1_W ∧ r ∉ opsD3_2_W ∧ r ∉ opsE_W) :
    RE V (Proc.devRef .tc r) = V (Proc.devRef .tc r) := by
  obtain ⟨hopsA0, hopsB0, hopsC0, hopsD0_1, hopsD0_2, hopsA1, hopsB1, hopsC1, hopsD1_1, hopsD1_2, hopsA2, hopsB2_1, hopsB2_2, hopsC2, hopsD2, hopsA3_1, hopsA3_2, hopsB3, hopsC3, hopsD3_1, hopsD3_2, hopsE⟩ := h
  refine (RE_of V r hopsE).trans ?_
  refine (RD3_of V r hopsD3_1 hopsD3_2).trans ?_
  refine (RC3_of V r hopsC3).trans ?_
  refine (RB3_of V r hopsB3).trans ?_
  refine (RA3_of V r hopsA3_1 hopsA3_2).trans ?_
  refine (RD2_of V r hopsD2).trans ?_
  refine (RC2_of V r hopsC2).trans ?_
  refine (RB2_of V r hopsB2_1 hopsB2_2).trans ?_
  refine (RA2_of V r hopsA2).trans ?_
  refine (RD1_of V r hopsD1_1 hopsD1_2).trans ?_
  refine (RC1_of V r hopsC1).trans ?_
  refine (RB1_of V r hopsB1).trans ?_
  refine (RA1_of V r hopsA1).trans ?_
  refine (RD0_of V r hopsD0_1 hopsD0_2).trans ?_
  refine (RC0_of V r hopsC0).trans ?_
  refine (RB0_of V r hopsB0).trans ?_
  refine (RA0_of V r hopsA0).trans ?_
  rfl

/-- Every execution of the reference ends with the arguments as launched and each buffer at its contents after the
    last stretch. -/
theorem run_RE (m : (ℓ : Loc nD τ sig) → Buf (Elt F) ℓ) (ρ : Dev nD → PrngReg) :
    θ_run (defs (F := F)) (onTc (τ := τ) main) ⟨m, fun _ => 0, ρ⟩ fun r =>
      (∀ d : Dev nD, ∀ b : Ref sig .tc, r.2.mem ((d.tc : Thread nD τ).loc b)
          = RE (StableHlo.launchContents m d) (Proc.devRef .tc b))
      ∧ (∀ d : Dev nD, r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2))
      ∧ r.2.sem = fun _ => 0 := by
  refine (θ_run defs _ _).mono (fun r h => ?_) (run m ρ)
  have h' : ∀ (d : Dev nD) (b : Ref sig .tc), r.2.mem ((d.tc : Thread nD τ).loc b)
      = RE (StableHlo.launchContents m d) (Proc.devRef .tc b) := fun d b => by rw [h d b, after_ops]
  exact ⟨h', fun d => ⟨(h' d _).trans (unwritten _ _ (by and_intros <;> decide +kernel)), (h' d _).trans (unwritten _ _ (by and_intros <;> decide +kernel)),
    (h' d _).trans (unwritten _ _ (by and_intros <;> decide +kernel))⟩, sem_eq_zero_of_no_sems (by decide) r.2⟩

end Cert.ReferenceIdeal

end
-- ==== Proof.Value.Row.lean ====
/- One row of one stage, over the extended reals: the soft assignment of a row of scores, the code it picks, and the
   identities by which the kernel's short forms and the reference's long forms of a row agree when the scores are real. -/
module

public import Idealize.ShloMosaic.PureOps
public import Idealize.ShloMosaic.PureOps.Ideal.Laws
public import Idealize.ShloMosaic.PureOps.Reduce
public import Idealize.ShloMosaic.Lib.ValueIdx

@[expose] public section

noncomputable section

namespace Cert.Row

open Idealize.ShloMosaic
open scoped BigOperators

/-- A row of scores, one per codeword. -/
abbrev Scores := Fin 1024 → EReal

/-- Every entry of a family is a real number. -/
def Real {ι : Type*} (f : ι → EReal) : Prop := ∀ i, ∃ r : ℝ, f i = (r : EReal)

/-- The largest entry. -/
def top (a : Scores) : EReal := (Finset.univ : Finset (Fin 1024)).fold max ⊥ a
/-- The exponentials of the entries less the largest. -/
def ex (a : Scores) : Scores := fun k => Ideal.exp (a k - top a)
/-- The soft assignment. -/
def soft (a : Scores) : Scores := fun k => Ideal.div (ex a k) (∑ k, ex a k)

theorem le_top (a : Scores) (k : Fin 1024) : a k ≤ top a :=
  (Finset.le_fold_max _).2 (.inr ⟨k, Finset.mem_univ k, le_rfl⟩)

theorem exists_top (a : Scores) : ∃ k, a k = top a := by
  obtain ⟨k, -, hk⟩ := Finset.exists_max_image Finset.univ a ⟨0, Finset.mem_univ _⟩
  exact ⟨k, le_antisymm (le_top a k) ((Finset.fold_max_le _).2 ⟨bot_le, hk⟩)⟩

/-- The first entry that is the largest. -/
theorem exists_best (a : Scores) : ∃ k, a k = top a ∧ ∀ k', a k' = top a → k ≤ k' := by
  classical
  obtain ⟨k₀, hk₀⟩ := exists_top a
  have hne : (Finset.univ.filter fun k => a k = top a).Nonempty := ⟨k₀, by simpa using hk₀⟩
  refine ⟨(Finset.univ.filter fun k => a k = top a).min' hne, ?_, fun k' hk' => Finset.min'_le _ _ (by simpa using hk')⟩
  simpa using Finset.min'_mem _ hne

/-- Its position. -/
def best (a : Scores) : Fin 1024 := (exists_best a).choose
theorem best_top (a : Scores) : a (best a) = top a := (exists_best a).choose_spec.1
theorem best_le (a : Scores) (k : Fin 1024) (h : a k = top a) : best a ≤ k := (exists_best a).choose_spec.2 k h
theorem best_unique (a : Scores) (k : Fin 1024) (h : a k = top a) (h' : ∀ k', a k' = top a → k ≤ k') : best a = k :=
  le_antisymm (best_le a k h) (h' _ (best_top a))

/-- The code of a row of scores: the position picked by the soft assignment, and as a word. -/
def code (a : Scores) : Fin 1024 := best (soft a)
def word (a : Scores) : BitVec 32 := BitVec.ofNat 32 (code a).val

/-- The hard assignment. -/
def hot (a : Scores) : Scores := fun k => if k = code a then 1 else 0

/-! ## Real scores have a real soft assignment -/

theorem real_top {a : Scores} (h : Real a) : ∃ r : ℝ, top a = r := by
  obtain ⟨k, hk⟩ := exists_top a; obtain ⟨r, hr⟩ := h k; exact ⟨r, hk ▸ hr⟩

theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A quotient of reals with a positive denominator. -/
theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

theorem real_soft {a : Scores} (h : Real a) : Real (soft a) := by
  obtain ⟨t, ht⟩ := real_top h
  choose r hr using h
  have hex : ex a = fun k => ((Real.exp (r k - t) : ℝ) : EReal) := by
    funext k; unfold ex; rw [hr k, ht, ← EReal.coe_sub]; rfl
  have hpos : (0 : ℝ) < ∑ k, Real.exp (r k - t) := Finset.sum_pos (fun k _ => Real.exp_pos _) ⟨0, Finset.mem_univ _⟩
  intro k
  refine ⟨Real.exp (r k - t) / ∑ k, Real.exp (r k - t), ?_⟩
  unfold soft
  rw [hex, ← coe_sum, div_coe _ _ hpos.ne']

/-! ## The short forms of a row -/

/-- A real number taken off and put back. -/
theorem sub_add_self {x : EReal} (y : EReal) (hx : ∃ r : ℝ, x = r) : (y - x) + x = y := by
  obtain ⟨r, rfl⟩ := hx
  induction y with
  | bot => rfl
  | top => rfl
  | coe y => rw [← EReal.coe_sub, ← EReal.coe_add, sub_add_cancel]

theorem soft_code (a : Scores) : soft a (code a) = top (soft a) := best_top (soft a)

/-- The straight-through value is the hard assignment. -/
theorem through {a : Scores} (h : Real a) (k : Fin 1024) : (hot a k - soft a k) + soft a k = hot a k :=
  sub_add_self _ (real_soft h k)

/-- One less the largest weight and that weight make one. -/
theorem unit {a : Scores} (h : Real a) : ((1 : EReal) - top (soft a)) + top (soft a) = 1 :=
  sub_add_self _ (real_top (real_soft h))

/-- The hard assignment picks one codeword. -/
theorem sum_hot (a : Scores) (c : Fin 1024 → EReal) : ∑ k, hot a k * c k = c (code a) := by
  unfold hot
  simp [ite_mul]

/-- The squared distance of the hard and the soft assignment, from the soft weights' squares and the largest weight. -/
theorem mismatch {a : Scores} (h : Real a) :
    (∑ k, soft a k * soft a k) - top (soft a) * top (soft a) + (1 - top (soft a)) * (1 - top (soft a))
      = ∑ k, (hot a k - soft a k) * (hot a k - soft a k) := by
  rw [← soft_code a]
  choose s hs using real_soft h
  have hh : hot a = fun k => (((if k = code a then (1 : ℝ) else 0 : ℝ)) : EReal) := by
    funext k; unfold hot; split_ifs <;> simp
  rw [hh]
  simp only [hs]
  simp only [← EReal.coe_one, ← EReal.coe_sub, ← EReal.coe_mul, ← coe_sum, ← EReal.coe_add]
  congr 1
  have e : ∀ k, ((if k = code a then (1 : ℝ) else 0) - s k) * ((if k = code a then (1 : ℝ) else 0) - s k)
      = s k * s k + (if k = code a then (1 - s (code a)) * (1 - s (code a)) - s (code a) * s (code a) else 0) := by
    intro k
    by_cases hk : k = code a
    · subst hk; simp
    · simp [hk]
  simp only [e]
  rw [Finset.sum_add_distrib, Finset.sum_ite_eq' Finset.univ (code a)]
  simp
  ring

/-! ## The code, found from the words -/

theorem minsi_cases (x y : BitVec 32) : (IntOp.minsi x y = x ∨ IntOp.minsi x y = y)
    ∧ (IntOp.minsi x y).toInt ≤ x.toInt ∧ (IntOp.minsi x y).toInt ≤ y.toInt := by
  simp only [IntOp.minsi, BitVec.slt, decide_eq_true_eq]
  split_ifs <;> refine ⟨by simp, by omega, by omega⟩

/-- The least of a family of words is one of them or the start, and none is less. -/
theorem fold_minsi {ι : Type*} (s : Finset ι) (z : BitVec 32) (f : ι → BitVec 32) :
    (s.fold IntOp.minsi z f = z ∨ ∃ i ∈ s, s.fold IntOp.minsi z f = f i)
      ∧ (s.fold IntOp.minsi z f).toInt ≤ z.toInt ∧ ∀ i ∈ s, (s.fold IntOp.minsi z f).toInt ≤ (f i).toInt := by
  classical
  induction s using Finset.induction_on with
  | empty => simp
  | insert i s hi ih =>
    rw [Finset.fold_insert hi]
    obtain ⟨h1, h2, h3⟩ := ih
    obtain ⟨g1, g2, g3⟩ := minsi_cases (f i) (s.fold IntOp.minsi z f)
    refine ⟨?_, by omega, ?_⟩
    · rcases g1 with g | g
      · exact .inr ⟨i, Finset.mem_insert_self _ _, g⟩
      · rcases h1 with h | ⟨k, hk, h⟩
        · exact .inl (g.trans h)
        · exact .inr ⟨k, Finset.mem_insert_of_mem hk, g.trans h⟩
    · intro k hk
      rcases Finset.mem_insert.1 hk with rfl | hk
      · exact g2
      · exact g3.trans (h3 k hk)

theorem toInt_word (k : Nat) (h : k ≤ 1024) : (BitVec.ofNat 32 k).toInt = k := by
  rw [BitVec.toInt_eq_toNat_cond, BitVec.toNat_ofNat, Nat.mod_eq_of_lt (by omega)]
  rw [if_pos (by omega)]

theorem word_inj {k k' : Nat} (h : k ≤ 1024) (h' : k' ≤ 1024) (e : BitVec.ofNat 32 k = BitVec.ofNat 32 k') : k = k' := by
  have := congrArg BitVec.toInt e
  rw [toInt_word k h, toInt_word k' h'] at this
  omega

/-- The least position whose entry is the largest, taken as a least word. -/
theorem least_word (s : Scores) [DecidablePred fun k => s k = top s] :
    (Finset.univ : Finset (Fin 1024)).fold IntOp.minsi 2147483647#32
        (fun k => if s k = top s then BitVec.ofNat 32 k.val else 1024#32)
      = BitVec.ofNat 32 (best s).val := by
  obtain ⟨h1, h2, h3⟩ := fold_minsi (Finset.univ : Finset (Fin 1024)) 2147483647#32
    (fun k => if s k = top s then BitVec.ofNat 32 k.val else 1024#32)
  have hb := h3 (best s) (Finset.mem_univ _)
  simp only [if_pos (best_top s)] at hb
  rw [toInt_word _ (by omega)] at hb
  have hlt := (best s).isLt
  rcases h1 with h | ⟨k, -, h⟩
  · rw [h] at hb
    have : (2147483647#32 : BitVec 32).toInt = 2147483647 := by decide
    omega
  · by_cases hk : s k = top s
    · rw [if_pos hk] at h
      rw [h, toInt_word _ (by omega)] at hb
      have := best_le s k hk
      have : best s = k := Fin.ext (by have : (best s).val ≤ k.val := this; omega)
      rw [h, this]
    · rw [if_neg hk] at h
      rw [h] at hb
      have : (1024#32 : BitVec 32).toInt = 1024 := by decide
      omega

end Cert.Row

end
-- ==== Proof.Value.Ops.lean ====
/- The layout operations and reductions of both programs, read at an index. -/
module

public import proofs.«01_k».proof.Proof.Value.Row
public import Idealize.ShloMosaic.Lib.Pipeline.Value
public import Idealize.ShloMosaic.Lib.IdealHost
public import Idealize.ShloMosaic.Lib.MatmulPlain

@[expose] public section

set_option maxRecDepth 16384

noncomputable section

namespace Cert.Ops

open Idealize.ShloMosaic Idealize.ShloMosaic.ValueIdx
open scoped BigOperators

section Layout
variable {α : Type}

/-- A vector stood up as a column, and a column laid down as a vector. -/
theorem column {n : Nat} (v : (⟨1, ![n]⟩ : Shape).Idx → α) (h : (⟨1, ![n]⟩ : Shape).ShapeCasts ⟨2, ![n, 1]⟩) (i : Fin n) (j : Fin 1) :
    shapeCast ⟨2, ![n, 1]⟩ v h (ix2 i j) = v (ix1 i) :=
  shapeCast_apply v h _ _ (by
    rw [Shape.rowMajor_val_one, Shape.rowMajor_val_two]
    show i.val = i.val * 1 + j.val
    omega)
theorem uncolumn {n : Nat} (v : (⟨2, ![n, 1]⟩ : Shape).Idx → α) (h : (⟨2, ![n, 1]⟩ : Shape).ShapeCasts ⟨1, ![n]⟩) (i : Fin n) :
    shapeCast ⟨1, ![n]⟩ v h (ix1 i) = v (ix2 i 0) :=
  shapeCast_apply v h _ _ (by
    rw [Shape.rowMajor_val_one, Shape.rowMajor_val_two]
    show i.val * 1 + 0 = i.val
    omega)

/-- A column spread over the columns. -/
theorem spread {n m : Nat} (hn : n ≠ 1) (v : (⟨2, ![n, 1]⟩ : Shape).Idx → α) (h : (⟨2, ![n, 1]⟩ : Shape).Broadcasts ⟨2, ![n, m]⟩)
    (i : Fin n) (k : Fin m) : broadcastTo ⟨2, ![n, m]⟩ v h (ix2 i k) = v (ix2 i 0) :=
  broadcastTo_apply v h _ _ fun a => match a with
    | ⟨0, _⟩ => by show i.val = if n = 1 then 0 else _; rw [if_neg hn]; rfl
    | ⟨1, _⟩ => by show 0 = if (1 : Nat) = 1 then 0 else _; rw [if_pos rfl]

/-- A row, read as a vector, and a vector as a row. -/
theorem unrow {n : Nat} (v : (⟨2, ![1, n]⟩ : Shape).Idx → α) (h : (⟨2, ![1, n]⟩ : Shape).ShapeCasts ⟨1, ![n]⟩) (i : Fin n) :
    shapeCast ⟨1, ![n]⟩ v h (ix1 i) = v (ix2 0 i) :=
  shapeCast_apply v h _ _ (by
    rw [Shape.rowMajor_val_one, Shape.rowMajor_val_two]
    show 0 * n + i.val = i.val
    omega)
theorem row {n : Nat} (v : (⟨1, ![n]⟩ : Shape).Idx → α) (h : (⟨1, ![n]⟩ : Shape).ShapeCasts ⟨2, ![1, n]⟩) (j : Fin 1) (i : Fin n) :
    shapeCast ⟨2, ![1, n]⟩ v h (ix2 j i) = v (ix1 i) :=
  shapeCast_apply v h _ _ (by
    rw [Shape.rowMajor_val_one, Shape.rowMajor_val_two]
    show i.val = j.val * n + i.val
    have := j.isLt
    have : j.val = 0 := by omega
    rw [this]; omega)

/-- A matrix under a leading unit axis. -/
theorem plane {n m : Nat} (v : (⟨2, ![n, m]⟩ : Shape).Idx → α) (h : (⟨2, ![n, m]⟩ : Shape).ShapeCasts ⟨3, ![1, n, m]⟩) (j : Fin 1)
    (i : Fin n) (k : Fin m) : shapeCast ⟨3, ![1, n, m]⟩ v h (ix3 j i k) = v (ix2 i k) :=
  shapeCast_apply v h _ _ (by
    rw [Shape.rowMajor_val_two, Shape.rowMajor_val_three]
    show i.val * m + k.val = (j.val * n + i.val) * m + k.val
    have := j.isLt
    have : j.val = 0 := by omega
    rw [this]; simp)
theorem unplane {n m : Nat} (v : (⟨3, ![1, n, m]⟩ : Shape).Idx → α) (h : (⟨3, ![1, n, m]⟩ : Shape).ShapeCasts ⟨2, ![n, m]⟩)
    (i : Fin n) (k : Fin m) : shapeCast ⟨2, ![n, m]⟩ v h (ix2 i k) = v (ix3 0 i k) :=
  shapeCast_apply v h _ _ (by
    rw [Shape.rowMajor_val_two, Shape.rowMajor_val_three]
    show (0 * n + i.val) * m + k.val = i.val * m + k.val
    simp)

/-- A one-element array has one element, whatever its shape. -/
theorem lone {s t : Shape} (hs : s.numel = 1) (v : s.Idx → α) (h : s.ShapeCasts t) (j : t.Idx) (k : s.Idx) : shapeCast t v h j = v k :=
  shapeCast_apply v h j k (by
    have h1 : t.numel = 1 := h.trans hs
    have := (s.rowMajor k).isLt
    have := (t.rowMajor j).isLt
    omega)

end Layout

/-! ## Sums -/

theorem sum_idx1 {M : Type*} [AddCommMonoid M] {n : Nat} (f : (⟨1, ![n]⟩ : Shape).Idx → M) : ∑ i, f i = ∑ a : Fin n, f (ix1 a) :=
  (Fintype.sum_equiv ⟨fun a => ix1 a, fun i => i 0, fun _ => rfl, fun i => (eq_ix1 i).symm⟩ _ _ fun _ => rfl).symm

/-- A rank-3 index set is the product of its three coordinate ranges. -/
def idxEquiv3 {n m l : Nat} : (⟨3, ![n, m, l]⟩ : Shape).Idx ≃ Fin n × Fin m × Fin l where
  toFun i := (i 0, i 1, i 2)
  invFun p := ix3 p.1 p.2.1 p.2.2
  left_inv i := (eq_ix3 i).symm
  right_inv _ := rfl

theorem sum_idx3 {M : Type*} [AddCommMonoid M] {n m l : Nat} (f : (⟨3, ![n, m, l]⟩ : Shape).Idx → M) :
    ∑ i, f i = ∑ a : Fin n, ∑ b : Fin m, ∑ c : Fin l, f (ix3 a b c) := by
  rw [← Equiv.sum_comp (idxEquiv3 (n := n) (m := m) (l := l)).symm f, Fintype.sum_prod_type]
  exact Finset.sum_congr rfl fun a _ => Fintype.sum_prod_type _

section Reductions

theorem lift_row {n m : Nat} (h : (⟨2, ![n, m]⟩ : Shape).Reduces [1] ⟨1, ![n]⟩) (i : Fin n) (k : Fin m) :
    h.lift (ix1 i) k = ix2 i k := by
  funext a
  match a with
  | ⟨0, _⟩ => rfl
  | ⟨1, _⟩ => rfl

/-- The largest entry of each row, in the kernel … -/
theorem rowMax {n : Nat} (v : FVec Ideal ⟨2, ![n, 1024]⟩ .f32) (h : (⟨2, ![n, 1024]⟩ : Shape).Reduces [1] ⟨1, ![n]⟩)
    (hφ : FKind.Formats .f32) (hacc : (0xFF800000#32 : BitVec 32) = FKind.maximumf.neutral .f32 hφ) (i : Fin n) :
    multiReduction .maximumf [1] ⟨1, ![n]⟩ v 0xFF800000#32 h hφ hacc (ix1 i) = Row.top fun k => v (ix2 i k) := by
  rw [Ideal.multiReduction_maximumf_single]
  unfold Row.top
  have hb : (FloatOps.ofBits .f32 0xFF800000#32 : Ideal .f32) = (⊥ : EReal) := by
    show Ideal.ofBits .f32 0xFF800000#32 = _
    simp [Ideal.ofBits, Ideal.ieee]
  rw [hb]
  exact congrArg (fun g : Fin 1024 → EReal => (Finset.univ : Finset (Fin 1024)).fold max ⊥ g) (funext fun k => congrArg v (lift_row h i k))

/-- … and the sum of each row. -/
theorem rowSum {n m : Nat} (v : FVec Ideal ⟨2, ![n, m]⟩ .f32) (h : (⟨2, ![n, m]⟩ : Shape).Reduces [1] ⟨1, ![n]⟩)
    (hφ : FKind.Formats .f32) (hacc : (0x00000000#32 : BitVec 32) = FKind.add.neutral .f32 hφ) (i : Fin n) :
    multiReduction .add [1] ⟨1, ![n]⟩ v 0x00000000#32 h hφ hacc (ix1 i) = ∑ k : Fin m, v (ix2 i k) := by
  rw [Ideal.multiReduction_add_single]
  exact Finset.sum_congr rfl fun k _ => congrArg v (lift_row h i k)

/-- The sum of a vector, by way of a row. -/
theorem total {n : Nat} (v : FVec Ideal ⟨1, ![n]⟩ .f32) (h1 : (⟨1, ![n]⟩ : Shape).ShapeCasts ⟨2, ![1, n]⟩)
    (h : (⟨2, ![1, n]⟩ : Shape).Reduces [1] ⟨1, ![1]⟩) (hφ : FKind.Formats .f32)
    (hacc : (0x00000000#32 : BitVec 32) = FKind.add.neutral .f32 hφ) (h2 : (⟨1, ![1]⟩ : Shape).ShapeCasts ⟨2, ![1, 1]⟩)
    (hp : ∀ a, (![0, 0] : Fin 2 → Nat) a < (⟨2, ![1, 1]⟩ : Shape).size a) :
    extractAt ![0, 0] (shapeCast ⟨2, ![1, 1]⟩ (multiReduction .add [1] ⟨1, ![1]⟩ (shapeCast ⟨2, ![1, n]⟩ v h1) 0x00000000#32 h hφ hacc) h2) hp
      = ∑ i : Fin n, v (ix1 i) := by
  unfold extractAt
  rw [lone (by decide) _ h2 _ (ix1 0), rowSum]
  exact Finset.sum_congr rfl fun i _ => row v h1 0 i

/-- The sum of a matrix, by way of a plane. -/
theorem total2 {n m : Nat} (v : FVec Ideal ⟨2, ![n, m]⟩ .f32) (h1 : (⟨2, ![n, m]⟩ : Shape).ShapeCasts ⟨3, ![1, n, m]⟩)
    (h : (⟨3, ![1, n, m]⟩ : Shape).Reduces [1, 2] ⟨1, ![1]⟩) (hφ : FKind.Formats .f32)
    (hacc : (0x00000000#32 : BitVec 32) = FKind.add.neutral .f32 hφ) (h2 : (⟨1, ![1]⟩ : Shape).ShapeCasts ⟨3, ![1, 1, 1]⟩)
    (hp : ∀ a, (![0, 0, 0] : Fin 3 → Nat) a < (⟨3, ![1, 1, 1]⟩ : Shape).size a) :
    extractAt ![0, 0, 0] (shapeCast ⟨3, ![1, 1, 1]⟩ (multiReduction .add [1, 2] ⟨1, ![1]⟩ (shapeCast ⟨3, ![1, n, m]⟩ v h1) 0x00000000#32 h hφ hacc) h2) hp
      = ∑ i : Fin n, ∑ k : Fin m, v (ix2 i k) := by
  unfold extractAt
  rw [lone (by decide) _ h2 _ (ix1 0),
    Ideal.multiReduction_add_total _ _ h (by intro b; fin_cases b; rfl), sum_idx3, Fin.sum_univ_one]
  exact Finset.sum_congr rfl fun i _ => Finset.sum_congr rfl fun k _ => plane v h1 0 i k

end Reductions

/-! ## The host's reductions and products -/

section Host

theorem hostRowMax (v : FVec Ideal ⟨2, ![8192, 1024]⟩ .f32) (c : FVec Ideal ⟨0, ![]⟩ .f32) (hc : c ix0 = (⊥ : EReal))
    (h' : (⟨2, ![8192, 1024]⟩ : Shape).ReducesTo [1] ⟨1, ![8192]⟩) (hu : 0 < (⟨0, ![]⟩ : Shape).numel) (i : Fin 8192) :
    Host.reduce FloatOps.maximumf v c h' hu (ix1 i) = Row.top fun k => v (ix2 i k) := by
  have h : (⟨2, ![8192, 1024]⟩ : Shape).Reduces [1] ⟨1, ![8192]⟩ := by decide
  rw [Host.reduce_eq_fold_single _ v c h' h hu, eq_ix0 (Shape.Idx.first hu), hc]
  exact congrArg (fun g : Fin 1024 → EReal => (Finset.univ : Finset (Fin 1024)).fold max ⊥ g) (funext fun k => congrArg v (lift_row h i k))

theorem hostRowSum (v : FVec Ideal ⟨2, ![8192, 1024]⟩ .f32) (c : FVec Ideal ⟨0, ![]⟩ .f32) (hc : c ix0 = (0 : EReal))
    (h' : (⟨2, ![8192, 1024]⟩ : Shape).ReducesTo [1] ⟨1, ![8192]⟩) (hu : 0 < (⟨0, ![]⟩ : Shape).numel) (i : Fin 8192) :
    Host.reduceAdd v c h' hu (ix1 i) = ∑ k : Fin 1024, v (ix2 i k) := by
  have h : (⟨2, ![8192, 1024]⟩ : Shape).Reduces [1] ⟨1, ![8192]⟩ := by decide
  show Ideal.hostReduceAdd h' v (c (Shape.Idx.first hu)) (ix1 i) = _
  rw [Ideal.hostReduceAdd_single h' h, eq_ix0 (Shape.Idx.first hu), hc, zero_add]
  exact Finset.sum_congr rfl fun k _ => congrArg v (lift_row h i k)

theorem hostDepthSum (v : FVec Ideal ⟨3, ![8192, 1024, 64]⟩ .f32) (c : FVec Ideal ⟨0, ![]⟩ .f32) (hc : c ix0 = (0 : EReal))
    (h' : (⟨3, ![8192, 1024, 64]⟩ : Shape).ReducesTo [2] ⟨2, ![8192, 1024]⟩) (hu : 0 < (⟨0, ![]⟩ : Shape).numel) (i : Fin 8192) (k : Fin 1024) :
    Host.reduceAdd v c h' hu (ix2 i k) = ∑ d : Fin 64, v (ix3 i k d) := by
  have h : (⟨3, ![8192, 1024, 64]⟩ : Shape).Reduces [2] ⟨2, ![8192, 1024]⟩ := by decide
  show Ideal.hostReduceAdd h' v (c (Shape.Idx.first hu)) (ix2 i k) = _
  rw [Ideal.hostReduceAdd_single h' h, eq_ix0 (Shape.Idx.first hu), hc, zero_add]
  refine Finset.sum_congr rfl fun d _ => congrArg v ?_
  funext a
  match a with
  | ⟨0, _⟩ => rfl
  | ⟨1, _⟩ => rfl
  | ⟨2, _⟩ => rfl

theorem hostTotal {n m : Nat} (v : FVec Ideal ⟨2, ![n, m]⟩ .f32) (c : FVec Ideal ⟨0, ![]⟩ .f32) (hc : c ix0 = (0 : EReal))
    (h' : (⟨2, ![n, m]⟩ : Shape).ReducesTo [0, 1] ⟨0, ![]⟩) (hu : 0 < (⟨0, ![]⟩ : Shape).numel) (j : (⟨0, ![]⟩ : Shape).Idx) :
    Host.reduceAdd v c h' hu j = ∑ i : Fin n, ∑ k : Fin m, v (ix2 i k) := by
  show Ideal.hostReduceAdd h' v (c (Shape.Idx.first hu)) j = _
  rw [Ideal.hostReduceAdd_total h' (fun b => b.elim0), eq_ix0 (Shape.Idx.first hu), hc, zero_add, sum_idx2]

/-- A row-by-column product on the host. -/
theorem hostDot {n m l : Nat} (u : FVec Ideal ⟨2, ![n, m]⟩ .f32) (v : FVec Ideal ⟨2, ![m, l]⟩ .f32) (i : Fin n) (d : Fin l) :
    Host.dotGeneral (DotDims.plain n m l) none u v (ix2 i d) = ∑ k : Fin m, u (ix2 i k) * v (ix2 k d) := by
  simp only [Host.dotGeneral]
  rw [Ideal.dotGeneral_apply, ← Equiv.sum_comp (DotDims.plainContr n m l).symm]
  refine Finset.sum_congr rfl fun k _ => ?_
  have hk := contrEquiv1_symm_val _ m (DotDims.plain_contr_rank n m l) (DotDims.plain_contr_size n m l) k
  have el : (DotDims.plain n m l).lhsIdx (ix2 i d) ((DotDims.plainContr n m l).symm k) = ix2 i k := by
    funext a; apply Fin.ext
    match a with
    | ⟨0, _⟩ => rfl
    | ⟨1, _⟩ => exact hk
  have er : (DotDims.plain n m l).rhsIdx (ix2 i d) ((DotDims.plainContr n m l).symm k) = ix2 k d := by
    funext a; apply Fin.ext
    match a with
    | ⟨0, _⟩ => exact hk
    | ⟨1, _⟩ => rfl
  rw [el, er]

/-- One (value, position) pair is taken over another: a larger value, or the same value at an earlier position. -/
def Beats (a b : EReal × BitVec 32) : Prop := b.1 < a.1 ∨ (a.1 = b.1 ∧ a.2.toInt < b.2.toInt)

theorem not_beats_trans {x a b : EReal × BitVec 32} (h : ¬ Beats x a) (h' : ¬ Beats a b) : ¬ Beats x b := by
  unfold Beats at *
  push Not at *
  obtain ⟨h1, h2⟩ := h; obtain ⟨g1, g2⟩ := h'
  refine ⟨h1.trans g1, fun e => ?_⟩
  have e1 : x.1 = a.1 := le_antisymm h1 (e ▸ g1)
  exact (g2 (e1.symm.trans e)).trans (h2 e1)

open Classical in
/-- A left fold that keeps of two pairs the one that beats the other ends at one of the pairs, which none of them beats. -/
theorem foldl_best (f : EReal × BitVec 32 → EReal × BitVec 32 → EReal × BitVec 32)
    (hf : ∀ a b, f a b = if Beats a b then a else b) : ∀ (l : List (EReal × BitVec 32)) (z : EReal × BitVec 32),
    (l.foldl f z = z ∨ l.foldl f z ∈ l) ∧ ¬ Beats z (l.foldl f z) ∧ ∀ x ∈ l, ¬ Beats x (l.foldl f z)
  | [], z => ⟨.inl rfl, by simp [Beats], by simp⟩
  | b :: l, z => by
    obtain ⟨h1, h2, h3⟩ := foldl_best f hf l (f z b)
    rw [List.foldl_cons]
    have hz : ¬ Beats z (f z b) := by
      rw [hf]; split_ifs with h
      · simp [Beats]
      · exact h
    have hb : ¬ Beats b (f z b) := by
      rw [hf]; split_ifs with h
      · unfold Beats at *
        push Not
        rcases h with h | ⟨h, h'⟩
        · exact ⟨h.le, fun e => absurd e h.ne⟩
        · exact ⟨h.ge, fun _ => h'.le⟩
      · simp [Beats]
    refine ⟨?_, not_beats_trans hz h2, ?_⟩
    · rcases h1 with h | h
      · rw [h, hf]; split_ifs
        · exact .inl rfl
        · exact .inr (List.mem_cons_self)
      · exact .inr (List.mem_cons_of_mem _ h)
    · intro x hx
      rcases List.mem_cons.1 hx with rfl | hx
      · exact not_beats_trans hb h2
      · exact h3 x hx

/-- The position of the largest entry of each row on the host, when some entry is above the start. -/
theorem hostBest (f : Ideal .f32 × BitVec 32 → Ideal .f32 × BitVec 32 → Ideal .f32 × BitVec 32)
    (hf : ∀ a b, f a b = open Classical in if Beats a b then a else b)
    (v : FVec Ideal ⟨2, ![8192, 1024]⟩ .f32) (y : IVec ⟨2, ![8192, 1024]⟩ 32) (hy : ∀ i k, y (ix2 i k) = BitVec.ofNat 32 k.val)
    (c : FVec Ideal ⟨0, ![]⟩ .f32) (hc : c ix0 = (⊥ : EReal)) (z : IVec ⟨0, ![]⟩ 32)
    (h' : (⟨2, ![8192, 1024]⟩ : Shape).ReducesTo [1] ⟨1, ![8192]⟩) (hu : 0 < (⟨0, ![]⟩ : Shape).numel) (i : Fin 8192)
    (hpos : ∃ k, v (ix2 i k) ≠ (⊥ : EReal)) :
    (Host.argReduce f v y c z h' hu (ix1 i)).2 = BitVec.ofNat 32 (Row.best fun k => v (ix2 i k)).val := by
  have h : (⟨2, ![8192, 1024]⟩ : Shape).Reduces [1] ⟨1, ![8192]⟩ := by decide
  have hmem : ∀ p, p ∈ Host.argReduceFiber v y h' (ix1 i) ↔ ∃ k : Fin 1024, (v (ix2 i k), BitVec.ofNat 32 k.val) = p := by
    intro p
    unfold Host.argReduceFiber
    simp only [List.mem_map, List.mem_filter, List.mem_finRange, true_and, decide_eq_true_eq]
    constructor
    · rintro ⟨n, hn, rfl⟩
      set w := (⟨2, ![8192, 1024]⟩ : Shape).rowMajor.symm n with hw
      rw [Shape.ReducesTo.drop_eq_drop h' h] at hn
      have e : w = ix2 i (w 1) := by
        have := h.lift_drop w
        rw [hn] at this
        exact this.symm.trans (lift_row h i _)
      refine ⟨w 1, ?_⟩
      exact Prod.ext (congrArg v e.symm) ((hy i (w 1)).symm.trans (congrArg y e.symm))
    · rintro ⟨k, rfl⟩
      refine ⟨(⟨2, ![8192, 1024]⟩ : Shape).rowMajor (ix2 i k), ?_, ?_⟩
      · rw [Equiv.symm_apply_apply, Shape.ReducesTo.drop_eq_drop h' h, ← lift_row h i k]; exact h.drop_lift (ix1 i) k
      · rw [Equiv.symm_apply_apply, hy]
  rw [Ideal.argReduce_eq_reduce2, Host.reduce2_eq_foldl_fiber]
  obtain ⟨h1, h2, h3⟩ := foldl_best f hf (Host.argReduceFiber v y h' (ix1 i))
    (c (Shape.Idx.first hu), z (Shape.Idx.first hu))
  generalize (Host.argReduceFiber v y h' (ix1 i)).foldl f
    (c (Shape.Idx.first hu), z (Shape.Idx.first hu)) = r at h1 h2 h3
  have hr : ∃ k : Fin 1024, (v (ix2 i k), BitVec.ofNat 32 k.val) = r := by
    rcases h1 with rfl | h1
    · obtain ⟨k, hk⟩ := hpos
      exfalso
      refine h3 _ ((hmem _).2 ⟨k, rfl⟩) (.inl ?_)
      show c (Shape.Idx.first hu) < _
      rw [eq_ix0 (Shape.Idx.first hu), hc]
      exact bot_lt_iff_ne_bot.2 hk
    · exact (hmem _).1 h1
  obtain ⟨k, rfl⟩ := hr
  have hge : ∀ k', v (ix2 i k') ≤ v (ix2 i k) ∧ (v (ix2 i k') = v (ix2 i k) → k.val ≤ k'.val) := by
    intro k'
    have := h3 _ ((hmem _).2 ⟨k', rfl⟩)
    unfold Beats at this
    push Not at this
    obtain ⟨g1, g2⟩ := this
    refine ⟨g1, fun e => ?_⟩
    have := g2 e
    simp only [Row.toInt_word _ (le_of_lt (Fin.isLt _))] at this
    exact_mod_cast this
  have htop : v (ix2 i k) = Row.top fun k => v (ix2 i k) := by
    obtain ⟨k', hk'⟩ := Row.exists_top fun k => v (ix2 i k)
    exact le_antisymm (Row.le_top (fun k => v (ix2 i k)) k) (hk' ▸ (hge k').1)
  rw [Row.best_unique (fun k => v (ix2 i k)) k htop fun k' hk' => (hge k').2 (hk'.trans htop.symm)]

end Host

end Cert.Ops

end
-- ==== Proof.Value.Spec.lean ====
/- What both programs compute: the residual quantizer over plain rows, columns and codebooks. -/
module

public import proofs.«01_k».proof.Proof.Value.Ops

@[expose] public section

set_option maxRecDepth 16384

noncomputable section

namespace Cert.Spec

open Idealize.ShloMosaic Idealize.ShloMosaic.ValueIdx
open scoped BigOperators

/-- The points, and the codewords of one book. -/
abbrev Points := Fin 8192 → Fin 64 → EReal
abbrev Book := Fin 1024 → Fin 64 → EReal

/-- A point's scores: the negated distances to the codewords. -/
def score (r : Points) (b : Book) (i : Fin 8192) : Row.Scores := fun k =>
  -(Ideal.sqrt (∑ d : Fin 64, (r i d - b k d) * (r i d - b k d)))
/-- The codeword a point is given. -/
def pick (r : Points) (b : Book) : Points := fun i d => b (Row.code (score r b i)) d
/-- The mean codeword under the soft assignment. -/
def blend (r : Points) (b : Book) : Points := fun i d => ∑ k : Fin 1024, Row.soft (score r b i) k * b k d

/-- The three sums of squares of a stage. -/
def outSum (r : Points) (b : Book) : EReal := ∑ i : Fin 8192, ∑ d : Fin 64, (pick r b i d - r i d) * (pick r b i d - r i d)
def softSum (r : Points) (b : Book) : EReal := ∑ i : Fin 8192, ∑ d : Fin 64, (blend r b i d - r i d) * (blend r b i d - r i d)
def matchSum (r : Points) (b : Book) : EReal := ∑ i : Fin 8192, ∑ k : Fin 1024,
  (Row.hot (score r b i) k - Row.soft (score r b i) k) * (Row.hot (score r b i) k - Row.soft (score r b i) k)

/-- What is predicted before stage `j`, and what stage `j` quantizes. -/
def sofar (x : Points) (c : ℕ → Book) : ℕ → Points
  | 0 => fun _ _ => 0
  | j + 1 => fun i d => sofar x c j i d + pick (fun i d => x i d - sofar x c j i d) (c j) i d
def rest (x : Points) (c : ℕ → Book) (j : ℕ) : Points := fun i d => x i d - sofar x c j i d

theorem sofar_succ (x : Points) (c : ℕ → Book) (j : ℕ) (i : Fin 8192) (d : Fin 64) :
    sofar x c (j + 1) i d = sofar x c j i d + pick (rest x c j) (c j) i d := rfl
theorem sofar_one (x : Points) (c : ℕ → Book) (i : Fin 8192) (d : Fin 64) : sofar x c 1 i d = pick (rest x c 0) (c 0) i d := zero_add _
theorem rest_zero (x : Points) (c : ℕ → Book) : rest x c 0 = x := funext fun _ => funext fun _ => sub_zero _

theorem rest_zero_at (x : Points) (c : ℕ → Book) (i : Fin 8192) (d : Fin 64) : rest x c 0 i d = x i d := by rw [rest_zero]

/-- The points and the books held in arrays. -/
def pointsOf (a : (⟨2, ![8192, 64]⟩ : Shape).Idx → EReal) : Points := fun i d => a (ix2 i d)
def booksOf (a : (⟨3, ![4, 1024, 64]⟩ : Shape).Idx → EReal) : ℕ → Book := fun j k d => if h : j < 4 then a (ix3 ⟨j, h⟩ k d) else 0
theorem booksOf_at (a : (⟨3, ![4, 1024, 64]⟩ : Shape).Idx → EReal) (j : ℕ) (h : j < 4) (k : Fin 1024) (d : Fin 64) :
    booksOf a j k d = a (ix3 ⟨j, h⟩ k d) := dif_pos h

/-! ## Finite points and codewords have finite scores -/

def Finite {α β : Type*} (f : α → β → EReal) : Prop := ∀ i, Row.Real (f i)

theorem finite_pick {r : Points} {b : Book} (hb : Finite b) : Finite (pick r b) := fun i d => hb _ d

theorem finite_sofar (x : Points) {c : ℕ → Book} (hc : ∀ j, Finite (c j)) : ∀ j, Finite (sofar x c j)
  | 0 => fun _ _ => ⟨0, rfl⟩
  | j + 1 => fun i d => by
    obtain ⟨a, ha⟩ := finite_sofar x hc j i d
    obtain ⟨b, hb⟩ := hc j (Row.code (score (rest x c j) (c j) i)) d
    refine ⟨a + b, ?_⟩
    rw [sofar_succ, ha, EReal.coe_add, ← hb]
    rfl

theorem finite_rest {x : Points} (hx : Finite x) {c : ℕ → Book} (hc : ∀ j, Finite (c j)) (j : ℕ) : Finite (rest x c j) := fun i d => by
  obtain ⟨a, ha⟩ := hx i d
  obtain ⟨b, hb⟩ := finite_sofar x hc j i d
  refine ⟨a - b, ?_⟩
  unfold rest
  rw [ha, hb, EReal.coe_sub]

theorem real_score {r : Points} {b : Book} (hr : Finite r) (hb : Finite b) (i : Fin 8192) : Row.Real (score r b i) := fun k => by
  choose a ha using hr i
  choose e he using hb k
  have hs : ∑ d : Fin 64, (r i d - b k d) * (r i d - b k d) = ((∑ d : Fin 64, (a d - e d) * (a d - e d) : ℝ) : EReal) := by
    rw [Row.coe_sum]
    refine Finset.sum_congr rfl fun d _ => ?_
    rw [ha, he, EReal.coe_mul, EReal.coe_sub]
  have h0 : 0 ≤ ∑ d : Fin 64, (a d - e d) * (a d - e d) := Finset.sum_nonneg fun d _ => mul_self_nonneg _
  refine ⟨-Real.sqrt (∑ d : Fin 64, (a d - e d) * (a d - e d)), ?_⟩
  unfold score
  rw [hs, EReal.coe_neg]
  show -(if (∑ d : Fin 64, (a d - e d) * (a d - e d)) < 0 then (⊥ : EReal) else _) = _
  rw [if_neg (not_lt.2 h0)]

/-! ## Blocks of rows -/

/-- Row `i` of block `t`. -/
def rowAt {N : ℕ} (hN : N = 8) (t : Fin N) (i : Fin 1024) : Fin 8192 := ⟨t.val * 1024 + i.val, by omega⟩

/-- A sum over the rows is the sum over the blocks of the sums over their rows. -/
theorem sum_blocks (f : Fin 8192 → EReal) : ∑ i, f i = ∑ t : Fin 8, ∑ i : Fin 1024, f (rowAt rfl t i) := by
  rw [← Fintype.sum_prod_type (f := fun p : Fin 8 × Fin 1024 => f (rowAt rfl p.1 p.2))]
  refine (Fintype.sum_equiv (finProdFinEquiv (m := 8) (n := 1024)) _ _ fun p => ?_).symm
  refine congrArg f (Fin.ext ?_)
  show p.1.val * 1024 + p.2.val = p.2.val + 1024 * p.1.val
  omega

end Cert.Spec

end
-- ==== Proof.Value.Host.lean ====
/- Host operations entry by entry: a stage's book, its scores, its soft and hard assignments, and arrays put side by side. -/
module

public import proofs.«01_k».proof.Proof.Value.Spec

@[expose] public section

set_option maxRecDepth 16384

noncomputable section

namespace Cert.Ops

open Idealize.ShloMosaic Idealize.ShloMosaic.ValueIdx
open scoped BigOperators

variable {α : Type}

/-! ## Literals -/

theorem lit_zero : constant (F := Ideal) ⟨0, ![]⟩ .f32 0x00000000#32 ix0 = (0 : EReal) := by
  show Ideal.ofBits .f32 0x00000000#32 = _
  simp [Ideal.ofBits, Ideal.ieee]
theorem lit_bot : constant (F := Ideal) ⟨0, ![]⟩ .f32 0xFF800000#32 ix0 = (⊥ : EReal) := by
  show Ideal.ofBits .f32 0xFF800000#32 = _
  simp [Ideal.ofBits, Ideal.ieee]
theorem lit_one : constant (F := Ideal) ⟨0, ![]⟩ .f32 0x3F800000#32 ix0 = (1 : EReal) := by
  show Ideal.ofBits .f32 0x3F800000#32 = _
  simp [Ideal.ofBits, Ideal.ieee]
  rw [← EReal.coe_mul]
  norm_num

/-- The numbers of entries the squares are averaged over. -/
def lit19 : EReal := constant (F := Ideal) ⟨0, ![]⟩ .f32 0x49000000#32 ix0
def lit23 : EReal := constant (F := Ideal) ⟨0, ![]⟩ .f32 0x4B000000#32 ix0
/-- The three means of squares of a stage. -/
def meanOut (r : Spec.Points) (b : Spec.Book) : EReal := Ideal.div (Spec.outSum r b) lit19
def meanSoft (r : Spec.Points) (b : Spec.Book) : EReal := Ideal.div (Spec.softSum r b) lit19
def meanMatch (r : Spec.Points) (b : Spec.Book) : EReal := Ideal.div (Spec.matchSum r b) lit23

theorem div_one (x : EReal) : Ideal.div x 1 = x := by
  unfold Ideal.div
  rw [if_neg one_ne_zero, show (1 : EReal)⁻¹ = 1 from by rw [← EReal.coe_one, ← EReal.coe_inv, inv_one], mul_one]

/-! ## A stage's book and scores -/

/-- Book `j` of four. -/
theorem book (g : (⟨3, ![4, 1024, 64]⟩ : Shape).Idx → α) (j : Nat) (hj : j < 4) (hs : (⟨3, ![4, 1024, 64]⟩ : Shape).Slices ![j, 0, 0] ⟨3, ![1, 1024, 64]⟩)
    (hc : (⟨3, ![1, 1024, 64]⟩ : Shape).ShapeCasts ⟨2, ![1024, 64]⟩) (k : Fin 1024) (d : Fin 64) :
    shapeCast ⟨2, ![1024, 64]⟩ (extractStridedSlice ⟨3, ![1, 1024, 64]⟩ ![j, 0, 0] g hs) hc (ix2 k d) = g (ix3 ⟨j, hj⟩ k d) := by
  refine (unplane _ hc k d).trans (extractStridedSlice_apply _ g hs _ _ fun a => ?_)
  match a with
  | ⟨0, _⟩ => rfl
  | ⟨1, _⟩ => exact (Nat.zero_add _).symm
  | ⟨2, _⟩ => exact (Nat.zero_add _).symm

/-- A row for every point and word, from the points. -/
theorem points (x : (⟨2, ![8192, 64]⟩ : Shape).Idx → α) (h : (⟨2, ![8192, 64]⟩ : Shape).BroadcastsInDim ⟨3, ![8192, 1, 64]⟩ ![0, 2])
    (h' : (⟨3, ![8192, 1, 64]⟩ : Shape).BroadcastsInDim ⟨3, ![8192, 1024, 64]⟩ ![0, 1, 2]) (i : Fin 8192) (k : Fin 1024) (d : Fin 64) :
    broadcastInDim ⟨3, ![8192, 1024, 64]⟩ ![0, 1, 2] h' (broadcastInDim ⟨3, ![8192, 1, 64]⟩ ![0, 2] h x) (ix3 i k d) = x (ix2 i d) := by
  refine (broadcastInDim_apply _ h' _ _ (ix3 i (0 : Fin 1) d) fun a => ?_).trans (broadcastInDim_apply _ h x _ _ fun a => ?_)
  · match a with
    | ⟨0, _⟩ => rfl
    | ⟨1, _⟩ => rfl
    | ⟨2, _⟩ => rfl
  · match a with
    | ⟨0, _⟩ => rfl
    | ⟨1, _⟩ => rfl

/-- A row for every point and word, from the words. -/
theorem words (x : (⟨2, ![1024, 64]⟩ : Shape).Idx → α) (h : (⟨2, ![1024, 64]⟩ : Shape).BroadcastsInDim ⟨3, ![1, 1024, 64]⟩ ![1, 2])
    (h' : (⟨3, ![1, 1024, 64]⟩ : Shape).BroadcastsInDim ⟨3, ![8192, 1024, 64]⟩ ![0, 1, 2]) (i : Fin 8192) (k : Fin 1024) (d : Fin 64) :
    broadcastInDim ⟨3, ![8192, 1024, 64]⟩ ![0, 1, 2] h' (broadcastInDim ⟨3, ![1, 1024, 64]⟩ ![1, 2] h x) (ix3 i k d) = x (ix2 k d) := by
  refine (broadcastInDim_apply _ h' _ _ (ix3 (0 : Fin 1) k d) fun a => ?_).trans (broadcastInDim_apply _ h x _ _ fun a => ?_)
  · match a with
    | ⟨0, _⟩ => rfl
    | ⟨1, _⟩ => rfl
    | ⟨2, _⟩ => rfl
  · match a with
    | ⟨0, _⟩ => rfl
    | ⟨1, _⟩ => rfl

/-- The points as a plane of one row each. -/
theorem planes (x : (⟨2, ![8192, 64]⟩ : Shape).Idx → α) (h : (⟨2, ![8192, 64]⟩ : Shape).BroadcastsInDim ⟨3, ![8192, 1, 64]⟩ ![0, 2])
    (i : Fin 8192) (q : Fin 1) (d : Fin 64) : broadcastInDim ⟨3, ![8192, 1, 64]⟩ ![0, 2] h x (ix3 i q d) = x (ix2 i d) := by
  refine broadcastInDim_apply _ h x _ _ fun a => ?_
  match a with
  | ⟨0, _⟩ => rfl
  | ⟨1, _⟩ => rfl

/-- A column from a vector, on the host. -/
theorem upright (x : (⟨1, ![8192]⟩ : Shape).Idx → α) (h : (⟨1, ![8192]⟩ : Shape).BroadcastsInDim ⟨2, ![8192, 1]⟩ ![0]) (i : Fin 8192) (j : Fin 1) :
    broadcastInDim ⟨2, ![8192, 1]⟩ ![0] h x (ix2 i j) = x (ix1 i) := by
  refine broadcastInDim_apply _ h x _ _ fun a => ?_
  match a with
  | ⟨0, _⟩ => rfl

/-- A column spread over the words. -/
theorem across (x : (⟨2, ![8192, 1]⟩ : Shape).Idx → α) (h : (⟨2, ![8192, 1]⟩ : Shape).BroadcastsInDim ⟨2, ![8192, 1024]⟩ ![0, 1]) (i : Fin 8192) (k : Fin 1024) :
    broadcastInDim ⟨2, ![8192, 1024]⟩ ![0, 1] h x (ix2 i k) = x (ix2 i (0 : Fin 1)) := by
  refine broadcastInDim_apply _ h x _ _ fun a => ?_
  match a with
  | ⟨0, _⟩ => rfl
  | ⟨1, _⟩ => rfl

/-- A row spread over the points. -/
theorem down (x : (⟨2, ![1, 1024]⟩ : Shape).Idx → α) (h : (⟨2, ![1, 1024]⟩ : Shape).BroadcastsInDim ⟨2, ![8192, 1024]⟩ ![0, 1]) (i : Fin 8192) (k : Fin 1024) :
    broadcastInDim ⟨2, ![8192, 1024]⟩ ![0, 1] h x (ix2 i k) = x (ix2 (0 : Fin 1) k) := by
  refine broadcastInDim_apply _ h x _ _ fun a => ?_
  match a with
  | ⟨0, _⟩ => rfl
  | ⟨1, _⟩ => rfl

/-- The negated distances, from the squared differences spread over points and words. -/
theorem scores (D : FVec Ideal ⟨3, ![8192, 1024, 64]⟩ .f32) (r : Spec.Points) (cb : Spec.Book) (hD : ∀ i k d, D (ix3 i k d) = (r i d - cb k d) * (r i d - cb k d))
    (c : FVec Ideal ⟨0, ![]⟩ .f32) (hc : c ix0 = (0 : EReal)) (h' : (⟨3, ![8192, 1024, 64]⟩ : Shape).ReducesTo [2] ⟨2, ![8192, 1024]⟩)
    (hu : 0 < (⟨0, ![]⟩ : Shape).numel) (i : Fin 8192) (k : Fin 1024) :
    Host.negf (Host.sqrt (Host.reduceAdd D c h' hu)) (ix2 i k) = Spec.score r cb i k := by
  show -(Ideal.sqrt (Host.reduceAdd D c h' hu (ix2 i k))) = _
  rw [hostDepthSum D c hc h' hu i k]
  unfold Spec.score
  exact congrArg (fun e => -(Ideal.sqrt e)) (Finset.sum_congr rfl fun d _ => hD i k d)

/-! ## The soft and the hard assignment -/

section
variable {s : Shape} (u v : FVec Ideal s .f32) (a b : IVec s 32) (c : IVec s 1) (i : s.Idx)
theorem exp_sub_at : Host.exp (subf u v) i = Ideal.exp (u i - v i) := rfl
theorem div_at : Host.divf u v i = Ideal.div (u i) (v i) := rfl
theorem max_at : maximumf u v i = max (u i) (v i) := rfl
theorem equal_at : cmpi .eq a b i = BitVec.ofBool (a i == b i) := rfl
theorem float_at : (uitofp .f32 c : FVec Ideal s .f32) i = (((c i).toNat : ℝ) : EReal) := rfl
end

theorem soft (s : FVec Ideal ⟨2, ![8192, 1024]⟩ .f32) (S : Fin 8192 → Row.Scores) (hs : ∀ i k, s (ix2 i k) = S i k)
    (b b' z : FVec Ideal ⟨0, ![]⟩ .f32) (hb : b ix0 = (⊥ : EReal)) (hb' : b' ix0 = (⊥ : EReal)) (hz : z ix0 = (0 : EReal))
    (h' : (⟨2, ![8192, 1024]⟩ : Shape).ReducesTo [1] ⟨1, ![8192]⟩) (hu : 0 < (⟨0, ![]⟩ : Shape).numel)
    (h1 : (⟨0, ![]⟩ : Shape).BroadcastsInDim ⟨1, ![8192]⟩ ![]) (h2 : (⟨1, ![8192]⟩ : Shape).BroadcastsInDim ⟨2, ![8192, 1]⟩ ![0])
    (h3 : (⟨2, ![8192, 1]⟩ : Shape).BroadcastsInDim ⟨2, ![8192, 1024]⟩ ![0, 1])
    (e : FVec Ideal ⟨2, ![8192, 1024]⟩ .f32)
    (he : e = Host.exp (subf s (broadcastInDim ⟨2, ![8192, 1024]⟩ ![0, 1] h3 (broadcastInDim ⟨2, ![8192, 1]⟩ ![0] h2
      (maximumf (broadcastInDim ⟨1, ![8192]⟩ ![] h1 b') (Host.reduce FloatOps.maximumf s b h' hu))))))
    (i : Fin 8192) (k : Fin 1024) :
    Host.divf e (broadcastInDim ⟨2, ![8192, 1024]⟩ ![0, 1] h3 (broadcastInDim ⟨2, ![8192, 1]⟩ ![0] h2 (Host.reduceAdd e z h' hu))) (ix2 i k)
      = Row.soft (S i) k := by
  have hS : ∀ i, (fun k => s (ix2 i k)) = S i := fun i => funext (hs i)
  have hex : ∀ i k, e (ix2 i k) = Row.ex (S i) k := by
    intro i k
    rw [he]
    rw [exp_sub_at, across, upright, hs, max_at, hostRowMax s b hb h' hu i, hS, broadcastInDim_scalar_apply, hb', max_eq_right bot_le]
    rfl
  rw [div_at, across, upright, hostRowSum e z hz h' hu i, hex]
  exact congrArg (Ideal.div _) (Finset.sum_congr rfl fun k _ => hex i k)

/-- The hard assignment on the host, from the codes. -/
theorem hot (c : IVec ⟨1, ![8192]⟩ 32) (S : Fin 8192 → Row.Scores) (hc : ∀ i, c (ix1 i) = Row.word (S i))
    (h2 : (⟨1, ![8192]⟩ : Shape).BroadcastsInDim ⟨2, ![8192, 1]⟩ ![0]) (h3 : (⟨2, ![8192, 1]⟩ : Shape).BroadcastsInDim ⟨2, ![8192, 1024]⟩ ![0, 1])
    (h4 : (⟨2, ![1, 1024]⟩ : Shape).BroadcastsInDim ⟨2, ![8192, 1024]⟩ ![0, 1]) (i : Fin 8192) (k : Fin 1024) :
    (uitofp .f32 (cmpi .eq (broadcastInDim ⟨2, ![8192, 1024]⟩ ![0, 1] h3 (broadcastInDim ⟨2, ![8192, 1]⟩ ![0] h2 c))
      (broadcastInDim ⟨2, ![8192, 1024]⟩ ![0, 1] h4 (iotaInDim ⟨2, ![1, 1024]⟩ 32 1))) : FVec Ideal ⟨2, ![8192, 1024]⟩ .f32) (ix2 i k) = Row.hot (S i) k := by
  rw [float_at, equal_at, across, upright, down, hc, iotaInDim_apply]
  show (((BitVec.ofBool (Row.word (S i) == BitVec.ofNat 32 k.val)).toNat : ℝ) : EReal) = _
  unfold Row.hot
  by_cases hk : k = Row.code (S i)
  · rw [if_pos hk, hk, show BitVec.ofNat 32 (Row.code (S i)).val = Row.word (S i) from rfl, beq_self_eq_true]
    simp
  · have : ¬ Row.word (S i) = BitVec.ofNat 32 k.val := fun e =>
      hk (Fin.ext (Row.word_inj (Row.code (S i)).isLt.le k.isLt.le e).symm)
    rw [if_neg hk, beq_eq_false_iff_ne.2 this]
    simp

/-! ## Side by side -/

/-- A family of planes and the next one. -/
theorem snoc3 {n k m l : Nat} (hm : m = k + 1) (f : ℕ → Fin n → Fin l → α) (a : (⟨3, ![n, k, l]⟩ : Shape).Idx → α)
    (b : (⟨3, ![n, 1, l]⟩ : Shape).Idx → α) (h : Shape.Concatenates [⟨3, ![n, k, l]⟩, ⟨3, ![n, 1, l]⟩] ⟨3, ![n, m, l]⟩ (1 : Fin 3))
    (ha : ∀ i (q : Fin k) d, a (ix3 i q d) = f q.val i d) (hb : ∀ i (q : Fin 1) d, b (ix3 i q d) = f k i d) (i : Fin n) (q : Fin m) (d : Fin l) :
    concatenate ⟨3, ![n, m, l]⟩ (1 : Fin 3) [⟨_, a⟩, ⟨_, b⟩] h (ix3 i q d) = f q.val i d := by
  by_cases hq : q.val < k
  · refine (concatenate_pair_apply_left (t := ⟨3, ![n, m, l]⟩) (1 : Fin 3) a b h _ rfl (ix3 i ⟨q.val, hq⟩ d) fun x => ?_).trans (ha i ⟨q.val, hq⟩ d)
    match x with
    | ⟨0, _⟩ => rfl
    | ⟨1, _⟩ => rfl
    | ⟨2, _⟩ => rfl
  · have hqk : q.val = k := by omega
    refine (concatenate_pair_apply_right (t := ⟨3, ![n, m, l]⟩) (1 : Fin 3) a b h _ rfl rfl (ix3 i (0 : Fin 1) d) (fun x hx => ?_) ?_).trans ((hb i 0 d).trans (congrArg (fun e => f e i d) hqk.symm))
    · match x with
      | ⟨0, _⟩ => rfl
      | ⟨1, _⟩ => exact absurd rfl hx
      | ⟨2, _⟩ => rfl
    · show 0 + k = q.val
      omega

/-- A family of columns and the next one. -/
theorem snoc2 {n k m : Nat} (hm : m = k + 1) (f : ℕ → Fin n → α) (a : (⟨2, ![n, k]⟩ : Shape).Idx → α)
    (b : (⟨2, ![n, 1]⟩ : Shape).Idx → α) (h : Shape.Concatenates [⟨2, ![n, k]⟩, ⟨2, ![n, 1]⟩] ⟨2, ![n, m]⟩ (1 : Fin 2))
    (ha : ∀ i (q : Fin k), a (ix2 i q) = f q.val i) (hb : ∀ i (q : Fin 1), b (ix2 i q) = f k i) (i : Fin n) (q : Fin m) :
    concatenate ⟨2, ![n, m]⟩ (1 : Fin 2) [⟨_, a⟩, ⟨_, b⟩] h (ix2 i q) = f q.val i := by
  by_cases hq : q.val < k
  · refine (concatenate_pair_apply_left (t := ⟨2, ![n, m]⟩) (1 : Fin 2) a b h _ rfl (ix2 i ⟨q.val, hq⟩) fun x => ?_).trans (ha i ⟨q.val, hq⟩)
    match x with
    | ⟨0, _⟩ => rfl
    | ⟨1, _⟩ => rfl
  · have hqk : q.val = k := by omega
    refine (concatenate_pair_apply_right (t := ⟨2, ![n, m]⟩) (1 : Fin 2) a b h _ rfl rfl (ix2 i (0 : Fin 1)) (fun x hx => ?_) ?_).trans ((hb i 0).trans (congrArg (fun e => f e i) hqk.symm))
    · match x with
      | ⟨0, _⟩ => rfl
      | ⟨1, _⟩ => exact absurd rfl hx
    · show 0 + k = q.val
      omega

/-- Rows below rows. -/
theorem below {k k' m l : Nat} (hm : m = k + k') (f : ℕ → Fin l → α) (a : (⟨2, ![k, l]⟩ : Shape).Idx → α)
    (b : (⟨2, ![k', l]⟩ : Shape).Idx → α) (h : Shape.Concatenates [⟨2, ![k, l]⟩, ⟨2, ![k', l]⟩] ⟨2, ![m, l]⟩ (0 : Fin 2))
    (ha : ∀ (q : Fin k) d, a (ix2 q d) = f q.val d) (hb : ∀ (q : Fin k') d, b (ix2 q d) = f (k + q.val) d) (q : Fin m) (d : Fin l) :
    concatenate ⟨2, ![m, l]⟩ (0 : Fin 2) [⟨_, a⟩, ⟨_, b⟩] h (ix2 q d) = f q.val d := by
  by_cases hq : q.val < k
  · refine (concatenate_pair_apply_left (t := ⟨2, ![m, l]⟩) (0 : Fin 2) a b h _ rfl (ix2 ⟨q.val, hq⟩ d) fun x => ?_).trans (ha ⟨q.val, hq⟩ d)
    match x with
    | ⟨0, _⟩ => rfl
    | ⟨1, _⟩ => rfl
  · have hlt : q.val - k < k' := by omega
    refine (concatenate_pair_apply_right (t := ⟨2, ![m, l]⟩) (0 : Fin 2) a b h _ rfl rfl (ix2 ⟨q.val - k, hlt⟩ d) (fun x hx => ?_) ?_).trans
      ((hb ⟨q.val - k, hlt⟩ d).trans (congrArg (f · d) (show k + (q.val - k) = q.val by omega)))
    · match x with
      | ⟨0, _⟩ => exact absurd rfl hx
      | ⟨1, _⟩ => rfl
    · show q.val - k + k = q.val
      omega

/-- Four planes. -/
theorem four3 {n l : Nat} (f : ℕ → Fin n → Fin l → α) (a0 a1 a2 a3 : (⟨3, ![n, 1, l]⟩ : Shape).Idx → α)
    (h : Shape.Concatenates [⟨3, ![n, 1, l]⟩, ⟨3, ![n, 1, l]⟩, ⟨3, ![n, 1, l]⟩, ⟨3, ![n, 1, l]⟩] ⟨3, ![n, 4, l]⟩ (1 : Fin 3))
    (h0 : ∀ i (q : Fin 1) d, a0 (ix3 i q d) = f 0 i d) (h1 : ∀ i (q : Fin 1) d, a1 (ix3 i q d) = f 1 i d)
    (h2 : ∀ i (q : Fin 1) d, a2 (ix3 i q d) = f 2 i d) (h3 : ∀ i (q : Fin 1) d, a3 (ix3 i q d) = f 3 i d) (i : Fin n) (q : Fin 4) (d : Fin l) :
    concatenate ⟨3, ![n, 4, l]⟩ (1 : Fin 3) [⟨_, a0⟩, ⟨_, a1⟩, ⟨_, a2⟩, ⟨_, a3⟩] h (ix3 i q d) = f q.val i d := by
  have key : ∀ (p : Fin 4) (x : (⟨3, ![n, 1, l]⟩ : Shape).Idx → α)
      (e : ([⟨_, a0⟩, ⟨_, a1⟩, ⟨_, a2⟩, ⟨_, a3⟩] : List ((s : Shape) × (s.Idx → α)))[p.val] = ⟨⟨3, ![n, 1, l]⟩, x⟩)
      (hpre : (((([⟨_, a0⟩, ⟨_, a1⟩, ⟨_, a2⟩, ⟨_, a3⟩] : List ((s : Shape) × (s.Idx → α))).take p.val).map (·.1)).map fun s =>
        if h : s.rank = (⟨3, ![n, 4, l]⟩ : Shape).rank then s.size ((1 : Fin 3).cast h.symm) else 0).sum = p.val),
      concatenate ⟨3, ![n, 4, l]⟩ (1 : Fin 3) [⟨_, a0⟩, ⟨_, a1⟩, ⟨_, a2⟩, ⟨_, a3⟩] h (ix3 i p d) = x (ix3 i (0 : Fin 1) d) := by
    intro p x e hpre
    refine concatenate_apply_piece (t := ⟨3, ![n, 4, l]⟩) (1 : Fin 3) [⟨_, a0⟩, ⟨_, a1⟩, ⟨_, a2⟩, ⟨_, a3⟩] h _ p.val p.isLt _ x e rfl p.val hpre _ (fun b hb => ?_) rfl
    match b with
    | ⟨0, _⟩ => rfl
    | ⟨1, _⟩ => exact absurd rfl hb
    | ⟨2, _⟩ => rfl
  match q with
  | ⟨0, _⟩ => exact (key 0 a0 rfl rfl).trans (h0 i 0 d)
  | ⟨1, _⟩ => exact (key 1 a1 rfl rfl).trans (h1 i 0 d)
  | ⟨2, _⟩ => exact (key 2 a2 rfl rfl).trans (h2 i 0 d)
  | ⟨3, _⟩ => exact (key 3 a3 rfl rfl).trans (h3 i 0 d)

/-- Four columns. -/
theorem four2 {n : Nat} (f : ℕ → Fin n → α) (a0 a1 a2 a3 : (⟨2, ![n, 1]⟩ : Shape).Idx → α)
    (h : Shape.Concatenates [⟨2, ![n, 1]⟩, ⟨2, ![n, 1]⟩, ⟨2, ![n, 1]⟩, ⟨2, ![n, 1]⟩] ⟨2, ![n, 4]⟩ (1 : Fin 2))
    (h0 : ∀ i (q : Fin 1), a0 (ix2 i q) = f 0 i) (h1 : ∀ i (q : Fin 1), a1 (ix2 i q) = f 1 i)
    (h2 : ∀ i (q : Fin 1), a2 (ix2 i q) = f 2 i) (h3 : ∀ i (q : Fin 1), a3 (ix2 i q) = f 3 i) (i : Fin n) (q : Fin 4) :
    concatenate ⟨2, ![n, 4]⟩ (1 : Fin 2) [⟨_, a0⟩, ⟨_, a1⟩, ⟨_, a2⟩, ⟨_, a3⟩] h (ix2 i q) = f q.val i := by
  have key : ∀ (p : Fin 4) (x : (⟨2, ![n, 1]⟩ : Shape).Idx → α)
      (e : ([⟨_, a0⟩, ⟨_, a1⟩, ⟨_, a2⟩, ⟨_, a3⟩] : List ((s : Shape) × (s.Idx → α)))[p.val] = ⟨⟨2, ![n, 1]⟩, x⟩)
      (hpre : (((([⟨_, a0⟩, ⟨_, a1⟩, ⟨_, a2⟩, ⟨_, a3⟩] : List ((s : Shape) × (s.Idx → α))).take p.val).map (·.1)).map fun s =>
        if h : s.rank = (⟨2, ![n, 4]⟩ : Shape).rank then s.size ((1 : Fin 2).cast h.symm) else 0).sum = p.val),
      concatenate ⟨2, ![n, 4]⟩ (1 : Fin 2) [⟨_, a0⟩, ⟨_, a1⟩, ⟨_, a2⟩, ⟨_, a3⟩] h (ix2 i p) = x (ix2 i (0 : Fin 1)) := by
    intro p x e hpre
    refine concatenate_apply_piece (t := ⟨2, ![n, 4]⟩) (1 : Fin 2) [⟨_, a0⟩, ⟨_, a1⟩, ⟨_, a2⟩, ⟨_, a3⟩] h _ p.val p.isLt _ x e rfl p.val hpre _ (fun b hb => ?_) rfl
    match b with
    | ⟨0, _⟩ => rfl
    | ⟨1, _⟩ => exact absurd rfl hb
  match q with
  | ⟨0, _⟩ => exact (key 0 a0 rfl rfl).trans (h0 i 0)
  | ⟨1, _⟩ => exact (key 1 a1 rfl rfl).trans (h1 i 0)
  | ⟨2, _⟩ => exact (key 2 a2 rfl rfl).trans (h2 i 0)
  | ⟨3, _⟩ => exact (key 3 a3 rfl rfl).trans (h3 i 0)

/-- The words of the books, one book after the other. -/
def wordOf (c : ℕ → Spec.Book) (n : ℕ) (d : Fin 64) : EReal := c (n / 1024) ⟨n % 1024, by omega⟩ d
theorem wordOf_at (c : ℕ → Spec.Book) (n j : ℕ) (k : Fin 1024) (hn : n = j * 1024 + k.val) (d : Fin 64) : c j k d = wordOf c n d := by
  unfold wordOf
  have h1 : n / 1024 = j := by omega
  have h2 : (⟨n % 1024, by omega⟩ : Fin 1024) = k := Fin.ext (by show n % 1024 = k.val; omega)
  rw [h1, h2]

/-- The four books in one list of words. -/
theorem flat (g : (⟨3, ![4, 1024, 64]⟩ : Shape).Idx → α) (h : (⟨3, ![4, 1024, 64]⟩ : Shape).ShapeCasts ⟨2, ![4096, 64]⟩) (n : Fin 4096) (d : Fin 64) :
    shapeCast ⟨2, ![4096, 64]⟩ g h (ix2 n d) = g (ix3 (⟨n.val / 1024, by omega⟩ : Fin 4) (⟨n.val % 1024, by omega⟩ : Fin 1024) d) := by
  refine shapeCast_apply g h _ _ ?_
  rw [Shape.rowMajor_val_three, Shape.rowMajor_val_two]
  show (n.val / 1024 * 1024 + n.val % 1024) * 64 + d.val = n.val * 64 + d.val
  omega

end Cert.Ops

end
-- ==== Proof.Value.Given.lean ====
/- What the precondition says: every point and every codeword is a real number. -/
module

public import proofs.«01_k».proof.Pre_finite
public import proofs.«01_k».proof.Proof.Value.Host

@[expose] public section

set_option maxRecDepth 16384

noncomputable section

namespace Cert.Pre_finite

open Idealize.ShloMosaic Idealize.ShloMosaic.ValueIdx
open Cert.Spec (pointsOf booksOf)

/-- The predicate's shape relations. -/
theorem facts : Facts where
  shapeCasts_S4x1024x64_S4096x64 := by decide
  concatenates_S8192x64_S4096x64_S12288x64_d0 := by decide
  bcast_S_S12288x64 := by decide

instance : Facts := facts

theorem lit_top : constant (F := Ideal) ⟨0, ![]⟩ .f32 0x7F800000#32 ix0 = (⊤ : EReal) := by
  show Ideal.ofBits .f32 0x7F800000#32 = _
  simp [Ideal.ofBits, Ideal.ieee]

/-- A number below infinity in absolute value is a real. -/
theorem real_of_abs {e t : EReal} (ht : t = ⊤) (h : Ideal.cmp .olt (max e (-e)) t = 1#1) : ∃ a : ℝ, e = a := by
  subst ht
  induction e with
  | bot => simp [Ideal.cmp] at h
  | coe a => exact ⟨a, rfl⟩
  | top => simp [Ideal.cmp] at h

/-- The row the predicate reads at `n`: a point, and below the points a codeword. -/
def stacked (x : FVec Ideal S8192x64 .f32) (g : FVec Ideal S4x1024x64 .f32) (n : ℕ) (d : Fin 64) : EReal :=
  if h : n < 8192 then x (ix2 ⟨n, h⟩ d) else Ops.wordOf (booksOf g) (n - 8192) d

theorem real_stacked (x : FVec Ideal S8192x64 .f32) (g : FVec Ideal S4x1024x64 .f32) (w : FVec Ideal S1x4 .f32)
    (h : fn x g w = fun _ => 1#1) (n : Fin 12288) (d : Fin 64) : ∃ a : ℝ, stacked x g n.val d = a := by
  have hn := congrFun h (ix2 n d)
  have e := Ops.below (k := 8192) (k' := 4096) (m := 12288) rfl (stacked x g) x (shapeCast S4096x64 g facts.shapeCasts_S4x1024x64_S4096x64)
    facts.concatenates_S8192x64_S4096x64_S12288x64_d0
    (fun q d => by unfold stacked; rw [dif_pos q.isLt])
    (fun q d => by
      refine (Ops.flat g _ q d).trans ?_
      unfold stacked
      rw [dif_neg (by omega), Nat.add_sub_cancel_left]
      exact (Spec.booksOf_at g (q.val / 1024) (by omega) _ d).symm) n d
  rw [← e]
  exact real_of_abs (t := broadcastInDim S12288x64 ![] facts.bcast_S_S12288x64 (constant (F := Ideal) S_ .f32 0x7F800000#32) (ix2 n d)) lit_top hn

theorem finite_points (x : FVec Ideal S8192x64 .f32) (g : FVec Ideal S4x1024x64 .f32) (w : FVec Ideal S1x4 .f32)
    (h : fn x g w = fun _ => 1#1) : Spec.Finite (pointsOf x) := fun i d => by
  have e := real_stacked x g w h ⟨i.val, by omega⟩ d
  rwa [stacked, dif_pos i.isLt] at e

theorem finite_books (x : FVec Ideal S8192x64 .f32) (g : FVec Ideal S4x1024x64 .f32) (w : FVec Ideal S1x4 .f32)
    (h : fn x g w = fun _ => 1#1) (j : ℕ) : Spec.Finite (booksOf g j) := fun k d => by
  by_cases hj : j < 4
  · have e := real_stacked x g w h ⟨8192 + (j * 1024 + k.val), by omega⟩ d
    rwa [stacked, dif_neg (by simp), Nat.add_sub_cancel_left, ← Ops.wordOf_at _ _ j k rfl] at e
  · exact ⟨0, dif_neg hj⟩

end Cert.Pre_finite

end
-- ==== Proof.Value.Pay.lean ====
/- What a stage body computes from its blocks, row by row and as sums over the rows. -/
module

public import proofs.«01_k».proof.Proof.Kern.Stage
public import proofs.«01_k».proof.Proof.Value.Ops

@[expose] public section

set_option maxRecDepth 16384

noncomputable section

namespace Cert.KernelIdeal

open Idealize.ShloMosaic Idealize.ShloMosaic.ValueIdx
open Cert.KernelIdeal.Gen
open scoped BigOperators

/-! ## The rows -/

/-- A row of a block of scores. -/
def scoresOf (att : Vec Ideal S1024x1024 .f32) (i : Fin 1024) : Row.Scores := fun k => att (ix2 i k)

theorem pay3_at (att : Vec Ideal S1024x1024 .f32) (i k : Fin 1024) : k1_pay3 att (ix2 i k) = Row.soft (scoresOf att i) k := by
  have hmax : ∀ i, multiReduction .maximumf [1] S1024 (F := Ideal) att 0xFF800000#32 reduces_S1024x1024_S1024 (.inl rfl) rfl (ix1 i)
      = Row.top (scoresOf att i) := fun i => Ops.rowMax att _ _ _ i
  have hex : ∀ i k, exp (subf att (broadcastTo S1024x1024 (shapeCast S1024x1 (multiReduction .maximumf [1] S1024 (F := Ideal) att 0xFF800000#32
      reduces_S1024x1024_S1024 (.inl rfl) rfl) shapeCasts_S1024_S1024x1) broadcasts_S1024x1_S1024x1024)) (ix2 i k) = Row.ex (scoresOf att i) k := by
    intro i k
    show Ideal.exp (att (ix2 i k) - broadcastTo S1024x1024 _ _ (ix2 i k)) = _
    rw [Ops.spread (by decide), Ops.column, hmax]
    rfl
  dsimp only [k1_pay3]
  rw [shapeCast_self]
  show Ideal.div _ (broadcastTo S1024x1024 _ _ (ix2 i k)) = _
  rw [Ops.spread (by decide), Ops.column]
  exact congrArg₂ Ideal.div (hex i k) ((Ops.rowSum _ _ _ _ i).trans (Finset.sum_congr rfl fun k _ => hex i k))

theorem pay4_at (att : Vec Ideal S1024x1024 .f32) (i : Fin 1024) (j : Fin 1) : k1_pay4 att (ix2 i j) = Row.top (Row.soft (scoresOf att i)) := by
  dsimp only [k1_pay4]
  rw [Ops.column]
  refine (Ops.rowMax (k1_pay3 att) _ _ _ i).trans (congrArg Row.top (funext fun k => pay3_at att i k))

theorem pay5_at (att : Vec Ideal S1024x1024 .f32) (i : Fin 1024) (j : Fin 1) : k1_pay5 att (ix2 i j) = Row.word (scoresOf att i) := by
  classical
  dsimp only [k1_pay5]
  rw [Ops.column]
  refine (multiReductionI_eq_fold .minsi _ _ _ _ _).trans ?_
  refine (Shape.Reduces.fold_filter_drop_single (s := S1024x1024) (t := S1024) reduces_S1024x1024_S1024 _ _ _ _).trans ?_
  refine Eq.trans ?_ (Row.least_word (Row.soft (scoresOf att i)))
  refine congrArg (fun g : Fin 1024 → BitVec 32 => (Finset.univ : Finset (Fin 1024)).fold IntOp.minsi 2147483647#32 g) (funext fun (k : Fin 1024) => ?_)
  refine (congrArg (select _ _ _) (Ops.lift_row reduces_S1024x1024_S1024 i k)).trans ?_
  show Scalar.select (Ideal.cmp .oeq (k1_pay3 att (ix2 i k)) (broadcastTo S1024x1024 _ _ (ix2 i k))) (iota .tc S1024x1024 32 [1] iota_S1024x1024_d1_w32 (ix2 i k)) 1024#32 = _
  rw [Ops.spread (by decide), pay3_at, pay4_at, iota_single_apply]
  by_cases h : Row.soft (scoresOf att i) k = Row.top (Row.soft (scoresOf att i))
  · rw [if_pos h]
    simp [Scalar.select, Ideal.cmp, h]
  · rw [if_neg h]
    simp [Scalar.select, Ideal.cmp, h]

/-- The literal one. -/
theorem one_lit : (Scalar.ofBits .f32 0x3F800000#32 : Ideal .f32) = (1 : EReal) := by
  show Ideal.ofBits .f32 0x3F800000#32 = _
  simp [Ideal.ofBits, Ideal.ieee]
  rw [← EReal.coe_mul]
  norm_num
theorem zero_lit : (FloatOps.ofBits .f32 0x00000000#32 : Ideal .f32) = (0 : EReal) := by
  show Ideal.ofBits .f32 0x00000000#32 = _
  simp [Ideal.ofBits, Ideal.ieee]

/-- A constant less a column, and that column again. -/
theorem there_and_back (c : Ideal .f32) (v : FVec Ideal S1024x1 .f32) (i : S1024x1.Idx) :
    addf (subf (broadcast S1024x1 c) v) v i = (c - v i) + v i := rfl

theorem pay7_at (att : Vec Ideal S1024x1024 .f32) (i : Fin 1024) (j : Fin 1) (h : Row.Real (scoresOf att i)) : k1_pay7 att (ix2 i j) = (1 : EReal) := by
  dsimp only [k1_pay7]
  refine (there_and_back _ _ _).trans ?_
  rw [one_lit, pay4_at]
  exact Row.unit h

/-- A product of a block with a block of columns, both over the codewords. -/
theorem product_at (u : FVec Ideal S1024x1024 .bf16) (ct : FVec Ideal S64x1024 .bf16) (i : Fin 1024) (d : Fin 64) :
    matmul dot_S1024x1024_S64x1024_S1024x64_1_1_0_0_n_n none u ct (constant (F := Ideal) S1024x64 .f32 0x00000000#32) (ix2 i d)
      = ∑ k : Fin 1024, u (ix2 i k) * ct (ix2 d k) := by
  refine (Ideal.matmul_transposedRhs_apply (M := 1024) (K := 1024) (N := 64) none u ct _ i d).trans ?_
  show (FloatOps.ofBits .f32 0x00000000#32 : Ideal .f32) + _ = _
  rw [zero_lit]
  exact zero_add _

theorem pay6_at (ct : Vec Ideal S64x1024 .f32) (d : Fin 64) (k : Fin 1024) : k1_pay6 ct (ix2 d k) = ct (ix2 d k) := by
  dsimp only [k1_pay6]
  rw [shapeCast_self]
  rfl

theorem pay8_at (ct : Vec Ideal S64x1024 .f32) (att : Vec Ideal S1024x1024 .f32) (i : Fin 1024) (d : Fin 64) (h : Row.Real (scoresOf att i)) :
    k1_pay8 ct att (ix2 i d) = ct (ix2 d (Row.code (scoresOf att i))) := by
  dsimp only [k1_pay8]
  show _ * broadcastTo S1024x64 _ _ (ix2 i d) = _
  rw [Ops.spread (by decide), pay7_at att i 0 h, product_at, mul_one]
  refine Eq.trans (Finset.sum_congr rfl fun k _ => ?_) (Row.sum_hot (scoresOf att i) fun k => ct (ix2 d k))
  rw [pay6_at]
  refine congrArg (· * _) ?_
  show ((((IntOp.cmpi .eq (iota .tc S1024x1024 32 [1] iota_S1024x1024_d1_w32 (ix2 i k)) (broadcastTo S1024x1024 (k1_pay5 att) _ (ix2 i k))).setWidth 32).toInt : ℝ) : EReal) = _
  rw [Ops.spread (by decide), pay5_at, iota_single_apply]
  unfold Row.hot
  by_cases hk : k = Row.code (scoresOf att i)
  · rw [if_pos hk]
    subst hk
    simp [IntOp.cmpi, Row.word]
  · rw [if_neg hk]
    have : BitVec.ofNat 32 k.val ≠ Row.word (scoresOf att i) := fun e =>
      hk (Fin.ext (Row.word_inj (by omega) (by omega) e))
    have e : (IntOp.cmpi .eq (BitVec.ofNat 32 k.val) (Row.word (scoresOf att i))) = 0#1 := by simp [IntOp.cmpi, beq_eq_false_iff_ne.2 this]
    show ((((IntOp.cmpi .eq (BitVec.ofNat 32 k.val) (Row.word (scoresOf att i))).setWidth 32).toInt : ℝ) : EReal) = 0
    rw [e]
    simp

theorem soft_product_at (ct : Vec Ideal S64x1024 .f32) (att : Vec Ideal S1024x1024 .f32) (i : Fin 1024) (d : Fin 64) :
    matmul dot_S1024x1024_S64x1024_S1024x64_1_1_0_0_n_n none (k1_pay9 att) (k1_pay6 ct) (constant (F := Ideal) S1024x64 .f32 0x00000000#32) (ix2 i d)
      = ∑ k : Fin 1024, Row.soft (scoresOf att i) k * ct (ix2 d k) := by
  rw [product_at]
  exact Finset.sum_congr rfl fun k _ => congrArg₂ (· * ·) (pay3_at att i k) (pay6_at ct d k)

/-! ## The sums over a block -/

theorem pay12_eq (r xr : FVec Ideal S1024x64 .f32) :
    k1_pay12 r xr = ∑ i : Fin 1024, ∑ d : Fin 64, (xr (ix2 i d) - r (ix2 i d)) * (xr (ix2 i d) - r (ix2 i d)) := by
  dsimp only [k1_pay12]
  exact Ops.total2 _ _ _ _ _ _ _

theorem pay11_eq (r : FVec Ideal S1024x64 .f32) (ct : Vec Ideal S64x1024 .f32) (att : Vec Ideal S1024x1024 .f32) :
    k1_pay11 r (k1_pay6 ct) (k1_pay9 att) (constant S1024x64 .f32 0x00000000#32)
      = ∑ i : Fin 1024, ∑ d : Fin 64, ((∑ k : Fin 1024, Row.soft (scoresOf att i) k * ct (ix2 d k)) - r (ix2 i d))
          * ((∑ k : Fin 1024, Row.soft (scoresOf att i) k * ct (ix2 d k)) - r (ix2 i d)) := by
  dsimp only [k1_pay11]
  refine (Ops.total2 _ _ _ _ _ _ _).trans ?_
  refine Finset.sum_congr rfl fun i _ => Finset.sum_congr rfl fun d _ => ?_
  show (_ - _) * (_ - _) = _
  rw [soft_product_at]

theorem pay10_gen (w : FVec Ideal S1024x1024 .f32) (u v : FVec Ideal S1024x1 .f32) :
    k1_pay10 w u v = ∑ i : Fin 1024, ((∑ k : Fin 1024, w (ix2 i k) * w (ix2 i k)) - u (ix2 i 0) * u (ix2 i 0)
      + (v (ix2 i 0) - u (ix2 i 0)) * (v (ix2 i 0) - u (ix2 i 0))) := by
  dsimp only [k1_pay10]
  refine (Ops.total _ _ _ _ _ _ _).trans ?_
  refine Finset.sum_congr rfl fun i _ => ?_
  show multiReduction .add [1] S1024 _ _ _ _ _ (ix1 i) - shapeCast S1024 _ _ (ix1 i) * shapeCast S1024 _ _ (ix1 i)
    + (shapeCast S1024 _ _ (ix1 i) - shapeCast S1024 _ _ (ix1 i)) * (shapeCast S1024 _ _ (ix1 i) - shapeCast S1024 _ _ (ix1 i)) = _
  rw [Ops.uncolumn, Ops.uncolumn]
  exact congrArg (fun z : EReal => z - _ + _) (Ops.rowSum _ _ _ _ i)

theorem pay10_eq (att : Vec Ideal S1024x1024 .f32) (h : ∀ i, Row.Real (scoresOf att i)) :
    k1_pay10 (k1_pay3 att) (k1_pay4 att) (k1_pay7 att)
      = ∑ i : Fin 1024, ∑ k : Fin 1024, (Row.hot (scoresOf att i) k - Row.soft (scoresOf att i) k) * (Row.hot (scoresOf att i) k - Row.soft (scoresOf att i) k) := by
  rw [pay10_gen]
  refine Finset.sum_congr rfl fun i _ => ?_
  rw [← Row.mismatch (h i), pay4_at, pay7_at att i 0 (h i)]
  refine congrArg (fun z : EReal => z - _ + _) (Finset.sum_congr rfl fun k _ => ?_)
  rw [pay3_at]

/-! ## The two bodies -/

/-- The squared output errors, the squared errors of the soft output, and the squared mismatches over a block's rows;
    `r` is what the stage quantizes and `q` what it is quantized to. -/
def outTerm (r q : Fin 1024 → Fin 64 → EReal) : EReal := ∑ i : Fin 1024, ∑ d : Fin 64, (q i d - r i d) * (q i d - r i d)
def softTerm (b : Blocks Ideal) (r : Fin 1024 → Fin 64 → EReal) : EReal := ∑ i : Fin 1024, ∑ d : Fin 64,
  ((∑ k : Fin 1024, Row.soft (scoresOf b.att i) k * b.ct (ix2 d k)) - r i d) * ((∑ k : Fin 1024, Row.soft (scoresOf b.att i) k * b.ct (ix2 d k)) - r i d)
def matchTerm (b : Blocks Ideal) : EReal := ∑ i : Fin 1024, ∑ k : Fin 1024,
  (Row.hot (scoresOf b.att i) k - Row.soft (scoresOf b.att i) k) * (Row.hot (scoresOf b.att i) k - Row.soft (scoresOf b.att i) k)

/-- What a body's functions are worth, when it quantizes `r`. -/
structure Means (fn : StageFns Ideal) (r : Blocks Ideal → Fin 1024 → Fin 64 → EReal) : Prop where
  idx : ∀ b i j, fn.idx b (ix2 i j) = Row.word (scoresOf b.att i)
  xr : ∀ b i d, Row.Real (scoresOf b.att i) → fn.xr b (ix2 i d) = b.ct (ix2 d (Row.code (scoresOf b.att i)))
  o : ∀ b a j, fn.oNext b a j = a j + outTerm (r b) fun i d => fn.xr b (ix2 i d)
  o0 : ∀ b j, fn.oStart b j = outTerm (r b) fun i d => fn.xr b (ix2 i d)
  s : ∀ b a j, fn.sNext b a j = a j + softTerm b (r b)
  s0 : ∀ b j, fn.sStart b j = softTerm b (r b)
  m : ∀ b a j, (∀ i, Row.Real (scoresOf b.att i)) → fn.mNext b a j = a j + matchTerm b
  m0 : ∀ b j, (∀ i, Row.Real (scoresOf b.att i)) → fn.mStart b j = matchTerm b

/-- A running sum takes the new term on the right. -/
theorem sum_next (a : Vec Ideal S1x1 .f32) (t : Ideal .f32) (i : S1x1.Idx) :
    addf (shapeCast S1x1 a shapeCasts_S1x1_S1x1) (broadcast S1x1 t) i = a i + t := by
  rw [shapeCast_self]; rfl

theorem pay2_at (p x : Vec Ideal S1024x64 .f32) (i : Fin 1024) (d : Fin 64) : k1_pay2 p x (ix2 i d) = x (ix2 i d) - p (ix2 i d) := by
  dsimp only [k1_pay2, k1_pay1]
  rw [shapeCast_self]
  rfl

theorem later_o (b : Blocks Ideal) (a : Vec Ideal S1x1 .f32) (i : S1x1.Idx) :
    laterFns.oNext b a i = a i + k1_pay12 (k1_pay2 b.p b.x) (k1_pay8 b.ct b.att) := by
  dsimp only [laterFns, k1_pay18]
  exact sum_next a _ i
theorem later_s (b : Blocks Ideal) (a : Vec Ideal S1x1 .f32) (i : S1x1.Idx) :
    laterFns.sNext b a i = a i + k1_pay11 (k1_pay2 b.p b.x) (k1_pay6 b.ct) (k1_pay9 b.att) (constant S1024x64 .f32 0x00000000#32) := by
  dsimp only [laterFns, k1_pay19]
  exact sum_next a _ i
theorem later_m (b : Blocks Ideal) (a : Vec Ideal S1x1 .f32) (i : S1x1.Idx) :
    laterFns.mNext b a i = a i + k1_pay10 (k1_pay3 b.att) (k1_pay4 b.att) (k1_pay7 b.att) := by
  dsimp only [laterFns, k1_pay20]
  exact sum_next a _ i
theorem later_o0 (b : Blocks Ideal) (i : S1x1.Idx) : laterFns.oStart b i = k1_pay12 (k1_pay2 b.p b.x) (k1_pay8 b.ct b.att) := rfl
theorem later_s0 (b : Blocks Ideal) (i : S1x1.Idx) :
    laterFns.sStart b i = k1_pay11 (k1_pay2 b.p b.x) (k1_pay6 b.ct) (k1_pay9 b.att) (constant S1024x64 .f32 0x00000000#32) := rfl
theorem later_m0 (b : Blocks Ideal) (i : S1x1.Idx) :
    laterFns.mStart b i = k1_pay10 (k1_pay3 b.att) (k1_pay4 b.att) (k1_pay7 b.att) := rfl

theorem later_out (b : Blocks Ideal) : k1_pay12 (k1_pay2 b.p b.x) (k1_pay8 b.ct b.att)
    = outTerm (fun i d => b.x (ix2 i d) - b.p (ix2 i d)) fun i d => k1_pay8 b.ct b.att (ix2 i d) := by
  rw [pay12_eq]; simp only [pay2_at, outTerm]
theorem later_soft (b : Blocks Ideal) : k1_pay11 (k1_pay2 b.p b.x) (k1_pay6 b.ct) (k1_pay9 b.att) (constant S1024x64 .f32 0x00000000#32)
    = softTerm b fun i d => b.x (ix2 i d) - b.p (ix2 i d) := by
  rw [pay11_eq]; simp only [pay2_at, softTerm]
theorem later_xr (b : Blocks Ideal) : laterFns.xr b = k1_pay8 b.ct b.att := rfl
theorem later_idx (b : Blocks Ideal) : laterFns.idx b = k1_pay5 b.att := by dsimp only [laterFns]

theorem later_means : Means laterFns fun b i d => b.x (ix2 i d) - b.p (ix2 i d) where
  idx b i j := by rw [later_idx]; exact pay5_at b.att i j
  xr b i d h := by rw [later_xr]; exact pay8_at b.ct b.att i d h
  o b a j := by rw [later_o, later_out, later_xr]
  o0 b j := by rw [later_o0, later_out, later_xr]
  s b a j := by rw [later_s, later_soft]
  s0 b j := by rw [later_s0, later_soft]
  m b a j h := by rw [later_m, pay10_eq _ h]; rfl
  m0 b j h := by rw [later_m0, pay10_eq _ h]; rfl

theorem first_xr (b : Blocks Ideal) : firstFns.xr b = k1_pay8 b.ct b.att := rfl
theorem first_o (b : Blocks Ideal) (a : Vec Ideal S1x1 .f32) (i : S1x1.Idx) :
    firstFns.oNext b a i = a i + k0_pay3 b.x (k0_pay16 b.ct b.att) := by
  dsimp only [firstFns, k0_pay8]
  exact sum_next a _ i
theorem first_s (b : Blocks Ideal) (a : Vec Ideal S1x1 .f32) (i : S1x1.Idx) :
    firstFns.sNext b a i = a i + k0_pay2 b.x (k0_pay17 b.ct b.att) := by
  dsimp only [firstFns, k0_pay9]
  exact sum_next a _ i
theorem first_m (b : Blocks Ideal) (a : Vec Ideal S1x1 .f32) (i : S1x1.Idx) :
    firstFns.mNext b a i = a i + k0_pay1 (k0_pay18 b.att) (k0_pay19 b.att) (k0_pay20 b.att) := by
  dsimp only [firstFns, k0_pay10]
  exact sum_next a _ i
theorem first_o0 (b : Blocks Ideal) (i : S1x1.Idx) : firstFns.oStart b i = k0_pay3 b.x (k0_pay16 b.ct b.att) := rfl
theorem first_s0 (b : Blocks Ideal) (i : S1x1.Idx) : firstFns.sStart b i = k0_pay2 b.x (k0_pay17 b.ct b.att) := rfl
theorem first_m0 (b : Blocks Ideal) (i : S1x1.Idx) :
    firstFns.mStart b i = k0_pay1 (k0_pay18 b.att) (k0_pay19 b.att) (k0_pay20 b.att) := rfl

/-- The first stage's terms are the later stages' terms with nothing predicted yet. -/
theorem first_o_term (b : Blocks Ideal) : k0_pay3 b.x (k0_pay16 b.ct b.att) = k1_pay12 b.x (k1_pay8 b.ct b.att) := rfl
theorem first_s_term (b : Blocks Ideal) :
    k0_pay2 b.x (k0_pay17 b.ct b.att) = k1_pay11 b.x (k1_pay6 b.ct) (k1_pay9 b.att) (constant S1024x64 .f32 0x00000000#32) := rfl
theorem first_m_term (b : Blocks Ideal) :
    k0_pay1 (k0_pay18 b.att) (k0_pay19 b.att) (k0_pay20 b.att) = k1_pay10 (k1_pay3 b.att) (k1_pay4 b.att) (k1_pay7 b.att) := rfl

theorem first_idx (b : Blocks Ideal) : firstFns.idx b = k0_pay13 b.att := by dsimp only [firstFns]
theorem first_idx_at (att : Vec Ideal S1024x1024 .f32) (i : Fin 1024) (j : Fin 1) : k0_pay13 att (ix2 i j) = k1_pay5 att (ix2 i j) := by
  unfold k0_pay13 k1_pay5 k0_pay12 k1_pay4 k0_pay11 k1_pay3
  with_reducible rfl

theorem first_means : Means firstFns fun b i d => b.x (ix2 i d) where
  idx b i j := by rw [first_idx, first_idx_at]; exact pay5_at b.att i j
  xr b i d h := by rw [first_xr]; exact pay8_at b.ct b.att i d h
  o b a j := by rw [first_o, first_o_term, pay12_eq, first_xr]; rfl
  o0 b j := by rw [first_o0, first_o_term, pay12_eq, first_xr]; rfl
  s b a j := by rw [first_s, first_s_term, pay11_eq]; rfl
  s0 b j := by rw [first_s0, first_s_term, pay11_eq]; rfl
  m b a j h := by rw [first_m, first_m_term, pay10_eq _ h]; rfl
  m0 b j h := by rw [first_m0, first_m_term, pay10_eq _ h]; rfl

theorem later_xpm (b : Blocks Ideal) (i : Fin 1024) (d : Fin 64) : laterFns.xpm b (ix2 i d) = b.p (ix2 i d) + laterFns.xr b (ix2 i d) := by
  show k1_pay13 (k1_pay1 b.p) _ _ = _
  dsimp only [k1_pay13, k1_pay1]
  rw [shapeCast_self]
  rfl
theorem later_res (b : Blocks Ideal) (i : Fin 1024) (d : Fin 64) :
    laterFns.res b (ix2 i d) = b.x (ix2 i d) - (b.p (ix2 i d) + laterFns.xr b (ix2 i d)) :=
  congrArg (b.x (ix2 i d) - ·) (later_xpm b i d)
theorem first_xpm (b : Blocks Ideal) (i : Fin 1024) (d : Fin 64) : firstFns.xpm b (ix2 i d) = firstFns.xr b (ix2 i d) := rfl
theorem first_res (b : Blocks Ideal) (i : Fin 1024) (d : Fin 64) : firstFns.res b (ix2 i d) = b.x (ix2 i d) - firstFns.xr b (ix2 i d) := rfl

end Cert.KernelIdeal

end
-- ==== Proof.Value.Cut.lean ====
/- A stage over eight blocks of rows: its outputs per row, and its running sums as sums over all the rows. -/
module

public import proofs.«01_k».proof.Proof.Kern.Region
public import proofs.«01_k».proof.Proof.Value.Pay
public import proofs.«01_k».proof.Proof.Value.Spec

@[expose] public section

set_option maxRecDepth 16384

noncomputable section

namespace Cert.KernelIdeal

open Idealize.ShloMosaic Idealize.ShloMosaic.ValueIdx
open Cert.KernelIdeal.Gen
open Cert.Spec (rowAt)
open scoped BigOperators

/-- The blocks `b` are cut from the points `x`, the scores of the points `r` that are quantized, and the book `cb`. -/
structure Cut {N : ℕ} (hN : N = 8) (b : Fin N → Blocks Ideal) (x r : Spec.Points) (cb : Spec.Book) : Prop where
  x : ∀ t i d, (b t).x (ix2 i d) = x (rowAt hN t i) d
  att : ∀ t i k, (b t).att (ix2 i k) = Spec.score r cb (rowAt hN t i) k
  ct : ∀ t d k, (b t).ct (ix2 d k) = cb k d

section
variable {N : ℕ} {hN : N = 8} {b : Fin N → Blocks Ideal} {x r : Spec.Points} {cb : Spec.Book} (h : Cut hN b x r cb)
include h

theorem Cut.scores (t : Fin N) (i : Fin 1024) : scoresOf (b t).att i = Spec.score r cb (rowAt hN t i) := funext (h.att t i)

variable {fn : StageFns Ideal} {rb : Blocks Ideal → Fin 1024 → Fin 64 → EReal} (hm : Means fn rb)
  (hr : ∀ t i d, rb (b t) i d = r (rowAt hN t i) d) (hreal : ∀ i, Row.Real (Spec.score r cb i))
include hm

theorem Cut.idx (t : Fin N) (i : Fin 1024) (j : Fin 1) : fn.idx (b t) (ix2 i j) = Row.word (Spec.score r cb (rowAt hN t i)) := by
  rw [hm.idx, h.scores]

include hreal
theorem Cut.xr (t : Fin N) (i : Fin 1024) (d : Fin 64) : fn.xr (b t) (ix2 i d) = Spec.pick r cb (rowAt hN t i) d := by
  rw [hm.xr _ _ _ (by rw [h.scores]; exact hreal _), h.scores, h.ct]
  rfl

include hr
theorem Cut.out (t : Fin N) : outTerm (rb (b t)) (fun i d => fn.xr (b t) (ix2 i d))
    = ∑ i : Fin 1024, ∑ d : Fin 64, (Spec.pick r cb (rowAt hN t i) d - r (rowAt hN t i) d) * (Spec.pick r cb (rowAt hN t i) d - r (rowAt hN t i) d) := by
  unfold outTerm
  simp only [h.xr hm hreal, hr]

omit hreal hm in
theorem Cut.soft (t : Fin N) : softTerm (b t) (rb (b t))
    = ∑ i : Fin 1024, ∑ d : Fin 64, (Spec.blend r cb (rowAt hN t i) d - r (rowAt hN t i) d) * (Spec.blend r cb (rowAt hN t i) d - r (rowAt hN t i) d) := by
  unfold softTerm
  simp only [h.scores, h.ct, hr]
  rfl

omit hreal hm hr in
theorem Cut.match (t : Fin N) : matchTerm (b t)
    = ∑ i : Fin 1024, ∑ k : Fin 1024, (Row.hot (Spec.score r cb (rowAt hN t i)) k - Row.soft (Spec.score r cb (rowAt hN t i)) k)
        * (Row.hot (Spec.score r cb (rowAt hN t i)) k - Row.soft (Spec.score r cb (rowAt hN t i)) k) := by
  unfold matchTerm
  simp only [h.scores]

end

/-- A running sum that gains each block's term ends as the sum of all the terms. -/
theorem sumAt_eq {N : ℕ} (start : Blocks Ideal → Vec Ideal S1x1 .f32) (next : Blocks Ideal → Vec Ideal S1x1 .f32 → Vec Ideal S1x1 .f32)
    (b : Fin N → Blocks Ideal) (term : Fin N → EReal) (j : S1x1.Idx) (hs : ∀ t, start (b t) j = term t)
    (hn : ∀ t a, next (b t) a j = a j + term t) : ∀ (n : ℕ) (h : n < N),
    sumAt start next b n h j = ∑ t : Fin (n + 1), term ⟨t.val, by omega⟩
  | 0, h => by
    rw [Fin.sum_univ_one]
    exact hs _
  | n + 1, h => by
    rw [Fin.sum_univ_castSucc]
    refine (hn _ _).trans ?_
    rw [sumAt_eq start next b term j hs hn n (by omega)]
    rfl

section
variable {N : ℕ} {hN : N = 8} {b : Fin N → Blocks Ideal} {x r : Spec.Points} {cb : Spec.Book} (h : Cut hN b x r cb)
  {fn : StageFns Ideal} {rb : Blocks Ideal → Fin 1024 → Fin 64 → EReal} (hm : Means fn rb)
  (hr : ∀ t i d, rb (b t) i d = r (rowAt hN t i) d) (hreal : ∀ i, Row.Real (Spec.score r cb i))
include h hm hr hreal

theorem Cut.outs (h7 : 7 < N) (j : S1x1.Idx) : sumAt fn.oStart fn.oNext b 7 h7 j = Spec.outSum r cb := by
  subst hN
  rw [sumAt_eq _ _ b _ j (fun t => (hm.o0 _ _).trans (h.out hm hr hreal t)) fun t a => (hm.o _ _ _).trans (congrArg _ (h.out hm hr hreal t))]
  rw [Spec.outSum, Spec.sum_blocks]

theorem Cut.softs (h7 : 7 < N) (j : S1x1.Idx) : sumAt fn.sStart fn.sNext b 7 h7 j = Spec.softSum r cb := by
  subst hN
  rw [sumAt_eq _ _ b _ j (fun t => (hm.s0 _ _).trans (h.soft hr t)) fun t a => (hm.s _ _ _).trans (congrArg _ (h.soft hr t))]
  rw [Spec.softSum, Spec.sum_blocks]

theorem Cut.matches (h7 : 7 < N) (j : S1x1.Idx) : sumAt fn.mStart fn.mNext b 7 h7 j = Spec.matchSum r cb := by
  subst hN
  have hreal' : ∀ t i, Row.Real (scoresOf (b t).att i) := fun t i => by rw [h.scores]; exact hreal _
  rw [sumAt_eq _ _ b _ j (fun t => (hm.m0 _ _ (hreal' t)).trans (h.match t)) fun t a => (hm.m _ _ _ (hreal' t)).trans (congrArg _ (h.match t))]
  rw [Spec.matchSum, Spec.sum_blocks]

end

/-- What a stage leaves in its arrays: `x` the points, `p` what is predicted before it, `cb` its book. -/
structure Gives (x p : Spec.Points) (cb : Spec.Book) (codes : Vec Ideal S8192x1 .i32) (next picked left : Vec Ideal S8192x64 .f32)
    (outs softs matches_ : Vec Ideal S1x1 .f32) : Prop where
  codes : ∀ i j, codes (ix2 i j) = Row.word (Spec.score (fun i d => x i d - p i d) cb i)
  next : ∀ i d, next (ix2 i d) = p i d + Spec.pick (fun i d => x i d - p i d) cb i d
  picked : ∀ i d, picked (ix2 i d) = Spec.pick (fun i d => x i d - p i d) cb i d
  left : ∀ i d, left (ix2 i d) = x i d - (p i d + Spec.pick (fun i d => x i d - p i d) cb i d)
  outs : ∀ j, outs j = Spec.outSum (fun i d => x i d - p i d) cb
  softs : ∀ j, softs j = Spec.softSum (fun i d => x i d - p i d) cb
  matches_ : ∀ j, matches_ j = Spec.matchSum (fun i d => x i d - p i d) cb

/-- Every row is a row of a block. -/
theorem exists_rowAt {N : ℕ} (hN : N = 8) (n : Fin 8192) : ∃ t i, n = rowAt hN t i :=
  ⟨⟨n.val / 1024, by omega⟩, ⟨n.val % 1024, by omega⟩, Fin.ext (by show n.val = n.val / 1024 * 1024 + n.val % 1024; omega)⟩

end Cert.KernelIdeal

end
-- ==== Proof.Value.Stage0.lean ====
/- The first stage's arrays, from the arrays it enters with. -/
module

public import proofs.«01_k».proof.Proof.Kern.Stage0
public import proofs.«01_k».proof.Proof.Value.Cut
public import Idealize.ShloMosaic.Lib.Pipeline.ValueKit.Geometry

@[expose] public section

set_option maxRecDepth 16384

noncomputable section

namespace Cert.KernelIdeal

open Idealize.ShloMosaic Idealize.ShloMosaic.ValueIdx Idealize.ShloMosaic.TcCoe
open Idealize.SL Idealize.SL.RA
open Idealize.ShloMosaic.Rounds Idealize.ShloMosaic.Pipeline
open Cert.KernelIdeal.Gen
open Cert.Spec (rowAt)

theorem index0_0 : ∀ t : Fin cfg0.N, (cfg0.win 0).index t = ![t.val, 0] := (by decide +kernel : ∀ t : Fin grid0.N, win0_0.index t = ![t.val, 0])
theorem index0_1 : ∀ t : Fin cfg0.N, (cfg0.win 1).index t = ![t.val, 0] := (by decide +kernel : ∀ t : Fin grid0.N, win0_1.index t = ![t.val, 0])
theorem index0_2 : ∀ t : Fin cfg0.N, (cfg0.win 2).index t = ![t.val, 0] := (by decide +kernel : ∀ t : Fin grid0.N, win0_2.index t = ![t.val, 0])
theorem index0_3 : ∀ t : Fin cfg0.N, (cfg0.win 3).index t = ![0, 0] := (by decide +kernel : ∀ t : Fin grid0.N, win0_3.index t = ![0, 0])
theorem index0_4 : ∀ t : Fin cfg0.N, (cfg0.win 4).index t = ![t.val, 0] := (by decide +kernel : ∀ t : Fin grid0.N, win0_4.index t = ![t.val, 0])
theorem index0_5 : ∀ t : Fin cfg0.N, (cfg0.win 5).index t = ![t.val, 0] := (by decide +kernel : ∀ t : Fin grid0.N, win0_5.index t = ![t.val, 0])
theorem index0_6 : ∀ t : Fin cfg0.N, (cfg0.win 6).index t = ![t.val, 0] := (by decide +kernel : ∀ t : Fin grid0.N, win0_6.index t = ![t.val, 0])
theorem index0_7 : ∀ t : Fin cfg0.N, (cfg0.win 7).index t = ![t.val, 0] := (by decide +kernel : ∀ t : Fin grid0.N, win0_7.index t = ![t.val, 0])

theorem emb0_0 (t : Fin cfg0.N) (i : Fin 1024) (d : Fin 64) : ((cfg0.win 0).blk t).view.emb (ix2 i d) = ix2 (rowAt N_0 t i) d := by
  funext a; apply Fin.ext
  match a with
  | ⟨0, _⟩ => exact ((cfg0.win 0).rect_emb_val t _ 0).trans (by rw [index0_0]; rfl)
  | ⟨1, _⟩ => exact ((cfg0.win 0).rect_emb_val t _ 1).trans (by rw [index0_0]; show 0 * 64 + d.val = d.val; omega)
theorem emb0_2 (t : Fin cfg0.N) (i : Fin 1024) (d : Fin 1024) : ((cfg0.win 2).blk t).view.emb (ix2 i d) = ix2 (rowAt N_0 t i) d := by
  funext a; apply Fin.ext
  match a with
  | ⟨0, _⟩ => exact ((cfg0.win 2).rect_emb_val t _ 0).trans (by rw [index0_2]; rfl)
  | ⟨1, _⟩ => exact ((cfg0.win 2).rect_emb_val t _ 1).trans (by rw [index0_2]; show 0 * 1024 + d.val = d.val; omega)
theorem emb0_4 (t : Fin cfg0.N) (i : Fin 1024) (d : Fin 1) : ((cfg0.win 4).blk t).view.emb (ix2 i d) = ix2 (rowAt N_0 t i) d := by
  funext a; apply Fin.ext
  match a with
  | ⟨0, _⟩ => exact ((cfg0.win 4).rect_emb_val t _ 0).trans (by rw [index0_4]; rfl)
  | ⟨1, _⟩ => exact ((cfg0.win 4).rect_emb_val t _ 1).trans (by rw [index0_4]; show 0 * 1 + d.val = d.val; omega)
theorem emb0_5 (t : Fin cfg0.N) (i : Fin 1024) (d : Fin 64) : ((cfg0.win 5).blk t).view.emb (ix2 i d) = ix2 (rowAt N_0 t i) d := by
  funext a; apply Fin.ext
  match a with
  | ⟨0, _⟩ => exact ((cfg0.win 5).rect_emb_val t _ 0).trans (by rw [index0_5]; rfl)
  | ⟨1, _⟩ => exact ((cfg0.win 5).rect_emb_val t _ 1).trans (by rw [index0_5]; show 0 * 64 + d.val = d.val; omega)
theorem emb0_6 (t : Fin cfg0.N) (i : Fin 1024) (d : Fin 64) : ((cfg0.win 6).blk t).view.emb (ix2 i d) = ix2 (rowAt N_0 t i) d := by
  funext a; apply Fin.ext
  match a with
  | ⟨0, _⟩ => exact ((cfg0.win 6).rect_emb_val t _ 0).trans (by rw [index0_6]; rfl)
  | ⟨1, _⟩ => exact ((cfg0.win 6).rect_emb_val t _ 1).trans (by rw [index0_6]; show 0 * 64 + d.val = d.val; omega)
theorem emb0_7 (t : Fin cfg0.N) (i : Fin 1024) (d : Fin 64) : ((cfg0.win 7).blk t).view.emb (ix2 i d) = ix2 (rowAt N_0 t i) d := by
  funext a; apply Fin.ext
  match a with
  | ⟨0, _⟩ => exact ((cfg0.win 7).rect_emb_val t _ 0).trans (by rw [index0_7]; rfl)
  | ⟨1, _⟩ => exact ((cfg0.win 7).rect_emb_val t _ 1).trans (by rw [index0_7]; show 0 * 64 + d.val = d.val; omega)
theorem emb0_3 (t : Fin cfg0.N) (d : Fin 64) (k : Fin 1024) : ((cfg0.win 3).blk t).view.emb (ix2 d k) = ix2 d k := by
  funext a; apply Fin.ext
  match a with
  | ⟨0, _⟩ => exact ((cfg0.win 3).rect_emb_val t _ 0).trans (by rw [index0_3]; show 0 * 64 + d.val = d.val; omega)
  | ⟨1, _⟩ => exact ((cfg0.win 3).rect_emb_val t _ 1).trans (by rw [index0_3]; show 0 * 1024 + k.val = k.val; omega)

theorem seven0 : 7 < cfg0.N := lt_of_lt_of_eq (by decide) N_0.symm
theorem apart0_4 : ∀ t t' : Fin cfg0.N, (cfg0.win 4).flush t = true → (cfg0.win 4).flush t' = true → t ≠ t' →
    Disjoint ((cfg0.win 4).blk t).view.set ((cfg0.win 4).blk t').view.set :=
  (cfg0.win 4).hdisj_of_index_inj fun t t' _ _ e => Fin.ext (by
    rw [index0_4, index0_4] at e
    exact congrFun e 0)
theorem apart0_5 : ∀ t t' : Fin cfg0.N, (cfg0.win 5).flush t = true → (cfg0.win 5).flush t' = true → t ≠ t' →
    Disjoint ((cfg0.win 5).blk t).view.set ((cfg0.win 5).blk t').view.set :=
  (cfg0.win 5).hdisj_of_index_inj fun t t' _ _ e => Fin.ext (by
    rw [index0_5, index0_5] at e
    exact congrFun e 0)
theorem apart0_6 : ∀ t t' : Fin cfg0.N, (cfg0.win 6).flush t = true → (cfg0.win 6).flush t' = true → t ≠ t' →
    Disjoint ((cfg0.win 6).blk t).view.set ((cfg0.win 6).blk t').view.set :=
  (cfg0.win 6).hdisj_of_index_inj fun t t' _ _ e => Fin.ext (by
    rw [index0_6, index0_6] at e
    exact congrFun e 0)
theorem apart0_7 : ∀ t t' : Fin cfg0.N, (cfg0.win 7).flush t = true → (cfg0.win 7).flush t' = true → t ≠ t' →
    Disjoint ((cfg0.win 7).blk t).view.set ((cfg0.win 7).blk t').view.set :=
  (cfg0.win 7).hdisj_of_index_inj fun t t' _ _ e => Fin.ext (by
    rw [index0_7, index0_7] at e
    exact congrFun e 0)

/-! ## What the arrays hold after it -/

variable (V : Entry Ideal) (c : Dev nD)

theorem placed0_4 {c : Dev nD} (dat : Dat τ (Elt Ideal) Unit ℕ (UR sig nD τ) ℕ cfg0 c) (t : Fin cfg0.N) (X : Vec Ideal S1024x1 .i32) (hX : dat.after 4 t = X)
    (i : Fin 1024) (d : Fin 1) : dat.arrAt 4 cfg0.N (ix2 (rowAt N_0 t i) d) = X (ix2 i d) :=
  (congrArg (dat.arrAt 4 cfg0.N) (emb0_4 t i d)).symm.trans
    ((dat.arrAt_emb_eq_flushed 4 apart0_4 t (flush0_4 t) (ix2 i d)).trans (congrFun hX (ix2 i d)))
theorem final0_4 (t : Fin cfg0.N) (i : Fin 1024) (d : Fin 1) :
    (dat0 V c).arrAt 4 cfg0.N (ix2 (rowAt N_0 t i) d) = firstFns.idx (blocks0 V c t) (ix2 i d) :=
  placed0_4 (dat0 V c) t _ (after0_4 V c t) i d
theorem placed0_5 {c : Dev nD} (dat : Dat τ (Elt Ideal) Unit ℕ (UR sig nD τ) ℕ cfg0 c) (t : Fin cfg0.N) (X : Vec Ideal S1024x64 .f32) (hX : dat.after 5 t = X)
    (i : Fin 1024) (d : Fin 64) : dat.arrAt 5 cfg0.N (ix2 (rowAt N_0 t i) d) = X (ix2 i d) :=
  (congrArg (dat.arrAt 5 cfg0.N) (emb0_5 t i d)).symm.trans
    ((dat.arrAt_emb_eq_flushed 5 apart0_5 t (flush0_5 t) (ix2 i d)).trans (congrFun hX (ix2 i d)))
theorem final0_5 (t : Fin cfg0.N) (i : Fin 1024) (d : Fin 64) :
    (dat0 V c).arrAt 5 cfg0.N (ix2 (rowAt N_0 t i) d) = firstFns.xpm (blocks0 V c t) (ix2 i d) :=
  placed0_5 (dat0 V c) t _ (after0_5 V c t) i d
theorem placed0_6 {c : Dev nD} (dat : Dat τ (Elt Ideal) Unit ℕ (UR sig nD τ) ℕ cfg0 c) (t : Fin cfg0.N) (X : Vec Ideal S1024x64 .f32) (hX : dat.after 6 t = X)
    (i : Fin 1024) (d : Fin 64) : dat.arrAt 6 cfg0.N (ix2 (rowAt N_0 t i) d) = X (ix2 i d) :=
  (congrArg (dat.arrAt 6 cfg0.N) (emb0_6 t i d)).symm.trans
    ((dat.arrAt_emb_eq_flushed 6 apart0_6 t (flush0_6 t) (ix2 i d)).trans (congrFun hX (ix2 i d)))
theorem final0_6 (t : Fin cfg0.N) (i : Fin 1024) (d : Fin 64) :
    (dat0 V c).arrAt 6 cfg0.N (ix2 (rowAt N_0 t i) d) = firstFns.xr (blocks0 V c t) (ix2 i d) :=
  placed0_6 (dat0 V c) t _ (after0_6 V c t) i d
theorem placed0_7 {c : Dev nD} (dat : Dat τ (Elt Ideal) Unit ℕ (UR sig nD τ) ℕ cfg0 c) (t : Fin cfg0.N) (X : Vec Ideal S1024x64 .f32) (hX : dat.after 7 t = X)
    (i : Fin 1024) (d : Fin 64) : dat.arrAt 7 cfg0.N (ix2 (rowAt N_0 t i) d) = X (ix2 i d) :=
  (congrArg (dat.arrAt 7 cfg0.N) (emb0_7 t i d)).symm.trans
    ((dat.arrAt_emb_eq_flushed 7 apart0_7 t (flush0_7 t) (ix2 i d)).trans (congrFun hX (ix2 i d)))
theorem final0_7 (t : Fin cfg0.N) (i : Fin 1024) (d : Fin 64) :
    (dat0 V c).arrAt 7 cfg0.N (ix2 (rowAt N_0 t i) d) = firstFns.res (blocks0 V c t) (ix2 i d) :=
  placed0_7 (dat0 V c) t _ (after0_7 V c t) i d
theorem placed0_8 {c : Dev nD} (dat : Dat τ (Elt Ideal) Unit ℕ (UR sig nD τ) ℕ cfg0 c) (X : Vec Ideal S1x1 .f32) (hX : dat.after 8 ⟨7, seven0⟩ = X) (j : S1x1.Idx) :
    dat.arrAt 8 cfg0.N j = X j :=
  (dat.arrAt_emb_eq_after_last 8 ⟨7, seven0⟩ (by decide +kernel) j).trans (congrFun hX j)
theorem final0_8 (j : S1x1.Idx) :
    (dat0 V c).arrAt 8 cfg0.N j = sumAt firstFns.oStart firstFns.oNext (blocks0 V c) 7 seven0 j :=
  placed0_8 (dat0 V c) _ (after0_8 V c ⟨7, seven0⟩) j
theorem placed0_9 {c : Dev nD} (dat : Dat τ (Elt Ideal) Unit ℕ (UR sig nD τ) ℕ cfg0 c) (X : Vec Ideal S1x1 .f32) (hX : dat.after 9 ⟨7, seven0⟩ = X) (j : S1x1.Idx) :
    dat.arrAt 9 cfg0.N j = X j :=
  (dat.arrAt_emb_eq_after_last 9 ⟨7, seven0⟩ (by decide +kernel) j).trans (congrFun hX j)
theorem final0_9 (j : S1x1.Idx) :
    (dat0 V c).arrAt 9 cfg0.N j = sumAt firstFns.sStart firstFns.sNext (blocks0 V c) 7 seven0 j :=
  placed0_9 (dat0 V c) _ (after0_9 V c ⟨7, seven0⟩) j
theorem placed0_10 {c : Dev nD} (dat : Dat τ (Elt Ideal) Unit ℕ (UR sig nD τ) ℕ cfg0 c) (X : Vec Ideal S1x1 .f32) (hX : dat.after 10 ⟨7, seven0⟩ = X) (j : S1x1.Idx) :
    dat.arrAt 10 cfg0.N j = X j :=
  (dat.arrAt_emb_eq_after_last 10 ⟨7, seven0⟩ (by decide +kernel) j).trans (congrFun hX j)
theorem final0_10 (j : S1x1.Idx) :
    (dat0 V c).arrAt 10 cfg0.N j = sumAt firstFns.mStart firstFns.mNext (blocks0 V c) 7 seven0 j :=
  placed0_10 (dat0 V c) _ (after0_10 V c ⟨7, seven0⟩) j

set_option maxHeartbeats 1000000 in
/-- The stage quantizes what is left of the points, given the points, what is predicted, the scores and the book. -/
theorem gives0 (x p : Spec.Points) (cb : Spec.Book) (hx : ∀ i d, V c main_arg0 (ix2 i d) = x i d)
    (hp : ∀ i d, p i d = 0)
    (ha : ∀ i k, V c main_v10 (ix2 i k) = Spec.score (fun i d => x i d - p i d) cb i k) (hc : ∀ d k, V c main_v13 (ix2 d k) = cb k d)
    (hreal : ∀ i, Row.Real (Spec.score (fun i d => x i d - p i d) cb i)) :
    Gives x p cb ((dat0 V c).arrAt 4 cfg0.N) ((dat0 V c).arrAt 5 cfg0.N) ((dat0 V c).arrAt 6 cfg0.N) ((dat0 V c).arrAt 7 cfg0.N)
      ((dat0 V c).arrAt 8 cfg0.N) ((dat0 V c).arrAt 9 cfg0.N) ((dat0 V c).arrAt 10 cfg0.N) := by
  have bx : ∀ t i d, (blocks0 V c t).x (ix2 i d) = x (rowAt N_0 t i) d := fun t i d => (congrArg (V c main_arg0) (emb0_0 t i d)).trans (hx _ _)
  have hcut : Cut N_0 (blocks0 V c) x (fun i d => x i d - p i d) cb :=
    ⟨bx, fun t i k => (congrArg (V c main_v10) (emb0_2 t i k)).trans (ha _ _), fun t d k => (congrArg (V c main_v13) (emb0_3 t d k)).trans (hc _ _)⟩
  have hr : ∀ t i d, (blocks0 V c t).x (ix2 i d) = x (rowAt N_0 t i) d - p (rowAt N_0 t i) d := fun t i d => by rw [bx, hp, sub_zero]
  have hxr := hcut.xr first_means hreal
  refine ⟨fun i j => ?_, fun i d => ?_, fun i d => ?_, fun i d => ?_, fun j => ?_, fun j => ?_, fun j => ?_⟩
  · obtain ⟨t, i, rfl⟩ := exists_rowAt N_0 i
    rw [final0_4]; exact hcut.idx first_means t i j
  · obtain ⟨t, i, rfl⟩ := exists_rowAt N_0 i
    rw [final0_5, first_xpm, hxr, hp, zero_add]
  · obtain ⟨t, i, rfl⟩ := exists_rowAt N_0 i
    rw [final0_6, hxr]
  · obtain ⟨t, i, rfl⟩ := exists_rowAt N_0 i
    rw [final0_7, first_res, hxr, bx, hp (rowAt N_0 t i) d, zero_add]
  · rw [final0_8]; exact hcut.outs first_means hr hreal _ j
  · rw [final0_9]; exact hcut.softs first_means hr hreal _ j
  · rw [final0_10]; exact hcut.matches first_means hr hreal _ j

end Cert.KernelIdeal

end
-- ==== Proof.Value.Stage1.lean ====
/- The second stage's arrays, from the arrays it enters with. -/
module

public import proofs.«01_k».proof.Proof.Kern.Stage1
public import proofs.«01_k».proof.Proof.Value.Cut
public import Idealize.ShloMosaic.Lib.Pipeline.ValueKit.Geometry

@[expose] public section

set_option maxRecDepth 16384

noncomputable section

namespace Cert.KernelIdeal

open Idealize.ShloMosaic Idealize.ShloMosaic.ValueIdx Idealize.ShloMosaic.TcCoe
open Idealize.SL Idealize.SL.RA
open Idealize.ShloMosaic.Rounds Idealize.ShloMosaic.Pipeline
open Cert.KernelIdeal.Gen
open Cert.Spec (rowAt)

theorem index1_0 : ∀ t : Fin cfg1.N, (cfg1.win 0).index t = ![t.val, 0] := (by decide +kernel : ∀ t : Fin grid1.N, win1_0.index t = ![t.val, 0])
theorem index1_1 : ∀ t : Fin cfg1.N, (cfg1.win 1).index t = ![t.val, 0] := (by decide +kernel : ∀ t : Fin grid1.N, win1_1.index t = ![t.val, 0])
theorem index1_2 : ∀ t : Fin cfg1.N, (cfg1.win 2).index t = ![t.val, 0] := (by decide +kernel : ∀ t : Fin grid1.N, win1_2.index t = ![t.val, 0])
theorem index1_3 : ∀ t : Fin cfg1.N, (cfg1.win 3).index t = ![0, 0] := (by decide +kernel : ∀ t : Fin grid1.N, win1_3.index t = ![0, 0])
theorem index1_4 : ∀ t : Fin cfg1.N, (cfg1.win 4).index t = ![t.val, 0] := (by decide +kernel : ∀ t : Fin grid1.N, win1_4.index t = ![t.val, 0])
theorem index1_5 : ∀ t : Fin cfg1.N, (cfg1.win 5).index t = ![t.val, 0] := (by decide +kernel : ∀ t : Fin grid1.N, win1_5.index t = ![t.val, 0])
theorem index1_6 : ∀ t : Fin cfg1.N, (cfg1.win 6).index t = ![t.val, 0] := (by decide +kernel : ∀ t : Fin grid1.N, win1_6.index t = ![t.val, 0])
theorem index1_7 : ∀ t : Fin cfg1.N, (cfg1.win 7).index t = ![t.val, 0] := (by decide +kernel : ∀ t : Fin grid1.N, win1_7.index t = ![t.val, 0])

theorem emb1_0 (t : Fin cfg1.N) (i : Fin 1024) (d : Fin 64) : ((cfg1.win 0).blk t).view.emb (ix2 i d) = ix2 (rowAt N_1 t i) d := by
  funext a; apply Fin.ext
  match a with
  | ⟨0, _⟩ => exact ((cfg1.win 0).rect_emb_val t _ 0).trans (by rw [index1_0]; rfl)
  | ⟨1, _⟩ => exact ((cfg1.win 0).rect_emb_val t _ 1).trans (by rw [index1_0]; show 0 * 64 + d.val = d.val; omega)
theorem emb1_1 (t : Fin cfg1.N) (i : Fin 1024) (d : Fin 64) : ((cfg1.win 1).blk t).view.emb (ix2 i d) = ix2 (rowAt N_1 t i) d := by
  funext a; apply Fin.ext
  match a with
  | ⟨0, _⟩ => exact ((cfg1.win 1).rect_emb_val t _ 0).trans (by rw [index1_1]; rfl)
  | ⟨1, _⟩ => exact ((cfg1.win 1).rect_emb_val t _ 1).trans (by rw [index1_1]; show 0 * 64 + d.val = d.val; omega)
theorem emb1_2 (t : Fin cfg1.N) (i : Fin 1024) (d : Fin 1024) : ((cfg1.win 2).blk t).view.emb (ix2 i d) = ix2 (rowAt N_1 t i) d := by
  funext a; apply Fin.ext
  match a with
  | ⟨0, _⟩ => exact ((cfg1.win 2).rect_emb_val t _ 0).trans (by rw [index1_2]; rfl)
  | ⟨1, _⟩ => exact ((cfg1.win 2).rect_emb_val t _ 1).trans (by rw [index1_2]; show 0 * 1024 + d.val = d.val; omega)
theorem emb1_4 (t : Fin cfg1.N) (i : Fin 1024) (d : Fin 1) : ((cfg1.win 4).blk t).view.emb (ix2 i d) = ix2 (rowAt N_1 t i) d := by
  funext a; apply Fin.ext
  match a with
  | ⟨0, _⟩ => exact ((cfg1.win 4).rect_emb_val t _ 0).trans (by rw [index1_4]; rfl)
  | ⟨1, _⟩ => exact ((cfg1.win 4).rect_emb_val t _ 1).trans (by rw [index1_4]; show 0 * 1 + d.val = d.val; omega)
theorem emb1_5 (t : Fin cfg1.N) (i : Fin 1024) (d : Fin 64) : ((cfg1.win 5).blk t).view.emb (ix2 i d) = ix2 (rowAt N_1 t i) d := by
  funext a; apply Fin.ext
  match a with
  | ⟨0, _⟩ => exact ((cfg1.win 5).rect_emb_val t _ 0).trans (by rw [index1_5]; rfl)
  | ⟨1, _⟩ => exact ((cfg1.win 5).rect_emb_val t _ 1).trans (by rw [index1_5]; show 0 * 64 + d.val = d.val; omega)
theorem emb1_6 (t : Fin cfg1.N) (i : Fin 1024) (d : Fin 64) : ((cfg1.win 6).blk t).view.emb (ix2 i d) = ix2 (rowAt N_1 t i) d := by
  funext a; apply Fin.ext
  match a with
  | ⟨0, _⟩ => exact ((cfg1.win 6).rect_emb_val t _ 0).trans (by rw [index1_6]; rfl)
  | ⟨1, _⟩ => exact ((cfg1.win 6).rect_emb_val t _ 1).trans (by rw [index1_6]; show 0 * 64 + d.val = d.val; omega)
theorem emb1_7 (t : Fin cfg1.N) (i : Fin 1024) (d : Fin 64) : ((cfg1.win 7).blk t).view.emb (ix2 i d) = ix2 (rowAt N_1 t i) d := by
  funext a; apply Fin.ext
  match a with
  | ⟨0, _⟩ => exact ((cfg1.win 7).rect_emb_val t _ 0).trans (by rw [index1_7]; rfl)
  | ⟨1, _⟩ => exact ((cfg1.win 7).rect_emb_val t _ 1).trans (by rw [index1_7]; show 0 * 64 + d.val = d.val; omega)
theorem emb1_3 (t : Fin cfg1.N) (d : Fin 64) (k : Fin 1024) : ((cfg1.win 3).blk t).view.emb (ix2 d k) = ix2 d k := by
  funext a; apply Fin.ext
  match a with
  | ⟨0, _⟩ => exact ((cfg1.win 3).rect_emb_val t _ 0).trans (by rw [index1_3]; show 0 * 64 + d.val = d.val; omega)
  | ⟨1, _⟩ => exact ((cfg1.win 3).rect_emb_val t _ 1).trans (by rw [index1_3]; show 0 * 1024 + k.val = k.val; omega)

theorem seven1 : 7 < cfg1.N := lt_of_lt_of_eq (by decide) N_1.symm
theorem apart1_4 : ∀ t t' : Fin cfg1.N, (cfg1.win 4).flush t = true → (cfg1.win 4).flush t' = true → t ≠ t' →
    Disjoint ((cfg1.win 4).blk t).view.set ((cfg1.win 4).blk t').view.set :=
  (cfg1.win 4).hdisj_of_index_inj fun t t' _ _ e => Fin.ext (by
    rw [index1_4, index1_4] at e
    exact congrFun e 0)
theorem apart1_5 : ∀ t t' : Fin cfg1.N, (cfg1.win 5).flush t = true → (cfg1.win 5).flush t' = true → t ≠ t' →
    Disjoint ((cfg1.win 5).blk t).view.set ((cfg1.win 5).blk t').view.set :=
  (cfg1.win 5).hdisj_of_index_inj fun t t' _ _ e => Fin.ext (by
    rw [index1_5, index1_5] at e
    exact congrFun e 0)
theorem apart1_6 : ∀ t t' : Fin cfg1.N, (cfg1.win 6).flush t = true → (cfg1.win 6).flush t' = true → t ≠ t' →
    Disjoint ((cfg1.win 6).blk t).view.set ((cfg1.win 6).blk t').view.set :=
  (cfg1.win 6).hdisj_of_index_inj fun t t' _ _ e => Fin.ext (by
    rw [index1_6, index1_6] at e
    exact congrFun e 0)
theorem apart1_7 : ∀ t t' : Fin cfg1.N, (cfg1.win 7).flush t = true → (cfg1.win 7).flush t' = true → t ≠ t' →
    Disjoint ((cfg1.win 7).blk t).view.set ((cfg1.win 7).blk t').view.set :=
  (cfg1.win 7).hdisj_of_index_inj fun t t' _ _ e => Fin.ext (by
    rw [index1_7, index1_7] at e
    exact congrFun e 0)

/-! ## What the arrays hold after it -/

variable (V : Entry Ideal) (c : Dev nD)

theorem placed1_4 {c : Dev nD} (dat : Dat τ (Elt Ideal) Unit ℕ (UR sig nD τ) ℕ cfg1 c) (t : Fin cfg1.N) (X : Vec Ideal S1024x1 .i32) (hX : dat.after 4 t = X)
    (i : Fin 1024) (d : Fin 1) : dat.arrAt 4 cfg1.N (ix2 (rowAt N_1 t i) d) = X (ix2 i d) :=
  (congrArg (dat.arrAt 4 cfg1.N) (emb1_4 t i d)).symm.trans
    ((dat.arrAt_emb_eq_flushed 4 apart1_4 t (flush1_4 t) (ix2 i d)).trans (congrFun hX (ix2 i d)))
theorem final1_4 (t : Fin cfg1.N) (i : Fin 1024) (d : Fin 1) :
    (dat1 V c).arrAt 4 cfg1.N (ix2 (rowAt N_1 t i) d) = laterFns.idx (blocks1 V c t) (ix2 i d) :=
  placed1_4 (dat1 V c) t _ (after1_4 V c t) i d
theorem placed1_5 {c : Dev nD} (dat : Dat τ (Elt Ideal) Unit ℕ (UR sig nD τ) ℕ cfg1 c) (t : Fin cfg1.N) (X : Vec Ideal S1024x64 .f32) (hX : dat.after 5 t = X)
    (i : Fin 1024) (d : Fin 64) : dat.arrAt 5 cfg1.N (ix2 (rowAt N_1 t i) d) = X (ix2 i d) :=
  (congrArg (dat.arrAt 5 cfg1.N) (emb1_5 t i d)).symm.trans
    ((dat.arrAt_emb_eq_flushed 5 apart1_5 t (flush1_5 t) (ix2 i d)).trans (congrFun hX (ix2 i d)))
theorem final1_5 (t : Fin cfg1.N) (i : Fin 1024) (d : Fin 64) :
    (dat1 V c).arrAt 5 cfg1.N (ix2 (rowAt N_1 t i) d) = laterFns.xpm (blocks1 V c t) (ix2 i d) :=
  placed1_5 (dat1 V c) t _ (after1_5 V c t) i d
theorem placed1_6 {c : Dev nD} (dat : Dat τ (Elt Ideal) Unit ℕ (UR sig nD τ) ℕ cfg1 c) (t : Fin cfg1.N) (X : Vec Ideal S1024x64 .f32) (hX : dat.after 6 t = X)
    (i : Fin 1024) (d : Fin 64) : dat.arrAt 6 cfg1.N (ix2 (rowAt N_1 t i) d) = X (ix2 i d) :=
  (congrArg (dat.arrAt 6 cfg1.N) (emb1_6 t i d)).symm.trans
    ((dat.arrAt_emb_eq_flushed 6 apart1_6 t (flush1_6 t) (ix2 i d)).trans (congrFun hX (ix2 i d)))
theorem final1_6 (t : Fin cfg1.N) (i : Fin 1024) (d : Fin 64) :
    (dat1 V c).arrAt 6 cfg1.N (ix2 (rowAt N_1 t i) d) = laterFns.xr (blocks1 V c t) (ix2 i d) :=
  placed1_6 (dat1 V c) t _ (after1_6 V c t) i d
theorem placed1_7 {c : Dev nD} (dat : Dat τ (Elt Ideal) Unit ℕ (UR sig nD τ) ℕ cfg1 c) (t : Fin cfg1.N) (X : Vec Ideal S1024x64 .f32) (hX : dat.after 7 t = X)
    (i : Fin 1024) (d : Fin 64) : dat.arrAt 7 cfg1.N (ix2 (rowAt N_1 t i) d) = X (ix2 i d) :=
  (congrArg (dat.arrAt 7 cfg1.N) (emb1_7 t i d)).symm.trans
    ((dat.arrAt_emb_eq_flushed 7 apart1_7 t (flush1_7 t) (ix2 i d)).trans (congrFun hX (ix2 i d)))
theorem final1_7 (t : Fin cfg1.N) (i : Fin 1024) (d : Fin 64) :
    (dat1 V c).arrAt 7 cfg1.N (ix2 (rowAt N_1 t i) d) = laterFns.res (blocks1 V c t) (ix2 i d) :=
  placed1_7 (dat1 V c) t _ (after1_7 V c t) i d
theorem placed1_8 {c : Dev nD} (dat : Dat τ (Elt Ideal) Unit ℕ (UR sig nD τ) ℕ cfg1 c) (X : Vec Ideal S1x1 .f32) (hX : dat.after 8 ⟨7, seven1⟩ = X) (j : S1x1.Idx) :
    dat.arrAt 8 cfg1.N j = X j :=
  (dat.arrAt_emb_eq_after_last 8 ⟨7, seven1⟩ (by decide +kernel) j).trans (congrFun hX j)
theorem final1_8 (j : S1x1.Idx) :
    (dat1 V c).arrAt 8 cfg1.N j = sumAt laterFns.oStart laterFns.oNext (blocks1 V c) 7 seven1 j :=
  placed1_8 (dat1 V c) _ (after1_8 V c ⟨7, seven1⟩) j
theorem placed1_9 {c : Dev nD} (dat : Dat τ (Elt Ideal) Unit ℕ (UR sig nD τ) ℕ cfg1 c) (X : Vec Ideal S1x1 .f32) (hX : dat.after 9 ⟨7, seven1⟩ = X) (j : S1x1.Idx) :
    dat.arrAt 9 cfg1.N j = X j :=
  (dat.arrAt_emb_eq_after_last 9 ⟨7, seven1⟩ (by decide +kernel) j).trans (congrFun hX j)
theorem final1_9 (j : S1x1.Idx) :
    (dat1 V c).arrAt 9 cfg1.N j = sumAt laterFns.sStart laterFns.sNext (blocks1 V c) 7 seven1 j :=
  placed1_9 (dat1 V c) _ (after1_9 V c ⟨7, seven1⟩) j
theorem placed1_10 {c : Dev nD} (dat : Dat τ (Elt Ideal) Unit ℕ (UR sig nD τ) ℕ cfg1 c) (X : Vec Ideal S1x1 .f32) (hX : dat.after 10 ⟨7, seven1⟩ = X) (j : S1x1.Idx) :
    dat.arrAt 10 cfg1.N j = X j :=
  (dat.arrAt_emb_eq_after_last 10 ⟨7, seven1⟩ (by decide +kernel) j).trans (congrFun hX j)
theorem final1_10 (j : S1x1.Idx) :
    (dat1 V c).arrAt 10 cfg1.N j = sumAt laterFns.mStart laterFns.mNext (blocks1 V c) 7 seven1 j :=
  placed1_10 (dat1 V c) _ (after1_10 V c ⟨7, seven1⟩) j

set_option maxHeartbeats 1000000 in
/-- The stage quantizes what is left of the points, given the points, what is predicted, the scores and the book. -/
theorem gives1 (x p : Spec.Points) (cb : Spec.Book) (hx : ∀ i d, V c main_arg0 (ix2 i d) = x i d)
    (hp : ∀ i d, V c main_v14_1 (ix2 i d) = p i d)
    (ha : ∀ i k, V c main_v25 (ix2 i k) = Spec.score (fun i d => x i d - p i d) cb i k) (hc : ∀ d k, V c main_v28 (ix2 d k) = cb k d)
    (hreal : ∀ i, Row.Real (Spec.score (fun i d => x i d - p i d) cb i)) :
    Gives x p cb ((dat1 V c).arrAt 4 cfg1.N) ((dat1 V c).arrAt 5 cfg1.N) ((dat1 V c).arrAt 6 cfg1.N) ((dat1 V c).arrAt 7 cfg1.N)
      ((dat1 V c).arrAt 8 cfg1.N) ((dat1 V c).arrAt 9 cfg1.N) ((dat1 V c).arrAt 10 cfg1.N) := by
  have bx : ∀ t i d, (blocks1 V c t).x (ix2 i d) = x (rowAt N_1 t i) d := fun t i d => (congrArg (V c main_arg0) (emb1_0 t i d)).trans (hx _ _)
  have bp : ∀ t i d, (blocks1 V c t).p (ix2 i d) = p (rowAt N_1 t i) d := fun t i d => (congrArg (V c main_v14_1) (emb1_1 t i d)).trans (hp _ _)
  have hcut : Cut N_1 (blocks1 V c) x (fun i d => x i d - p i d) cb :=
    ⟨bx, fun t i k => (congrArg (V c main_v25) (emb1_2 t i k)).trans (ha _ _), fun t d k => (congrArg (V c main_v28) (emb1_3 t d k)).trans (hc _ _)⟩
  have hr : ∀ t i d, (blocks1 V c t).x (ix2 i d) - (blocks1 V c t).p (ix2 i d) = x (rowAt N_1 t i) d - p (rowAt N_1 t i) d :=
    fun t i d => by rw [bx, bp]
  have hxr := hcut.xr later_means hreal
  refine ⟨fun i j => ?_, fun i d => ?_, fun i d => ?_, fun i d => ?_, fun j => ?_, fun j => ?_, fun j => ?_⟩
  · obtain ⟨t, i, rfl⟩ := exists_rowAt N_1 i
    rw [final1_4]; exact hcut.idx later_means t i j
  · obtain ⟨t, i, rfl⟩ := exists_rowAt N_1 i
    rw [final1_5, later_xpm, hxr, bp]
  · obtain ⟨t, i, rfl⟩ := exists_rowAt N_1 i
    rw [final1_6, hxr]
  · obtain ⟨t, i, rfl⟩ := exists_rowAt N_1 i
    rw [final1_7, later_res, hxr, bx, bp]
  · rw [final1_8]; exact hcut.outs later_means hr hreal _ j
  · rw [final1_9]; exact hcut.softs later_means hr hreal _ j
  · rw [final1_10]; exact hcut.matches later_means hr hreal _ j

end Cert.KernelIdeal

end
-- ==== Proof.Value.Stage2.lean ====
/- The third stage's arrays, from the arrays it enters with. -/
module

public import proofs.«01_k».proof.Proof.Kern.Stage2
public import proofs.«01_k».proof.Proof.Value.Cut
public import Idealize.ShloMosaic.Lib.Pipeline.ValueKit.Geometry

@[expose] public section

set_option maxRecDepth 16384

noncomputable section

namespace Cert.KernelIdeal

open Idealize.ShloMosaic Idealize.ShloMosaic.ValueIdx Idealize.ShloMosaic.TcCoe
open Idealize.SL Idealize.SL.RA
open Idealize.ShloMosaic.Rounds Idealize.ShloMosaic.Pipeline
open Cert.KernelIdeal.Gen
open Cert.Spec (rowAt)

theorem index2_0 : ∀ t : Fin cfg2.N, (cfg2.win 0).index t = ![t.val, 0] := (by decide +kernel : ∀ t : Fin grid2.N, win2_0.index t = ![t.val, 0])
theorem index2_1 : ∀ t : Fin cfg2.N, (cfg2.win 1).index t = ![t.val, 0] := (by decide +kernel : ∀ t : Fin grid2.N, win2_1.index t = ![t.val, 0])
theorem index2_2 : ∀ t : Fin cfg2.N, (cfg2.win 2).index t = ![t.val, 0] := (by decide +kernel : ∀ t : Fin grid2.N, win2_2.index t = ![t.val, 0])
theorem index2_3 : ∀ t : Fin cfg2.N, (cfg2.win 3).index t = ![0, 0] := (by decide +kernel : ∀ t : Fin grid2.N, win2_3.index t = ![0, 0])
theorem index2_4 : ∀ t : Fin cfg2.N, (cfg2.win 4).index t = ![t.val, 0] := (by decide +kernel : ∀ t : Fin grid2.N, win2_4.index t = ![t.val, 0])
theorem index2_5 : ∀ t : Fin cfg2.N, (cfg2.win 5).index t = ![t.val, 0] := (by decide +kernel : ∀ t : Fin grid2.N, win2_5.index t = ![t.val, 0])
theorem index2_6 : ∀ t : Fin cfg2.N, (cfg2.win 6).index t = ![t.val, 0] := (by decide +kernel : ∀ t : Fin grid2.N, win2_6.index t = ![t.val, 0])
theorem index2_7 : ∀ t : Fin cfg2.N, (cfg2.win 7).index t = ![t.val, 0] := (by decide +kernel : ∀ t : Fin grid2.N, win2_7.index t = ![t.val, 0])

theorem emb2_0 (t : Fin cfg2.N) (i : Fin 1024) (d : Fin 64) : ((cfg2.win 0).blk t).view.emb (ix2 i d) = ix2 (rowAt N_2 t i) d := by
  funext a; apply Fin.ext
  match a with
  | ⟨0, _⟩ => exact ((cfg2.win 0).rect_emb_val t _ 0).trans (by rw [index2_0]; rfl)
  | ⟨1, _⟩ => exact ((cfg2.win 0).rect_emb_val t _ 1).trans (by rw [index2_0]; show 0 * 64 + d.val = d.val; omega)
theorem emb2_1 (t : Fin cfg2.N) (i : Fin 1024) (d : Fin 64) : ((cfg2.win 1).blk t).view.emb (ix2 i d) = ix2 (rowAt N_2 t i) d := by
  funext a; apply Fin.ext
  match a with
  | ⟨0, _⟩ => exact ((cfg2.win 1).rect_emb_val t _ 0).trans (by rw [index2_1]; rfl)
  | ⟨1, _⟩ => exact ((cfg2.win 1).rect_emb_val t _ 1).trans (by rw [index2_1]; show 0 * 64 + d.val = d.val; omega)
theorem emb2_2 (t : Fin cfg2.N) (i : Fin 1024) (d : Fin 1024) : ((cfg2.win 2).blk t).view.emb (ix2 i d) = ix2 (rowAt N_2 t i) d := by
  funext a; apply Fin.ext
  match a with
  | ⟨0, _⟩ => exact ((cfg2.win 2).rect_emb_val t _ 0).trans (by rw [index2_2]; rfl)
  | ⟨1, _⟩ => exact ((cfg2.win 2).rect_emb_val t _ 1).trans (by rw [index2_2]; show 0 * 1024 + d.val = d.val; omega)
theorem emb2_4 (t : Fin cfg2.N) (i : Fin 1024) (d : Fin 1) : ((cfg2.win 4).blk t).view.emb (ix2 i d) = ix2 (rowAt N_2 t i) d := by
  funext a; apply Fin.ext
  match a with
  | ⟨0, _⟩ => exact ((cfg2.win 4).rect_emb_val t _ 0).trans (by rw [index2_4]; rfl)
  | ⟨1, _⟩ => exact ((cfg2.win 4).rect_emb_val t _ 1).trans (by rw [index2_4]; show 0 * 1 + d.val = d.val; omega)
theorem emb2_5 (t : Fin cfg2.N) (i : Fin 1024) (d : Fin 64) : ((cfg2.win 5).blk t).view.emb (ix2 i d) = ix2 (rowAt N_2 t i) d := by
  funext a; apply Fin.ext
  match a with
  | ⟨0, _⟩ => exact ((cfg2.win 5).rect_emb_val t _ 0).trans (by rw [index2_5]; rfl)
  | ⟨1, _⟩ => exact ((cfg2.win 5).rect_emb_val t _ 1).trans (by rw [index2_5]; show 0 * 64 + d.val = d.val; omega)
theorem emb2_6 (t : Fin cfg2.N) (i : Fin 1024) (d : Fin 64) : ((cfg2.win 6).blk t).view.emb (ix2 i d) = ix2 (rowAt N_2 t i) d := by
  funext a; apply Fin.ext
  match a with
  | ⟨0, _⟩ => exact ((cfg2.win 6).rect_emb_val t _ 0).trans (by rw [index2_6]; rfl)
  | ⟨1, _⟩ => exact ((cfg2.win 6).rect_emb_val t _ 1).trans (by rw [index2_6]; show 0 * 64 + d.val = d.val; omega)
theorem emb2_7 (t : Fin cfg2.N) (i : Fin 1024) (d : Fin 64) : ((cfg2.win 7).blk t).view.emb (ix2 i d) = ix2 (rowAt N_2 t i) d := by
  funext a; apply Fin.ext
  match a with
  | ⟨0, _⟩ => exact ((cfg2.win 7).rect_emb_val t _ 0).trans (by rw [index2_7]; rfl)
  | ⟨1, _⟩ => exact ((cfg2.win 7).rect_emb_val t _ 1).trans (by rw [index2_7]; show 0 * 64 + d.val = d.val; omega)
theorem emb2_3 (t : Fin cfg2.N) (d : Fin 64) (k : Fin 1024) : ((cfg2.win 3).blk t).view.emb (ix2 d k) = ix2 d k := by
  funext a; apply Fin.ext
  match a with
  | ⟨0, _⟩ => exact ((cfg2.win 3).rect_emb_val t _ 0).trans (by rw [index2_3]; show 0 * 64 + d.val = d.val; omega)
  | ⟨1, _⟩ => exact ((cfg2.win 3).rect_emb_val t _ 1).trans (by rw [index2_3]; show 0 * 1024 + k.val = k.val; omega)

theorem seven2 : 7 < cfg2.N := lt_of_lt_of_eq (by decide) N_2.symm
theorem apart2_4 : ∀ t t' : Fin cfg2.N, (cfg2.win 4).flush t = true → (cfg2.win 4).flush t' = true → t ≠ t' →
    Disjoint ((cfg2.win 4).blk t).view.set ((cfg2.win 4).blk t').view.set :=
  (cfg2.win 4).hdisj_of_index_inj fun t t' _ _ e => Fin.ext (by
    rw [index2_4, index2_4] at e
    exact congrFun e 0)
theorem apart2_5 : ∀ t t' : Fin cfg2.N, (cfg2.win 5).flush t = true → (cfg2.win 5).flush t' = true → t ≠ t' →
    Disjoint ((cfg2.win 5).blk t).view.set ((cfg2.win 5).blk t').view.set :=
  (cfg2.win 5).hdisj_of_index_inj fun t t' _ _ e => Fin.ext (by
    rw [index2_5, index2_5] at e
    exact congrFun e 0)
theorem apart2_6 : ∀ t t' : Fin cfg2.N, (cfg2.win 6).flush t = true → (cfg2.win 6).flush t' = true → t ≠ t' →
    Disjoint ((cfg2.win 6).blk t).view.set ((cfg2.win 6).blk t').view.set :=
  (cfg2.win 6).hdisj_of_index_inj fun t t' _ _ e => Fin.ext (by
    rw [index2_6, index2_6] at e
    exact congrFun e 0)
theorem apart2_7 : ∀ t t' : Fin cfg2.N, (cfg2.win 7).flush t = true → (cfg2.win 7).flush t' = true → t ≠ t' →
    Disjoint ((cfg2.win 7).blk t).view.set ((cfg2.win 7).blk t').view.set :=
  (cfg2.win 7).hdisj_of_index_inj fun t t' _ _ e => Fin.ext (by
    rw [index2_7, index2_7] at e
    exact congrFun e 0)

/-! ## What the arrays hold after it -/

variable (V : Entry Ideal) (c : Dev nD)

theorem placed2_4 {c : Dev nD} (dat : Dat τ (Elt Ideal) Unit ℕ (UR sig nD τ) ℕ cfg2 c) (t : Fin cfg2.N) (X : Vec Ideal S1024x1 .i32) (hX : dat.after 4 t = X)
    (i : Fin 1024) (d : Fin 1) : dat.arrAt 4 cfg2.N (ix2 (rowAt N_2 t i) d) = X (ix2 i d) :=
  (congrArg (dat.arrAt 4 cfg2.N) (emb2_4 t i d)).symm.trans
    ((dat.arrAt_emb_eq_flushed 4 apart2_4 t (flush2_4 t) (ix2 i d)).trans (congrFun hX (ix2 i d)))
theorem final2_4 (t : Fin cfg2.N) (i : Fin 1024) (d : Fin 1) :
    (dat2 V c).arrAt 4 cfg2.N (ix2 (rowAt N_2 t i) d) = laterFns.idx (blocks2 V c t) (ix2 i d) :=
  placed2_4 (dat2 V c) t _ (after2_4 V c t) i d
theorem placed2_5 {c : Dev nD} (dat : Dat τ (Elt Ideal) Unit ℕ (UR sig nD τ) ℕ cfg2 c) (t : Fin cfg2.N) (X : Vec Ideal S1024x64 .f32) (hX : dat.after 5 t = X)
    (i : Fin 1024) (d : Fin 64) : dat.arrAt 5 cfg2.N (ix2 (rowAt N_2 t i) d) = X (ix2 i d) :=
  (congrArg (dat.arrAt 5 cfg2.N) (emb2_5 t i d)).symm.trans
    ((dat.arrAt_emb_eq_flushed 5 apart2_5 t (flush2_5 t) (ix2 i d)).trans (congrFun hX (ix2 i d)))
theorem final2_5 (t : Fin cfg2.N) (i : Fin 1024) (d : Fin 64) :
    (dat2 V c).arrAt 5 cfg2.N (ix2 (rowAt N_2 t i) d) = laterFns.xpm (blocks2 V c t) (ix2 i d) :=
  placed2_5 (dat2 V c) t _ (after2_5 V c t) i d
theorem placed2_6 {c : Dev nD} (dat : Dat τ (Elt Ideal) Unit ℕ (UR sig nD τ) ℕ cfg2 c) (t : Fin cfg2.N) (X : Vec Ideal S1024x64 .f32) (hX : dat.after 6 t = X)
    (i : Fin 1024) (d : Fin 64) : dat.arrAt 6 cfg2.N (ix2 (rowAt N_2 t i) d) = X (ix2 i d) :=
  (congrArg (dat.arrAt 6 cfg2.N) (emb2_6 t i d)).symm.trans
    ((dat.arrAt_emb_eq_flushed 6 apart2_6 t (flush2_6 t) (ix2 i d)).trans (congrFun hX (ix2 i d)))
theorem final2_6 (t : Fin cfg2.N) (i : Fin 1024) (d : Fin 64) :
    (dat2 V c).arrAt 6 cfg2.N (ix2 (rowAt N_2 t i) d) = laterFns.xr (blocks2 V c t) (ix2 i d) :=
  placed2_6 (dat2 V c) t _ (after2_6 V c t) i d
theorem placed2_7 {c : Dev nD} (dat : Dat τ (Elt Ideal) Unit ℕ (UR sig nD τ) ℕ cfg2 c) (t : Fin cfg2.N) (X : Vec Ideal S1024x64 .f32) (hX : dat.after 7 t = X)
    (i : Fin 1024) (d : Fin 64) : dat.arrAt 7 cfg2.N (ix2 (rowAt N_2 t i) d) = X (ix2 i d) :=
  (congrArg (dat.arrAt 7 cfg2.N) (emb2_7 t i d)).symm.trans
    ((dat.arrAt_emb_eq_flushed 7 apart2_7 t (flush2_7 t) (ix2 i d)).trans (congrFun hX (ix2 i d)))
theorem final2_7 (t : Fin cfg2.N) (i : Fin 1024) (d : Fin 64) :
    (dat2 V c).arrAt 7 cfg2.N (ix2 (rowAt N_2 t i) d) = laterFns.res (blocks2 V c t) (ix2 i d) :=
  placed2_7 (dat2 V c) t _ (after2_7 V c t) i d
theorem placed2_8 {c : Dev nD} (dat : Dat τ (Elt Ideal) Unit ℕ (UR sig nD τ) ℕ cfg2 c) (X : Vec Ideal S1x1 .f32) (hX : dat.after 8 ⟨7, seven2⟩ = X) (j : S1x1.Idx) :
    dat.arrAt 8 cfg2.N j = X j :=
  (dat.arrAt_emb_eq_after_last 8 ⟨7, seven2⟩ (by decide +kernel) j).trans (congrFun hX j)
theorem final2_8 (j : S1x1.Idx) :
    (dat2 V c).arrAt 8 cfg2.N j = sumAt laterFns.oStart laterFns.oNext (blocks2 V c) 7 seven2 j :=
  placed2_8 (dat2 V c) _ (after2_8 V c ⟨7, seven2⟩) j
theorem placed2_9 {c : Dev nD} (dat : Dat τ (Elt Ideal) Unit ℕ (UR sig nD τ) ℕ cfg2 c) (X : Vec Ideal S1x1 .f32) (hX : dat.after 9 ⟨7, seven2⟩ = X) (j : S1x1.Idx) :
    dat.arrAt 9 cfg2.N j = X j :=
  (dat.arrAt_emb_eq_after_last 9 ⟨7, seven2⟩ (by decide +kernel) j).trans (congrFun hX j)
theorem final2_9 (j : S1x1.Idx) :
    (dat2 V c).arrAt 9 cfg2.N j = sumAt laterFns.sStart laterFns.sNext (blocks2 V c) 7 seven2 j :=
  placed2_9 (dat2 V c) _ (after2_9 V c ⟨7, seven2⟩) j
theorem placed2_10 {c : Dev nD} (dat : Dat τ (Elt Ideal) Unit ℕ (UR sig nD τ) ℕ cfg2 c) (X : Vec Ideal S1x1 .f32) (hX : dat.after 10 ⟨7, seven2⟩ = X) (j : S1x1.Idx) :
    dat.arrAt 10 cfg2.N j = X j :=
  (dat.arrAt_emb_eq_after_last 10 ⟨7, seven2⟩ (by decide +kernel) j).trans (congrFun hX j)
theorem final2_10 (j : S1x1.Idx) :
    (dat2 V c).arrAt 10 cfg2.N j = sumAt laterFns.mStart laterFns.mNext (blocks2 V c) 7 seven2 j :=
  placed2_10 (dat2 V c) _ (after2_10 V c ⟨7, seven2⟩) j

set_option maxHeartbeats 1000000 in
/-- The stage quantizes what is left of the points, given the points, what is predicted, the scores and the book. -/
theorem gives2 (x p : Spec.Points) (cb : Spec.Book) (hx : ∀ i d, V c main_arg0 (ix2 i d) = x i d)
    (hp : ∀ i d, V c main_v29_1 (ix2 i d) = p i d)
    (ha : ∀ i k, V c main_v40 (ix2 i k) = Spec.score (fun i d => x i d - p i d) cb i k) (hc : ∀ d k, V c main_v43 (ix2 d k) = cb k d)
    (hreal : ∀ i, Row.Real (Spec.score (fun i d => x i d - p i d) cb i)) :
    Gives x p cb ((dat2 V c).arrAt 4 cfg2.N) ((dat2 V c).arrAt 5 cfg2.N) ((dat2 V c).arrAt 6 cfg2.N) ((dat2 V c).arrAt 7 cfg2.N)
      ((dat2 V c).arrAt 8 cfg2.N) ((dat2 V c).arrAt 9 cfg2.N) ((dat2 V c).arrAt 10 cfg2.N) := by
  have bx : ∀ t i d, (blocks2 V c t).x (ix2 i d) = x (rowAt N_2 t i) d := fun t i d => (congrArg (V c main_arg0) (emb2_0 t i d)).trans (hx _ _)
  have bp : ∀ t i d, (blocks2 V c t).p (ix2 i d) = p (rowAt N_2 t i) d := fun t i d => (congrArg (V c main_v29_1) (emb2_1 t i d)).trans (hp _ _)
  have hcut : Cut N_2 (blocks2 V c) x (fun i d => x i d - p i d) cb :=
    ⟨bx, fun t i k => (congrArg (V c main_v40) (emb2_2 t i k)).trans (ha _ _), fun t d k => (congrArg (V c main_v43) (emb2_3 t d k)).trans (hc _ _)⟩
  have hr : ∀ t i d, (blocks2 V c t).x (ix2 i d) - (blocks2 V c t).p (ix2 i d) = x (rowAt N_2 t i) d - p (rowAt N_2 t i) d :=
    fun t i d => by rw [bx, bp]
  have hxr := hcut.xr later_means hreal
  refine ⟨fun i j => ?_, fun i d => ?_, fun i d => ?_, fun i d => ?_, fun j => ?_, fun j => ?_, fun j => ?_⟩
  · obtain ⟨t, i, rfl⟩ := exists_rowAt N_2 i
    rw [final2_4]; exact hcut.idx later_means t i j
  · obtain ⟨t, i, rfl⟩ := exists_rowAt N_2 i
    rw [final2_5, later_xpm, hxr, bp]
  · obtain ⟨t, i, rfl⟩ := exists_rowAt N_2 i
    rw [final2_6, hxr]
  · obtain ⟨t, i, rfl⟩ := exists_rowAt N_2 i
    rw [final2_7, later_res, hxr, bx, bp]
  · rw [final2_8]; exact hcut.outs later_means hr hreal _ j
  · rw [final2_9]; exact hcut.softs later_means hr hreal _ j
  · rw [final2_10]; exact hcut.matches later_means hr hreal _ j

end Cert.KernelIdeal

end
-- ==== Proof.Value.Stage3.lean ====
/- The fourth stage's arrays, from the arrays it enters with. -/
module

public import proofs.«01_k».proof.Proof.Kern.Stage3
public import proofs.«01_k».proof.Proof.Value.Cut
public import Idealize.ShloMosaic.Lib.Pipeline.ValueKit.Geometry

@[expose] public section

set_option maxRecDepth 16384

noncomputable section

namespace Cert.KernelIdeal

open Idealize.ShloMosaic Idealize.ShloMosaic.ValueIdx Idealize.ShloMosaic.TcCoe
open Idealize.SL Idealize.SL.RA
open Idealize.ShloMosaic.Rounds Idealize.ShloMosaic.Pipeline
open Cert.KernelIdeal.Gen
open Cert.Spec (rowAt)

theorem index3_0 : ∀ t : Fin cfg3.N, (cfg3.win 0).index t = ![t.val, 0] := (by decide +kernel : ∀ t : Fin grid3.N, win3_0.index t = ![t.val, 0])
theorem index3_1 : ∀ t : Fin cfg3.N, (cfg3.win 1).index t = ![t.val, 0] := (by decide +kernel : ∀ t : Fin grid3.N, win3_1.index t = ![t.val, 0])
theorem index3_2 : ∀ t : Fin cfg3.N, (cfg3.win 2).index t = ![t.val, 0] := (by decide +kernel : ∀ t : Fin grid3.N, win3_2.index t = ![t.val, 0])
theorem index3_3 : ∀ t : Fin cfg3.N, (cfg3.win 3).index t = ![0, 0] := (by decide +kernel : ∀ t : Fin grid3.N, win3_3.index t = ![0, 0])
theorem index3_4 : ∀ t : Fin cfg3.N, (cfg3.win 4).index t = ![t.val, 0] := (by decide +kernel : ∀ t : Fin grid3.N, win3_4.index t = ![t.val, 0])
theorem index3_5 : ∀ t : Fin cfg3.N, (cfg3.win 5).index t = ![t.val, 0] := (by decide +kernel : ∀ t : Fin grid3.N, win3_5.index t = ![t.val, 0])
theorem index3_6 : ∀ t : Fin cfg3.N, (cfg3.win 6).index t = ![t.val, 0] := (by decide +kernel : ∀ t : Fin grid3.N, win3_6.index t = ![t.val, 0])
theorem index3_7 : ∀ t : Fin cfg3.N, (cfg3.win 7).index t = ![t.val, 0] := (by decide +kernel : ∀ t : Fin grid3.N, win3_7.index t = ![t.val, 0])

theorem emb3_0 (t : Fin cfg3.N) (i : Fin 1024) (d : Fin 64) : ((cfg3.win 0).blk t).view.emb (ix2 i d) = ix2 (rowAt N_3 t i) d := by
  funext a; apply Fin.ext
  match a with
  | ⟨0, _⟩ => exact ((cfg3.win 0).rect_emb_val t _ 0).trans (by rw [index3_0]; rfl)
  | ⟨1, _⟩ => exact ((cfg3.win 0).rect_emb_val t _ 1).trans (by rw [index3_0]; show 0 * 64 + d.val = d.val; omega)
theorem emb3_1 (t : Fin cfg3.N) (i : Fin 1024) (d : Fin 64) : ((cfg3.win 1).blk t).view.emb (ix2 i d) = ix2 (rowAt N_3 t i) d := by
  funext a; apply Fin.ext
  match a with
  | ⟨0, _⟩ => exact ((cfg3.win 1).rect_emb_val t _ 0).trans (by rw [index3_1]; rfl)
  | ⟨1, _⟩ => exact ((cfg3.win 1).rect_emb_val t _ 1).trans (by rw [index3_1]; show 0 * 64 + d.val = d.val; omega)
theorem emb3_2 (t : Fin cfg3.N) (i : Fin 1024) (d : Fin 1024) : ((cfg3.win 2).blk t).view.emb (ix2 i d) = ix2 (rowAt N_3 t i) d := by
  funext a; apply Fin.ext
  match a with
  | ⟨0, _⟩ => exact ((cfg3.win 2).rect_emb_val t _ 0).trans (by rw [index3_2]; rfl)
  | ⟨1, _⟩ => exact ((cfg3.win 2).rect_emb_val t _ 1).trans (by rw [index3_2]; show 0 * 1024 + d.val = d.val; omega)
theorem emb3_4 (t : Fin cfg3.N) (i : Fin 1024) (d : Fin 1) : ((cfg3.win 4).blk t).view.emb (ix2 i d) = ix2 (rowAt N_3 t i) d := by
  funext a; apply Fin.ext
  match a with
  | ⟨0, _⟩ => exact ((cfg3.win 4).rect_emb_val t _ 0).trans (by rw [index3_4]; rfl)
  | ⟨1, _⟩ => exact ((cfg3.win 4).rect_emb_val t _ 1).trans (by rw [index3_4]; show 0 * 1 + d.val = d.val; omega)
theorem emb3_5 (t : Fin cfg3.N) (i : Fin 1024) (d : Fin 64) : ((cfg3.win 5).blk t).view.emb (ix2 i d) = ix2 (rowAt N_3 t i) d := by
  funext a; apply Fin.ext
  match a with
  | ⟨0, _⟩ => exact ((cfg3.win 5).rect_emb_val t _ 0).trans (by rw [index3_5]; rfl)
  | ⟨1, _⟩ => exact ((cfg3.win 5).rect_emb_val t _ 1).trans (by rw [index3_5]; show 0 * 64 + d.val = d.val; omega)
theorem emb3_6 (t : Fin cfg3.N) (i : Fin 1024) (d : Fin 64) : ((cfg3.win 6).blk t).view.emb (ix2 i d) = ix2 (rowAt N_3 t i) d := by
  funext a; apply Fin.ext
  match a with
  | ⟨0, _⟩ => exact ((cfg3.win 6).rect_emb_val t _ 0).trans (by rw [index3_6]; rfl)
  | ⟨1, _⟩ => exact ((cfg3.win 6).rect_emb_val t _ 1).trans (by rw [index3_6]; show 0 * 64 + d.val = d.val; omega)
theorem emb3_7 (t : Fin cfg3.N) (i : Fin 1024) (d : Fin 64) : ((cfg3.win 7).blk t).view.emb (ix2 i d) = ix2 (rowAt N_3 t i) d := by
  funext a; apply Fin.ext
  match a with
  | ⟨0, _⟩ => exact ((cfg3.win 7).rect_emb_val t _ 0).trans (by rw [index3_7]; rfl)
  | ⟨1, _⟩ => exact ((cfg3.win 7).rect_emb_val t _ 1).trans (by rw [index3_7]; show 0 * 64 + d.val = d.val; omega)
theorem emb3_3 (t : Fin cfg3.N) (d : Fin 64) (k : Fin 1024) : ((cfg3.win 3).blk t).view.emb (ix2 d k) = ix2 d k := by
  funext a; apply Fin.ext
  match a with
  | ⟨0, _⟩ => exact ((cfg3.win 3).rect_emb_val t _ 0).trans (by rw [index3_3]; show 0 * 64 + d.val = d.val; omega)
  | ⟨1, _⟩ => exact ((cfg3.win 3).rect_emb_val t _ 1).trans (by rw [index3_3]; show 0 * 1024 + k.val = k.val; omega)

theorem seven3 : 7 < cfg3.N := lt_of_lt_of_eq (by decide) N_3.symm
theorem apart3_4 : ∀ t t' : Fin cfg3.N, (cfg3.win 4).flush t = true → (cfg3.win 4).flush t' = true → t ≠ t' →
    Disjoint ((cfg3.win 4).blk t).view.set ((cfg3.win 4).blk t').view.set :=
  (cfg3.win 4).hdisj_of_index_inj fun t t' _ _ e => Fin.ext (by
    rw [index3_4, index3_4] at e
    exact congrFun e 0)
theorem apart3_5 : ∀ t t' : Fin cfg3.N, (cfg3.win 5).flush t = true → (cfg3.win 5).flush t' = true → t ≠ t' →
    Disjoint ((cfg3.win 5).blk t).view.set ((cfg3.win 5).blk t').view.set :=
  (cfg3.win 5).hdisj_of_index_inj fun t t' _ _ e => Fin.ext (by
    rw [index3_5, index3_5] at e
    exact congrFun e 0)
theorem apart3_6 : ∀ t t' : Fin cfg3.N, (cfg3.win 6).flush t = true → (cfg3.win 6).flush t' = true → t ≠ t' →
    Disjoint ((cfg3.win 6).blk t).view.set ((cfg3.win 6).blk t').view.set :=
  (cfg3.win 6).hdisj_of_index_inj fun t t' _ _ e => Fin.ext (by
    rw [index3_6, index3_6] at e
    exact congrFun e 0)
theorem apart3_7 : ∀ t t' : Fin cfg3.N, (cfg3.win 7).flush t = true → (cfg3.win 7).flush t' = true → t ≠ t' →
    Disjoint ((cfg3.win 7).blk t).view.set ((cfg3.win 7).blk t').view.set :=
  (cfg3.win 7).hdisj_of_index_inj fun t t' _ _ e => Fin.ext (by
    rw [index3_7, index3_7] at e
    exact congrFun e 0)

/-! ## What the arrays hold after it -/

variable (V : Entry Ideal) (c : Dev nD)

theorem placed3_4 {c : Dev nD} (dat : Dat τ (Elt Ideal) Unit ℕ (UR sig nD τ) ℕ cfg3 c) (t : Fin cfg3.N) (X : Vec Ideal S1024x1 .i32) (hX : dat.after 4 t = X)
    (i : Fin 1024) (d : Fin 1) : dat.arrAt 4 cfg3.N (ix2 (rowAt N_3 t i) d) = X (ix2 i d) :=
  (congrArg (dat.arrAt 4 cfg3.N) (emb3_4 t i d)).symm.trans
    ((dat.arrAt_emb_eq_flushed 4 apart3_4 t (flush3_4 t) (ix2 i d)).trans (congrFun hX (ix2 i d)))
theorem final3_4 (t : Fin cfg3.N) (i : Fin 1024) (d : Fin 1) :
    (dat3 V c).arrAt 4 cfg3.N (ix2 (rowAt N_3 t i) d) = laterFns.idx (blocks3 V c t) (ix2 i d) :=
  placed3_4 (dat3 V c) t _ (after3_4 V c t) i d
theorem placed3_5 {c : Dev nD} (dat : Dat τ (Elt Ideal) Unit ℕ (UR sig nD τ) ℕ cfg3 c) (t : Fin cfg3.N) (X : Vec Ideal S1024x64 .f32) (hX : dat.after 5 t = X)
    (i : Fin 1024) (d : Fin 64) : dat.arrAt 5 cfg3.N (ix2 (rowAt N_3 t i) d) = X (ix2 i d) :=
  (congrArg (dat.arrAt 5 cfg3.N) (emb3_5 t i d)).symm.trans
    ((dat.arrAt_emb_eq_flushed 5 apart3_5 t (flush3_5 t) (ix2 i d)).trans (congrFun hX (ix2 i d)))
theorem final3_5 (t : Fin cfg3.N) (i : Fin 1024) (d : Fin 64) :
    (dat3 V c).arrAt 5 cfg3.N (ix2 (rowAt N_3 t i) d) = laterFns.xpm (blocks3 V c t) (ix2 i d) :=
  placed3_5 (dat3 V c) t _ (after3_5 V c t) i d
theorem placed3_6 {c : Dev nD} (dat : Dat τ (Elt Ideal) Unit ℕ (UR sig nD τ) ℕ cfg3 c) (t : Fin cfg3.N) (X : Vec Ideal S1024x64 .f32) (hX : dat.after 6 t = X)
    (i : Fin 1024) (d : Fin 64) : dat.arrAt 6 cfg3.N (ix2 (rowAt N_3 t i) d) = X (ix2 i d) :=
  (congrArg (dat.arrAt 6 cfg3.N) (emb3_6 t i d)).symm.trans
    ((dat.arrAt_emb_eq_flushed 6 apart3_6 t (flush3_6 t) (ix2 i d)).trans (congrFun hX (ix2 i d)))
theorem final3_6 (t : Fin cfg3.N) (i : Fin 1024) (d : Fin 64) :
    (dat3 V c).arrAt 6 cfg3.N (ix2 (rowAt N_3 t i) d) = laterFns.xr (blocks3 V c t) (ix2 i d) :=
  placed3_6 (dat3 V c) t _ (after3_6 V c t) i d
theorem placed3_7 {c : Dev nD} (dat : Dat τ (Elt Ideal) Unit ℕ (UR sig nD τ) ℕ cfg3 c) (t : Fin cfg3.N) (X : Vec Ideal S1024x64 .f32) (hX : dat.after 7 t = X)
    (i : Fin 1024) (d : Fin 64) : dat.arrAt 7 cfg3.N (ix2 (rowAt N_3 t i) d) = X (ix2 i d) :=
  (congrArg (dat.arrAt 7 cfg3.N) (emb3_7 t i d)).symm.trans
    ((dat.arrAt_emb_eq_flushed 7 apart3_7 t (flush3_7 t) (ix2 i d)).trans (congrFun hX (ix2 i d)))
theorem final3_7 (t : Fin cfg3.N) (i : Fin 1024) (d : Fin 64) :
    (dat3 V c).arrAt 7 cfg3.N (ix2 (rowAt N_3 t i) d) = laterFns.res (blocks3 V c t) (ix2 i d) :=
  placed3_7 (dat3 V c) t _ (after3_7 V c t) i d
theorem placed3_8 {c : Dev nD} (dat : Dat τ (Elt Ideal) Unit ℕ (UR sig nD τ) ℕ cfg3 c) (X : Vec Ideal S1x1 .f32) (hX : dat.after 8 ⟨7, seven3⟩ = X) (j : S1x1.Idx) :
    dat.arrAt 8 cfg3.N j = X j :=
  (dat.arrAt_emb_eq_after_last 8 ⟨7, seven3⟩ (by decide +kernel) j).trans (congrFun hX j)
theorem final3_8 (j : S1x1.Idx) :
    (dat3 V c).arrAt 8 cfg3.N j = sumAt laterFns.oStart laterFns.oNext (blocks3 V c) 7 seven3 j :=
  placed3_8 (dat3 V c) _ (after3_8 V c ⟨7, seven3⟩) j
theorem placed3_9 {c : Dev nD} (dat : Dat τ (Elt Ideal) Unit ℕ (UR sig nD τ) ℕ cfg3 c) (X : Vec Ideal S1x1 .f32) (hX : dat.after 9 ⟨7, seven3⟩ = X) (j : S1x1.Idx) :
    dat.arrAt 9 cfg3.N j = X j :=
  (dat.arrAt_emb_eq_after_last 9 ⟨7, seven3⟩ (by decide +kernel) j).trans (congrFun hX j)
theorem final3_9 (j : S1x1.Idx) :
    (dat3 V c).arrAt 9 cfg3.N j = sumAt laterFns.sStart laterFns.sNext (blocks3 V c) 7 seven3 j :=
  placed3_9 (dat3 V c) _ (after3_9 V c ⟨7, seven3⟩) j
theorem placed3_10 {c : Dev nD} (dat : Dat τ (Elt Ideal) Unit ℕ (UR sig nD τ) ℕ cfg3 c) (X : Vec Ideal S1x1 .f32) (hX : dat.after 10 ⟨7, seven3⟩ = X) (j : S1x1.Idx) :
    dat.arrAt 10 cfg3.N j = X j :=
  (dat.arrAt_emb_eq_after_last 10 ⟨7, seven3⟩ (by decide +kernel) j).trans (congrFun hX j)
theorem final3_10 (j : S1x1.Idx) :
    (dat3 V c).arrAt 10 cfg3.N j = sumAt laterFns.mStart laterFns.mNext (blocks3 V c) 7 seven3 j :=
  placed3_10 (dat3 V c) _ (after3_10 V c ⟨7, seven3⟩) j

set_option maxHeartbeats 1000000 in
/-- The stage quantizes what is left of the points, given the points, what is predicted, the scores and the book. -/
theorem gives3 (x p : Spec.Points) (cb : Spec.Book) (hx : ∀ i d, V c main_arg0 (ix2 i d) = x i d)
    (hp : ∀ i d, V c main_v44_1 (ix2 i d) = p i d)
    (ha : ∀ i k, V c main_v55 (ix2 i k) = Spec.score (fun i d => x i d - p i d) cb i k) (hc : ∀ d k, V c main_v58 (ix2 d k) = cb k d)
    (hreal : ∀ i, Row.Real (Spec.score (fun i d => x i d - p i d) cb i)) :
    Gives x p cb ((dat3 V c).arrAt 4 cfg3.N) ((dat3 V c).arrAt 5 cfg3.N) ((dat3 V c).arrAt 6 cfg3.N) ((dat3 V c).arrAt 7 cfg3.N)
      ((dat3 V c).arrAt 8 cfg3.N) ((dat3 V c).arrAt 9 cfg3.N) ((dat3 V c).arrAt 10 cfg3.N) := by
  have bx : ∀ t i d, (blocks3 V c t).x (ix2 i d) = x (rowAt N_3 t i) d := fun t i d => (congrArg (V c main_arg0) (emb3_0 t i d)).trans (hx _ _)
  have bp : ∀ t i d, (blocks3 V c t).p (ix2 i d) = p (rowAt N_3 t i) d := fun t i d => (congrArg (V c main_v44_1) (emb3_1 t i d)).trans (hp _ _)
  have hcut : Cut N_3 (blocks3 V c) x (fun i d => x i d - p i d) cb :=
    ⟨bx, fun t i k => (congrArg (V c main_v55) (emb3_2 t i k)).trans (ha _ _), fun t d k => (congrArg (V c main_v58) (emb3_3 t d k)).trans (hc _ _)⟩
  have hr : ∀ t i d, (blocks3 V c t).x (ix2 i d) - (blocks3 V c t).p (ix2 i d) = x (rowAt N_3 t i) d - p (rowAt N_3 t i) d :=
    fun t i d => by rw [bx, bp]
  have hxr := hcut.xr later_means hreal
  refine ⟨fun i j => ?_, fun i d => ?_, fun i d => ?_, fun i d => ?_, fun j => ?_, fun j => ?_, fun j => ?_⟩
  · obtain ⟨t, i, rfl⟩ := exists_rowAt N_3 i
    rw [final3_4]; exact hcut.idx later_means t i j
  · obtain ⟨t, i, rfl⟩ := exists_rowAt N_3 i
    rw [final3_5, later_xpm, hxr, bp]
  · obtain ⟨t, i, rfl⟩ := exists_rowAt N_3 i
    rw [final3_6, hxr]
  · obtain ⟨t, i, rfl⟩ := exists_rowAt N_3 i
    rw [final3_7, later_res, hxr, bx, bp]
  · rw [final3_8]; exact hcut.outs later_means hr hreal _ j
  · rw [final3_9]; exact hcut.softs later_means hr hreal _ j
  · rw [final3_10]; exact hcut.matches later_means hr hreal _ j

end Cert.KernelIdeal

end
-- ==== Proof.Value.KHost.lean ====
/- The kernel's arrays after each stage, as the residual quantizer's values. -/
module

public import proofs.«01_k».proof.Proof.Kern.Run
public import proofs.«01_k».proof.Proof.Value.Host
public import proofs.«01_k».proof.Proof.Value.Stage0
public import proofs.«01_k».proof.Proof.Value.Stage1
public import proofs.«01_k».proof.Proof.Value.Stage2
public import proofs.«01_k».proof.Proof.Value.Stage3
public import Idealize.ShloMosaic.Lib.StableHlo.Run

@[expose] public section

set_option maxRecDepth 16384

noncomputable section

namespace Cert.KernelIdeal

open Idealize.ShloMosaic Idealize.ShloMosaic.ValueIdx Idealize.ShloMosaic.TcCoe
open Idealize.SL Idealize.SL.RA
open Idealize.ShloMosaic.Rounds Idealize.ShloMosaic.Pipeline
open Cert.KernelIdeal.Gen
open Cert.Spec (sofar rest pointsOf booksOf)

/-! ## The host operations before each stage -/

section
variable (W : Valuation τ sig (Elt Ideal)) (r : Spec.Points)

theorem scores0 (hr : ∀ i d, W (Proc.devRef .tc main_arg0) (ix2 i d) = r i d) (i : Fin 8192) (k : Fin 1024) :
    StableHlo.after hostOps0 W (Proc.devRef .tc main_v10) (ix2 i k) = Spec.score r (booksOf (W (Proc.devRef .tc main_arg1)) 0) i k := by
  after_results
  refine Ops.scores _ r _ (fun i k d => ?_) _ Ops.lit_zero _ _ i k
  exact congrArg (fun e => e * e) (congrArg₂ (fun a b : EReal => a - b) ((Ops.points _ _ _ i k d).trans (hr i d))
    ((Ops.words _ _ _ i k d).trans ((Ops.book _ 0 (by decide) _ _ k d).trans (Spec.booksOf_at _ _ (by decide) k d).symm)))
theorem book0 (d : Fin 64) (k : Fin 1024) :
    StableHlo.after hostOps0 W (Proc.devRef .tc main_v13) (ix2 d k) = booksOf (W (Proc.devRef .tc main_arg1)) 0 k d := by
  after_results
  refine (transpose_apply _ _ _ _ (ix2 k d) fun b => ?_).trans ((Ops.book _ 0 (by decide) _ _ k d).trans (Spec.booksOf_at _ _ (by decide) k d).symm)
  match b with
  | ⟨0, _⟩ => rfl
  | ⟨1, _⟩ => rfl

theorem scores1 (hr : ∀ i d, W (Proc.devRef .tc main_v14_3) (ix2 i d) = r i d) (i : Fin 8192) (k : Fin 1024) :
    StableHlo.after hostOps1 W (Proc.devRef .tc main_v25) (ix2 i k) = Spec.score r (booksOf (W (Proc.devRef .tc main_arg1)) 1) i k := by
  after_results
  refine Ops.scores _ r _ (fun i k d => ?_) _ Ops.lit_zero _ _ i k
  exact congrArg (fun e => e * e) (congrArg₂ (fun a b : EReal => a - b) ((Ops.points _ _ _ i k d).trans (hr i d))
    ((Ops.words _ _ _ i k d).trans ((Ops.book _ 1 (by decide) _ _ k d).trans (Spec.booksOf_at _ _ (by decide) k d).symm)))
theorem book1 (d : Fin 64) (k : Fin 1024) :
    StableHlo.after hostOps1 W (Proc.devRef .tc main_v28) (ix2 d k) = booksOf (W (Proc.devRef .tc main_arg1)) 1 k d := by
  after_results
  refine (transpose_apply _ _ _ _ (ix2 k d) fun b => ?_).trans ((Ops.book _ 1 (by decide) _ _ k d).trans (Spec.booksOf_at _ _ (by decide) k d).symm)
  match b with
  | ⟨0, _⟩ => rfl
  | ⟨1, _⟩ => rfl

theorem scores2 (hr : ∀ i d, W (Proc.devRef .tc main_v29_3) (ix2 i d) = r i d) (i : Fin 8192) (k : Fin 1024) :
    StableHlo.after hostOps2 W (Proc.devRef .tc main_v40) (ix2 i k) = Spec.score r (booksOf (W (Proc.devRef .tc main_arg1)) 2) i k := by
  after_results
  refine Ops.scores _ r _ (fun i k d => ?_) _ Ops.lit_zero _ _ i k
  exact congrArg (fun e => e * e) (congrArg₂ (fun a b : EReal => a - b) ((Ops.points _ _ _ i k d).trans (hr i d))
    ((Ops.words _ _ _ i k d).trans ((Ops.book _ 2 (by decide) _ _ k d).trans (Spec.booksOf_at _ _ (by decide) k d).symm)))
theorem book2 (d : Fin 64) (k : Fin 1024) :
    StableHlo.after hostOps2 W (Proc.devRef .tc main_v43) (ix2 d k) = booksOf (W (Proc.devRef .tc main_arg1)) 2 k d := by
  after_results
  refine (transpose_apply _ _ _ _ (ix2 k d) fun b => ?_).trans ((Ops.book _ 2 (by decide) _ _ k d).trans (Spec.booksOf_at _ _ (by decide) k d).symm)
  match b with
  | ⟨0, _⟩ => rfl
  | ⟨1, _⟩ => rfl

theorem scores3 (hr : ∀ i d, W (Proc.devRef .tc main_v44_3) (ix2 i d) = r i d) (i : Fin 8192) (k : Fin 1024) :
    StableHlo.after hostOps3 W (Proc.devRef .tc main_v55) (ix2 i k) = Spec.score r (booksOf (W (Proc.devRef .tc main_arg1)) 3) i k := by
  after_results
  refine Ops.scores _ r _ (fun i k d => ?_) _ Ops.lit_zero _ _ i k
  exact congrArg (fun e => e * e) (congrArg₂ (fun a b : EReal => a - b) ((Ops.points _ _ _ i k d).trans (hr i d))
    ((Ops.words _ _ _ i k d).trans ((Ops.book _ 3 (by decide) _ _ k d).trans (Spec.booksOf_at _ _ (by decide) k d).symm)))
theorem book3 (d : Fin 64) (k : Fin 1024) :
    StableHlo.after hostOps3 W (Proc.devRef .tc main_v58) (ix2 d k) = booksOf (W (Proc.devRef .tc main_arg1)) 3 k d := by
  after_results
  refine (transpose_apply _ _ _ _ (ix2 k d) fun b => ?_).trans ((Ops.book _ 3 (by decide) _ _ k d).trans (Spec.booksOf_at _ _ (by decide) k d).symm)
  match b with
  | ⟨0, _⟩ => rfl
  | ⟨1, _⟩ => rfl

end

/-! ## What each step leaves alone -/

variable (m : (ℓ : Loc nD τ sig) → Buf (Elt Ideal) ℓ) (c : Dev nD)

/-- Neither the host operations before call 0 nor the call write `r`. -/
abbrev Quiet0 (r : Ref sig .tc) : Prop := r ∉ hostOps0_W ∧ ∀ w : Fin cfg0.W, arrRef spec0 w = r → (cfg0.win w).isOut = false
theorem W1_of (r : Ref sig .tc) (h : r ∉ hostOps0_W) : W1 m c (Proc.devRef .tc r) = W0 m c (Proc.devRef .tc r) :=
  StableHlo.after_of_writes_sub hostOps0 _ hostOps0_writes h
theorem W2_of (r : Ref sig .tc) (h : Quiet0 r) : W2 m c (Proc.devRef .tc r) = W0 m c (Proc.devRef .tc r) :=
  (leave_of _ _ launch₀0.sharedIn (fun _ => rfl) r h.2).trans (W1_of m c r h.1)
/-- Neither the host operations before call 1 nor the call write `r`. -/
abbrev Quiet1 (r : Ref sig .tc) : Prop := r ∉ hostOps1_W ∧ ∀ w : Fin cfg1.W, arrRef spec1 w = r → (cfg1.win w).isOut = false
theorem W3_of (r : Ref sig .tc) (h : r ∉ hostOps1_W) : W3 m c (Proc.devRef .tc r) = W2 m c (Proc.devRef .tc r) :=
  StableHlo.after_of_writes_sub hostOps1 _ hostOps1_writes h
theorem W4_of (r : Ref sig .tc) (h : Quiet1 r) : W4 m c (Proc.devRef .tc r) = W2 m c (Proc.devRef .tc r) :=
  (leave_of _ _ launch1.to₀.sharedIn (fun _ => rfl) r h.2).trans (W3_of m c r h.1)
/-- Neither the host operations before call 2 nor the call write `r`. -/
abbrev Quiet2 (r : Ref sig .tc) : Prop := r ∉ hostOps2_W ∧ ∀ w : Fin cfg2.W, arrRef spec2 w = r → (cfg2.win w).isOut = false
theorem W5_of (r : Ref sig .tc) (h : r ∉ hostOps2_W) : W5 m c (Proc.devRef .tc r) = W4 m c (Proc.devRef .tc r) :=
  StableHlo.after_of_writes_sub hostOps2 _ hostOps2_writes h
theorem W6_of (r : Ref sig .tc) (h : Quiet2 r) : W6 m c (Proc.devRef .tc r) = W4 m c (Proc.devRef .tc r) :=
  (leave_of _ _ launch2.to₀.sharedIn (fun _ => rfl) r h.2).trans (W5_of m c r h.1)
/-- Neither the host operations before call 3 nor the call write `r`. -/
abbrev Quiet3 (r : Ref sig .tc) : Prop := r ∉ hostOps3_W ∧ ∀ w : Fin cfg3.W, arrRef spec3 w = r → (cfg3.win w).isOut = false
theorem W7_of (r : Ref sig .tc) (h : r ∉ hostOps3_W) : W7 m c (Proc.devRef .tc r) = W6 m c (Proc.devRef .tc r) :=
  StableHlo.after_of_writes_sub hostOps3 _ hostOps3_writes h
theorem W8_of (r : Ref sig .tc) (h : Quiet3 r) : W8 m c (Proc.devRef .tc r) = W6 m c (Proc.devRef .tc r) :=
  (leave_of _ _ launch3.to₀.sharedIn (fun _ => rfl) r h.2).trans (W7_of m c r h.1)
/-- Neither the host operations before call 4 nor the call write `r`. -/
abbrev Quiet4 (r : Ref sig .tc) : Prop := r ∉ hostOps4_W ∧ ∀ w : Fin cfg4.W, arrRef spec4 w = r → (cfg4.win w).isOut = false
theorem W9_of (r : Ref sig .tc) (h : r ∉ hostOps4_W) : W9 m c (Proc.devRef .tc r) = W8 m c (Proc.devRef .tc r) :=
  StableHlo.after_of_writes_sub hostOps4 _ hostOps4_writes h
theorem W10_of (r : Ref sig .tc) (h : Quiet4 r) : W10 m c (Proc.devRef .tc r) = W8 m c (Proc.devRef .tc r) :=
  (leave_of _ _ launch4.to₀.sharedIn (fun _ => rfl) r h.2).trans (W9_of m c r h.1)

/-! ## The arguments, still -/

/-- The points and the books at launch. -/
abbrev x0 : Spec.Points := pointsOf (m (c, Proc.devRef .tc main_arg0))
abbrev c0 : ℕ → Spec.Book := booksOf (m (c, Proc.devRef .tc main_arg1))

theorem W0_arg0 : W0 m c (Proc.devRef .tc main_arg0) = m (c, Proc.devRef .tc main_arg0) := rfl
theorem W2_arg0 : W2 m c (Proc.devRef .tc main_arg0) = m (c, Proc.devRef .tc main_arg0) := (W2_of m c main_arg0 (by decide +kernel)).trans (W0_arg0 m c)
theorem W4_arg0 : W4 m c (Proc.devRef .tc main_arg0) = m (c, Proc.devRef .tc main_arg0) := (W4_of m c main_arg0 (by decide +kernel)).trans (W2_arg0 m c)
theorem W6_arg0 : W6 m c (Proc.devRef .tc main_arg0) = m (c, Proc.devRef .tc main_arg0) := (W6_of m c main_arg0 (by decide +kernel)).trans (W4_arg0 m c)
theorem W8_arg0 : W8 m c (Proc.devRef .tc main_arg0) = m (c, Proc.devRef .tc main_arg0) := (W8_of m c main_arg0 (by decide +kernel)).trans (W6_arg0 m c)
theorem W10_arg0 : W10 m c (Proc.devRef .tc main_arg0) = m (c, Proc.devRef .tc main_arg0) := (W10_of m c main_arg0 (by decide +kernel)).trans (W8_arg0 m c)
theorem W0_arg1 : W0 m c (Proc.devRef .tc main_arg1) = m (c, Proc.devRef .tc main_arg1) := rfl
theorem W2_arg1 : W2 m c (Proc.devRef .tc main_arg1) = m (c, Proc.devRef .tc main_arg1) := (W2_of m c main_arg1 (by decide +kernel)).trans (W0_arg1 m c)
theorem W4_arg1 : W4 m c (Proc.devRef .tc main_arg1) = m (c, Proc.devRef .tc main_arg1) := (W4_of m c main_arg1 (by decide +kernel)).trans (W2_arg1 m c)
theorem W6_arg1 : W6 m c (Proc.devRef .tc main_arg1) = m (c, Proc.devRef .tc main_arg1) := (W6_of m c main_arg1 (by decide +kernel)).trans (W4_arg1 m c)
theorem W8_arg1 : W8 m c (Proc.devRef .tc main_arg1) = m (c, Proc.devRef .tc main_arg1) := (W8_of m c main_arg1 (by decide +kernel)).trans (W6_arg1 m c)
theorem W10_arg1 : W10 m c (Proc.devRef .tc main_arg1) = m (c, Proc.devRef .tc main_arg1) := (W10_of m c main_arg1 (by decide +kernel)).trans (W8_arg1 m c)
theorem W0_arg2 : W0 m c (Proc.devRef .tc main_arg2) = m (c, Proc.devRef .tc main_arg2) := rfl
theorem W2_arg2 : W2 m c (Proc.devRef .tc main_arg2) = m (c, Proc.devRef .tc main_arg2) := (W2_of m c main_arg2 (by decide +kernel)).trans (W0_arg2 m c)
theorem W4_arg2 : W4 m c (Proc.devRef .tc main_arg2) = m (c, Proc.devRef .tc main_arg2) := (W4_of m c main_arg2 (by decide +kernel)).trans (W2_arg2 m c)
theorem W6_arg2 : W6 m c (Proc.devRef .tc main_arg2) = m (c, Proc.devRef .tc main_arg2) := (W6_of m c main_arg2 (by decide +kernel)).trans (W4_arg2 m c)
theorem W8_arg2 : W8 m c (Proc.devRef .tc main_arg2) = m (c, Proc.devRef .tc main_arg2) := (W8_of m c main_arg2 (by decide +kernel)).trans (W6_arg2 m c)
theorem W10_arg2 : W10 m c (Proc.devRef .tc main_arg2) = m (c, Proc.devRef .tc main_arg2) := (W10_of m c main_arg2 (by decide +kernel)).trans (W8_arg2 m c)

/-! ## The stages -/

variable (hx : Spec.Finite (x0 m c)) (hc : ∀ j, Spec.Finite (c0 m c j))
include hx hc

set_option maxHeartbeats 2000000 in
theorem stage0 : Gives (x0 m c) (sofar (x0 m c) (c0 m c) 0) (c0 m c 0) (W2 m c (Proc.devRef .tc main_v14_0)) (W2 m c (Proc.devRef .tc main_v14_1)) (W2 m c (Proc.devRef .tc main_v14_2)) (W2 m c (Proc.devRef .tc main_v14_3)) (W2 m c (Proc.devRef .tc main_v14_4)) (W2 m c (Proc.devRef .tc main_v14_5)) (W2 m c (Proc.devRef .tc main_v14_6)) := by
  have hb : booksOf (W0 m c (Proc.devRef .tc main_arg1)) = c0 m c := congrArg booksOf (W0_arg1 m c)
  have g := gives0 (entry (W1 m)) c (x0 m c) (sofar (x0 m c) (c0 m c) 0) (c0 m c 0)
    (fun i d => congrFun ((W1_of m c main_arg0 (by decide +kernel)).trans (W0_arg0 m c)) (ix2 i d))
    (fun _ _ => rfl)
    (fun i k => (scores0 (W0 m c) (rest (x0 m c) (c0 m c) 0) (fun i d => (Spec.rest_zero_at (x0 m c) (c0 m c) i d).symm) i k).trans (by rw [hb]; rfl))
    (fun d k => (book0 (W0 m c) d k).trans (by rw [hb]))
    (Spec.real_score (Spec.finite_rest hx hc 0) (hc 0))
  have e (w : Fin cfg0.W) : W2 m c (Proc.devRef .tc (arrRef cfg0.spec w)) = (dat0 (entry (W1 m)) c).arrAt w cfg0.N :=
    leave_arr (dat0 (entry (W1 m)) c) (W1 m c) launch₀0.sharedIn (fun _ => rfl) w
  exact ⟨fun i j => (congrFun (e 4) _).trans (g.codes i j), fun i d => (congrFun (e 5) _).trans (g.next i d),
    fun i d => (congrFun (e 6) _).trans (g.picked i d), fun i d => (congrFun (e 7) _).trans (g.left i d),
    fun j => (congrFun (e 8) _).trans (g.outs j), fun j => (congrFun (e 9) _).trans (g.softs j), fun j => (congrFun (e 10) _).trans (g.matches_ j)⟩

set_option maxHeartbeats 2000000 in
theorem stage1 : Gives (x0 m c) (sofar (x0 m c) (c0 m c) 1) (c0 m c 1) (W4 m c (Proc.devRef .tc main_v29_0)) (W4 m c (Proc.devRef .tc main_v29_1)) (W4 m c (Proc.devRef .tc main_v29_2)) (W4 m c (Proc.devRef .tc main_v29_3)) (W4 m c (Proc.devRef .tc main_v29_4)) (W4 m c (Proc.devRef .tc main_v29_5)) (W4 m c (Proc.devRef .tc main_v29_6)) := by
  have hb : booksOf (W2 m c (Proc.devRef .tc main_arg1)) = c0 m c := congrArg booksOf (W2_arg1 m c)
  have g := gives1 (entry (W3 m)) c (x0 m c) (sofar (x0 m c) (c0 m c) 1) (c0 m c 1)
    (fun i d => congrFun ((W3_of m c main_arg0 (by decide +kernel)).trans (W2_arg0 m c)) (ix2 i d))
    (fun i d => (congrFun (W3_of m c main_v14_1 (by decide +kernel)) _).trans ((stage0 m c hx hc).next i d))
    (fun i k => (scores1 (W2 m c) (rest (x0 m c) (c0 m c) 1) ((stage0 m c hx hc).left) i k).trans (by rw [hb]; rfl))
    (fun d k => (book1 (W2 m c) d k).trans (by rw [hb]))
    (Spec.real_score (Spec.finite_rest hx hc 1) (hc 1))
  have e (w : Fin cfg1.W) : W4 m c (Proc.devRef .tc (arrRef cfg1.spec w)) = (dat1 (entry (W3 m)) c).arrAt w cfg1.N :=
    leave_arr (dat1 (entry (W3 m)) c) (W3 m c) launch1.to₀.sharedIn (fun _ => rfl) w
  exact ⟨fun i j => (congrFun (e 4) _).trans (g.codes i j), fun i d => (congrFun (e 5) _).trans (g.next i d),
    fun i d => (congrFun (e 6) _).trans (g.picked i d), fun i d => (congrFun (e 7) _).trans (g.left i d),
    fun j => (congrFun (e 8) _).trans (g.outs j), fun j => (congrFun (e 9) _).trans (g.softs j), fun j => (congrFun (e 10) _).trans (g.matches_ j)⟩

set_option maxHeartbeats 2000000 in
theorem stage2 : Gives (x0 m c) (sofar (x0 m c) (c0 m c) 2) (c0 m c 2) (W6 m c (Proc.devRef .tc main_v44_0)) (W6 m c (Proc.devRef .tc main_v44_1)) (W6 m c (Proc.devRef .tc main_v44_2)) (W6 m c (Proc.devRef .tc main_v44_3)) (W6 m c (Proc.devRef .tc main_v44_4)) (W6 m c (Proc.devRef .tc main_v44_5)) (W6 m c (Proc.devRef .tc main_v44_6)) := by
  have hb : booksOf (W4 m c (Proc.devRef .tc main_arg1)) = c0 m c := congrArg booksOf (W4_arg1 m c)
  have g := gives2 (entry (W5 m)) c (x0 m c) (sofar (x0 m c) (c0 m c) 2) (c0 m c 2)
    (fun i d => congrFun ((W5_of m c main_arg0 (by decide +kernel)).trans (W4_arg0 m c)) (ix2 i d))
    (fun i d => (congrFun (W5_of m c main_v29_1 (by decide +kernel)) _).trans ((stage1 m c hx hc).next i d))
    (fun i k => (scores2 (W4 m c) (rest (x0 m c) (c0 m c) 2) ((stage1 m c hx hc).left) i k).trans (by rw [hb]; rfl))
    (fun d k => (book2 (W4 m c) d k).trans (by rw [hb]))
    (Spec.real_score (Spec.finite_rest hx hc 2) (hc 2))
  have e (w : Fin cfg2.W) : W6 m c (Proc.devRef .tc (arrRef cfg2.spec w)) = (dat2 (entry (W5 m)) c).arrAt w cfg2.N :=
    leave_arr (dat2 (entry (W5 m)) c) (W5 m c) launch2.to₀.sharedIn (fun _ => rfl) w
  exact ⟨fun i j => (congrFun (e 4) _).trans (g.codes i j), fun i d => (congrFun (e 5) _).trans (g.next i d),
    fun i d => (congrFun (e 6) _).trans (g.picked i d), fun i d => (congrFun (e 7) _).trans (g.left i d),
    fun j => (congrFun (e 8) _).trans (g.outs j), fun j => (congrFun (e 9) _).trans (g.softs j), fun j => (congrFun (e 10) _).trans (g.matches_ j)⟩

set_option maxHeartbeats 2000000 in
theorem stage3 : Gives (x0 m c) (sofar (x0 m c) (c0 m c) 3) (c0 m c 3) (W8 m c (Proc.devRef .tc main_v59_0)) (W8 m c (Proc.devRef .tc main_v59_1)) (W8 m c (Proc.devRef .tc main_v59_2)) (W8 m c (Proc.devRef .tc main_v59_3)) (W8 m c (Proc.devRef .tc main_v59_4)) (W8 m c (Proc.devRef .tc main_v59_5)) (W8 m c (Proc.devRef .tc main_v59_6)) := by
  have hb : booksOf (W6 m c (Proc.devRef .tc main_arg1)) = c0 m c := congrArg booksOf (W6_arg1 m c)
  have g := gives3 (entry (W7 m)) c (x0 m c) (sofar (x0 m c) (c0 m c) 3) (c0 m c 3)
    (fun i d => congrFun ((W7_of m c main_arg0 (by decide +kernel)).trans (W6_arg0 m c)) (ix2 i d))
    (fun i d => (congrFun (W7_of m c main_v44_1 (by decide +kernel)) _).trans ((stage2 m c hx hc).next i d))
    (fun i k => (scores3 (W6 m c) (rest (x0 m c) (c0 m c) 3) ((stage2 m c hx hc).left) i k).trans (by rw [hb]; rfl))
    (fun d k => (book3 (W6 m c) d k).trans (by rw [hb]))
    (Spec.real_score (Spec.finite_rest hx hc 3) (hc 3))
  have e (w : Fin cfg3.W) : W8 m c (Proc.devRef .tc (arrRef cfg3.spec w)) = (dat3 (entry (W7 m)) c).arrAt w cfg3.N :=
    leave_arr (dat3 (entry (W7 m)) c) (W7 m c) launch3.to₀.sharedIn (fun _ => rfl) w
  exact ⟨fun i j => (congrFun (e 4) _).trans (g.codes i j), fun i d => (congrFun (e 5) _).trans (g.next i d),
    fun i d => (congrFun (e 6) _).trans (g.picked i d), fun i d => (congrFun (e 7) _).trans (g.left i d),
    fun j => (congrFun (e 8) _).trans (g.outs j), fun j => (congrFun (e 9) _).trans (g.softs j), fun j => (congrFun (e 10) _).trans (g.matches_ j)⟩

end Cert.KernelIdeal

end
-- ==== Proof.Value.Loss.lean ====
/- The combined loss: a weighted sum of the stages' mean squares. -/
module

public import proofs.«01_k».proof.Proof.Gen.KernelIdeal.Skeleton
public import proofs.«01_k».proof.Proof.Value.Host

@[expose] public section

set_option maxRecDepth 16384

noncomputable section

namespace Cert.Ops

open Idealize.ShloMosaic Idealize.ShloMosaic.ValueIdx
open Cert.Spec (rest)
open scoped BigOperators

/-- How much a mismatch of the assignments counts. -/
def lambda : EReal := constant (F := Ideal) ⟨0, ![]⟩ .f32 0x3DCCCCCD#32 ix0

/-- The loss of the four stages under the weights `w`. -/
def loss (x : Spec.Points) (c : ℕ → Spec.Book) (w : Fin 4 → EReal) : EReal :=
  ((∑ q : Fin 4, w q * meanOut (rest x c q.val) (c q.val)) + lambda * ∑ q : Fin 4, w q * meanMatch (rest x c q.val) (c q.val))
    + ∑ q : Fin 4, w q * meanSoft (rest x c q.val) (c q.val)

/-! ## Scaling by the reciprocal of a power of two is dividing by it -/

theorem lit19_eq : lit19 = ((524288 : ℝ) : EReal) := by
  show Ideal.ofBits .f32 0x49000000#32 = _
  simp [Ideal.ofBits, Ideal.ieee]
  rw [← EReal.coe_mul]
  norm_num
theorem lit23_eq : lit23 = ((8388608 : ℝ) : EReal) := by
  show Ideal.ofBits .f32 0x4B000000#32 = _
  simp [Ideal.ofBits, Ideal.ieee]
theorem inv19 : Scalar.ofBits (F := Ideal) .f32 0x36000000#32 = (((524288 : ℝ)⁻¹ : ℝ) : EReal) := by
  show Ideal.ofBits .f32 0x36000000#32 = _
  simp [Ideal.ofBits, Ideal.ieee]
  rw [← EReal.coe_mul]
  norm_num
theorem inv23 : Scalar.ofBits (F := Ideal) .f32 0x34000000#32 = (((8388608 : ℝ)⁻¹ : ℝ) : EReal) := by
  show Ideal.ofBits .f32 0x34000000#32 = _
  simp [Ideal.ofBits, Ideal.ieee]
  rw [← EReal.coe_mul]
  norm_num

theorem scaled (e : EReal) (y : ℝ) (hy : y ≠ 0) (a b : EReal) (ha : a = ((y⁻¹ : ℝ) : EReal)) (hb : b = (y : EReal)) : e * a = Ideal.div e b := by
  unfold Ideal.div
  rw [hb, if_neg (by exact_mod_cast hy), ha, EReal.coe_inv]
theorem scaled19 (e : EReal) : e * Scalar.ofBits (F := Ideal) .f32 0x36000000#32 = Ideal.div e lit19 := scaled e 524288 (by norm_num) _ _ inv19 lit19_eq
theorem scaled23 (e : EReal) : e * Scalar.ofBits (F := Ideal) .f32 0x34000000#32 = Ideal.div e lit23 := scaled e 8388608 (by norm_num) _ _ inv23 lit23_eq

/-- One weighted sum of the combining body. -/
theorem weighted (w o : FVec Ideal ⟨2, ![1, 4]⟩ .f32) (a : Ideal .f32) (h : (⟨2, ![1, 4]⟩ : Shape).ShapeCasts ⟨1, ![4]⟩)
    (h1 : (⟨1, ![4]⟩ : Shape).ShapeCasts ⟨2, ![1, 4]⟩) (hr : (⟨2, ![1, 4]⟩ : Shape).Reduces [1] ⟨1, ![1]⟩) (hφ : FKind.Formats .f32)
    (hacc : (0x00000000#32 : BitVec 32) = FKind.add.neutral .f32 hφ) (h2 : (⟨1, ![1]⟩ : Shape).ShapeCasts ⟨2, ![1, 1]⟩)
    (hp : ∀ a, (![0, 0] : Fin 2 → Nat) a < (⟨2, ![1, 1]⟩ : Shape).size a) :
    extractAt ![0, 0] (shapeCast ⟨2, ![1, 1]⟩ (multiReduction .add [1] ⟨1, ![1]⟩ (shapeCast ⟨2, ![1, 4]⟩
      (mulf (shapeCast ⟨1, ![4]⟩ w h) (mulf (shapeCast ⟨1, ![4]⟩ o h) (broadcast ⟨1, ![4]⟩ a))) h1) 0x00000000#32 hr hφ hacc) h2) hp
      = ∑ q : Fin 4, w (ix2 0 q) * (o (ix2 0 q) * a) := by
  refine (total _ h1 hr hφ hacc h2 hp).trans (Finset.sum_congr rfl fun q _ => ?_)
  exact congrArg₂ (fun a b : EReal => a * b) (unrow w h q) (congrArg (fun e : EReal => e * a) (unrow o h q))

/-- The combining body's number: the loss, given the stages' sums of squares and the weights. -/
theorem combined (x : Spec.Points) (c : ℕ → Spec.Book) (w : Fin 4 → EReal) (vw vo vs vm : FVec Ideal ⟨2, ![1, 4]⟩ .f32)
    (hw : ∀ q, vw (ix2 0 q) = w q) (ho : ∀ q, vo (ix2 0 q) = Spec.outSum (rest x c q.val) (c q.val))
    (hs : ∀ q, vs (ix2 0 q) = Spec.softSum (rest x c q.val) (c q.val)) (hm : ∀ q, vm (ix2 0 q) = Spec.matchSum (rest x c q.val) (c q.val))
    (j : (⟨2, ![1, 1]⟩ : Shape).Idx) : Cert.KernelIdeal.Gen.k4_pay1 (F := Ideal) vw vo vs vm j = loss x c w := by
  have e1 := fun (v : FVec Ideal ⟨2, ![1, 4]⟩ .f32) (a : Ideal .f32) => weighted vw v a
  refine (congrArg₂ (fun a b : EReal => a + b) (congrArg₂ (fun a b : EReal => a + b) (e1 vo _ _ _ _ _ _ _ _) (congrArg (fun e : EReal => lambda * e) (e1 vm _ _ _ _ _ _ _ _))) (e1 vs _ _ _ _ _ _ _ _) :
    Cert.KernelIdeal.Gen.k4_pay1 (F := Ideal) vw vo vs vm j = _).trans ?_
  simp only [hw, ho, hs, hm, scaled19, scaled23]
  rfl

end Cert.Ops

end
-- ==== Proof.Value.KEnd.lean ====
/- The kernel's results, as the residual quantizer's values. -/
module

public import proofs.«01_k».proof.Proof.Value.KHost
public import proofs.«01_k».proof.Proof.Value.Loss

@[expose] public section

set_option maxRecDepth 16384

noncomputable section

namespace Cert.KernelIdeal

open Idealize.ShloMosaic Idealize.ShloMosaic.ValueIdx Idealize.ShloMosaic.TcCoe
open Idealize.SL Idealize.SL.RA
open Idealize.ShloMosaic.Rounds Idealize.ShloMosaic.Pipeline
open Cert.KernelIdeal.Gen
open Cert.Spec (sofar rest pointsOf booksOf)

/-! ## The combining call's one block is each whole array -/

theorem index4_0 : ∀ t : Fin cfg4.N, (cfg4.win 0).index t = ![0, 0] := (by decide +kernel : ∀ t : Fin grid4.N, win4_0.index t = ![0, 0])
theorem index4_1 : ∀ t : Fin cfg4.N, (cfg4.win 1).index t = ![0, 0] := (by decide +kernel : ∀ t : Fin grid4.N, win4_1.index t = ![0, 0])
theorem index4_2 : ∀ t : Fin cfg4.N, (cfg4.win 2).index t = ![0, 0] := (by decide +kernel : ∀ t : Fin grid4.N, win4_2.index t = ![0, 0])
theorem index4_3 : ∀ t : Fin cfg4.N, (cfg4.win 3).index t = ![0, 0] := (by decide +kernel : ∀ t : Fin grid4.N, win4_3.index t = ![0, 0])

theorem emb4_0 (t : Fin cfg4.N) (i : Fin 1) (q : Fin 4) : ((cfg4.win 0).blk t).view.emb (ix2 i q) = ix2 i q := by
  funext a; apply Fin.ext
  match a with
  | ⟨0, _⟩ => exact ((cfg4.win 0).rect_emb_val t _ 0).trans (by rw [index4_0]; show 0 * 1 + i.val = i.val; omega)
  | ⟨1, _⟩ => exact ((cfg4.win 0).rect_emb_val t _ 1).trans (by rw [index4_0]; show 0 * 4 + q.val = q.val; omega)
theorem emb4_1 (t : Fin cfg4.N) (i : Fin 1) (q : Fin 4) : ((cfg4.win 1).blk t).view.emb (ix2 i q) = ix2 i q := by
  funext a; apply Fin.ext
  match a with
  | ⟨0, _⟩ => exact ((cfg4.win 1).rect_emb_val t _ 0).trans (by rw [index4_1]; show 0 * 1 + i.val = i.val; omega)
  | ⟨1, _⟩ => exact ((cfg4.win 1).rect_emb_val t _ 1).trans (by rw [index4_1]; show 0 * 4 + q.val = q.val; omega)
theorem emb4_2 (t : Fin cfg4.N) (i : Fin 1) (q : Fin 4) : ((cfg4.win 2).blk t).view.emb (ix2 i q) = ix2 i q := by
  funext a; apply Fin.ext
  match a with
  | ⟨0, _⟩ => exact ((cfg4.win 2).rect_emb_val t _ 0).trans (by rw [index4_2]; show 0 * 1 + i.val = i.val; omega)
  | ⟨1, _⟩ => exact ((cfg4.win 2).rect_emb_val t _ 1).trans (by rw [index4_2]; show 0 * 4 + q.val = q.val; omega)
theorem emb4_3 (t : Fin cfg4.N) (i : Fin 1) (q : Fin 4) : ((cfg4.win 3).blk t).view.emb (ix2 i q) = ix2 i q := by
  funext a; apply Fin.ext
  match a with
  | ⟨0, _⟩ => exact ((cfg4.win 3).rect_emb_val t _ 0).trans (by rw [index4_3]; show 0 * 1 + i.val = i.val; omega)
  | ⟨1, _⟩ => exact ((cfg4.win 3).rect_emb_val t _ 1).trans (by rw [index4_3]; show 0 * 4 + q.val = q.val; omega)

theorem first4 : 0 < cfg4.N := by decide +kernel
theorem placed4 {c : Dev nD} (dat : Dat τ (Elt Ideal) Unit ℕ (UR sig nD τ) ℕ cfg4 c) (X : Vec Ideal S1x1 .f32) (hX : dat.after 4 ⟨0, first4⟩ = X) (j : S1x1.Idx) :
    dat.arrAt 4 cfg4.N j = X j :=
  (dat.arrAt_emb_eq_after_last 4 ⟨0, first4⟩ (by decide +kernel) j).trans (congrFun hX j)

/-- The arrays the combining call is given. -/
def sums4 (V : Entry Ideal) (c : Dev nD) (t : Fin cfg4.N) : Vec Ideal S1x4 .f32 × Vec Ideal S1x4 .f32 × Vec Ideal S1x4 .f32 × Vec Ideal S1x4 .f32 :=
  (blockAt cfg4 V c 0 t, blockAt cfg4 V c 1 t, blockAt cfg4 V c 2 t, blockAt cfg4 V c 3 t)
theorem final4 (V : Entry Ideal) (c : Dev nD) (j : S1x1.Idx) : (dat4 V c).arrAt 4 cfg4.N j
    = k4_pay1 (sums4 V c ⟨0, first4⟩).2.2.2 (sums4 V c ⟨0, first4⟩).1 (sums4 V c ⟨0, first4⟩).2.1 (sums4 V c ⟨0, first4⟩).2.2.1 j :=
  placed4 (dat4 V c) _ (after4_4 V c ⟨0, first4⟩) j

/-- The combining call's number is the loss, given the rows of sums and the weights it enters with. -/
theorem combined4 (V : Entry Ideal) (c : Dev nD) (x : Spec.Points) (cb : ℕ → Spec.Book) (w : Fin 4 → EReal)
    (ho : ∀ i q, V c main_v60 (ix2 i q) = Spec.outSum (rest x cb q.val) (cb q.val)) (hs : ∀ i q, V c main_v61 (ix2 i q) = Spec.softSum (rest x cb q.val) (cb q.val))
    (hm : ∀ i q, V c main_v62 (ix2 i q) = Spec.matchSum (rest x cb q.val) (cb q.val)) (hw : ∀ q, V c main_arg2 (ix2 (0 : Fin 1) q) = w q) (j : S1x1.Idx) :
    (dat4 V c).arrAt 4 cfg4.N j = Ops.loss x cb w := by
  have b0 : ∀ t q, (sums4 V c t).1 (ix2 (0 : Fin 1) q) = Spec.outSum (rest x cb q.val) (cb q.val) := fun t q => (congrArg (V c main_v60) (emb4_0 t 0 q)).trans (ho 0 q)
  have b1 : ∀ t q, (sums4 V c t).2.1 (ix2 (0 : Fin 1) q) = Spec.softSum (rest x cb q.val) (cb q.val) := fun t q => (congrArg (V c main_v61) (emb4_1 t 0 q)).trans (hs 0 q)
  have b2 : ∀ t q, (sums4 V c t).2.2.1 (ix2 (0 : Fin 1) q) = Spec.matchSum (rest x cb q.val) (cb q.val) := fun t q => (congrArg (V c main_v62) (emb4_2 t 0 q)).trans (hm 0 q)
  have b3 : ∀ t q, (sums4 V c t).2.2.2 (ix2 (0 : Fin 1) q) = w q := fun t q => (congrArg (V c main_arg2) (emb4_3 t 0 q)).trans (hw q)
  rw [final4]
  exact Ops.combined x cb w _ _ _ _ (b3 _) (b0 _) (b1 _) (b2 _) j

/-! ## The host operations after the stages -/

section
variable (W : Valuation τ sig (Elt Ideal))

theorem sums_outs (f : ℕ → Fin 1 → EReal) (h0 : ∀ j, W (Proc.devRef .tc main_v14_4) j = f 0 0) (h1 : ∀ j, W (Proc.devRef .tc main_v29_4) j = f 1 0)
    (h2 : ∀ j, W (Proc.devRef .tc main_v44_4) j = f 2 0) (h3 : ∀ j, W (Proc.devRef .tc main_v59_4) j = f 3 0) (i : Fin 1) (q : Fin 4) :
    StableHlo.after hostOps4 W (Proc.devRef .tc main_v60) (ix2 i q) = f q.val 0 := by
  after_results_simp
  exact Ops.four2 (fun q _ => f q 0) _ _ _ _ _ (fun _ _ => h0 _) (fun _ _ => h1 _) (fun _ _ => h2 _) (fun _ _ => h3 _) i q
theorem sums_softs (f : ℕ → Fin 1 → EReal) (h0 : ∀ j, W (Proc.devRef .tc main_v14_5) j = f 0 0) (h1 : ∀ j, W (Proc.devRef .tc main_v29_5) j = f 1 0)
    (h2 : ∀ j, W (Proc.devRef .tc main_v44_5) j = f 2 0) (h3 : ∀ j, W (Proc.devRef .tc main_v59_5) j = f 3 0) (i : Fin 1) (q : Fin 4) :
    StableHlo.after hostOps4 W (Proc.devRef .tc main_v61) (ix2 i q) = f q.val 0 := by
  after_results_simp
  exact Ops.four2 (fun q _ => f q 0) _ _ _ _ _ (fun _ _ => h0 _) (fun _ _ => h1 _) (fun _ _ => h2 _) (fun _ _ => h3 _) i q
theorem sums_matches (f : ℕ → Fin 1 → EReal) (h0 : ∀ j, W (Proc.devRef .tc main_v14_6) j = f 0 0) (h1 : ∀ j, W (Proc.devRef .tc main_v29_6) j = f 1 0)
    (h2 : ∀ j, W (Proc.devRef .tc main_v44_6) j = f 2 0) (h3 : ∀ j, W (Proc.devRef .tc main_v59_6) j = f 3 0) (i : Fin 1) (q : Fin 4) :
    StableHlo.after hostOps4 W (Proc.devRef .tc main_v62) (ix2 i q) = f q.val 0 := by
  after_results_simp
  exact Ops.four2 (fun q _ => f q 0) _ _ _ _ _ (fun _ _ => h0 _) (fun _ _ => h1 _) (fun _ _ => h2 _) (fun _ _ => h3 _) i q

theorem stacked_picks (f : ℕ → Spec.Points) (h0 : ∀ i d, W (Proc.devRef .tc main_v14_2) (ix2 i d) = f 0 i d) (h1 : ∀ i d, W (Proc.devRef .tc main_v29_2) (ix2 i d) = f 1 i d)
    (h2 : ∀ i d, W (Proc.devRef .tc main_v44_2) (ix2 i d) = f 2 i d) (h3 : ∀ i d, W (Proc.devRef .tc main_v59_2) (ix2 i d) = f 3 i d) (i : Fin 8192) (q : Fin 4) (d : Fin 64) :
    StableHlo.after hostOps5 W (Proc.devRef .tc main_v68) (ix3 i q d) = f q.val i d := by
  after_results_simp
  refine Ops.four3 f _ _ _ _ _ (fun i q d => ?_) (fun i q d => ?_) (fun i q d => ?_) (fun i q d => ?_) i q d
  · dsimp only [Matrix.cons_val]
    try after_results_simp
    exact (Ops.planes _ _ i q d).trans (h0 i d)
  · dsimp only [Matrix.cons_val]
    try after_results_simp
    exact (Ops.planes _ _ i q d).trans (h1 i d)
  · dsimp only [Matrix.cons_val]
    try after_results_simp
    exact (Ops.planes _ _ i q d).trans (h2 i d)
  · dsimp only [Matrix.cons_val]
    try after_results_simp
    exact (Ops.planes _ _ i q d).trans (h3 i d)
theorem stacked_rests (f : ℕ → Spec.Points) (h0 : ∀ i d, W (Proc.devRef .tc main_arg0) (ix2 i d) = f 0 i d) (h1 : ∀ i d, W (Proc.devRef .tc main_v14_3) (ix2 i d) = f 1 i d)
    (h2 : ∀ i d, W (Proc.devRef .tc main_v29_3) (ix2 i d) = f 2 i d) (h3 : ∀ i d, W (Proc.devRef .tc main_v44_3) (ix2 i d) = f 3 i d) (i : Fin 8192) (q : Fin 4) (d : Fin 64) :
    StableHlo.after hostOps5 W (Proc.devRef .tc main_v73) (ix3 i q d) = f q.val i d := by
  after_results_simp
  refine Ops.four3 f _ _ _ _ _ (fun i q d => ?_) (fun i q d => ?_) (fun i q d => ?_) (fun i q d => ?_) i q d
  · dsimp only [Matrix.cons_val]
    try after_results_simp
    exact (Ops.planes _ _ i q d).trans (h0 i d)
  · dsimp only [Matrix.cons_val]
    try after_results_simp
    exact (Ops.planes _ _ i q d).trans (h1 i d)
  · dsimp only [Matrix.cons_val]
    try after_results_simp
    exact (Ops.planes _ _ i q d).trans (h2 i d)
  · dsimp only [Matrix.cons_val]
    try after_results_simp
    exact (Ops.planes _ _ i q d).trans (h3 i d)
theorem stacked_codes (f : ℕ → Fin 8192 → BitVec 32) (h0 : ∀ i j, W (Proc.devRef .tc main_v14_0) (ix2 i j) = f 0 i) (h1 : ∀ i j, W (Proc.devRef .tc main_v29_0) (ix2 i j) = f 1 i)
    (h2 : ∀ i j, W (Proc.devRef .tc main_v44_0) (ix2 i j) = f 2 i) (h3 : ∀ i j, W (Proc.devRef .tc main_v59_0) (ix2 i j) = f 3 i) (i : Fin 8192) (q : Fin 4) :
    StableHlo.after hostOps5 W (Proc.devRef .tc main_v74) (ix2 i q) = f q.val i := by
  after_results_simp
  exact Ops.four2 f _ _ _ _ _ h0 h1 h2 h3 i q
theorem stacked_books (n : Fin 4096) (d : Fin 64) :
    StableHlo.after hostOps5 W (Proc.devRef .tc main_v75) (ix2 n d) = Ops.wordOf (booksOf (W (Proc.devRef .tc main_arg1))) n.val d := by
  after_results_simp
  exact (Ops.flat _ _ n d).trans (Spec.booksOf_at _ (n.val / 1024) (by omega) _ d).symm
end

end Cert.KernelIdeal

end
-- ==== Proof.Value.KResults.lean ====
/- The seven results the kernel ends with. -/
module

public import proofs.«01_k».proof.Proof.Value.KEnd

@[expose] public section

set_option maxRecDepth 16384

noncomputable section

namespace Cert.KernelIdeal

open Idealize.ShloMosaic Idealize.ShloMosaic.ValueIdx Idealize.ShloMosaic.TcCoe
open Idealize.SL Idealize.SL.RA
open Idealize.ShloMosaic.Rounds Idealize.ShloMosaic.Pipeline
open Cert.KernelIdeal.Gen
open Cert.Spec (sofar rest pointsOf booksOf)

variable (m : (ℓ : Loc nD τ sig) → Buf (Elt Ideal) ℓ) (c : Dev nD)

/-! ## What later steps leave alone -/

theorem W8_of_W6 (r : Ref sig .tc) (h3 : Quiet3 r) : W8 m c (Proc.devRef .tc r) = W6 m c (Proc.devRef .tc r) := W8_of m c r h3
theorem W8_of_W4 (r : Ref sig .tc) (h2 : Quiet2 r) (h3 : Quiet3 r) : W8 m c (Proc.devRef .tc r) = W4 m c (Proc.devRef .tc r) :=
  (W8_of m c r h3).trans (W6_of m c r h2)
theorem W8_of_W2 (r : Ref sig .tc) (h1 : Quiet1 r) (h2 : Quiet2 r) (h3 : Quiet3 r) : W8 m c (Proc.devRef .tc r) = W2 m c (Proc.devRef .tc r) :=
  (W8_of_W4 m c r h2 h3).trans (W4_of m c r h1)
theorem W10_of_W6 (r : Ref sig .tc) (h3 : Quiet3 r) (h4 : Quiet4 r) : W10 m c (Proc.devRef .tc r) = W6 m c (Proc.devRef .tc r) :=
  (W10_of m c r h4).trans (W8_of_W6 m c r h3)
theorem W10_of_W4 (r : Ref sig .tc) (h2 : Quiet2 r) (h3 : Quiet3 r) (h4 : Quiet4 r) : W10 m c (Proc.devRef .tc r) = W4 m c (Proc.devRef .tc r) :=
  (W10_of m c r h4).trans (W8_of_W4 m c r h2 h3)
theorem W10_of_W2 (r : Ref sig .tc) (h1 : Quiet1 r) (h2 : Quiet2 r) (h3 : Quiet3 r) (h4 : Quiet4 r) :
    W10 m c (Proc.devRef .tc r) = W2 m c (Proc.devRef .tc r) := (W10_of m c r h4).trans (W8_of_W2 m c r h1 h2 h3)
theorem W11_of_W10 (r : Ref sig .tc) (h : r ∉ hostOps5_W) : W11 m c (Proc.devRef .tc r) = W10 m c (Proc.devRef .tc r) :=
  StableHlo.after_of_writes_sub hostOps5 _ hostOps5_writes h

/-- The weights at launch. -/
abbrev w0 : Fin 4 → EReal := fun q => m (c, Proc.devRef .tc main_arg2) (ix2 (0 : Fin 1) q)

variable (hx : Spec.Finite (x0 m c)) (hc : ∀ j, Spec.Finite (c0 m c j))
include hx hc

/-! ## The results -/

theorem result_picks (i : Fin 8192) (q : Fin 4) (d : Fin 64) :
    W11 m c (Proc.devRef .tc main_v68) (ix3 i q d) = Spec.pick (rest (x0 m c) (c0 m c) q.val) (c0 m c q.val) i d :=
  stacked_picks (W10 m c) (fun q => Spec.pick (rest (x0 m c) (c0 m c) q) (c0 m c q))
    (fun i d => (congrFun (W10_of_W2 m c main_v14_2 (by decide +kernel) (by decide +kernel) (by decide +kernel) (by decide +kernel)) _).trans ((stage0 m c hx hc).picked i d))
    (fun i d => (congrFun (W10_of_W4 m c main_v29_2 (by decide +kernel) (by decide +kernel) (by decide +kernel)) _).trans ((stage1 m c hx hc).picked i d))
    (fun i d => (congrFun (W10_of_W6 m c main_v44_2 (by decide +kernel) (by decide +kernel)) _).trans ((stage2 m c hx hc).picked i d))
    (fun i d => (congrFun (W10_of m c main_v59_2 (by decide +kernel)) _).trans ((stage3 m c hx hc).picked i d)) i q d

theorem result_rests (i : Fin 8192) (q : Fin 4) (d : Fin 64) :
    W11 m c (Proc.devRef .tc main_v73) (ix3 i q d) = rest (x0 m c) (c0 m c) q.val i d :=
  stacked_rests (W10 m c) (rest (x0 m c) (c0 m c))
    (fun i d => (congrFun (W10_arg0 m c) _).trans (Spec.rest_zero_at (x0 m c) (c0 m c) i d).symm)
    (fun i d => (congrFun (W10_of_W2 m c main_v14_3 (by decide +kernel) (by decide +kernel) (by decide +kernel) (by decide +kernel)) _).trans ((stage0 m c hx hc).left i d))
    (fun i d => (congrFun (W10_of_W4 m c main_v29_3 (by decide +kernel) (by decide +kernel) (by decide +kernel)) _).trans ((stage1 m c hx hc).left i d))
    (fun i d => (congrFun (W10_of_W6 m c main_v44_3 (by decide +kernel) (by decide +kernel)) _).trans ((stage2 m c hx hc).left i d)) i q d

theorem result_next (i : Fin 8192) (d : Fin 64) : W11 m c (Proc.devRef .tc main_v59_1) (ix2 i d) = sofar (x0 m c) (c0 m c) 4 i d :=
  (congrFun ((W11_of_W10 m c main_v59_1 (by decide +kernel)).trans (W10_of m c main_v59_1 (by decide +kernel))) _).trans ((stage3 m c hx hc).next i d)

omit hx hc in
theorem result_books (n : Fin 4096) (d : Fin 64) : W11 m c (Proc.devRef .tc main_v75) (ix2 n d) = Ops.wordOf (c0 m c) n.val d :=
  (stacked_books (W10 m c) n d).trans (congrArg (fun a => Ops.wordOf (booksOf a) n.val d) (W10_arg1 m c))

theorem result_codes (i : Fin 8192) (q : Fin 4) :
    W11 m c (Proc.devRef .tc main_v74) (ix2 i q) = Row.word (Spec.score (rest (x0 m c) (c0 m c) q.val) (c0 m c q.val) i) :=
  stacked_codes (W10 m c) (fun q i => Row.word (Spec.score (rest (x0 m c) (c0 m c) q) (c0 m c q) i))
    (fun i j => (congrFun (W10_of_W2 m c main_v14_0 (by decide +kernel) (by decide +kernel) (by decide +kernel) (by decide +kernel)) _).trans ((stage0 m c hx hc).codes i j))
    (fun i j => (congrFun (W10_of_W4 m c main_v29_0 (by decide +kernel) (by decide +kernel) (by decide +kernel)) _).trans ((stage1 m c hx hc).codes i j))
    (fun i j => (congrFun (W10_of_W6 m c main_v44_0 (by decide +kernel) (by decide +kernel)) _).trans ((stage2 m c hx hc).codes i j))
    (fun i j => (congrFun (W10_of m c main_v59_0 (by decide +kernel)) _).trans ((stage3 m c hx hc).codes i j)) i q

theorem entered_outs (i : Fin 1) (q : Fin 4) : W9 m c (Proc.devRef .tc main_v60) (ix2 i q) = Spec.outSum (rest (x0 m c) (c0 m c) q.val) (c0 m c q.val) :=
  sums_outs (W8 m c) (fun q _ => Spec.outSum (rest (x0 m c) (c0 m c) q) (c0 m c q))
    (fun j => (congrFun (W8_of_W2 m c main_v14_4 (by decide +kernel) (by decide +kernel) (by decide +kernel)) j).trans ((stage0 m c hx hc).outs j))
    (fun j => (congrFun (W8_of_W4 m c main_v29_4 (by decide +kernel) (by decide +kernel)) j).trans ((stage1 m c hx hc).outs j))
    (fun j => (congrFun (W8_of_W6 m c main_v44_4 (by decide +kernel)) j).trans ((stage2 m c hx hc).outs j))
    (fun j => (stage3 m c hx hc).outs j) i q
theorem entered_softs (i : Fin 1) (q : Fin 4) : W9 m c (Proc.devRef .tc main_v61) (ix2 i q) = Spec.softSum (rest (x0 m c) (c0 m c) q.val) (c0 m c q.val) :=
  sums_softs (W8 m c) (fun q _ => Spec.softSum (rest (x0 m c) (c0 m c) q) (c0 m c q))
    (fun j => (congrFun (W8_of_W2 m c main_v14_5 (by decide +kernel) (by decide +kernel) (by decide +kernel)) j).trans ((stage0 m c hx hc).softs j))
    (fun j => (congrFun (W8_of_W4 m c main_v29_5 (by decide +kernel) (by decide +kernel)) j).trans ((stage1 m c hx hc).softs j))
    (fun j => (congrFun (W8_of_W6 m c main_v44_5 (by decide +kernel)) j).trans ((stage2 m c hx hc).softs j))
    (fun j => (stage3 m c hx hc).softs j) i q
theorem entered_matches (i : Fin 1) (q : Fin 4) : W9 m c (Proc.devRef .tc main_v62) (ix2 i q) = Spec.matchSum (rest (x0 m c) (c0 m c) q.val) (c0 m c q.val) :=
  sums_matches (W8 m c) (fun q _ => Spec.matchSum (rest (x0 m c) (c0 m c) q) (c0 m c q))
    (fun j => (congrFun (W8_of_W2 m c main_v14_6 (by decide +kernel) (by decide +kernel) (by decide +kernel)) j).trans ((stage0 m c hx hc).matches_ j))
    (fun j => (congrFun (W8_of_W4 m c main_v29_6 (by decide +kernel) (by decide +kernel)) j).trans ((stage1 m c hx hc).matches_ j))
    (fun j => (congrFun (W8_of_W6 m c main_v44_6 (by decide +kernel)) j).trans ((stage2 m c hx hc).matches_ j))
    (fun j => (stage3 m c hx hc).matches_ j) i q

theorem result_loss (j : S1x1.Idx) : W11 m c (Proc.devRef .tc main_v63) j = Ops.loss (x0 m c) (c0 m c) (w0 m c) := by
  have e : W10 m c (Proc.devRef .tc (arrRef cfg4.spec 4)) = (dat4 (entry (W9 m)) c).arrAt 4 cfg4.N :=
    leave_arr (dat4 (entry (W9 m)) c) (W9 m c) launch4.to₀.sharedIn (fun _ => rfl) 4
  refine (congrFun (W11_of_W10 m c main_v63 (by decide +kernel)) j).trans ((congrFun e j).trans ?_)
  exact combined4 (entry (W9 m)) c (x0 m c) (c0 m c) (w0 m c) (entered_outs m c hx hc) (entered_softs m c hx hc) (entered_matches m c hx hc)
    (fun q => congrFun ((W9_of m c main_arg2 (by decide +kernel)).trans (W8_arg2 m c)) _) j

end Cert.KernelIdeal

end
-- ==== Proof.Value.RefOps.lean ====
/- The reference's arrays after each stretch of one stage, entry by entry: what the choice of a code, the products with a book and
   the mean squares are. -/
module

public import proofs.«01_k».proof.Proof.Gen.ReferenceIdeal
public import proofs.«01_k».proof.Proof.Value.Host

@[expose] public section

set_option maxRecDepth 16384

noncomputable section

namespace Cert.ReferenceIdeal

open Idealize.ShloMosaic Idealize.ShloMosaic.ValueIdx
open Facts₀ Facts
open Cert.ReferenceIdeal.Gen (facts₀ facts)
open scoped BigOperators

open Classical in
/-- The reference's choice between two pairs. -/
theorem reducer_eq (a b : Ideal .f32 × BitVec 32) : reducer_argmax_f32_i32 a b = if Ops.Beats a b then a else b := by
  obtain ⟨x, p⟩ := a
  obtain ⟨y, q⟩ := b
  show (Scalar.select (IntOp.ori (Ideal.cmp .ogt x y) (Ideal.cmp .une x x)) x y,
    Scalar.select (IntOp.ori (IntOp.ori (Ideal.cmp .ogt x y) (Ideal.cmp .une x x)) (IntOp.andi (Ideal.cmp .oeq x y) (IntOp.cmpi .slt p q))) p q) = _
  rcases lt_trichotomy y x with h | h | h
  · rw [if_pos (.inl h)]
    have hor : ∀ w : BitVec 1, 1#1 ||| w = 1#1 := by decide
    simp [Scalar.select, IntOp.ori, Ideal.cmp, h, hor]
  · subst h
    by_cases h' : p.toInt < q.toInt
    · rw [if_pos (.inr ⟨rfl, h'⟩)]
      simp [Scalar.select, IntOp.ori, IntOp.andi, IntOp.cmpi, Ideal.cmp, BitVec.slt, h']
    · rw [if_neg (by rintro (g | ⟨-, g⟩); exacts [lt_irrefl _ g, h' g])]
      simp [Scalar.select, IntOp.ori, IntOp.andi, IntOp.cmpi, Ideal.cmp, BitVec.slt, h']
  · rw [if_neg (by rintro (g | ⟨g, -⟩); exacts [lt_asymm h g, h.ne g])]
    simp [Scalar.select, IntOp.ori, IntOp.andi, IntOp.cmpi, Ideal.cmp, h.not_gt, h.ne]

/-- The codes, from the soft assignment. -/
theorem codes_at (v : FVec Ideal S8192x1024 .f32) (S : Fin 8192 → Row.Scores) (hv : ∀ i k, v (ix2 i k) = Row.soft (S i) k) (hreal : ∀ i, Row.Real (S i))
    (i : Fin 8192) :
    (Host.argReduce reducer_argmax_f32_i32 v (iotaInDim S8192x1024 32 1) (constant (F := Ideal) S_ .f32 0xFF800000#32) (constantI S_ 32 0#32)
      reducesTo_S8192x1024_S8192_d1 h_S_ (ix1 i)).2 = Row.word (S i) := by
  refine (Ops.hostBest reducer_argmax_f32_i32 reducer_eq v _ (fun _ _ => rfl) _ Ops.lit_bot _ _ _ i ⟨0, ?_⟩).trans ?_
  · rw [hv]
    obtain ⟨r, hr⟩ := Row.real_soft (hreal i) 0
    rw [hr]
    exact EReal.coe_ne_bot r
  · rw [show (fun k => v (ix2 i k)) = Row.soft (S i) from funext (hv i)]
    rfl

/-- A difference and what was taken away. -/
theorem back_at {s : Shape} (u v : FVec Ideal s .f32) (i : s.Idx) : addf (subf u v) v i = (u i - v i) + v i := rfl

/-- The straight-through assignment is the hard one. -/
theorem through_at (u v : FVec Ideal S8192x1024 .f32) (S : Fin 8192 → Row.Scores) (hu : ∀ i k, u (ix2 i k) = Row.hot (S i) k)
    (hv : ∀ i k, v (ix2 i k) = Row.soft (S i) k) (hreal : ∀ i, Row.Real (S i)) (i : Fin 8192) (k : Fin 1024) :
    addf (subf u v) v (ix2 i k) = Row.hot (S i) k := by
  rw [back_at, hu, hv, Row.through (hreal i)]

/-- A product with a book. -/
theorem dot_at (u : FVec Ideal S8192x1024 .f32) (v : FVec Ideal S1024x64 .f32) (cb : Spec.Book) (hv : ∀ k d, v (ix2 k d) = cb k d) (i : Fin 8192) (d : Fin 64) :
    Host.dotGeneral dot_S8192x1024_S1024x64_S8192x64_1_0_0_1_n_n none u v (ix2 i d) = ∑ k, u (ix2 i k) * cb k d :=
  (Ops.hostDot u v i d).trans (Finset.sum_congr rfl fun k _ => congrArg (u (ix2 i k) * ·) (hv k d))

section
variable (r : Spec.Points) (cb : Spec.Book)
variable (u : FVec Ideal S8192x1024 .f32) (v : FVec Ideal S1024x64 .f32) (hv : ∀ k d, v (ix2 k d) = cb k d)
include hv

theorem picked_at (hu : ∀ i k, u (ix2 i k) = Row.hot (Spec.score r cb i) k) (i : Fin 8192) (d : Fin 64) :
    Host.dotGeneral dot_S8192x1024_S1024x64_S8192x64_1_0_0_1_n_n none u v (ix2 i d) = Spec.pick r cb i d :=
  (dot_at u v cb hv i d).trans ((Finset.sum_congr rfl fun k _ => congrArg (· * cb k d) (hu i k)).trans (Row.sum_hot _ fun k => cb k d))

theorem blended_at (hu : ∀ i k, u (ix2 i k) = Row.soft (Spec.score r cb i) k) (i : Fin 8192) (d : Fin 64) :
    Host.dotGeneral dot_S8192x1024_S1024x64_S8192x64_1_0_0_1_n_n none u v (ix2 i d) = Spec.blend r cb i d :=
  (dot_at u v cb hv i d).trans (Finset.sum_congr rfl fun k _ => congrArg (· * cb k d) (hu i k))

end

/-- A mean square, its divisor kept. -/
theorem mean_at {n m : Nat} (u v : FVec Ideal ⟨2, ![n, m]⟩ .f32) (f g : Fin n → Fin m → EReal) (hu : ∀ i d, u (ix2 i d) = f i d) (hv : ∀ i d, v (ix2 i d) = g i d)
    (l : FVec Ideal ⟨0, ![]⟩ .f32)
    (h' : (⟨2, ![n, m]⟩ : Shape).ReducesTo [0, 1] ⟨0, ![]⟩) (hu' : 0 < (⟨0, ![]⟩ : Shape).numel) (h : (⟨0, ![]⟩ : Shape).ShapeCasts ⟨2, ![1, 1]⟩)
    (q d : Fin 1) :
    shapeCast ⟨2, ![1, 1]⟩ (Host.divf (Host.reduceAdd (mulf (subf u v) (subf u v)) (constant (F := Ideal) ⟨0, ![]⟩ .f32 0x00000000#32) h' hu') l) h (ix2 q d)
      = Ideal.div (∑ i, ∑ k, (f i k - g i k) * (f i k - g i k)) (l ix0) := by
  rw [Ops.lone rfl _ h _ ix0, Ops.div_at, Ops.hostTotal _ _ Ops.lit_zero]
  refine congrArg (Ideal.div · (l ix0)) (Finset.sum_congr rfl fun i _ => Finset.sum_congr rfl fun k _ => ?_)
  rw [← hu, ← hv]
  rfl

/-- The scores twice divided by one. -/
theorem tempered (s : FVec Ideal S8192x1024 .f32) (S : Fin 8192 → Row.Scores) (hs : ∀ i k, s (ix2 i k) = S i k) (o o' : FVec Ideal S_ .f32)
    (ho : o ix0 = (1 : EReal)) (ho' : o' ix0 = (1 : EReal)) (i : Fin 8192) (k : Fin 1024) :
    Host.divf (Host.divf s (broadcastInDim S8192x1024 ![] bcast_S_S8192x1024 o)) (broadcastInDim S8192x1024 ![] bcast_S_S8192x1024 o') (ix2 i k) = S i k := by
  rw [Ops.div_at, Ops.div_at, broadcastInDim_scalar_apply, broadcastInDim_scalar_apply, ho, ho', Ops.div_one, Ops.div_one, hs]

end Cert.ReferenceIdeal

end
-- ==== Proof.Value.RefHeld.lean ====
/- What the reference holds after some stages. -/
module

public import proofs.«01_k».proof.Proof.Value.RefOps
public import proofs.«01_k».proof.Proof.Value.Spec

@[expose] public section

set_option maxRecDepth 16384

noncomputable section

namespace Cert.ReferenceIdeal

open Idealize.ShloMosaic Idealize.ShloMosaic.ValueIdx
open Facts₀ Facts
open Cert.ReferenceIdeal.Gen (facts₀ facts)
open Cert.Spec (sofar rest booksOf pointsOf)

/-- After `k` stages: the prediction, and the books, codes, residuals, codewords and mean squares so far. -/
structure Upto (x : Spec.Points) (c : ℕ → Spec.Book) (k : ℕ) {b : ℕ} (next : Vec Ideal S8192x64 .f32) (books : Vec Ideal ⟨2, ![b, 64]⟩ .f32)
    (codes : Vec Ideal ⟨2, ![8192, k]⟩ .i32) (lefts picks : Vec Ideal ⟨3, ![8192, k, 64]⟩ .f32) (outs softs matches_ : Vec Ideal ⟨2, ![k, 1]⟩ .f32) : Prop where
  next : ∀ i d, next (ix2 i d) = sofar x c k i d
  books : ∀ (n : Fin b) d, books (ix2 n d) = Ops.wordOf c n.val d
  codes : ∀ i (q : Fin k), codes (ix2 i q) = Row.word (Spec.score (rest x c q.val) (c q.val) i)
  lefts : ∀ i (q : Fin k) d, lefts (ix3 i q d) = rest x c q.val i d
  picks : ∀ i (q : Fin k) d, picks (ix3 i q d) = Spec.pick (rest x c q.val) (c q.val) i d
  outs : ∀ (q : Fin k) (d : Fin 1), outs (ix2 q d) = Ops.meanOut (rest x c q.val) (c q.val)
  softs : ∀ (q : Fin k) (d : Fin 1), softs (ix2 q d) = Ops.meanSoft (rest x c q.val) (c q.val)
  matches_ : ∀ (q : Fin k) (d : Fin 1), matches_ (ix2 q d) = Ops.meanMatch (rest x c q.val) (c q.val)

end Cert.ReferenceIdeal

end
-- ==== Proof.Value.Ref0.lean ====
/- Stage 1 of the reference, entry by entry. -/
module

public import proofs.«01_k».proof.Proof.Ref.States
public import proofs.«01_k».proof.Proof.Value.RefHeld

@[expose] public section

set_option maxRecDepth 16384

noncomputable section

namespace Cert.ReferenceIdeal

open Idealize.ShloMosaic Idealize.ShloMosaic.ValueIdx
open Facts₀ Facts
open Cert.ReferenceIdeal.Gen (facts₀ facts)
open Cert.Spec (sofar rest booksOf pointsOf)

section
variable (W : Valuation τ sig (Elt Ideal))

theorem scores0 (r : Spec.Points) (hr : ∀ i d, W (Proc.devRef .tc main_arg0) (ix2 i d) = r i d) (i : Fin 8192) (k : Fin 1024) :
    StableHlo.after opsA0 W (Proc.devRef .tc main_v14) (ix2 i k) = Spec.score r (booksOf (W (Proc.devRef .tc main_arg1)) 0) i k := by
  after_results
  refine tempered _ (Spec.score r (booksOf (W (Proc.devRef .tc main_arg1)) 0)) (fun i k => ?_) _ _ Ops.lit_one Ops.lit_one i k
  refine Ops.scores _ r _ (fun i k d => ?_) _ Ops.lit_zero _ _ i k
  exact congrArg (fun e => e * e) (congrArg₂ (fun a b : EReal => a - b) ((Ops.points _ _ _ i k d).trans (hr i d))
    ((Ops.words _ _ _ i k d).trans ((Ops.book _ 0 (by decide) _ _ k d).trans (Spec.booksOf_at _ _ (by decide) k d).symm)))

theorem soft0 (S : Fin 8192 → Row.Scores) (hs : ∀ i k, W (Proc.devRef .tc main_v14) (ix2 i k) = S i k) (i : Fin 8192) (k : Fin 1024) :
    StableHlo.after opsB0 W (Proc.devRef .tc main_v25) (ix2 i k) = Row.soft (S i) k := by
  after_results
  exact Ops.soft _ S hs _ _ _ Ops.lit_bot Ops.lit_bot Ops.lit_zero _ _ _ _ _ _ rfl i k

theorem index0 (S : Fin 8192 → Row.Scores) (hs : ∀ i k, W (Proc.devRef .tc main_v25) (ix2 i k) = Row.soft (S i) k) (hreal : ∀ i, Row.Real (S i)) (i : Fin 8192) :
    StableHlo.after opsC0 W (Proc.devRef .tc main_v26) (ix1 i) = Row.word (S i) := by
  after_results
  exact codes_at _ S hs hreal i

theorem through0 (S : Fin 8192 → Row.Scores) (hs : ∀ i k, W (Proc.devRef .tc main_v25) (ix2 i k) = Row.soft (S i) k) (hreal : ∀ i, Row.Real (S i)) (i : Fin 8192) (k : Fin 1024) :
    StableHlo.after opsC0 W (Proc.devRef .tc main_v29) (ix2 i k) = Row.hot (S i) k := by
  after_results
  refine through_at _ _ S (fun i k => ?_) hs hreal i k
  refine Ops.hot _ S (fun i => ?_) _ _ _ i k
  exact codes_at _ S hs hreal i

section
variable (x : Spec.Points) (c : ℕ → Spec.Book) (hc : booksOf (W (Proc.devRef .tc main_arg1)) = c)
  (hr : ∀ i d, W (Proc.devRef .tc main_arg0) (ix2 i d) = rest x c 0 i d) (hw : ∀ i, W (Proc.devRef .tc main_v26) (ix1 i) = Row.word (Spec.score (rest x c 0) (c 0) i))
  (hh : ∀ i k, W (Proc.devRef .tc main_v29) (ix2 i k) = Row.hot (Spec.score (rest x c 0) (c 0) i) k)
  (hs : ∀ i k, W (Proc.devRef .tc main_v25) (ix2 i k) = Row.soft (Spec.score (rest x c 0) (c 0) i) k)

include hc hr hw hh hs in
theorem next0 : ∀ i d, StableHlo.after opsD0_2 (StableHlo.after opsD0_1 W) (Proc.devRef .tc main_v35) (ix2 i d) = sofar x c 1 i d := by
  intro i d
  after_results
  exact (picked_at (rest x c 0) (c 0) _ _ (fun k d => (Ops.book _ 0 (by decide) _ _ k d).trans ((Spec.booksOf_at _ _ (by decide) k d).symm.trans (congrFun (congrFun (congrFun hc 0) k) d))) hh i d).trans (Spec.sofar_one x c i d).symm

include hc hr hw hh hs in
theorem books0 : ∀ (n : Fin 1024) d, StableHlo.after opsD0_2 (StableHlo.after opsD0_1 W) (Proc.devRef .tc main_v32) (ix2 n d) = Ops.wordOf c n.val d := by
  intro q d
  after_results
  exact ((fun k d => (Ops.book _ 0 (by decide) _ _ k d).trans ((Spec.booksOf_at _ _ (by decide) k d).symm.trans (congrFun (congrFun (congrFun hc 0) k) d))) q d).trans (Ops.wordOf_at c q.val 0 q (by omega) d)

include hc hr hw hh hs in
theorem codes0 : ∀ i (q : Fin 1), StableHlo.after opsD0_2 (StableHlo.after opsD0_1 W) (Proc.devRef .tc main_v30) (ix2 i q) = Row.word (Spec.score (rest x c q.val) (c q.val) i) := by
  intro i q
  after_results
  obtain rfl : q = 0 := Subsingleton.elim _ _
  exact (Ops.upright _ _ i 0).trans (hw i)

include hc hr hw hh hs in
theorem lefts0 : ∀ i (q : Fin 1) d, StableHlo.after opsD0_2 (StableHlo.after opsD0_1 W) (Proc.devRef .tc main_v57) (ix3 i q d) = rest x c q.val i d := by
  intro i q d
  after_results
  obtain rfl : q = 0 := Subsingleton.elim _ _
  exact (Ops.planes _ _ i 0 d).trans (hr i d)

include hc hr hw hh hs in
theorem picks0 : ∀ i (q : Fin 1) d, StableHlo.after opsD0_2 (StableHlo.after opsD0_1 W) (Proc.devRef .tc main_v58) (ix3 i q d) = Spec.pick (rest x c q.val) (c q.val) i d := by
  intro i q d
  after_results
  obtain rfl : q = 0 := Subsingleton.elim _ _
  exact (Ops.planes _ _ i 0 d).trans (picked_at (rest x c 0) (c 0) _ _ (fun k d => (Ops.book _ 0 (by decide) _ _ k d).trans ((Spec.booksOf_at _ _ (by decide) k d).symm.trans (congrFun (congrFun (congrFun hc 0) k) d))) hh i d)

include hc hr hw hh hs in
theorem outs0 : ∀ (q : Fin 1) (d : Fin 1), StableHlo.after opsD0_2 (StableHlo.after opsD0_1 W) (Proc.devRef .tc main_v43) (ix2 q d) = Ops.meanOut (rest x c q.val) (c q.val) := by
  intro q d
  after_results
  obtain rfl : q = 0 := Subsingleton.elim _ _
  exact mean_at _ _ _ _ (picked_at (rest x c 0) (c 0) _ _ (fun k d => (Ops.book _ 0 (by decide) _ _ k d).trans ((Spec.booksOf_at _ _ (by decide) k d).symm.trans (congrFun (congrFun (congrFun hc 0) k) d))) hh) hr _ _ _ _ _ _

include hc hr hw hh hs in
theorem softs0 : ∀ (q : Fin 1) (d : Fin 1), StableHlo.after opsD0_2 (StableHlo.after opsD0_1 W) (Proc.devRef .tc main_v51) (ix2 q d) = Ops.meanSoft (rest x c q.val) (c q.val) := by
  intro q d
  after_results
  obtain rfl : q = 0 := Subsingleton.elim _ _
  exact mean_at _ _ _ _ (blended_at (rest x c 0) (c 0) _ _ (fun k d => (Ops.book _ 0 (by decide) _ _ k d).trans ((Spec.booksOf_at _ _ (by decide) k d).symm.trans (congrFun (congrFun (congrFun hc 0) k) d))) hs) hr _ _ _ _ _ _

include hc hr hw hh hs in
theorem matches_0 : ∀ (q : Fin 1) (d : Fin 1), StableHlo.after opsD0_2 (StableHlo.after opsD0_1 W) (Proc.devRef .tc main_v56) (ix2 q d) = Ops.meanMatch (rest x c q.val) (c q.val) := by
  intro q d
  after_results
  obtain rfl : q = 0 := Subsingleton.elim _ _
  exact mean_at _ _ _ _ (hh) hs _ _ _ _ _ _
end

end

/-- What is held after stage 1. -/
theorem upto1 (V : Valuation τ sig (Elt Ideal)) (x : Spec.Points) (c : ℕ → Spec.Book) (hx : Spec.Finite x) (hfin : ∀ j, Spec.Finite (c j))
    (ha : V (Proc.devRef .tc main_arg0) = fun j => x (j 0) (j 1)) (hc : booksOf (V (Proc.devRef .tc main_arg1)) = c) :
    Upto x c 1 (RD0 V (Proc.devRef .tc main_v35)) (RD0 V (Proc.devRef .tc main_v32)) (RD0 V (Proc.devRef .tc main_v30)) (RD0 V (Proc.devRef .tc main_v57)) (RD0 V (Proc.devRef .tc main_v58)) (RD0 V (Proc.devRef .tc main_v43)) (RD0 V (Proc.devRef .tc main_v51)) (RD0 V (Proc.devRef .tc main_v56)) := by
  have hreal : ∀ i, Row.Real (Spec.score (rest x c 0) (c 0) i) := Spec.real_score (Spec.finite_rest hx hfin 0) (hfin 0)
  have hr0 : ∀ i d, V (Proc.devRef .tc main_arg0) (ix2 i d) = rest x c 0 i d := fun i d => (congrFun ha _).trans (Spec.rest_zero_at x c i d).symm
  have hA : ∀ i k, RA0 V (Proc.devRef .tc main_v14) (ix2 i k) = Spec.score (rest x c 0) (c 0) i k := fun i k => (scores0 V (rest x c 0) hr0 i k).trans (by rw [hc])
  have hrC : ∀ i d, RC0 V (Proc.devRef .tc main_arg0) (ix2 i d) = rest x c 0 i d :=
    fun i d => (congrFun ((RC0_of V main_arg0 (by decide)).trans ((RB0_of V main_arg0 (by decide)).trans (RA0_of V main_arg0 (by decide)))) _).trans (hr0 i d)
  have hcC : booksOf (RC0 V (Proc.devRef .tc main_arg1)) = c :=
    (congrArg booksOf ((RC0_of V main_arg1 (by decide)).trans ((RB0_of V main_arg1 (by decide)).trans (RA0_of V main_arg1 (by decide))))).trans hc
  have hB : ∀ i k, RB0 V (Proc.devRef .tc main_v25) (ix2 i k) = Row.soft (Spec.score (rest x c 0) (c 0) i) k := soft0 (RA0 V) _ hA
  have hw : ∀ i, RC0 V (Proc.devRef .tc main_v26) (ix1 i) = Row.word (Spec.score (rest x c 0) (c 0) i) := index0 (RB0 V) _ hB hreal
  have hh : ∀ i k, RC0 V (Proc.devRef .tc main_v29) (ix2 i k) = Row.hot (Spec.score (rest x c 0) (c 0) i) k := through0 (RB0 V) _ hB hreal
  have hs : ∀ i k, RC0 V (Proc.devRef .tc main_v25) (ix2 i k) = Row.soft (Spec.score (rest x c 0) (c 0) i) k :=
    fun i k => (congrFun (RC0_of V main_v25 (by decide)) _).trans (hB i k)
  exact ⟨next0 (RC0 V) x c hcC hrC hw hh hs,
    books0 (RC0 V) x c hcC hrC hw hh hs,
    codes0 (RC0 V) x c hcC hrC hw hh hs,
    lefts0 (RC0 V) x c hcC hrC hw hh hs,
    picks0 (RC0 V) x c hcC hrC hw hh hs,
    outs0 (RC0 V) x c hcC hrC hw hh hs,
    softs0 (RC0 V) x c hcC hrC hw hh hs,
    matches_0 (RC0 V) x c hcC hrC hw hh hs⟩

end Cert.ReferenceIdeal

end
-- ==== Proof.Value.Ref1.lean ====
/- Stage 2 of the reference, entry by entry. -/
module

public import proofs.«01_k».proof.Proof.Ref.States
public import proofs.«01_k».proof.Proof.Value.RefHeld

@[expose] public section

set_option maxRecDepth 16384

noncomputable section

namespace Cert.ReferenceIdeal

open Idealize.ShloMosaic Idealize.ShloMosaic.ValueIdx
open Facts₀ Facts
open Cert.ReferenceIdeal.Gen (facts₀ facts)
open Cert.Spec (sofar rest booksOf pointsOf)

section
variable (W : Valuation τ sig (Elt Ideal))

theorem residual1 (r : Spec.Points) (x p : Spec.Points) (hx : ∀ i d, W (Proc.devRef .tc main_arg0) (ix2 i d) = x i d) (hp : ∀ i d, W (Proc.devRef .tc main_v35) (ix2 i d) = p i d) (hr : ∀ i d, x i d - p i d = r i d) (i : Fin 8192) (d : Fin 64) : StableHlo.after opsA1 W (Proc.devRef .tc main_v59) (ix2 i d) = r i d := by
  after_results
  exact (congrArg₂ (fun a b : EReal => a - b) (hx i d) (hp i d)).trans (hr i d)

theorem scores1 (r : Spec.Points) (x p : Spec.Points) (hx : ∀ i d, W (Proc.devRef .tc main_arg0) (ix2 i d) = x i d) (hp : ∀ i d, W (Proc.devRef .tc main_v35) (ix2 i d) = p i d) (hr : ∀ i d, x i d - p i d = r i d) (i : Fin 8192) (k : Fin 1024) :
    StableHlo.after opsA1 W (Proc.devRef .tc main_v74) (ix2 i k) = Spec.score r (booksOf (W (Proc.devRef .tc main_arg1)) 1) i k := by
  after_results
  refine tempered _ (Spec.score r (booksOf (W (Proc.devRef .tc main_arg1)) 1)) (fun i k => ?_) _ _ Ops.lit_one Ops.lit_one i k
  refine Ops.scores _ r _ (fun i k d => ?_) _ Ops.lit_zero _ _ i k
  exact congrArg (fun e => e * e) (congrArg₂ (fun a b : EReal => a - b) ((Ops.points _ _ _ i k d).trans ((congrArg₂ (fun a b : EReal => a - b) (hx i d) (hp i d)).trans (hr i d)))
    ((Ops.words _ _ _ i k d).trans ((Ops.book _ 1 (by decide) _ _ k d).trans (Spec.booksOf_at _ _ (by decide) k d).symm)))

theorem soft1 (S : Fin 8192 → Row.Scores) (hs : ∀ i k, W (Proc.devRef .tc main_v74) (ix2 i k) = S i k) (i : Fin 8192) (k : Fin 1024) :
    StableHlo.after opsB1 W (Proc.devRef .tc main_v85) (ix2 i k) = Row.soft (S i) k := by
  after_results
  exact Ops.soft _ S hs _ _ _ Ops.lit_bot Ops.lit_bot Ops.lit_zero _ _ _ _ _ _ rfl i k

theorem index1 (S : Fin 8192 → Row.Scores) (hs : ∀ i k, W (Proc.devRef .tc main_v85) (ix2 i k) = Row.soft (S i) k) (hreal : ∀ i, Row.Real (S i)) (i : Fin 8192) :
    StableHlo.after opsC1 W (Proc.devRef .tc main_v86) (ix1 i) = Row.word (S i) := by
  after_results
  exact codes_at _ S hs hreal i

theorem through1 (S : Fin 8192 → Row.Scores) (hs : ∀ i k, W (Proc.devRef .tc main_v85) (ix2 i k) = Row.soft (S i) k) (hreal : ∀ i, Row.Real (S i)) (i : Fin 8192) (k : Fin 1024) :
    StableHlo.after opsC1 W (Proc.devRef .tc main_v89) (ix2 i k) = Row.hot (S i) k := by
  after_results
  refine through_at _ _ S (fun i k => ?_) hs hreal i k
  refine Ops.hot _ S (fun i => ?_) _ _ _ i k
  exact codes_at _ S hs hreal i

section
variable (x : Spec.Points) (c : ℕ → Spec.Book) (hc : booksOf (W (Proc.devRef .tc main_arg1)) = c)
  (hr : ∀ i d, W (Proc.devRef .tc main_v59) (ix2 i d) = rest x c 1 i d) (hw : ∀ i, W (Proc.devRef .tc main_v86) (ix1 i) = Row.word (Spec.score (rest x c 1) (c 1) i))
  (hh : ∀ i k, W (Proc.devRef .tc main_v89) (ix2 i k) = Row.hot (Spec.score (rest x c 1) (c 1) i) k)
  (hs : ∀ i k, W (Proc.devRef .tc main_v85) (ix2 i k) = Row.soft (Spec.score (rest x c 1) (c 1) i) k)
  (hu : Upto x c 1 (W (Proc.devRef .tc main_v35)) (W (Proc.devRef .tc main_v32)) (W (Proc.devRef .tc main_v30)) (W (Proc.devRef .tc main_v57)) (W (Proc.devRef .tc main_v58)) (W (Proc.devRef .tc main_v43)) (W (Proc.devRef .tc main_v51)) (W (Proc.devRef .tc main_v56)))

include hc hr hw hh hs hu in
theorem next1 : ∀ i d, StableHlo.after opsD1_2 (StableHlo.after opsD1_1 W) (Proc.devRef .tc main_v102) (ix2 i d) = sofar x c 2 i d := by
  intro i d
  after_results
  exact congrArg₂ (fun a b : EReal => a + b) (hu.next i d) (picked_at (rest x c 1) (c 1) _ _ (fun k d => (Ops.book _ 1 (by decide) _ _ k d).trans ((Spec.booksOf_at _ _ (by decide) k d).symm.trans (congrFun (congrFun (congrFun hc 1) k) d))) hh i d)

include hc hr hw hh hs hu in
theorem books1 : ∀ (n : Fin 2048) d, StableHlo.after opsD1_2 (StableHlo.after opsD1_1 W) (Proc.devRef .tc main_v96) (ix2 n d) = Ops.wordOf c n.val d := by
  intro q d
  after_results
  exact Ops.below (k := 1024) (k' := 1024) (m := 2048) rfl (Ops.wordOf c) _ _ _ hu.books (fun q d => ((fun k d => (Ops.book _ 1 (by decide) _ _ k d).trans ((Spec.booksOf_at _ _ (by decide) k d).symm.trans (congrFun (congrFun (congrFun hc 1) k) d))) q d).trans (Ops.wordOf_at c _ 1 q (by omega) d)) q d

include hc hr hw hh hs hu in
theorem codes1 : ∀ i (q : Fin 2), StableHlo.after opsD1_2 (StableHlo.after opsD1_1 W) (Proc.devRef .tc main_v97) (ix2 i q) = Row.word (Spec.score (rest x c q.val) (c q.val) i) := by
  intro i q
  after_results
  exact Ops.snoc2 rfl (fun q i => Row.word (Spec.score (rest x c q) (c q) i)) _ _ _ hu.codes (fun i q => (Ops.upright _ _ i q).trans (hw i)) i q

include hc hr hw hh hs hu in
theorem lefts1 : ∀ i (q : Fin 2) d, StableHlo.after opsD1_2 (StableHlo.after opsD1_1 W) (Proc.devRef .tc main_v99) (ix3 i q d) = rest x c q.val i d := by
  intro i q d
  after_results
  exact Ops.snoc3 rfl (rest x c) _ _ _ hu.lefts (fun i q d => (Ops.planes _ _ i q d).trans (hr i d)) i q d

include hc hr hw hh hs hu in
theorem picks1 : ∀ i (q : Fin 2) d, StableHlo.after opsD1_2 (StableHlo.after opsD1_1 W) (Proc.devRef .tc main_v101) (ix3 i q d) = Spec.pick (rest x c q.val) (c q.val) i d := by
  intro i q d
  after_results
  exact Ops.snoc3 rfl (fun q => Spec.pick (rest x c q) (c q)) _ _ _ hu.picks (fun i q d => (Ops.planes _ _ i q d).trans (picked_at (rest x c 1) (c 1) _ _ (fun k d => (Ops.book _ 1 (by decide) _ _ k d).trans ((Spec.booksOf_at _ _ (by decide) k d).symm.trans (congrFun (congrFun (congrFun hc 1) k) d))) hh i d)) i q d

include hc hr hw hh hs hu in
theorem outs1 : ∀ (q : Fin 2) (d : Fin 1), StableHlo.after opsD1_2 (StableHlo.after opsD1_1 W) (Proc.devRef .tc main_v111) (ix2 q d) = Ops.meanOut (rest x c q.val) (c q.val) := by
  intro q d
  after_results
  refine Ops.below (k := 1) (k' := 1) (m := 2) rfl (fun q _ => Ops.meanOut (rest x c q) (c q)) _ _ _ hu.outs (fun q d => ?_) q d
  obtain rfl : q = 0 := Subsingleton.elim _ _
  exact mean_at _ _ _ _ (picked_at (rest x c 1) (c 1) _ _ (fun k d => (Ops.book _ 1 (by decide) _ _ k d).trans ((Spec.booksOf_at _ _ (by decide) k d).symm.trans (congrFun (congrFun (congrFun hc 1) k) d))) hh) hr _ _ _ _ _ _

include hc hr hw hh hs hu in
theorem softs1 : ∀ (q : Fin 2) (d : Fin 1), StableHlo.after opsD1_2 (StableHlo.after opsD1_1 W) (Proc.devRef .tc main_v120) (ix2 q d) = Ops.meanSoft (rest x c q.val) (c q.val) := by
  intro q d
  after_results
  refine Ops.below (k := 1) (k' := 1) (m := 2) rfl (fun q _ => Ops.meanSoft (rest x c q) (c q)) _ _ _ hu.softs (fun q d => ?_) q d
  obtain rfl : q = 0 := Subsingleton.elim _ _
  exact mean_at _ _ _ _ (blended_at (rest x c 1) (c 1) _ _ (fun k d => (Ops.book _ 1 (by decide) _ _ k d).trans ((Spec.booksOf_at _ _ (by decide) k d).symm.trans (congrFun (congrFun (congrFun hc 1) k) d))) hs) hr _ _ _ _ _ _

include hc hr hw hh hs hu in
theorem matches_1 : ∀ (q : Fin 2) (d : Fin 1), StableHlo.after opsD1_2 (StableHlo.after opsD1_1 W) (Proc.devRef .tc main_v126) (ix2 q d) = Ops.meanMatch (rest x c q.val) (c q.val) := by
  intro q d
  after_results
  refine Ops.below (k := 1) (k' := 1) (m := 2) rfl (fun q _ => Ops.meanMatch (rest x c q) (c q)) _ _ _ hu.matches_ (fun q d => ?_) q d
  obtain rfl : q = 0 := Subsingleton.elim _ _
  exact mean_at _ _ _ _ (hh) hs _ _ _ _ _ _
end

end

/-- What is held after stage 2. -/
theorem upto2 (V : Valuation τ sig (Elt Ideal)) (x : Spec.Points) (c : ℕ → Spec.Book) (hx : Spec.Finite x) (hfin : ∀ j, Spec.Finite (c j))
    (ha : RD0 V (Proc.devRef .tc main_arg0) = fun j => x (j 0) (j 1)) (hc : booksOf (RD0 V (Proc.devRef .tc main_arg1)) = c)
    (hu : Upto x c 1 (RD0 V (Proc.devRef .tc main_v35)) (RD0 V (Proc.devRef .tc main_v32)) (RD0 V (Proc.devRef .tc main_v30)) (RD0 V (Proc.devRef .tc main_v57)) (RD0 V (Proc.devRef .tc main_v58)) (RD0 V (Proc.devRef .tc main_v43)) (RD0 V (Proc.devRef .tc main_v51)) (RD0 V (Proc.devRef .tc main_v56))) :
    Upto x c 2 (RD1 V (Proc.devRef .tc main_v102)) (RD1 V (Proc.devRef .tc main_v96)) (RD1 V (Proc.devRef .tc main_v97)) (RD1 V (Proc.devRef .tc main_v99)) (RD1 V (Proc.devRef .tc main_v101)) (RD1 V (Proc.devRef .tc main_v111)) (RD1 V (Proc.devRef .tc main_v120)) (RD1 V (Proc.devRef .tc main_v126)) := by
  have hreal : ∀ i, Row.Real (Spec.score (rest x c 1) (c 1) i) := Spec.real_score (Spec.finite_rest hx hfin 1) (hfin 1)
  have hA : ∀ i k, RA1 V (Proc.devRef .tc main_v74) (ix2 i k) = Spec.score (rest x c 1) (c 1) i k := fun i k =>
    (scores1 (RD0 V) (rest x c 1) x (sofar x c 1) (fun i d => congrFun ha (ix2 i d)) hu.next (fun _ _ => rfl) i k).trans (by rw [hc])
  have hrC : ∀ i d, RC1 V (Proc.devRef .tc main_v59) (ix2 i d) = rest x c 1 i d :=
    fun i d => (congrFun ((RC1_of V main_v59 (by decide)).trans (RB1_of V main_v59 (by decide))) _).trans
      (residual1 (RD0 V) (rest x c 1) x (sofar x c 1) (fun i d => congrFun ha (ix2 i d)) hu.next (fun _ _ => rfl) i d)
  have hcC : booksOf (RC1 V (Proc.devRef .tc main_arg1)) = c := (congrArg booksOf ((RC1_of V main_arg1 (by decide)).trans ((RB1_of V main_arg1 (by decide)).trans (RA1_of V main_arg1 (by decide))))).trans hc
  have huC : Upto x c 1 (RC1 V (Proc.devRef .tc main_v35)) (RC1 V (Proc.devRef .tc main_v32)) (RC1 V (Proc.devRef .tc main_v30)) (RC1 V (Proc.devRef .tc main_v57)) (RC1 V (Proc.devRef .tc main_v58)) (RC1 V (Proc.devRef .tc main_v43)) (RC1 V (Proc.devRef .tc main_v51)) (RC1 V (Proc.devRef .tc main_v56)) :=
    ⟨fun i d => (congrFun ((RC1_of V main_v35 (by decide)).trans ((RB1_of V main_v35 (by decide)).trans (RA1_of V main_v35 (by decide)))) _).trans (hu.next i d),
     fun i d => (congrFun ((RC1_of V main_v32 (by decide)).trans ((RB1_of V main_v32 (by decide)).trans (RA1_of V main_v32 (by decide)))) _).trans (hu.books i d),
     fun i d => (congrFun ((RC1_of V main_v30 (by decide)).trans ((RB1_of V main_v30 (by decide)).trans (RA1_of V main_v30 (by decide)))) _).trans (hu.codes i d),
     fun i q d => (congrFun ((RC1_of V main_v57 (by decide)).trans ((RB1_of V main_v57 (by decide)).trans (RA1_of V main_v57 (by decide)))) _).trans (hu.lefts i q d),
     fun i q d => (congrFun ((RC1_of V main_v58 (by decide)).trans ((RB1_of V main_v58 (by decide)).trans (RA1_of V main_v58 (by decide)))) _).trans (hu.picks i q d),
     fun i d => (congrFun ((RC1_of V main_v43 (by decide)).trans ((RB1_of V main_v43 (by decide)).trans (RA1_of V main_v43 (by decide)))) _).trans (hu.outs i d),
     fun i d => (congrFun ((RC1_of V main_v51 (by decide)).trans ((RB1_of V main_v51 (by decide)).trans (RA1_of V main_v51 (by decide)))) _).trans (hu.softs i d),
     fun i d => (congrFun ((RC1_of V main_v56 (by decide)).trans ((RB1_of V main_v56 (by decide)).trans (RA1_of V main_v56 (by decide)))) _).trans (hu.matches_ i d)⟩
  have hB : ∀ i k, RB1 V (Proc.devRef .tc main_v85) (ix2 i k) = Row.soft (Spec.score (rest x c 1) (c 1) i) k := soft1 (RA1 V) _ hA
  have hw : ∀ i, RC1 V (Proc.devRef .tc main_v86) (ix1 i) = Row.word (Spec.score (rest x c 1) (c 1) i) := index1 (RB1 V) _ hB hreal
  have hh : ∀ i k, RC1 V (Proc.devRef .tc main_v89) (ix2 i k) = Row.hot (Spec.score (rest x c 1) (c 1) i) k := through1 (RB1 V) _ hB hreal
  have hs : ∀ i k, RC1 V (Proc.devRef .tc main_v85) (ix2 i k) = Row.soft (Spec.score (rest x c 1) (c 1) i) k :=
    fun i k => (congrFun (RC1_of V main_v85 (by decide)) _).trans (hB i k)
  exact ⟨next1 (RC1 V) x c hcC hrC hw hh hs huC,
    books1 (RC1 V) x c hcC hrC hw hh hs huC,
    codes1 (RC1 V) x c hcC hrC hw hh hs huC,
    lefts1 (RC1 V) x c hcC hrC hw hh hs huC,
    picks1 (RC1 V) x c hcC hrC hw hh hs huC,
    outs1 (RC1 V) x c hcC hrC hw hh hs huC,
    softs1 (RC1 V) x c hcC hrC hw hh hs huC,
    matches_1 (RC1 V) x c hcC hrC hw hh hs huC⟩

end Cert.ReferenceIdeal

end
-- ==== Proof.Value.Ref2.lean ====
/- Stage 3 of the reference, entry by entry. -/
module

public import proofs.«01_k».proof.Proof.Ref.States
public import proofs.«01_k».proof.Proof.Value.RefHeld

@[expose] public section

set_option maxRecDepth 16384

noncomputable section

namespace Cert.ReferenceIdeal

open Idealize.ShloMosaic Idealize.ShloMosaic.ValueIdx
open Facts₀ Facts
open Cert.ReferenceIdeal.Gen (facts₀ facts)
open Cert.Spec (sofar rest booksOf pointsOf)

section
variable (W : Valuation τ sig (Elt Ideal))

theorem residual2 (r : Spec.Points) (x p : Spec.Points) (hx : ∀ i d, W (Proc.devRef .tc main_arg0) (ix2 i d) = x i d) (hp : ∀ i d, W (Proc.devRef .tc main_v102) (ix2 i d) = p i d) (hr : ∀ i d, x i d - p i d = r i d) (i : Fin 8192) (d : Fin 64) : StableHlo.after opsA2 W (Proc.devRef .tc main_v127) (ix2 i d) = r i d := by
  after_results
  exact (congrArg₂ (fun a b : EReal => a - b) (hx i d) (hp i d)).trans (hr i d)

theorem scores2 (r : Spec.Points) (x p : Spec.Points) (hx : ∀ i d, W (Proc.devRef .tc main_arg0) (ix2 i d) = x i d) (hp : ∀ i d, W (Proc.devRef .tc main_v102) (ix2 i d) = p i d) (hr : ∀ i d, x i d - p i d = r i d) (i : Fin 8192) (k : Fin 1024) :
    StableHlo.after opsA2 W (Proc.devRef .tc main_v142) (ix2 i k) = Spec.score r (booksOf (W (Proc.devRef .tc main_arg1)) 2) i k := by
  after_results
  refine tempered _ (Spec.score r (booksOf (W (Proc.devRef .tc main_arg1)) 2)) (fun i k => ?_) _ _ Ops.lit_one Ops.lit_one i k
  refine Ops.scores _ r _ (fun i k d => ?_) _ Ops.lit_zero _ _ i k
  exact congrArg (fun e => e * e) (congrArg₂ (fun a b : EReal => a - b) ((Ops.points _ _ _ i k d).trans ((congrArg₂ (fun a b : EReal => a - b) (hx i d) (hp i d)).trans (hr i d)))
    ((Ops.words _ _ _ i k d).trans ((Ops.book _ 2 (by decide) _ _ k d).trans (Spec.booksOf_at _ _ (by decide) k d).symm)))

theorem soft2 (S : Fin 8192 → Row.Scores) (hs : ∀ i k, W (Proc.devRef .tc main_v142) (ix2 i k) = S i k) (i : Fin 8192) (k : Fin 1024) :
    StableHlo.after opsB2_2 (StableHlo.after opsB2_1 W) (Proc.devRef .tc main_v153) (ix2 i k) = Row.soft (S i) k := by
  after_results
  exact Ops.soft _ S hs _ _ _ Ops.lit_bot Ops.lit_bot Ops.lit_zero _ _ _ _ _ _ rfl i k

theorem index2 (S : Fin 8192 → Row.Scores) (hs : ∀ i k, W (Proc.devRef .tc main_v153) (ix2 i k) = Row.soft (S i) k) (hreal : ∀ i, Row.Real (S i)) (i : Fin 8192) :
    StableHlo.after opsC2 W (Proc.devRef .tc main_v154) (ix1 i) = Row.word (S i) := by
  after_results
  exact codes_at _ S hs hreal i

theorem through2 (S : Fin 8192 → Row.Scores) (hs : ∀ i k, W (Proc.devRef .tc main_v153) (ix2 i k) = Row.soft (S i) k) (hreal : ∀ i, Row.Real (S i)) (i : Fin 8192) (k : Fin 1024) :
    StableHlo.after opsC2 W (Proc.devRef .tc main_v157) (ix2 i k) = Row.hot (S i) k := by
  after_results
  refine through_at _ _ S (fun i k => ?_) hs hreal i k
  refine Ops.hot _ S (fun i => ?_) _ _ _ i k
  exact codes_at _ S hs hreal i

section
variable (x : Spec.Points) (c : ℕ → Spec.Book) (hc : booksOf (W (Proc.devRef .tc main_arg1)) = c)
  (hr : ∀ i d, W (Proc.devRef .tc main_v127) (ix2 i d) = rest x c 2 i d) (hw : ∀ i, W (Proc.devRef .tc main_v154) (ix1 i) = Row.word (Spec.score (rest x c 2) (c 2) i))
  (hh : ∀ i k, W (Proc.devRef .tc main_v157) (ix2 i k) = Row.hot (Spec.score (rest x c 2) (c 2) i) k)
  (hs : ∀ i k, W (Proc.devRef .tc main_v153) (ix2 i k) = Row.soft (Spec.score (rest x c 2) (c 2) i) k)
  (hu : Upto x c 2 (W (Proc.devRef .tc main_v102)) (W (Proc.devRef .tc main_v96)) (W (Proc.devRef .tc main_v97)) (W (Proc.devRef .tc main_v99)) (W (Proc.devRef .tc main_v101)) (W (Proc.devRef .tc main_v111)) (W (Proc.devRef .tc main_v120)) (W (Proc.devRef .tc main_v126)))

include hc hr hw hh hs hu in
theorem next2 : ∀ i d, StableHlo.after opsD2 W (Proc.devRef .tc main_v170) (ix2 i d) = sofar x c 3 i d := by
  intro i d
  after_results
  exact congrArg₂ (fun a b : EReal => a + b) (hu.next i d) (picked_at (rest x c 2) (c 2) _ _ (fun k d => (Ops.book _ 2 (by decide) _ _ k d).trans ((Spec.booksOf_at _ _ (by decide) k d).symm.trans (congrFun (congrFun (congrFun hc 2) k) d))) hh i d)

include hc hr hw hh hs hu in
theorem books2 : ∀ (n : Fin 3072) d, StableHlo.after opsD2 W (Proc.devRef .tc main_v164) (ix2 n d) = Ops.wordOf c n.val d := by
  intro q d
  after_results
  exact Ops.below (k := 2048) (k' := 1024) (m := 3072) rfl (Ops.wordOf c) _ _ _ hu.books (fun q d => ((fun k d => (Ops.book _ 2 (by decide) _ _ k d).trans ((Spec.booksOf_at _ _ (by decide) k d).symm.trans (congrFun (congrFun (congrFun hc 2) k) d))) q d).trans (Ops.wordOf_at c _ 2 q (by omega) d)) q d

include hc hr hw hh hs hu in
theorem codes2 : ∀ i (q : Fin 3), StableHlo.after opsD2 W (Proc.devRef .tc main_v165) (ix2 i q) = Row.word (Spec.score (rest x c q.val) (c q.val) i) := by
  intro i q
  after_results
  exact Ops.snoc2 rfl (fun q i => Row.word (Spec.score (rest x c q) (c q) i)) _ _ _ hu.codes (fun i q => (Ops.upright _ _ i q).trans (hw i)) i q

include hc hr hw hh hs hu in
theorem lefts2 : ∀ i (q : Fin 3) d, StableHlo.after opsD2 W (Proc.devRef .tc main_v167) (ix3 i q d) = rest x c q.val i d := by
  intro i q d
  after_results
  exact Ops.snoc3 rfl (rest x c) _ _ _ hu.lefts (fun i q d => (Ops.planes _ _ i q d).trans (hr i d)) i q d

include hc hr hw hh hs hu in
theorem picks2 : ∀ i (q : Fin 3) d, StableHlo.after opsD2 W (Proc.devRef .tc main_v169) (ix3 i q d) = Spec.pick (rest x c q.val) (c q.val) i d := by
  intro i q d
  after_results
  exact Ops.snoc3 rfl (fun q => Spec.pick (rest x c q) (c q)) _ _ _ hu.picks (fun i q d => (Ops.planes _ _ i q d).trans (picked_at (rest x c 2) (c 2) _ _ (fun k d => (Ops.book _ 2 (by decide) _ _ k d).trans ((Spec.booksOf_at _ _ (by decide) k d).symm.trans (congrFun (congrFun (congrFun hc 2) k) d))) hh i d)) i q d

include hc hr hw hh hs hu in
theorem outs2 : ∀ (q : Fin 3) (d : Fin 1), StableHlo.after opsD2 W (Proc.devRef .tc main_v179) (ix2 q d) = Ops.meanOut (rest x c q.val) (c q.val) := by
  intro q d
  after_results
  refine Ops.below (k := 2) (k' := 1) (m := 3) rfl (fun q _ => Ops.meanOut (rest x c q) (c q)) _ _ _ hu.outs (fun q d => ?_) q d
  obtain rfl : q = 0 := Subsingleton.elim _ _
  exact mean_at _ _ _ _ (picked_at (rest x c 2) (c 2) _ _ (fun k d => (Ops.book _ 2 (by decide) _ _ k d).trans ((Spec.booksOf_at _ _ (by decide) k d).symm.trans (congrFun (congrFun (congrFun hc 2) k) d))) hh) hr _ _ _ _ _ _

include hc hr hw hh hs hu in
theorem softs2 : ∀ (q : Fin 3) (d : Fin 1), StableHlo.after opsD2 W (Proc.devRef .tc main_v188) (ix2 q d) = Ops.meanSoft (rest x c q.val) (c q.val) := by
  intro q d
  after_results
  refine Ops.below (k := 2) (k' := 1) (m := 3) rfl (fun q _ => Ops.meanSoft (rest x c q) (c q)) _ _ _ hu.softs (fun q d => ?_) q d
  obtain rfl : q = 0 := Subsingleton.elim _ _
  exact mean_at _ _ _ _ (blended_at (rest x c 2) (c 2) _ _ (fun k d => (Ops.book _ 2 (by decide) _ _ k d).trans ((Spec.booksOf_at _ _ (by decide) k d).symm.trans (congrFun (congrFun (congrFun hc 2) k) d))) hs) hr _ _ _ _ _ _

include hc hr hw hh hs hu in
theorem matches_2 : ∀ (q : Fin 3) (d : Fin 1), StableHlo.after opsD2 W (Proc.devRef .tc main_v194) (ix2 q d) = Ops.meanMatch (rest x c q.val) (c q.val) := by
  intro q d
  after_results
  refine Ops.below (k := 2) (k' := 1) (m := 3) rfl (fun q _ => Ops.meanMatch (rest x c q) (c q)) _ _ _ hu.matches_ (fun q d => ?_) q d
  obtain rfl : q = 0 := Subsingleton.elim _ _
  exact mean_at _ _ _ _ (hh) hs _ _ _ _ _ _
end

end

/-- What is held after stage 3. -/
theorem upto3 (V : Valuation τ sig (Elt Ideal)) (x : Spec.Points) (c : ℕ → Spec.Book) (hx : Spec.Finite x) (hfin : ∀ j, Spec.Finite (c j))
    (ha : RD1 V (Proc.devRef .tc main_arg0) = fun j => x (j 0) (j 1)) (hc : booksOf (RD1 V (Proc.devRef .tc main_arg1)) = c)
    (hu : Upto x c 2 (RD1 V (Proc.devRef .tc main_v102)) (RD1 V (Proc.devRef .tc main_v96)) (RD1 V (Proc.devRef .tc main_v97)) (RD1 V (Proc.devRef .tc main_v99)) (RD1 V (Proc.devRef .tc main_v101)) (RD1 V (Proc.devRef .tc main_v111)) (RD1 V (Proc.devRef .tc main_v120)) (RD1 V (Proc.devRef .tc main_v126))) :
    Upto x c 3 (RD2 V (Proc.devRef .tc main_v170)) (RD2 V (Proc.devRef .tc main_v164)) (RD2 V (Proc.devRef .tc main_v165)) (RD2 V (Proc.devRef .tc main_v167)) (RD2 V (Proc.devRef .tc main_v169)) (RD2 V (Proc.devRef .tc main_v179)) (RD2 V (Proc.devRef .tc main_v188)) (RD2 V (Proc.devRef .tc main_v194)) := by
  have hreal : ∀ i, Row.Real (Spec.score (rest x c 2) (c 2) i) := Spec.real_score (Spec.finite_rest hx hfin 2) (hfin 2)
  have hA : ∀ i k, RA2 V (Proc.devRef .tc main_v142) (ix2 i k) = Spec.score (rest x c 2) (c 2) i k := fun i k =>
    (scores2 (RD1 V) (rest x c 2) x (sofar x c 2) (fun i d => congrFun ha (ix2 i d)) hu.next (fun _ _ => rfl) i k).trans (by rw [hc])
  have hrC : ∀ i d, RC2 V (Proc.devRef .tc main_v127) (ix2 i d) = rest x c 2 i d :=
    fun i d => (congrFun ((RC2_of V main_v127 (by decide)).trans (RB2_of V main_v127 (by decide) (by decide))) _).trans
      (residual2 (RD1 V) (rest x c 2) x (sofar x c 2) (fun i d => congrFun ha (ix2 i d)) hu.next (fun _ _ => rfl) i d)
  have hcC : booksOf (RC2 V (Proc.devRef .tc main_arg1)) = c := (congrArg booksOf ((RC2_of V main_arg1 (by decide)).trans ((RB2_of V main_arg1 (by decide) (by decide)).trans (RA2_of V main_arg1 (by decide))))).trans hc
  have huC : Upto x c 2 (RC2 V (Proc.devRef .tc main_v102)) (RC2 V (Proc.devRef .tc main_v96)) (RC2 V (Proc.devRef .tc main_v97)) (RC2 V (Proc.devRef .tc main_v99)) (RC2 V (Proc.devRef .tc main_v101)) (RC2 V (Proc.devRef .tc main_v111)) (RC2 V (Proc.devRef .tc main_v120)) (RC2 V (Proc.devRef .tc main_v126)) :=
    ⟨fun i d => (congrFun ((RC2_of V main_v102 (by decide)).trans ((RB2_of V main_v102 (by decide) (by decide)).trans (RA2_of V main_v102 (by decide)))) _).trans (hu.next i d),
     fun i d => (congrFun ((RC2_of V main_v96 (by decide)).trans ((RB2_of V main_v96 (by decide) (by decide)).trans (RA2_of V main_v96 (by decide)))) _).trans (hu.books i d),
     fun i d => (congrFun ((RC2_of V main_v97 (by decide)).trans ((RB2_of V main_v97 (by decide) (by decide)).trans (RA2_of V main_v97 (by decide)))) _).trans (hu.codes i d),
     fun i q d => (congrFun ((RC2_of V main_v99 (by decide)).trans ((RB2_of V main_v99 (by decide) (by decide)).trans (RA2_of V main_v99 (by decide)))) _).trans (hu.lefts i q d),
     fun i q d => (congrFun ((RC2_of V main_v101 (by decide)).trans ((RB2_of V main_v101 (by decide) (by decide)).trans (RA2_of V main_v101 (by decide)))) _).trans (hu.picks i q d),
     fun i d => (congrFun ((RC2_of V main_v111 (by decide)).trans ((RB2_of V main_v111 (by decide) (by decide)).trans (RA2_of V main_v111 (by decide)))) _).trans (hu.outs i d),
     fun i d => (congrFun ((RC2_of V main_v120 (by decide)).trans ((RB2_of V main_v120 (by decide) (by decide)).trans (RA2_of V main_v120 (by decide)))) _).trans (hu.softs i d),
     fun i d => (congrFun ((RC2_of V main_v126 (by decide)).trans ((RB2_of V main_v126 (by decide) (by decide)).trans (RA2_of V main_v126 (by decide)))) _).trans (hu.matches_ i d)⟩
  have hB : ∀ i k, RB2 V (Proc.devRef .tc main_v153) (ix2 i k) = Row.soft (Spec.score (rest x c 2) (c 2) i) k := soft2 (RA2 V) _ hA
  have hw : ∀ i, RC2 V (Proc.devRef .tc main_v154) (ix1 i) = Row.word (Spec.score (rest x c 2) (c 2) i) := index2 (RB2 V) _ hB hreal
  have hh : ∀ i k, RC2 V (Proc.devRef .tc main_v157) (ix2 i k) = Row.hot (Spec.score (rest x c 2) (c 2) i) k := through2 (RB2 V) _ hB hreal
  have hs : ∀ i k, RC2 V (Proc.devRef .tc main_v153) (ix2 i k) = Row.soft (Spec.score (rest x c 2) (c 2) i) k :=
    fun i k => (congrFun (RC2_of V main_v153 (by decide)) _).trans (hB i k)
  exact ⟨next2 (RC2 V) x c hcC hrC hw hh hs huC,
    books2 (RC2 V) x c hcC hrC hw hh hs huC,
    codes2 (RC2 V) x c hcC hrC hw hh hs huC,
    lefts2 (RC2 V) x c hcC hrC hw hh hs huC,
    picks2 (RC2 V) x c hcC hrC hw hh hs huC,
    outs2 (RC2 V) x c hcC hrC hw hh hs huC,
    softs2 (RC2 V) x c hcC hrC hw hh hs huC,
    matches_2 (RC2 V) x c hcC hrC hw hh hs huC⟩

end Cert.ReferenceIdeal

end
-- ==== Proof.Value.Ref3.lean ====
/- Stage 4 of the reference, entry by entry. -/
module

public import proofs.«01_k».proof.Proof.Ref.States
public import proofs.«01_k».proof.Proof.Value.RefHeld

@[expose] public section

set_option maxRecDepth 16384

noncomputable section

namespace Cert.ReferenceIdeal

open Idealize.ShloMosaic Idealize.ShloMosaic.ValueIdx
open Facts₀ Facts
open Cert.ReferenceIdeal.Gen (facts₀ facts)
open Cert.Spec (sofar rest booksOf pointsOf)

section
variable (W : Valuation τ sig (Elt Ideal))

theorem residual3 (r : Spec.Points) (x p : Spec.Points) (hx : ∀ i d, W (Proc.devRef .tc main_arg0) (ix2 i d) = x i d) (hp : ∀ i d, W (Proc.devRef .tc main_v170) (ix2 i d) = p i d) (hr : ∀ i d, x i d - p i d = r i d) (i : Fin 8192) (d : Fin 64) : StableHlo.after opsA3_2 (StableHlo.after opsA3_1 W) (Proc.devRef .tc main_v195) (ix2 i d) = r i d := by
  after_results
  exact (congrArg₂ (fun a b : EReal => a - b) (hx i d) (hp i d)).trans (hr i d)

theorem scores3 (r : Spec.Points) (x p : Spec.Points) (hx : ∀ i d, W (Proc.devRef .tc main_arg0) (ix2 i d) = x i d) (hp : ∀ i d, W (Proc.devRef .tc main_v170) (ix2 i d) = p i d) (hr : ∀ i d, x i d - p i d = r i d) (i : Fin 8192) (k : Fin 1024) :
    StableHlo.after opsA3_2 (StableHlo.after opsA3_1 W) (Proc.devRef .tc main_v210) (ix2 i k) = Spec.score r (booksOf (W (Proc.devRef .tc main_arg1)) 3) i k := by
  after_results
  refine tempered _ (Spec.score r (booksOf (W (Proc.devRef .tc main_arg1)) 3)) (fun i k => ?_) _ _ Ops.lit_one Ops.lit_one i k
  refine Ops.scores _ r _ (fun i k d => ?_) _ Ops.lit_zero _ _ i k
  exact congrArg (fun e => e * e) (congrArg₂ (fun a b : EReal => a - b) ((Ops.points _ _ _ i k d).trans ((congrArg₂ (fun a b : EReal => a - b) (hx i d) (hp i d)).trans (hr i d)))
    ((Ops.words _ _ _ i k d).trans ((Ops.book _ 3 (by decide) _ _ k d).trans (Spec.booksOf_at _ _ (by decide) k d).symm)))

theorem soft3 (S : Fin 8192 → Row.Scores) (hs : ∀ i k, W (Proc.devRef .tc main_v210) (ix2 i k) = S i k) (i : Fin 8192) (k : Fin 1024) :
    StableHlo.after opsB3 W (Proc.devRef .tc main_v221) (ix2 i k) = Row.soft (S i) k := by
  after_results
  exact Ops.soft _ S hs _ _ _ Ops.lit_bot Ops.lit_bot Ops.lit_zero _ _ _ _ _ _ rfl i k

theorem index3 (S : Fin 8192 → Row.Scores) (hs : ∀ i k, W (Proc.devRef .tc main_v221) (ix2 i k) = Row.soft (S i) k) (hreal : ∀ i, Row.Real (S i)) (i : Fin 8192) :
    StableHlo.after opsC3 W (Proc.devRef .tc main_v222) (ix1 i) = Row.word (S i) := by
  after_results
  exact codes_at _ S hs hreal i

theorem through3 (S : Fin 8192 → Row.Scores) (hs : ∀ i k, W (Proc.devRef .tc main_v221) (ix2 i k) = Row.soft (S i) k) (hreal : ∀ i, Row.Real (S i)) (i : Fin 8192) (k : Fin 1024) :
    StableHlo.after opsC3 W (Proc.devRef .tc main_v225) (ix2 i k) = Row.hot (S i) k := by
  after_results
  refine through_at _ _ S (fun i k => ?_) hs hreal i k
  refine Ops.hot _ S (fun i => ?_) _ _ _ i k
  exact codes_at _ S hs hreal i

section
variable (x : Spec.Points) (c : ℕ → Spec.Book) (hc : booksOf (W (Proc.devRef .tc main_arg1)) = c)
  (hr : ∀ i d, W (Proc.devRef .tc main_v195) (ix2 i d) = rest x c 3 i d) (hw : ∀ i, W (Proc.devRef .tc main_v222) (ix1 i) = Row.word (Spec.score (rest x c 3) (c 3) i))
  (hh : ∀ i k, W (Proc.devRef .tc main_v225) (ix2 i k) = Row.hot (Spec.score (rest x c 3) (c 3) i) k)
  (hs : ∀ i k, W (Proc.devRef .tc main_v221) (ix2 i k) = Row.soft (Spec.score (rest x c 3) (c 3) i) k)
  (hu : Upto x c 3 (W (Proc.devRef .tc main_v170)) (W (Proc.devRef .tc main_v164)) (W (Proc.devRef .tc main_v165)) (W (Proc.devRef .tc main_v167)) (W (Proc.devRef .tc main_v169)) (W (Proc.devRef .tc main_v179)) (W (Proc.devRef .tc main_v188)) (W (Proc.devRef .tc main_v194)))

include hc hr hw hh hs hu in
theorem next3 : ∀ i d, StableHlo.after opsD3_2 (StableHlo.after opsD3_1 W) (Proc.devRef .tc main_v238) (ix2 i d) = sofar x c 4 i d := by
  intro i d
  after_results
  exact congrArg₂ (fun a b : EReal => a + b) (hu.next i d) (picked_at (rest x c 3) (c 3) _ _ (fun k d => (Ops.book _ 3 (by decide) _ _ k d).trans ((Spec.booksOf_at _ _ (by decide) k d).symm.trans (congrFun (congrFun (congrFun hc 3) k) d))) hh i d)

include hc hr hw hh hs hu in
theorem books3 : ∀ (n : Fin 4096) d, StableHlo.after opsD3_2 (StableHlo.after opsD3_1 W) (Proc.devRef .tc main_v232) (ix2 n d) = Ops.wordOf c n.val d := by
  intro q d
  after_results
  exact Ops.below (k := 3072) (k' := 1024) (m := 4096) rfl (Ops.wordOf c) _ _ _ hu.books (fun q d => ((fun k d => (Ops.book _ 3 (by decide) _ _ k d).trans ((Spec.booksOf_at _ _ (by decide) k d).symm.trans (congrFun (congrFun (congrFun hc 3) k) d))) q d).trans (Ops.wordOf_at c _ 3 q (by omega) d)) q d

include hc hr hw hh hs hu in
theorem codes3 : ∀ i (q : Fin 4), StableHlo.after opsD3_2 (StableHlo.after opsD3_1 W) (Proc.devRef .tc main_v233) (ix2 i q) = Row.word (Spec.score (rest x c q.val) (c q.val) i) := by
  intro i q
  after_results
  exact Ops.snoc2 rfl (fun q i => Row.word (Spec.score (rest x c q) (c q) i)) _ _ _ hu.codes (fun i q => (Ops.upright _ _ i q).trans (hw i)) i q

include hc hr hw hh hs hu in
theorem lefts3 : ∀ i (q : Fin 4) d, StableHlo.after opsD3_2 (StableHlo.after opsD3_1 W) (Proc.devRef .tc main_v235) (ix3 i q d) = rest x c q.val i d := by
  intro i q d
  after_results
  exact Ops.snoc3 rfl (rest x c) _ _ _ hu.lefts (fun i q d => (Ops.planes _ _ i q d).trans (hr i d)) i q d

include hc hr hw hh hs hu in
theorem picks3 : ∀ i (q : Fin 4) d, StableHlo.after opsD3_2 (StableHlo.after opsD3_1 W) (Proc.devRef .tc main_v237) (ix3 i q d) = Spec.pick (rest x c q.val) (c q.val) i d := by
  intro i q d
  after_results
  exact Ops.snoc3 rfl (fun q => Spec.pick (rest x c q) (c q)) _ _ _ hu.picks (fun i q d => (Ops.planes _ _ i q d).trans (picked_at (rest x c 3) (c 3) _ _ (fun k d => (Ops.book _ 3 (by decide) _ _ k d).trans ((Spec.booksOf_at _ _ (by decide) k d).symm.trans (congrFun (congrFun (congrFun hc 3) k) d))) hh i d)) i q d

include hc hr hw hh hs hu in
theorem outs3 : ∀ (q : Fin 4) (d : Fin 1), StableHlo.after opsD3_2 (StableHlo.after opsD3_1 W) (Proc.devRef .tc main_v247) (ix2 q d) = Ops.meanOut (rest x c q.val) (c q.val) := by
  intro q d
  after_results
  refine Ops.below (k := 3) (k' := 1) (m := 4) rfl (fun q _ => Ops.meanOut (rest x c q) (c q)) _ _ _ hu.outs (fun q d => ?_) q d
  obtain rfl : q = 0 := Subsingleton.elim _ _
  exact mean_at _ _ _ _ (picked_at (rest x c 3) (c 3) _ _ (fun k d => (Ops.book _ 3 (by decide) _ _ k d).trans ((Spec.booksOf_at _ _ (by decide) k d).symm.trans (congrFun (congrFun (congrFun hc 3) k) d))) hh) hr _ _ _ _ _ _

include hc hr hw hh hs hu in
theorem softs3 : ∀ (q : Fin 4) (d : Fin 1), StableHlo.after opsD3_2 (StableHlo.after opsD3_1 W) (Proc.devRef .tc main_v256) (ix2 q d) = Ops.meanSoft (rest x c q.val) (c q.val) := by
  intro q d
  after_results
  refine Ops.below (k := 3) (k' := 1) (m := 4) rfl (fun q _ => Ops.meanSoft (rest x c q) (c q)) _ _ _ hu.softs (fun q d => ?_) q d
  obtain rfl : q = 0 := Subsingleton.elim _ _
  exact mean_at _ _ _ _ (blended_at (rest x c 3) (c 3) _ _ (fun k d => (Ops.book _ 3 (by decide) _ _ k d).trans ((Spec.booksOf_at _ _ (by decide) k d).symm.trans (congrFun (congrFun (congrFun hc 3) k) d))) hs) hr _ _ _ _ _ _

include hc hr hw hh hs hu in
theorem matches_3 : ∀ (q : Fin 4) (d : Fin 1), StableHlo.after opsD3_2 (StableHlo.after opsD3_1 W) (Proc.devRef .tc main_v262) (ix2 q d) = Ops.meanMatch (rest x c q.val) (c q.val) := by
  intro q d
  after_results
  refine Ops.below (k := 3) (k' := 1) (m := 4) rfl (fun q _ => Ops.meanMatch (rest x c q) (c q)) _ _ _ hu.matches_ (fun q d => ?_) q d
  obtain rfl : q = 0 := Subsingleton.elim _ _
  exact mean_at _ _ _ _ (hh) hs _ _ _ _ _ _
end

end

/-- What is held after stage 4. -/
theorem upto4 (V : Valuation τ sig (Elt Ideal)) (x : Spec.Points) (c : ℕ → Spec.Book) (hx : Spec.Finite x) (hfin : ∀ j, Spec.Finite (c j))
    (ha : RD2 V (Proc.devRef .tc main_arg0) = fun j => x (j 0) (j 1)) (hc : booksOf (RD2 V (Proc.devRef .tc main_arg1)) = c)
    (hu : Upto x c 3 (RD2 V (Proc.devRef .tc main_v170)) (RD2 V (Proc.devRef .tc main_v164)) (RD2 V (Proc.devRef .tc main_v165)) (RD2 V (Proc.devRef .tc main_v167)) (RD2 V (Proc.devRef .tc main_v169)) (RD2 V (Proc.devRef .tc main_v179)) (RD2 V (Proc.devRef .tc main_v188)) (RD2 V (Proc.devRef .tc main_v194))) :
    Upto x c 4 (RD3 V (Proc.devRef .tc main_v238)) (RD3 V (Proc.devRef .tc main_v232)) (RD3 V (Proc.devRef .tc main_v233)) (RD3 V (Proc.devRef .tc main_v235)) (RD3 V (Proc.devRef .tc main_v237)) (RD3 V (Proc.devRef .tc main_v247)) (RD3 V (Proc.devRef .tc main_v256)) (RD3 V (Proc.devRef .tc main_v262)) := by
  have hreal : ∀ i, Row.Real (Spec.score (rest x c 3) (c 3) i) := Spec.real_score (Spec.finite_rest hx hfin 3) (hfin 3)
  have hA : ∀ i k, RA3 V (Proc.devRef .tc main_v210) (ix2 i k) = Spec.score (rest x c 3) (c 3) i k := fun i k =>
    (scores3 (RD2 V) (rest x c 3) x (sofar x c 3) (fun i d => congrFun ha (ix2 i d)) hu.next (fun _ _ => rfl) i k).trans (by rw [hc])
  have hrC : ∀ i d, RC3 V (Proc.devRef .tc main_v195) (ix2 i d) = rest x c 3 i d :=
    fun i d => (congrFun ((RC3_of V main_v195 (by decide)).trans (RB3_of V main_v195 (by decide))) _).trans
      (residual3 (RD2 V) (rest x c 3) x (sofar x c 3) (fun i d => congrFun ha (ix2 i d)) hu.next (fun _ _ => rfl) i d)
  have hcC : booksOf (RC3 V (Proc.devRef .tc main_arg1)) = c := (congrArg booksOf ((RC3_of V main_arg1 (by decide)).trans ((RB3_of V main_arg1 (by decide)).trans (RA3_of V main_arg1 (by decide) (by decide))))).trans hc
  have huC : Upto x c 3 (RC3 V (Proc.devRef .tc main_v170)) (RC3 V (Proc.devRef .tc main_v164)) (RC3 V (Proc.devRef .tc main_v165)) (RC3 V (Proc.devRef .tc main_v167)) (RC3 V (Proc.devRef .tc main_v169)) (RC3 V (Proc.devRef .tc main_v179)) (RC3 V (Proc.devRef .tc main_v188)) (RC3 V (Proc.devRef .tc main_v194)) :=
    ⟨fun i d => (congrFun ((RC3_of V main_v170 (by decide)).trans ((RB3_of V main_v170 (by decide)).trans (RA3_of V main_v170 (by decide) (by decide)))) _).trans (hu.next i d),
     fun i d => (congrFun ((RC3_of V main_v164 (by decide)).trans ((RB3_of V main_v164 (by decide)).trans (RA3_of V main_v164 (by decide) (by decide)))) _).trans (hu.books i d),
     fun i d => (congrFun ((RC3_of V main_v165 (by decide)).trans ((RB3_of V main_v165 (by decide)).trans (RA3_of V main_v165 (by decide) (by decide)))) _).trans (hu.codes i d),
     fun i q d => (congrFun ((RC3_of V main_v167 (by decide)).trans ((RB3_of V main_v167 (by decide)).trans (RA3_of V main_v167 (by decide) (by decide)))) _).trans (hu.lefts i q d),
     fun i q d => (congrFun ((RC3_of V main_v169 (by decide)).trans ((RB3_of V main_v169 (by decide)).trans (RA3_of V main_v169 (by decide) (by decide)))) _).trans (hu.picks i q d),
     fun i d => (congrFun ((RC3_of V main_v179 (by decide)).trans ((RB3_of V main_v179 (by decide)).trans (RA3_of V main_v179 (by decide) (by decide)))) _).trans (hu.outs i d),
     fun i d => (congrFun ((RC3_of V main_v188 (by decide)).trans ((RB3_of V main_v188 (by decide)).trans (RA3_of V main_v188 (by decide) (by decide)))) _).trans (hu.softs i d),
     fun i d => (congrFun ((RC3_of V main_v194 (by decide)).trans ((RB3_of V main_v194 (by decide)).trans (RA3_of V main_v194 (by decide) (by decide)))) _).trans (hu.matches_ i d)⟩
  have hB : ∀ i k, RB3 V (Proc.devRef .tc main_v221) (ix2 i k) = Row.soft (Spec.score (rest x c 3) (c 3) i) k := soft3 (RA3 V) _ hA
  have hw : ∀ i, RC3 V (Proc.devRef .tc main_v222) (ix1 i) = Row.word (Spec.score (rest x c 3) (c 3) i) := index3 (RB3 V) _ hB hreal
  have hh : ∀ i k, RC3 V (Proc.devRef .tc main_v225) (ix2 i k) = Row.hot (Spec.score (rest x c 3) (c 3) i) k := through3 (RB3 V) _ hB hreal
  have hs : ∀ i k, RC3 V (Proc.devRef .tc main_v221) (ix2 i k) = Row.soft (Spec.score (rest x c 3) (c 3) i) k :=
    fun i k => (congrFun (RC3_of V main_v221 (by decide)) _).trans (hB i k)
  exact ⟨next3 (RC3 V) x c hcC hrC hw hh hs huC,
    books3 (RC3 V) x c hcC hrC hw hh hs huC,
    codes3 (RC3 V) x c hcC hrC hw hh hs huC,
    lefts3 (RC3 V) x c hcC hrC hw hh hs huC,
    picks3 (RC3 V) x c hcC hrC hw hh hs huC,
    outs3 (RC3 V) x c hcC hrC hw hh hs huC,
    softs3 (RC3 V) x c hcC hrC hw hh hs huC,
    matches_3 (RC3 V) x c hcC hrC hw hh hs huC⟩

end Cert.ReferenceIdeal

end
-- ==== Proof.Value.RResults.lean ====
/- The seven results the reference ends with. -/
module

public import proofs.«01_k».proof.Proof.Value.Loss
public import proofs.«01_k».proof.Proof.Value.Ref0
public import proofs.«01_k».proof.Proof.Value.Ref1
public import proofs.«01_k».proof.Proof.Value.Ref2
public import proofs.«01_k».proof.Proof.Value.Ref3

@[expose] public section

set_option maxRecDepth 16384

noncomputable section

namespace Cert.ReferenceIdeal

open Idealize.ShloMosaic Idealize.ShloMosaic.ValueIdx
open Facts₀ Facts
open Cert.ReferenceIdeal.Gen (facts₀ facts)
open Cert.Spec (sofar rest booksOf pointsOf)

variable (V : Valuation τ sig (Elt Ideal))

/-- Stage 1 does not write `r`. -/
abbrev Quiet0 (r : Ref sig .tc) : Prop := r ∉ opsA0_W ∧ r ∉ opsB0_W ∧ r ∉ opsC0_W ∧ r ∉ opsD0_1_W ∧ r ∉ opsD0_2_W
theorem RD0_quiet (r : Ref sig .tc) (h : Quiet0 r) : RD0 V (Proc.devRef .tc r) = V (Proc.devRef .tc r) :=
  (RD0_of V r h.2.2.2.1 h.2.2.2.2).trans ((RC0_of V r h.2.2.1).trans ((RB0_of V r h.2.1).trans (RA0_of V r h.1)))
/-- Stage 2 does not write `r`. -/
abbrev Quiet1 (r : Ref sig .tc) : Prop := r ∉ opsA1_W ∧ r ∉ opsB1_W ∧ r ∉ opsC1_W ∧ r ∉ opsD1_1_W ∧ r ∉ opsD1_2_W
theorem RD1_quiet (r : Ref sig .tc) (h : Quiet1 r) : RD1 V (Proc.devRef .tc r) = RD0 V (Proc.devRef .tc r) :=
  (RD1_of V r h.2.2.2.1 h.2.2.2.2).trans ((RC1_of V r h.2.2.1).trans ((RB1_of V r h.2.1).trans (RA1_of V r h.1)))
/-- Stage 3 does not write `r`. -/
abbrev Quiet2 (r : Ref sig .tc) : Prop := r ∉ opsA2_W ∧ r ∉ opsB2_1_W ∧ r ∉ opsB2_2_W ∧ r ∉ opsC2_W ∧ r ∉ opsD2_W
theorem RD2_quiet (r : Ref sig .tc) (h : Quiet2 r) : RD2 V (Proc.devRef .tc r) = RD1 V (Proc.devRef .tc r) :=
  (RD2_of V r h.2.2.2.2).trans ((RC2_of V r h.2.2.2.1).trans ((RB2_of V r h.2.1 h.2.2.1).trans (RA2_of V r h.1)))
/-- Stage 4 does not write `r`. -/
abbrev Quiet3 (r : Ref sig .tc) : Prop := r ∉ opsA3_1_W ∧ r ∉ opsA3_2_W ∧ r ∉ opsB3_W ∧ r ∉ opsC3_W ∧ r ∉ opsD3_1_W ∧ r ∉ opsD3_2_W
theorem RD3_quiet (r : Ref sig .tc) (h : Quiet3 r) : RD3 V (Proc.devRef .tc r) = RD2 V (Proc.devRef .tc r) :=
  (RD3_of V r h.2.2.2.2.1 h.2.2.2.2.2).trans ((RC3_of V r h.2.2.2.1).trans ((RB3_of V r h.2.2.1).trans (RA3_of V r h.1 h.2.1)))

theorem RD0_arg0 : RD0 V (Proc.devRef .tc main_arg0) = V (Proc.devRef .tc main_arg0) := RD0_quiet V main_arg0 (by decide +kernel)
theorem RD1_arg0 : RD1 V (Proc.devRef .tc main_arg0) = V (Proc.devRef .tc main_arg0) := (RD1_quiet V main_arg0 (by decide +kernel)).trans (RD0_arg0 V)
theorem RD2_arg0 : RD2 V (Proc.devRef .tc main_arg0) = V (Proc.devRef .tc main_arg0) := (RD2_quiet V main_arg0 (by decide +kernel)).trans (RD1_arg0 V)
theorem RD0_arg1 : RD0 V (Proc.devRef .tc main_arg1) = V (Proc.devRef .tc main_arg1) := RD0_quiet V main_arg1 (by decide +kernel)
theorem RD1_arg1 : RD1 V (Proc.devRef .tc main_arg1) = V (Proc.devRef .tc main_arg1) := (RD1_quiet V main_arg1 (by decide +kernel)).trans (RD0_arg1 V)
theorem RD2_arg1 : RD2 V (Proc.devRef .tc main_arg1) = V (Proc.devRef .tc main_arg1) := (RD2_quiet V main_arg1 (by decide +kernel)).trans (RD1_arg1 V)
theorem RD0_arg2 : RD0 V (Proc.devRef .tc main_arg2) = V (Proc.devRef .tc main_arg2) := RD0_quiet V main_arg2 (by decide +kernel)
theorem RD1_arg2 : RD1 V (Proc.devRef .tc main_arg2) = V (Proc.devRef .tc main_arg2) := (RD1_quiet V main_arg2 (by decide +kernel)).trans (RD0_arg2 V)
theorem RD2_arg2 : RD2 V (Proc.devRef .tc main_arg2) = V (Proc.devRef .tc main_arg2) := (RD2_quiet V main_arg2 (by decide +kernel)).trans (RD1_arg2 V)
theorem RD3_arg2 : RD3 V (Proc.devRef .tc main_arg2) = V (Proc.devRef .tc main_arg2) := (RD3_quiet V main_arg2 (by decide +kernel)).trans (RD2_arg2 V)

/-- The points, the books and the weights at launch. -/
abbrev xr : Spec.Points := pointsOf (V (Proc.devRef .tc main_arg0))
abbrev cr : ℕ → Spec.Book := booksOf (V (Proc.devRef .tc main_arg1))
abbrev wr : Fin 4 → EReal := fun q => V (Proc.devRef .tc main_arg2) (ix2 (0 : Fin 1) q)

theorem points_at (a : Vec Ideal S8192x64 .f32) : a = fun j => pointsOf a (j 0) (j 1) := funext fun j => congrArg a (eq_ix2 j)

/-- What is held after the four stages. -/
theorem held4 (hx : Spec.Finite (xr V)) (hc : ∀ j, Spec.Finite (cr V j)) :
    Upto (xr V) (cr V) 4 (RD3 V (Proc.devRef .tc main_v238)) (RD3 V (Proc.devRef .tc main_v232)) (RD3 V (Proc.devRef .tc main_v233)) (RD3 V (Proc.devRef .tc main_v235))
      (RD3 V (Proc.devRef .tc main_v237)) (RD3 V (Proc.devRef .tc main_v247)) (RD3 V (Proc.devRef .tc main_v256)) (RD3 V (Proc.devRef .tc main_v262)) := by
  have u1 := upto1 V (xr V) (cr V) hx hc (points_at _) rfl
  have u2 := upto2 V (xr V) (cr V) hx hc ((RD0_arg0 V).trans (points_at _)) (congrArg booksOf (RD0_arg1 V)) u1
  have u3 := upto3 V (xr V) (cr V) hx hc ((RD1_arg0 V).trans (points_at _)) (congrArg booksOf (RD1_arg1 V)) u2
  exact upto4 V (xr V) (cr V) hx hc ((RD2_arg0 V).trans (points_at _)) (congrArg booksOf (RD2_arg1 V)) u3

/-- A weighted sum of four means. -/
theorem weighted_at (u : FVec Ideal S1x4 .f32) (v : FVec Ideal S4x1 .f32) (f w : Fin 4 → EReal) (hu : ∀ q, u (ix2 (0 : Fin 1) q) = w q)
    (hv : ∀ q (d : Fin 1), v (ix2 q d) = f q) (j : S1x1.Idx) :
    Host.dotGeneral dot_S1x4_S4x1_S1x1_1_0_0_1_n_n none u v j = ∑ q : Fin 4, w q * f q := by
  obtain ⟨a, b, rfl⟩ : ∃ (a b : Fin 1), j = ix2 a b := ⟨_, _, eq_ix2 j⟩
  obtain rfl : a = 0 := Subsingleton.elim _ _
  exact (Ops.hostDot u v 0 b).trans (Finset.sum_congr rfl fun q _ => congrArg₂ (fun a b : EReal => a * b) (hu q) (hv q b))

/-- The last stretch's number is the loss, given the stages' means and the weights. -/
theorem loss_at (W : Valuation τ sig (Elt Ideal)) (x : Spec.Points) (c : ℕ → Spec.Book) (w : Fin 4 → EReal)
    (hw : ∀ q, W (Proc.devRef .tc main_arg2) (ix2 (0 : Fin 1) q) = w q)
    (ho : ∀ (q : Fin 4) (d : Fin 1), W (Proc.devRef .tc main_v247) (ix2 q d) = Ops.meanOut (rest x c q.val) (c q.val))
    (hs : ∀ (q : Fin 4) (d : Fin 1), W (Proc.devRef .tc main_v256) (ix2 q d) = Ops.meanSoft (rest x c q.val) (c q.val))
    (hm : ∀ (q : Fin 4) (d : Fin 1), W (Proc.devRef .tc main_v262) (ix2 q d) = Ops.meanMatch (rest x c q.val) (c q.val)) (j : S1x1.Idx) :
    StableHlo.after opsE W (Proc.devRef .tc main_v269) j = Ops.loss x c w := by
  after_results
  exact congrArg₂ (fun a b : EReal => a + b) (congrArg₂ (fun a b : EReal => a + b) (weighted_at _ _ _ w hw ho j)
    (congrArg (fun e : EReal => Ops.lambda * e) (weighted_at _ _ _ w hw hm j))) (weighted_at _ _ _ w hw hs j)

theorem result_loss (hx : Spec.Finite (xr V)) (hc : ∀ j, Spec.Finite (cr V j)) (j : S1x1.Idx) :
    RE V (Proc.devRef .tc main_v269) j = Ops.loss (xr V) (cr V) (wr V) :=
  loss_at (RD3 V) (xr V) (cr V) (wr V) (fun _ => congrFun (RD3_arg2 V) _) (held4 V hx hc).outs (held4 V hx hc).softs (held4 V hx hc).matches_ j

end Cert.ReferenceIdeal

end
-- ==== Proof.Value.Same.lean ====
/- The kernel and the reference, from the same arguments, end with the same seven results. -/
module

public import proofs.«01_k».proof.Defs
public import proofs.«01_k».proof.Proof.Kern.Frame
public import proofs.«01_k».proof.Proof.Value.Given
public import proofs.«01_k».proof.Proof.Value.KResults
public import proofs.«01_k».proof.Proof.Value.RResults

@[expose] public section

set_option maxRecDepth 16384

noncomputable section

namespace Cert.Same

open Idealize.ShloMosaic Idealize.ShloMosaic.ValueIdx Idealize.SL.Sem
open Cert.Spec (sofar rest booksOf pointsOf)
open Cert.KernelIdeal (W11 x0 c0 w0)
open Cert.ReferenceIdeal (RE RD3 RE_of Upto)

theorem ext2 {α : Type} {n m : Nat} {u v : (⟨2, ![n, m]⟩ : Shape).Idx → α} (h : ∀ i j, u (ix2 i j) = v (ix2 i j)) : u = v :=
  funext fun i => by rw [eq_ix2 i]; exact h _ _
theorem ext3 {α : Type} {n m l : Nat} {u v : (⟨3, ![n, m, l]⟩ : Shape).Idx → α} (h : ∀ i j k, u (ix3 i j k) = v (ix3 i j k)) : u = v :=
  funext fun i => by rw [eq_ix3 i]; exact h _ _ _

variable (m : (ℓ : Loc KernelIdeal.nD KernelIdeal.τ KernelIdeal.sig) → Buf (Elt Ideal) ℓ) (c : Dev KernelIdeal.nD)
variable (V : Valuation ReferenceIdeal.τ ReferenceIdeal.sig (Elt Ideal))
variable (hx : Spec.Finite (x0 m c)) (hc : ∀ j, Spec.Finite (c0 m c j))
variable (h0 : V (Proc.devRef .tc ReferenceIdeal.main_arg0) = m (c, Proc.devRef .tc KernelIdeal.main_arg0))
variable (h1 : V (Proc.devRef .tc ReferenceIdeal.main_arg1) = m (c, Proc.devRef .tc KernelIdeal.main_arg1))
variable (h2 : V (Proc.devRef .tc ReferenceIdeal.main_arg2) = m (c, Proc.devRef .tc KernelIdeal.main_arg2))

include h0 in
theorem points : ReferenceIdeal.xr V = x0 m c := congrArg pointsOf h0
include h1 in
theorem books : ReferenceIdeal.cr V = c0 m c := congrArg booksOf h1
include h2 in
theorem weights : ReferenceIdeal.wr V = w0 m c :=
  congrArg (fun (a : (⟨2, ![1, 4]⟩ : Shape).Idx → EReal) => fun q : Fin 4 => a (ix2 (0 : Fin 1) q)) h2

include hx hc h0 h1 in
/-- What the reference holds after its four stages, in the kernel's points and books. -/
theorem held : Upto (x0 m c) (c0 m c) 4 (RD3 V (Proc.devRef .tc ReferenceIdeal.main_v238)) (RD3 V (Proc.devRef .tc ReferenceIdeal.main_v232))
      (RD3 V (Proc.devRef .tc ReferenceIdeal.main_v233)) (RD3 V (Proc.devRef .tc ReferenceIdeal.main_v235)) (RD3 V (Proc.devRef .tc ReferenceIdeal.main_v237))
      (RD3 V (Proc.devRef .tc ReferenceIdeal.main_v247)) (RD3 V (Proc.devRef .tc ReferenceIdeal.main_v256)) (RD3 V (Proc.devRef .tc ReferenceIdeal.main_v262)) := by
  have u := ReferenceIdeal.held4 V (by rw [points m c V h0]; exact hx) (by rw [books m c V h1]; exact hc)
  rwa [points m c V h0, books m c V h1] at u

include hx hc h0 h1

theorem picks : RE V (Proc.devRef .tc ReferenceIdeal.main_v237) = W11 m c (Proc.devRef .tc KernelIdeal.main_v68) :=
  (RE_of V ReferenceIdeal.main_v237 (by decide +kernel)).trans
    (ext3 fun i q d => ((held m c V hx hc h0 h1).picks i q d).trans (KernelIdeal.result_picks m c hx hc i q d).symm)
theorem rests : RE V (Proc.devRef .tc ReferenceIdeal.main_v235) = W11 m c (Proc.devRef .tc KernelIdeal.main_v73) :=
  (RE_of V ReferenceIdeal.main_v235 (by decide +kernel)).trans
    (ext3 fun i q d => ((held m c V hx hc h0 h1).lefts i q d).trans (KernelIdeal.result_rests m c hx hc i q d).symm)
theorem next : RE V (Proc.devRef .tc ReferenceIdeal.main_v238) = W11 m c (Proc.devRef .tc KernelIdeal.main_v59_1) :=
  (RE_of V ReferenceIdeal.main_v238 (by decide +kernel)).trans
    (ext2 fun i d => ((held m c V hx hc h0 h1).next i d).trans (KernelIdeal.result_next m c hx hc i d).symm)
theorem words : RE V (Proc.devRef .tc ReferenceIdeal.main_v232) = W11 m c (Proc.devRef .tc KernelIdeal.main_v75) :=
  (RE_of V ReferenceIdeal.main_v232 (by decide +kernel)).trans
    (ext2 fun n d => ((held m c V hx hc h0 h1).books n d).trans (KernelIdeal.result_books m c n d).symm)
theorem codes : RE V (Proc.devRef .tc ReferenceIdeal.main_v233) = W11 m c (Proc.devRef .tc KernelIdeal.main_v74) :=
  (RE_of V ReferenceIdeal.main_v233 (by decide +kernel)).trans
    (ext2 fun i q => ((held m c V hx hc h0 h1).codes i q).trans (KernelIdeal.result_codes m c hx hc i q).symm)
include h2 in
theorem loss : RE V (Proc.devRef .tc ReferenceIdeal.main_v269) = W11 m c (Proc.devRef .tc KernelIdeal.main_v63) :=
  funext fun j => by
    refine (ReferenceIdeal.result_loss V (by rw [points m c V h0]; exact hx) (by rw [books m c V h1]; exact hc) j).trans ?_
    rw [points m c V h0, books m c V h1, weights m c V h2]
    exact (KernelIdeal.result_loss m c hx hc j).symm

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Kern.Frame
public import proofs.«01_k».proof.Proof.Kern.Bits
public import proofs.«01_k».proof.Proof.Ref.States
public import proofs.«01_k».proof.Proof.Value.Same
public import Idealize.ShloMosaic.Adequacy
public import Idealize.ShloMosaic.Init

@[expose] public section

noncomputable section

namespace Cert.Proof

open Idealize.ShloMosaic Idealize.SL.Sem

theorem frameRI : Cert.quiescent_ReferenceIdeal := fun m g _ =>
  (θ_run Cert.ReferenceIdeal.defs _ _).mono (fun _ h => h.2) (Cert.ReferenceIdeal.run_RE (F := Ideal) m g)

/-- The idealized kernel and reference agree on finite points and codewords. -/
theorem agree : Cert.algebraic_KernelIdeal_ReferenceIdeal := by
  intro m g m' g' hpre hargs
  have hx := fun c => Cert.Pre_finite.finite_points _ _ _ (hpre c)
  have hc := fun c => Cert.Pre_finite.finite_books _ _ _ (hpre c)
  refine ⟨fun c => Cert.KernelIdeal.W11 m c (Proc.devRef .tc Cert.KernelIdeal.main_v68), fun c => Cert.KernelIdeal.W11 m c (Proc.devRef .tc Cert.KernelIdeal.main_v73),
    fun c => Cert.KernelIdeal.W11 m c (Proc.devRef .tc Cert.KernelIdeal.main_v59_1), fun c => Cert.KernelIdeal.W11 m c (Proc.devRef .tc Cert.KernelIdeal.main_v59_1),
    fun c => Cert.KernelIdeal.W11 m c (Proc.devRef .tc Cert.KernelIdeal.main_v75), fun c => Cert.KernelIdeal.W11 m c (Proc.devRef .tc Cert.KernelIdeal.main_v74),
    fun c => Cert.KernelIdeal.W11 m c (Proc.devRef .tc Cert.KernelIdeal.main_v63), ?_, ?_⟩
  · exact (θ_run Cert.KernelIdeal.defs _ _).mono (fun _ h c =>
      ⟨h.1 c _ (Cert.KernelIdeal.mem_followed Cert.KernelIdeal.main_v68 (by decide)), h.1 c _ (Cert.KernelIdeal.mem_followed Cert.KernelIdeal.main_v73 (by decide)),
       h.1 c _ (Cert.KernelIdeal.mem_followed Cert.KernelIdeal.main_v59_1 (by decide)), h.1 c _ (Cert.KernelIdeal.mem_followed Cert.KernelIdeal.main_v59_1 (by decide)),
       h.1 c _ (Cert.KernelIdeal.mem_followed Cert.KernelIdeal.main_v75 (by decide)), h.1 c _ (Cert.KernelIdeal.mem_followed Cert.KernelIdeal.main_v74 (by decide)),
       h.1 c _ (Cert.KernelIdeal.mem_followed Cert.KernelIdeal.main_v63 (by decide)),
       (h.1 c _ (Cert.KernelIdeal.mem_followed Cert.KernelIdeal.main_arg0 (by decide))).trans (Cert.KernelIdeal.W11_arg0 m c),
       (h.1 c _ (Cert.KernelIdeal.mem_followed Cert.KernelIdeal.main_arg1 (by decide))).trans (Cert.KernelIdeal.W11_arg1 m c),
       (h.1 c _ (Cert.KernelIdeal.mem_followed Cert.KernelIdeal.main_arg2 (by decide))).trans (Cert.KernelIdeal.W11_arg2 m c)⟩) (Cert.KernelIdeal.run m g)
  · refine (θ_run Cert.ReferenceIdeal.defs _ _).mono (fun _ h c => ?_) (Cert.ReferenceIdeal.run_RE (F := Ideal) m' g')
    obtain ⟨h0, h1, h2⟩ := hargs c
    exact ⟨(h.1 c _).trans (Cert.Same.picks m c (StableHlo.launchContents m' c) (hx c) (hc c) h0 h1),
      (h.1 c _).trans (Cert.Same.rests m c (StableHlo.launchContents m' c) (hx c) (hc c) h0 h1),
      (h.1 c _).trans (Cert.Same.next m c (StableHlo.launchContents m' c) (hx c) (hc c) h0 h1),
      (h.1 c _).trans (Cert.Same.next m c (StableHlo.launchContents m' c) (hx c) (hc c) h0 h1),
      (h.1 c _).trans (Cert.Same.words m c (StableHlo.launchContents m' c) (hx c) (hc c) h0 h1),
      (h.1 c _).trans (Cert.Same.codes m c (StableHlo.launchContents m' c) (hx c) (hc c) h0 h1),
      (h.1 c _).trans (Cert.Same.loss m c (StableHlo.launchContents m' c) (hx c) (hc c) h0 h1 h2),
      h.2.1 c⟩

theorem claim : Cert.Claim := ⟨Cert.Kernel.Gen.facts, Cert.KernelIdeal.Gen.facts, Cert.ReferenceIdeal.Gen.facts, Cert.Pre_finite.facts,
  fun m g _ => frameK m g, fun m g _ => Cert.KernelIdeal.frame m g, fun m g _ => Cert.KernelIdeal.frame m g,
  frameRI, fun m g _ => frameRI m g trivial, trivial, agree⟩

end Cert.Proof

end
